-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_and_in_range [hPre_real_and_in_range : Cert.Pre_real_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_real_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).1 = (fun _ => 1#1)
    ∧ (Cert.Pre_real_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.1 = (fun _ => 1#1)
    ∧ (Cert.Pre_real_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.1 = (fun _ => 1#1)
    ∧ (Cert.Pre_real_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.1 = (fun _ => 1#1)
    ∧ (Cert.Pre_real_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.1 = (fun _ => 1#1)
    ∧ (Cert.Pre_real_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.1 = (fun _ => 1#1)
    ∧ (Cert.Pre_real_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.1 = (fun _ => 1#1)
    ∧ (Cert.Pre_real_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.1 = (fun _ => 1#1)
    ∧ (Cert.Pre_real_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.1 = (fun _ => 1#1)
    ∧ (Cert.Pre_real_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.1 = (fun _ => 1#1)
    ∧ (Cert.Pre_real_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_and_in_range [hPre_real_and_in_range : Cert.Pre_real_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).1 = (fun _ => 1#1)
    ∧ (Cert.Pre_real_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.1 = (fun _ => 1#1)
    ∧ (Cert.Pre_real_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.1 = (fun _ => 1#1)
    ∧ (Cert.Pre_real_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.1 = (fun _ => 1#1)
    ∧ (Cert.Pre_real_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.1 = (fun _ => 1#1)
    ∧ (Cert.Pre_real_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.1 = (fun _ => 1#1)
    ∧ (Cert.Pre_real_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.1 = (fun _ => 1#1)
    ∧ (Cert.Pre_real_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.1 = (fun _ => 1#1)
    ∧ (Cert.Pre_real_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.1 = (fun _ => 1#1)
    ∧ (Cert.Pre_real_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.1 = (fun _ => 1#1)
    ∧ (Cert.Pre_real_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_KernelIdeal_pre_real_and_in_range [hKernelIdeal : Cert.KernelIdeal.Facts] [hPre_real_and_in_range : Cert.Pre_real_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_and_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_ReferenceIdeal_pre_real_and_in_range [hReferenceIdeal : Cert.ReferenceIdeal.Facts] [hPre_real_and_in_range : Cert.Pre_real_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  True

def algebraic_KernelIdeal_ReferenceIdeal_pre_real_and_in_range [hKernelIdeal : Cert.KernelIdeal.Facts] [hReferenceIdeal : Cert.ReferenceIdeal.Facts] [hPre_real_and_in_range : Cert.Pre_real_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v538) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_real_and_in_range : Cert.Pre_real_and_in_range.Facts),
    quiescent_Kernel (hKernel := hKernel)
    ∧ quiescent_KernelIdeal (hKernelIdeal := hKernelIdeal)
    ∧ quiescent_KernelIdeal_pre_real_and_in_range (hKernelIdeal := hKernelIdeal) (hPre_real_and_in_range := hPre_real_and_in_range)
    ∧ quiescent_ReferenceIdeal (hReferenceIdeal := hReferenceIdeal)
    ∧ quiescent_ReferenceIdeal_pre_real_and_in_range (hReferenceIdeal := hReferenceIdeal) (hPre_real_and_in_range := hPre_real_and_in_range)
    ∧ preserves_Kernel_KernelIdeal
    ∧ algebraic_KernelIdeal_ReferenceIdeal_pre_real_and_in_range (hKernelIdeal := hKernelIdeal) (hReferenceIdeal := hReferenceIdeal) (hPre_real_and_in_range := hPre_real_and_in_range)
-- ==== Pre_real_and_in_range.lean ====
abbrev S4x2048x1024 : Shape := ⟨3, ![4, 2048, 1024]⟩
abbrev S4x2048x512 : Shape := ⟨3, ![4, 2048, 512]⟩
abbrev S4x2048 : Shape := ⟨2, ![4, 2048]⟩
abbrev S4x64 : Shape := ⟨2, ![4, 64]⟩
abbrev S1024x1024 : Shape := ⟨2, ![1024, 1024]⟩
abbrev S1024 : Shape := ⟨1, ![1024]⟩
abbrev S2048x512 : Shape := ⟨2, ![2048, 512]⟩
abbrev S2048 : Shape := ⟨1, ![2048]⟩
abbrev S3072x1024 : Shape := ⟨2, ![3072, 1024]⟩
abbrev S3072 : Shape := ⟨1, ![3072]⟩
abbrev S2x1024 : Shape := ⟨2, ![2, 1024]⟩
abbrev S_ : Shape := ⟨0, ![]⟩

class Facts : Prop where
  bcast_S_S4x2048x1024 : S_.BroadcastsInDim S4x2048x1024 (![] : Fin 0 → Fin S4x2048x1024.rank)
  bcast_S_S1024x1024 : S_.BroadcastsInDim S1024x1024 (![] : Fin 0 → Fin S1024x1024.rank)
  bcast_S_S1024 : S_.BroadcastsInDim S1024 (![] : Fin 0 → Fin S1024.rank)
  bcast_S_S3072x1024 : S_.BroadcastsInDim S3072x1024 (![] : Fin 0 → Fin S3072x1024.rank)
  bcast_S_S3072 : S_.BroadcastsInDim S3072 (![] : Fin 0 → Fin S3072.rank)
  bcast_S_S4x2048 : S_.BroadcastsInDim S4x2048 (![] : Fin 0 → Fin S4x2048.rank)
  bcast_S_S4x64 : S_.BroadcastsInDim S4x64 (![] : Fin 0 → Fin S4x64.rank)

variable [Facts]

def fn_part1 {F : FTy → Type} [FloatOps F] (main_arg4 : FVec F S4x2048 .f32) (main_arg5 : IVec S4x64 32) (main_arg6 : IVec S4x64 32) (main_v2 : IVec S4x2048x1024 1) (main_v5 : IVec S1024x1024 1) (main_v8 : IVec S1024 1) (main_v11 : IVec S3072x1024 1) (main_v14 : IVec S3072 1) (main_v16 : IVec S4x2048 1) (main_cst_5 : FVec F S_ .f32) : IVec S4x2048x1024 1 × IVec S1024x1024 1 × IVec S1024 1 × IVec S3072x1024 1 × IVec S3072 1 × IVec S4x2048 1 × IVec S4x2048 1 × IVec S4x64 1 × IVec S4x64 1 × IVec S4x64 1 × IVec S4x64 1 :=
  let main_v17 : FVec F S4x2048 .f32 := broadcastInDim S4x2048 ![] bcast_S_S4x2048 main_cst_5
  let main_v18 : IVec S4x2048 1 := cmpf .oge main_arg4 main_v17
  let main_c : IVec S_ 32 := constantI S_ 32 0#32
  let main_v19 : IVec S4x64 32 := broadcastInDim S4x64 ![] bcast_S_S4x64 main_c
  let main_v20 : IVec S4x64 1 := cmpi .sge main_arg5 main_v19
  let main_c_6 : IVec S_ 32 := constantI S_ 32 2048#32
  let main_v21 : IVec S4x64 32 := broadcastInDim S4x64 ![] bcast_S_S4x64 main_c_6
  let main_v22 : IVec S4x64 1 := cmpi .slt main_arg5 main_v21
  let main_c_7 : IVec S_ 32 := constantI S_ 32 0#32
  let main_v23 : IVec S4x64 32 := broadcastInDim S4x64 ![] bcast_S_S4x64 main_c_7
  let main_v24 : IVec S4x64 1 := cmpi .sge main_arg6 main_v23
  let main_c_8 : IVec S_ 32 := constantI S_ 32 2048#32
  let main_v25 : IVec S4x64 32 := broadcastInDim S4x64 ![] bcast_S_S4x64 main_c_8
  let main_v26 : IVec S4x64 1 := cmpi .slt main_arg6 main_v25
  (main_v2, main_v5, main_v8, main_v11, main_v14, main_v16, main_v18, main_v20, main_v22, main_v24, main_v26)

def fn {F : FTy → Type} [FloatOps F] (main_arg0 : FVec F S4x2048x1024 .f32) (main_arg1 : FVec F S4x2048x512 .f32) (main_arg2 : FVec F S4x2048x512 .f32) (main_arg3 : FVec F S4x2048 .f32) (main_arg4 : FVec F S4x2048 .f32) (main_arg5 : IVec S4x64 32) (main_arg6 : IVec S4x64 32) (main_arg7 : FVec F S1024x1024 .f32) (main_arg8 : FVec F S1024 .f32) (main_arg9 : FVec F S2048x512 .f32) (main_arg10 : FVec F S2048 .f32) (main_arg11 : FVec F S2048x512 .f32) (main_arg12 : FVec F S2048 .f32) (main_arg13 : FVec F S1024x1024 .f32) (main_arg14 : FVec F S1024 .f32) (main_arg15 : FVec F S1024x1024 .f32) (main_arg16 : FVec F S1024 .f32) (main_arg17 : FVec F S3072x1024 .f32) (main_arg18 : FVec F S3072 .f32) (main_arg19 : FVec F S1024x1024 .f32) (main_arg20 : FVec F S1024 .f32) (main_arg21 : FVec F S2x1024 .f32) : IVec S4x2048x1024 1 × IVec S1024x1024 1 × IVec S1024 1 × IVec S3072x1024 1 × IVec S3072 1 × IVec S4x2048 1 × IVec S4x2048 1 × IVec S4x64 1 × IVec S4x64 1 × IVec S4x64 1 × IVec S4x64 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_v3 : FVec F S1024x1024 .f32 := Host.absf main_arg7
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1024 .f32 := Host.absf main_arg8
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S3072x1024 .f32 := Host.absf main_arg17
  let main_cst_2 : FVec F S_ .f32 := constant S_ .f32 0x7F800000#32
  let main_v10 : FVec F S3072x1024 .f32 := broadcastInDim S3072x1024 ![] bcast_S_S3072x1024 main_cst_2
  let main_v11 : IVec S3072x1024 1 := cmpf .olt main_v9 main_v10
  let main_v12 : FVec F S3072 .f32 := Host.absf main_arg18
  let main_cst_3 : FVec F S_ .f32 := constant S_ .f32 0x7F800000#32
  let main_v13 : FVec F S3072 .f32 := broadcastInDim S3072 ![] bcast_S_S3072 main_cst_3
  let main_v14 : IVec S3072 1 := cmpf .olt main_v12 main_v13
  let main_cst_4 : FVec F S_ .f32 := constant S_ .f32 0x00000000#32
  let main_v15 : FVec F S4x2048 .f32 := broadcastInDim S4x2048 ![] bcast_S_S4x2048 main_cst_4
  let main_v16 : IVec S4x2048 1 := cmpf .oge main_arg3 main_v15
  let main_cst_5 : FVec F S_ .f32 := constant S_ .f32 0x00000000#32
  fn_part1 (F := F) main_arg4 main_arg5 main_arg6 main_v2 main_v5 main_v8 main_v11 main_v14 main_v16 main_cst_5
-- ==== Kernel.lean ====
abbrev S4x2048x1024 : Shape := ⟨3, ![4, 2048, 1024]⟩
abbrev S4x2048x512 : Shape := ⟨3, ![4, 2048, 512]⟩
abbrev S4x2048 : Shape := ⟨2, ![4, 2048]⟩
abbrev S4x64 : Shape := ⟨2, ![4, 64]⟩
abbrev S1024x1024 : Shape := ⟨2, ![1024, 1024]⟩
abbrev S1024 : Shape := ⟨1, ![1024]⟩
abbrev S2048x512 : Shape := ⟨2, ![2048, 512]⟩
abbrev S2048 : Shape := ⟨1, ![2048]⟩
abbrev S3072x1024 : Shape := ⟨2, ![3072, 1024]⟩
abbrev S3072 : Shape := ⟨1, ![3072]⟩
abbrev S2x1024 : Shape := ⟨2, ![2, 1024]⟩
abbrev S1x1024 : Shape := ⟨2, ![1, 1024]⟩
abbrev S4x1x2048 : Shape := ⟨3, ![4, 1, 2048]⟩
abbrev S4x1x64 : Shape := ⟨3, ![4, 1, 64]⟩
abbrev S1024x512 : Shape := ⟨2, ![1024, 512]⟩
abbrev S1x1024x512 : Shape := ⟨3, ![1, 1024, 512]⟩
abbrev S4x1024x1024 : Shape := ⟨3, ![4, 1024, 1024]⟩
abbrev S4x64x1 : Shape := ⟨3, ![4, 64, 1]⟩
abbrev S1x2048x512 : Shape := ⟨3, ![1, 2048, 512]⟩
abbrev S1x1x2048 : Shape := ⟨3, ![1, 1, 2048]⟩
abbrev S1x1x64 : Shape := ⟨3, ![1, 1, 64]⟩
abbrev S1x1024x1024 : Shape := ⟨3, ![1, 1024, 1024]⟩
abbrev S1x64x1 : Shape := ⟨3, ![1, 64, 1]⟩
abbrev S1x2048 : Shape := ⟨2, ![1, 2048]⟩
abbrev S1x64 : Shape := ⟨2, ![1, 64]⟩
abbrev S64x1 : Shape := ⟨2, ![64, 1]⟩
abbrev S64x2048 : Shape := ⟨2, ![64, 2048]⟩
abbrev S64 : Shape := ⟨1, ![64]⟩
abbrev S64x64 : Shape := ⟨2, ![64, 64]⟩
abbrev S32x1 : Shape := ⟨2, ![32, 1]⟩
abbrev S32x64 : Shape := ⟨2, ![32, 64]⟩
abbrev S32 : Shape := ⟨1, ![32]⟩
abbrev S32x2048 : Shape := ⟨2, ![32, 2048]⟩
abbrev S32x512 : Shape := ⟨2, ![32, 512]⟩
abbrev S32x1024 : Shape := ⟨2, ![32, 1024]⟩
abbrev S1x32x1 : Shape := ⟨3, ![1, 32, 1]⟩
abbrev S64x1024 : Shape := ⟨2, ![64, 1024]⟩
abbrev S1x64x1024 : Shape := ⟨3, ![1, 64, 1024]⟩
abbrev S4x64x32 : Shape := ⟨3, ![4, 64, 32]⟩
abbrev S4x64x1024 : Shape := ⟨3, ![4, 64, 1024]⟩
abbrev S1x2048x1024 : Shape := ⟨3, ![1, 2048, 1024]⟩
abbrev S1x64x32 : Shape := ⟨3, ![1, 64, 32]⟩
abbrev S2048x1024 : Shape := ⟨2, ![2048, 1024]⟩
abbrev S1024x2048 : Shape := ⟨2, ![1024, 2048]⟩
abbrev S1024x1 : Shape := ⟨2, ![1024, 1]⟩

abbrev nBuf : Space → Nat
  | .hbm => 61
  | .vmem => 52
  | .smem => 0
  | _ => 0

abbrev bufTy : (tb : Table) → Fin (tcTables nBuf tb) → BufTy
  | .hbm, ⟨0, _⟩ => ⟨S4x2048x1024, .f32⟩
  | .hbm, ⟨1, _⟩ => ⟨S4x2048x512, .f32⟩
  | .hbm, ⟨2, _⟩ => ⟨S4x2048x512, .f32⟩
  | .hbm, ⟨3, _⟩ => ⟨S4x2048, .f32⟩
  | .hbm, ⟨4, _⟩ => ⟨S4x2048, .f32⟩
  | .hbm, ⟨5, _⟩ => ⟨S4x64, .i32⟩
  | .hbm, ⟨6, _⟩ => ⟨S4x64, .i32⟩
  | .hbm, ⟨7, _⟩ => ⟨S1024x1024, .f32⟩
  | .hbm, ⟨8, _⟩ => ⟨S1024, .f32⟩
  | .hbm, ⟨9, _⟩ => ⟨S2048x512, .f32⟩
  | .hbm, ⟨10, _⟩ => ⟨S2048, .f32⟩
  | .hbm, ⟨11, _⟩ => ⟨S2048x512, .f32⟩
  | .hbm, ⟨12, _⟩ => ⟨S2048, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S3072x1024, .f32⟩
  | .hbm, ⟨18, _⟩ => ⟨S3072, .f32⟩
  | .hbm, ⟨19, _⟩ => ⟨S1024x1024, .f32⟩
  | .hbm, ⟨20, _⟩ => ⟨S1024, .f32⟩
  | .hbm, ⟨21, _⟩ => ⟨S2x1024, .f32⟩
  | .hbm, ⟨22, _⟩ => ⟨S1024x1024, .f32⟩
  | .hbm, ⟨23, _⟩ => ⟨S1024x1024, .bf16⟩
  | .hbm, ⟨24, _⟩ => ⟨S1024x1024, .f32⟩
  | .hbm, ⟨25, _⟩ => ⟨S1024x1024, .bf16⟩
  | .hbm, ⟨26, _⟩ => ⟨S1024x1024, .f32⟩
  | .hbm, ⟨27, _⟩ => ⟨S1024x1024, .bf16⟩
  | .hbm, ⟨28, _⟩ => ⟨S1024, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S4x1x2048, .f32⟩
  | .hbm, ⟨33, _⟩ => ⟨S4x1x64, .i32⟩
  | .hbm, ⟨34, _⟩ => ⟨S1024x512, .f32⟩
  | .hbm, ⟨35, _⟩ => ⟨S1x1024x512, .f32⟩
  | .hbm, ⟨36, _⟩ => ⟨S1x1024x512, .bf16⟩
  | .hbm, ⟨37, _⟩ => ⟨S1024, .f32⟩
  | .hbm, ⟨38, _⟩ => ⟨S1x1024, .f32⟩
  | .hbm, ⟨39, _⟩ => ⟨S4x1x2048, .f32⟩
  | .hbm, ⟨40, _⟩ => ⟨S4x1x64, .i32⟩
  | .hbm, ⟨41, _⟩ => ⟨S1024x512, .f32⟩
  | .hbm, ⟨42, _⟩ => ⟨S1x1024x512, .f32⟩
  | .hbm, ⟨43, _⟩ => ⟨S1x1024x512, .bf16⟩
  | .hbm, ⟨44, _⟩ => ⟨S1024, .f32⟩
  | .hbm, ⟨45, _⟩ => ⟨S1x1024, .f32⟩
  | .hbm, ⟨46, _⟩ => ⟨S1024x1024, .bf16⟩
  | .hbm, ⟨47, _⟩ => ⟨S1x1024, .f32⟩
  | .hbm, ⟨48, _⟩ => ⟨S1024x1024, .bf16⟩
  | .hbm, ⟨49, _⟩ => ⟨S1x1024, .f32⟩
  | .hbm, ⟨50, _⟩ => ⟨S4x1024x1024, .bf16⟩
  | .hbm, ⟨51, _⟩ => ⟨S4x64x1, .f32⟩
  | .hbm, ⟨52, _⟩ => ⟨S1024x1024, .bf16⟩
  | .hbm, ⟨53, _⟩ => ⟨S1x1024, .f32⟩
  | .hbm, ⟨54, _⟩ => ⟨S1024x1024, .bf16⟩
  | .hbm, ⟨55, _⟩ => ⟨S1x1024, .f32⟩
  | .hbm, ⟨56, _⟩ => ⟨S1024x1024, .bf16⟩
  | .hbm, ⟨57, _⟩ => ⟨S1x1024, .f32⟩
  | .hbm, ⟨58, _⟩ => ⟨S4x64x32, .f32⟩
  | .hbm, ⟨59, _⟩ => ⟨S4x64x32, .f32⟩
  | .hbm, ⟨60, _⟩ => ⟨S4x64x1024, .f32⟩
  | .local _ .vmem, ⟨0, _⟩ => ⟨S1x2048x512, .f32⟩
  | .local _ .vmem, ⟨1, _⟩ => ⟨S1x2048x512, .f32⟩
  | .local _ .vmem, ⟨2, _⟩ => ⟨S1x1x2048, .f32⟩
  | .local _ .vmem, ⟨3, _⟩ => ⟨S1x1x2048, .f32⟩
  | .local _ .vmem, ⟨4, _⟩ => ⟨S1x1x64, .i32⟩
  | .local _ .vmem, ⟨5, _⟩ => ⟨S1x1x64, .i32⟩
  | .local _ .vmem, ⟨6, _⟩ => ⟨S1x1024x512, .bf16⟩
  | .local _ .vmem, ⟨7, _⟩ => ⟨S1x1024, .f32⟩
  | .local _ .vmem, ⟨8, _⟩ => ⟨S1x2048x512, .f32⟩
  | .local _ .vmem, ⟨9, _⟩ => ⟨S1x2048x512, .f32⟩
  | .local _ .vmem, ⟨10, _⟩ => ⟨S1x1x2048, .f32⟩
  | .local _ .vmem, ⟨11, _⟩ => ⟨S1x1x2048, .f32⟩
  | .local _ .vmem, ⟨12, _⟩ => ⟨S1x1x64, .i32⟩
  | .local _ .vmem, ⟨13, _⟩ => ⟨S1x1x64, .i32⟩
  | .local _ .vmem, ⟨14, _⟩ => ⟨S1x1024x512, .bf16⟩
  | .local _ .vmem, ⟨15, _⟩ => ⟨S1x1024, .f32⟩
  | .local _ .vmem, ⟨16, _⟩ => ⟨S1024x1024, .bf16⟩
  | .local _ .vmem, ⟨17, _⟩ => ⟨S1x1024, .f32⟩
  | .local _ .vmem, ⟨18, _⟩ => ⟨S1024x1024, .bf16⟩
  | .local _ .vmem, ⟨19, _⟩ => ⟨S1x1024, .f32⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1x1024, .f32⟩
  | .local _ .vmem, ⟨24, _⟩ => ⟨S1x1024, .f32⟩
  | .local _ .vmem, ⟨25, _⟩ => ⟨S1x1024x1024, .bf16⟩
  | .local _ .vmem, ⟨26, _⟩ => ⟨S1x1024x1024, .bf16⟩
  | .local _ .vmem, ⟨27, _⟩ => ⟨S1x64x1, .f32⟩
  | .local _ .vmem, ⟨28, _⟩ => ⟨S1x64x1, .f32⟩
  | .local _ .vmem, ⟨29, _⟩ => ⟨S1024x1024, .bf16⟩
  | .local _ .vmem, ⟨30, _⟩ => ⟨S1x1024, .f32⟩
  | .local _ .vmem, ⟨31, _⟩ => ⟨S1024x1024, .bf16⟩
  | .local _ .vmem, ⟨32, _⟩ => ⟨S1x2048x1024, .f32⟩
  | .local _ .vmem, ⟨33, _⟩ => ⟨S1x2048x1024, .f32⟩
  | .local _ .vmem, ⟨34, _⟩ => ⟨S1x1024x1024, .bf16⟩
  | .local _ .vmem, ⟨35, _⟩ => ⟨S1x1024x1024, .bf16⟩
  | .local _ .vmem, ⟨36, _⟩ => ⟨S1024x1024, .bf16⟩
  | .local _ .vmem, ⟨37, _⟩ => ⟨S1x1024, .f32⟩
  | .local _ .vmem, ⟨38, _⟩ => ⟨S1024x1024, .bf16⟩
  | .local _ .vmem, ⟨39, _⟩ => ⟨S1x1024, .f32⟩
  | .local _ .vmem, ⟨40, _⟩ => ⟨S1024x1024, .bf16⟩
  | .local _ .vmem, ⟨41, _⟩ => ⟨S1x1024, .f32⟩
  | .local _ .vmem, ⟨42, _⟩ => ⟨S1x64x1, .f32⟩
  | .local _ .vmem, ⟨43, _⟩ => ⟨S1x64x1, .f32⟩
  | .local _ .vmem, ⟨44, _⟩ => ⟨S1x64x32, .f32⟩
  | .local _ .vmem, ⟨45, _⟩ => ⟨S1x64x32, .f32⟩
  | .local _ .vmem, ⟨46, _⟩ => ⟨S1x64x32, .f32⟩
  | .local _ .vmem, ⟨47, _⟩ => ⟨S1x64x32, .f32⟩
  | .local _ .vmem, ⟨48, _⟩ => ⟨S2x1024, .f32⟩
  | .local _ .vmem, ⟨49, _⟩ => ⟨S1x64x1024, .f32⟩
  | .local _ .vmem, ⟨50, _⟩ => ⟨S1x64x1024, .f32⟩
  | .local _ .vmem, ⟨51, _⟩ => ⟨S64x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28_0 : Ref sig .tc := ⟨.hbm, 50, rfl⟩
abbrev main_v28_1 : Ref sig .tc := ⟨.hbm, 51, rfl⟩
abbrev main_v28_2 : Ref sig .tc := ⟨.hbm, 52, rfl⟩
abbrev main_v28_3 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg22_0 : Ref sig .tc := ⟨.vmem, 30, rfl⟩
abbrev cc0_scratch0 : Ref sig .tc := ⟨.vmem, 31, rfl⟩
abbrev cc1_stg0_0 : Ref sig .tc := ⟨.vmem, 32, rfl⟩
abbrev cc1_stg0_1 : Ref sig .tc := ⟨.vmem, 33, rfl⟩
abbrev cc1_stg1_0 : Ref sig .tc := ⟨.vmem, 34, rfl⟩
abbrev cc1_stg1_1 : Ref sig .tc := ⟨.vmem, 35, rfl⟩
abbrev cc1_stg2_0 : Ref sig .tc := ⟨.vmem, 36, rfl⟩
abbrev cc1_stg3_0 : Ref sig .tc := ⟨.vmem, 37, rfl⟩
abbrev cc1_stg4_0 : Ref sig .tc := ⟨.vmem, 38, rfl⟩
abbrev cc1_stg5_0 : Ref sig .tc := ⟨.vmem, 39, rfl⟩
abbrev cc1_stg6_0 : Ref sig .tc := ⟨.vmem, 40, rfl⟩
abbrev cc1_stg7_0 : Ref sig .tc := ⟨.vmem, 41, rfl⟩
abbrev cc1_stg8_0 : Ref sig .tc := ⟨.vmem, 42, rfl⟩
abbrev cc1_stg8_1 : Ref sig .tc := ⟨.vmem, 43, rfl⟩
abbrev cc1_stg9_0 : Ref sig .tc := ⟨.vmem, 44, rfl⟩
abbrev cc1_stg9_1 : Ref sig .tc := ⟨.vmem, 45, rfl⟩
abbrev cc1_stg10_0 : Ref sig .tc := ⟨.vmem, 46, rfl⟩
abbrev cc1_stg10_1 : Ref sig .tc := ⟨.vmem, 47, rfl⟩
abbrev cc1_stg11_0 : Ref sig .tc := ⟨.vmem, 48, rfl⟩
abbrev cc1_stg12_0 : Ref sig .tc := ⟨.vmem, 49, rfl⟩
abbrev cc1_stg12_1 : Ref sig .tc := ⟨.vmem, 50, rfl⟩
abbrev cc1_scratch0 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem22_0 : DmaSem sig := 30
abbrev cc1_sem0_0 : DmaSem sig := 31
abbrev cc1_sem0_1 : DmaSem sig := 32
abbrev cc1_sem1_0 : DmaSem sig := 33
abbrev cc1_sem1_1 : DmaSem sig := 34
abbrev cc1_sem2_0 : DmaSem sig := 35
abbrev cc1_sem3_0 : DmaSem sig := 36
abbrev cc1_sem4_0 : DmaSem sig := 37
abbrev cc1_sem5_0 : DmaSem sig := 38
abbrev cc1_sem6_0 : DmaSem sig := 39
abbrev cc1_sem7_0 : DmaSem sig := 40
abbrev cc1_sem8_0 : DmaSem sig := 41
abbrev cc1_sem8_1 : DmaSem sig := 42
abbrev cc1_sem9_0 : DmaSem sig := 43
abbrev cc1_sem9_1 : DmaSem sig := 44
abbrev cc1_sem10_0 : DmaSem sig := 45
abbrev cc1_sem10_1 : DmaSem sig := 46
abbrev cc1_sem11_0 : DmaSem sig := 47
abbrev cc1_sem12_0 : DmaSem sig := 48
abbrev cc1_sem12_1 : DmaSem sig := 49

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x64 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x64 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S1x1024x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x64x1 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S1024x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1x64x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x64x32 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x64x32 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 1 → Memref sig .tc .vmem S2x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S1x64x1024 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]
-- ==== ReferenceIdeal.lean ====
abbrev S4x2048x1024 : Shape := ⟨3, ![4, 2048, 1024]⟩
abbrev S4x2048x512 : Shape := ⟨3, ![4, 2048, 512]⟩
abbrev S4x2048 : Shape := ⟨2, ![4, 2048]⟩
abbrev S4x64 : Shape := ⟨2, ![4, 64]⟩
abbrev S1024x1024 : Shape := ⟨2, ![1024, 1024]⟩
abbrev S1024 : Shape := ⟨1, ![1024]⟩
abbrev S2048x512 : Shape := ⟨2, ![2048, 512]⟩
abbrev S2048 : Shape := ⟨1, ![2048]⟩
abbrev S3072x1024 : Shape := ⟨2, ![3072, 1024]⟩
abbrev S3072 : Shape := ⟨1, ![3072]⟩
abbrev S2x1024 : Shape := ⟨2, ![2, 1024]⟩
abbrev S1x1x1024 : Shape := ⟨3, ![1, 1, 1024]⟩
abbrev S17 : Shape := ⟨1, ![17]⟩
abbrev S_ : Shape := ⟨0, ![]⟩
abbrev S4x64x1 : Shape := ⟨3, ![4, 64, 1]⟩
abbrev S1x1x17 : Shape := ⟨3, ![1, 1, 17]⟩
abbrev S4x64x17 : Shape := ⟨3, ![4, 64, 17]⟩
abbrev S4 : Shape := ⟨1, ![4]⟩
abbrev S4x1x1 : Shape := ⟨3, ![4, 1, 1]⟩
abbrev S4x64x17x1 : Shape := ⟨4, ![4, 64, 17, 1]⟩
abbrev S4x64x17x2 : Shape := ⟨4, ![4, 64, 17, 2]⟩
abbrev S4x32 : Shape := ⟨2, ![4, 32]⟩
abbrev S4x32x1 : Shape := ⟨3, ![4, 32, 1]⟩
abbrev S1 : Shape := ⟨1, ![1]⟩
abbrev S1x1x1 : Shape := ⟨3, ![1, 1, 1]⟩
abbrev S4x32x17 : Shape := ⟨3, ![4, 32, 17]⟩
abbrev S4x32x17x1 : Shape := ⟨4, ![4, 32, 17, 1]⟩
abbrev S4x32x17x2 : Shape := ⟨4, ![4, 32, 17, 2]⟩
abbrev S4x32x17x512 : Shape := ⟨4, ![4, 32, 17, 512]⟩
abbrev S4x32x512 : Shape := ⟨3, ![4, 32, 512]⟩
abbrev S512x2048 : Shape := ⟨2, ![512, 2048]⟩
abbrev S4x32x2048 : Shape := ⟨3, ![4, 32, 2048]⟩
abbrev S1x1x2048 : Shape := ⟨3, ![1, 1, 2048]⟩
abbrev S4x32x1024 : Shape := ⟨3, ![4, 32, 1024]⟩
abbrev S4x32x16x64 : Shape := ⟨4, ![4, 32, 16, 64]⟩
abbrev S4x16x32x64 : Shape := ⟨4, ![4, 16, 32, 64]⟩
abbrev S4x2048x16x64 : Shape := ⟨4, ![4, 2048, 16, 64]⟩
abbrev S4x16x2048x64 : Shape := ⟨4, ![4, 16, 2048, 64]⟩
abbrev S4x16x64x2048 : Shape := ⟨4, ![4, 16, 64, 2048]⟩
abbrev S4x16x32x2048 : Shape := ⟨4, ![4, 16, 32, 2048]⟩
abbrev S4x16x32 : Shape := ⟨3, ![4, 16, 32]⟩
abbrev S4x16x32x1 : Shape := ⟨4, ![4, 16, 32, 1]⟩
abbrev S4x64x1024 : Shape := ⟨3, ![4, 64, 1024]⟩
abbrev S64 : Shape := ⟨1, ![64]⟩
abbrev S64x1 : Shape := ⟨2, ![64, 1]⟩
abbrev S4x1x64 : Shape := ⟨3, ![4, 1, 64]⟩
abbrev S4x2x64 : Shape := ⟨3, ![4, 2, 64]⟩

abbrev nBuf : Space → Nat
  | .hbm => 771
  | .vmem => 0
  | .smem => 0
  | _ => 0

abbrev hbmTy0_0 (i : Nat) : BufTy := match i % 128 with
  | 0 => ⟨S4x2048x1024, .f32⟩
  | 1 => ⟨S4x2048x512, .f32⟩
  | 2 => ⟨S4x2048x512, .f32⟩
  | 3 => ⟨S4x2048, .f32⟩
  | 4 => ⟨S4x2048, .f32⟩
  | 5 => ⟨S4x64, .i32⟩
  | 6 => ⟨S4x64, .i32⟩
  | 7 => ⟨S1024x1024, .f32⟩
  | 8 => ⟨S1024, .f32⟩
  | 9 => ⟨S2048x512, .f32⟩
  | 10 => ⟨S2048, .f32⟩
  | 11 => ⟨S2048x512, .f32⟩
  | 12 => ⟨S2048, .f32⟩
  | 13 => ⟨S1024x1024, .f32⟩
  | 14 => ⟨S1024, .f32⟩
  | 15 => ⟨S1024x1024, .f32⟩
  | 16 => ⟨S1024, .f32⟩
  | 17 => ⟨S3072x1024, .f32⟩
  | 18 => ⟨S3072, .f32⟩
  | 19 => ⟨S1024x1024, .f32⟩
  | 20 => ⟨S1024, .f32⟩
  | 21 => ⟨S2x1024, .f32⟩
  | 22 => ⟨S1024x1024, .f32⟩
  | 23 => ⟨S4x2048x1024, .f32⟩
  | 24 => ⟨S1x1x1024, .f32⟩
  | 25 => ⟨S4x2048x1024, .f32⟩
  | 26 => ⟨S4x2048x1024, .f32⟩
  | 27 => ⟨S17, .i32⟩
  | 28 => ⟨S_, .i32⟩
  | 29 => ⟨S17, .i32⟩
  | 30 => ⟨S17, .i32⟩
  | 31 => ⟨S4x64x1, .i32⟩
  | 32 => ⟨S1x1x17, .i32⟩
  | 33 => ⟨S4x64x17, .i32⟩
  | 34 => ⟨S4x64x17, .i32⟩
  | 35 => ⟨S4x64x17, .i32⟩
  | 36 => ⟨S_, .i32⟩
  | 37 => ⟨S4x64x17, .i32⟩
  | 38 => ⟨S4x64x17, .i1⟩
  | 39 => ⟨S_, .i32⟩
  | 40 => ⟨S4x64x17, .i32⟩
  | 41 => ⟨S4x64x17, .i1⟩
  | 42 => ⟨S4x64x17, .i1⟩
  | 43 => ⟨S_, .i32⟩
  | 44 => ⟨S_, .i32⟩
  | 45 => ⟨S_, .i32⟩
  | 46 => ⟨S4x64x17, .i32⟩
  | 47 => ⟨S4x64x17, .i32⟩
  | 48 => ⟨S_, .i32⟩
  | 49 => ⟨S4x64x17, .i32⟩
  | 50 => ⟨S4x64x17, .i32⟩
  | 51 => ⟨S4, .i32⟩
  | 52 => ⟨S4x1x1, .i32⟩
  | 53 => ⟨S_, .i32⟩
  | 54 => ⟨S4x1x1, .i32⟩
  | 55 => ⟨S4x1x1, .i1⟩
  | 56 => ⟨S_, .i32⟩
  | 57 => ⟨S4x1x1, .i32⟩
  | 58 => ⟨S4x1x1, .i32⟩
  | 59 => ⟨S4x1x1, .i32⟩
  | 60 => ⟨S_, .i32⟩
  | 61 => ⟨S4x64x17, .i32⟩
  | 62 => ⟨S4x64x17, .i1⟩
  | 63 => ⟨S_, .i32⟩
  | 64 => ⟨S4x64x17, .i32⟩
  | 65 => ⟨S4x64x17, .i32⟩
  | 66 => ⟨S4x64x17, .i32⟩
  | 67 => ⟨S4x64x17, .i32⟩
  | 68 => ⟨S4x64x17x1, .i32⟩
  | 69 => ⟨S4x64x17x1, .i32⟩
  | 70 => ⟨S4x64x17x2, .i32⟩
  | 71 => ⟨S4x64x17, .f32⟩
  | 72 => ⟨S4x64x17, .i32⟩
  | 73 => ⟨S_, .i32⟩
  | 74 => ⟨S4x64, .i32⟩
  | 75 => ⟨S4x64x17, .f32⟩
  | 76 => ⟨S4x64x17, .f32⟩
  | 77 => ⟨S_, .f32⟩
  | 78 => ⟨S4x64, .f32⟩
  | 79 => ⟨S_, .i32⟩
  | 80 => ⟨S4x64, .i32⟩
  | 81 => ⟨S4x64, .i32⟩
  | 82 => ⟨S4x64, .f32⟩
  | 83 => ⟨S4x64, .f32⟩
  | 84 => ⟨S_, .i32⟩
  | 85 => ⟨S4x64, .i32⟩
  | 86 => ⟨S4x64, .i1⟩
  | 87 => ⟨S_, .i32⟩
  | 88 => ⟨S4x64, .i32⟩
  | 89 => ⟨S4x64, .i1⟩
  | 90 => ⟨S4x64, .i1⟩
  | 91 => ⟨S_, .f32⟩
  | 92 => ⟨S4x64, .f32⟩
  | 93 => ⟨S4x64, .f32⟩
  | 94 => ⟨S4x32, .f32⟩
  | 95 => ⟨S4x32, .i32⟩
  | 96 => ⟨S_, .i32⟩
  | 97 => ⟨S4x32, .i32⟩
  | 98 => ⟨S4x32, .i1⟩
  | 99 => ⟨S_, .i32⟩
  | 100 => ⟨S4x32, .i32⟩
  | 101 => ⟨S4x32, .i32⟩
  | 102 => ⟨S4x32, .i32⟩
  | 103 => ⟨S4x32x1, .i32⟩
  | 104 => ⟨S1, .i32⟩
  | 105 => ⟨S_, .i32⟩
  | 106 => ⟨S4x32x1, .i32⟩
  | 107 => ⟨S4x32x1, .i1⟩
  | 108 => ⟨S1x1x1, .i32⟩
  | 109 => ⟨S4x32x1, .i32⟩
  | 110 => ⟨S4x32x1, .i1⟩
  | 111 => ⟨S4x32x1, .i1⟩
  | 112 => ⟨S_, .i1⟩
  | 113 => ⟨S4x32, .i1⟩
  | 114 => ⟨S4x32, .i32⟩
  | 115 => ⟨S_, .i32⟩
  | 116 => ⟨S4x32, .i32⟩
  | 117 => ⟨S4x32, .i32⟩
  | 118 => ⟨S17, .i32⟩
  | 119 => ⟨S_, .i32⟩
  | 120 => ⟨S17, .i32⟩
  | 121 => ⟨S17, .i32⟩
  | 122 => ⟨S4x32x1, .i32⟩
  | 123 => ⟨S1x1x17, .i32⟩
  | 124 => ⟨S4x32x17, .i32⟩
  | 125 => ⟨S4x32x17, .i32⟩
  | 126 => ⟨S4x32x17, .i32⟩
  | 127 => ⟨S_, .i32⟩
  | _ => ⟨S4x2048x1024, .f32⟩

abbrev hbmTy0_1 (i : Nat) : BufTy := match i % 128 with
  | 0 => ⟨S4x32x17, .i32⟩
  | 1 => ⟨S4x32x17, .i1⟩
  | 2 => ⟨S_, .i32⟩
  | 3 => ⟨S4x32x17, .i32⟩
  | 4 => ⟨S4x32x17, .i1⟩
  | 5 => ⟨S4x32x17, .i1⟩
  | 6 => ⟨S4x32x17, .f32⟩
  | 7 => ⟨S_, .i32⟩
  | 8 => ⟨S_, .i32⟩
  | 9 => ⟨S_, .i32⟩
  | 10 => ⟨S4x32x17, .i32⟩
  | 11 => ⟨S4x32x17, .i32⟩
  | 12 => ⟨S_, .i32⟩
  | 13 => ⟨S4x32x17, .i32⟩
  | 14 => ⟨S4x32x17, .i32⟩
  | 15 => ⟨S4, .i32⟩
  | 16 => ⟨S4x1x1, .i32⟩
  | 17 => ⟨S17, .f32⟩
  | 18 => ⟨S_, .f32⟩
  | 19 => ⟨S17, .f32⟩
  | 20 => ⟨S17, .f32⟩
  | 21 => ⟨S17, .f32⟩
  | 22 => ⟨S_, .f32⟩
  | 23 => ⟨S17, .f32⟩
  | 24 => ⟨S17, .f32⟩
  | 25 => ⟨S17, .f32⟩
  | 26 => ⟨S1x1x17, .f32⟩
  | 27 => ⟨S_, .i32⟩
  | 28 => ⟨S4x1x1, .i32⟩
  | 29 => ⟨S4x1x1, .i1⟩
  | 30 => ⟨S_, .i32⟩
  | 31 => ⟨S4x1x1, .i32⟩
  | 32 => ⟨S4x1x1, .i32⟩
  | 33 => ⟨S4x1x1, .i32⟩
  | 34 => ⟨S_, .i32⟩
  | 35 => ⟨S4x32x17, .i32⟩
  | 36 => ⟨S4x32x17, .i1⟩
  | 37 => ⟨S_, .i32⟩
  | 38 => ⟨S4x32x17, .i32⟩
  | 39 => ⟨S4x32x17, .i32⟩
  | 40 => ⟨S4x32x17, .i32⟩
  | 41 => ⟨S4x32x17, .i32⟩
  | 42 => ⟨S4x32x17x1, .i32⟩
  | 43 => ⟨S4x32x17x1, .i32⟩
  | 44 => ⟨S4x32x17x2, .i32⟩
  | 45 => ⟨S4x32x17, .f32⟩
  | 46 => ⟨S4x32x17, .f32⟩
  | 47 => ⟨S4x32x17, .f32⟩
  | 48 => ⟨S4x32x17, .f32⟩
  | 49 => ⟨S_, .i32⟩
  | 50 => ⟨S4x1x1, .i32⟩
  | 51 => ⟨S4x1x1, .i1⟩
  | 52 => ⟨S_, .i32⟩
  | 53 => ⟨S4x1x1, .i32⟩
  | 54 => ⟨S4x1x1, .i32⟩
  | 55 => ⟨S4x1x1, .i32⟩
  | 56 => ⟨S_, .i32⟩
  | 57 => ⟨S4x32x17, .i32⟩
  | 58 => ⟨S4x32x17, .i1⟩
  | 59 => ⟨S_, .i32⟩
  | 60 => ⟨S4x32x17, .i32⟩
  | 61 => ⟨S4x32x17, .i32⟩
  | 62 => ⟨S4x32x17, .i32⟩
  | 63 => ⟨S4x32x17, .i32⟩
  | 64 => ⟨S4x32x17x1, .i32⟩
  | 65 => ⟨S4x32x17x1, .i32⟩
  | 66 => ⟨S4x32x17x2, .i32⟩
  | 67 => ⟨S4x32x17x512, .f32⟩
  | 68 => ⟨S_, .f32⟩
  | 69 => ⟨S4x32, .f32⟩
  | 70 => ⟨S4x32x1, .f32⟩
  | 71 => ⟨S_, .f32⟩
  | 72 => ⟨S4x32x1, .f32⟩
  | 73 => ⟨S4x32x1, .f32⟩
  | 74 => ⟨S4x32x17, .f32⟩
  | 75 => ⟨S4x32x17, .f32⟩
  | 76 => ⟨S4x32x17x1, .f32⟩
  | 77 => ⟨S4x32x17x512, .f32⟩
  | 78 => ⟨S4x32x17x512, .f32⟩
  | 79 => ⟨S_, .f32⟩
  | 80 => ⟨S4x32x512, .f32⟩
  | 81 => ⟨S_, .i32⟩
  | 82 => ⟨S4x32, .i32⟩
  | 83 => ⟨S4x32, .i1⟩
  | 84 => ⟨S_, .i32⟩
  | 85 => ⟨S4x32, .i32⟩
  | 86 => ⟨S4x32, .i1⟩
  | 87 => ⟨S4x32, .i1⟩
  | 88 => ⟨S4x32, .f32⟩
  | 89 => ⟨S512x2048, .f32⟩
  | 90 => ⟨S4x32x2048, .f32⟩
  | 91 => ⟨S1x1x2048, .f32⟩
  | 92 => ⟨S4x32x2048, .f32⟩
  | 93 => ⟨S4x32x2048, .f32⟩
  | 94 => ⟨S4x32x1024, .f32⟩
  | 95 => ⟨S1024x1024, .f32⟩
  | 96 => ⟨S4x32x1024, .f32⟩
  | 97 => ⟨S1x1x1024, .f32⟩
  | 98 => ⟨S4x32x1024, .f32⟩
  | 99 => ⟨S4x32x1024, .f32⟩
  | 100 => ⟨S4x32x1024, .f32⟩
  | 101 => ⟨S1024x1024, .f32⟩
  | 102 => ⟨S1024x1024, .f32⟩
  | 103 => ⟨S1024x1024, .f32⟩
  | 104 => ⟨S1024, .f32⟩
  | 105 => ⟨S1024, .f32⟩
  | 106 => ⟨S1024, .f32⟩
  | 107 => ⟨S1024x1024, .f32⟩
  | 108 => ⟨S4x32x1024, .f32⟩
  | 109 => ⟨S1x1x1024, .f32⟩
  | 110 => ⟨S4x32x1024, .f32⟩
  | 111 => ⟨S4x32x1024, .f32⟩
  | 112 => ⟨S1024x1024, .f32⟩
  | 113 => ⟨S4x2048x1024, .f32⟩
  | 114 => ⟨S1x1x1024, .f32⟩
  | 115 => ⟨S4x2048x1024, .f32⟩
  | 116 => ⟨S4x2048x1024, .f32⟩
  | 117 => ⟨S1024x1024, .f32⟩
  | 118 => ⟨S4x2048x1024, .f32⟩
  | 119 => ⟨S1x1x1024, .f32⟩
  | 120 => ⟨S4x2048x1024, .f32⟩
  | 121 => ⟨S4x2048x1024, .f32⟩
  | 122 => ⟨S4x32x16x64, .f32⟩
  | 123 => ⟨S4x16x32x64, .f32⟩
  | 124 => ⟨S4x2048x16x64, .f32⟩
  | 125 => ⟨S4x16x2048x64, .f32⟩
  | 126 => ⟨S4x2048x16x64, .f32⟩
  | 127 => ⟨S4x16x2048x64, .f32⟩
  | _ => ⟨S4x2048x1024, .f32⟩

abbrev hbmTy0_2 (i : Nat) : BufTy := match i % 128 with
  | 0 => ⟨S4x16x64x2048, .f32⟩
  | 1 => ⟨S4x16x32x2048, .f32⟩
  | 2 => ⟨S_, .f32⟩
  | 3 => ⟨S_, .f32⟩
  | 4 => ⟨S4x16x32x2048, .f32⟩
  | 5 => ⟨S4x16x32x2048, .f32⟩
  | 6 => ⟨S_, .f32⟩
  | 7 => ⟨S4x16x32, .f32⟩
  | 8 => ⟨S_, .f32⟩
  | 9 => ⟨S4x16x32, .f32⟩
  | 10 => ⟨S4x16x32, .f32⟩
  | 11 => ⟨S4x16x32x1, .f32⟩
  | 12 => ⟨S4x16x32x2048, .f32⟩
  | 13 => ⟨S4x16x32x2048, .f32⟩
  | 14 => ⟨S4x16x32x2048, .f32⟩
  | 15 => ⟨S_, .f32⟩
  | 16 => ⟨S4x16x32, .f32⟩
  | 17 => ⟨S4x16x32x1, .f32⟩
  | 18 => ⟨S4x16x32x2048, .f32⟩
  | 19 => ⟨S4x16x32x2048, .f32⟩
  | 20 => ⟨S4x16x32x64, .f32⟩
  | 21 => ⟨S4x32x16x64, .f32⟩
  | 22 => ⟨S4x32x1024, .f32⟩
  | 23 => ⟨S1024x1024, .f32⟩
  | 24 => ⟨S4x32x1024, .f32⟩
  | 25 => ⟨S1x1x1024, .f32⟩
  | 26 => ⟨S4x32x1024, .f32⟩
  | 27 => ⟨S4x32x1024, .f32⟩
  | 28 => ⟨S1024x1024, .f32⟩
  | 29 => ⟨S4x32x1024, .f32⟩
  | 30 => ⟨S1x1x1024, .f32⟩
  | 31 => ⟨S4x32x1024, .f32⟩
  | 32 => ⟨S4x32x1024, .f32⟩
  | 33 => ⟨S_, .f32⟩
  | 34 => ⟨S4x32, .f32⟩
  | 35 => ⟨S4x32, .i1⟩
  | 36 => ⟨S17, .i32⟩
  | 37 => ⟨S_, .i32⟩
  | 38 => ⟨S17, .i32⟩
  | 39 => ⟨S17, .i32⟩
  | 40 => ⟨S4x32x1, .i32⟩
  | 41 => ⟨S1x1x17, .i32⟩
  | 42 => ⟨S4x32x17, .i32⟩
  | 43 => ⟨S4x32x17, .i32⟩
  | 44 => ⟨S4x32x17, .i32⟩
  | 45 => ⟨S_, .i32⟩
  | 46 => ⟨S4x32x17, .i32⟩
  | 47 => ⟨S4x32x17, .i1⟩
  | 48 => ⟨S_, .i32⟩
  | 49 => ⟨S4x32x17, .i32⟩
  | 50 => ⟨S4x32x17, .i1⟩
  | 51 => ⟨S4x32x17, .i1⟩
  | 52 => ⟨S_, .i32⟩
  | 53 => ⟨S_, .i32⟩
  | 54 => ⟨S_, .i32⟩
  | 55 => ⟨S4x32x17, .i32⟩
  | 56 => ⟨S4x32x17, .i32⟩
  | 57 => ⟨S_, .i32⟩
  | 58 => ⟨S4x32x17, .i32⟩
  | 59 => ⟨S4x32x17, .i32⟩
  | 60 => ⟨S4, .i32⟩
  | 61 => ⟨S4x1x1, .i32⟩
  | 62 => ⟨S_, .i32⟩
  | 63 => ⟨S4x1x1, .i32⟩
  | 64 => ⟨S4x1x1, .i1⟩
  | 65 => ⟨S_, .i32⟩
  | 66 => ⟨S4x1x1, .i32⟩
  | 67 => ⟨S4x1x1, .i32⟩
  | 68 => ⟨S4x1x1, .i32⟩
  | 69 => ⟨S_, .i32⟩
  | 70 => ⟨S4x32x17, .i32⟩
  | 71 => ⟨S4x32x17, .i1⟩
  | 72 => ⟨S_, .i32⟩
  | 73 => ⟨S4x32x17, .i32⟩
  | 74 => ⟨S4x32x17, .i32⟩
  | 75 => ⟨S4x32x17, .i32⟩
  | 76 => ⟨S4x32x17, .i32⟩
  | 77 => ⟨S4x32x17x1, .i32⟩
  | 78 => ⟨S4x32x17x1, .i32⟩
  | 79 => ⟨S4x32x17x2, .i32⟩
  | 80 => ⟨S4x32x17, .f32⟩
  | 81 => ⟨S4x32x17, .i32⟩
  | 82 => ⟨S_, .i32⟩
  | 83 => ⟨S4x32, .i32⟩
  | 84 => ⟨S4x32x17, .f32⟩
  | 85 => ⟨S4x32x17, .f32⟩
  | 86 => ⟨S_, .f32⟩
  | 87 => ⟨S4x32, .f32⟩
  | 88 => ⟨S_, .i32⟩
  | 89 => ⟨S4x32, .i32⟩
  | 90 => ⟨S4x32, .i32⟩
  | 91 => ⟨S4x32, .f32⟩
  | 92 => ⟨S4x32, .f32⟩
  | 93 => ⟨S_, .i32⟩
  | 94 => ⟨S4x32, .i32⟩
  | 95 => ⟨S4x32, .i1⟩
  | 96 => ⟨S_, .i32⟩
  | 97 => ⟨S4x32, .i32⟩
  | 98 => ⟨S4x32, .i1⟩
  | 99 => ⟨S4x32, .i1⟩
  | 100 => ⟨S_, .f32⟩
  | 101 => ⟨S4x32, .f32⟩
  | 102 => ⟨S4x32, .f32⟩
  | 103 => ⟨S_, .f32⟩
  | 104 => ⟨S_, .f32⟩
  | 105 => ⟨S4x32, .f32⟩
  | 106 => ⟨S4x32, .f32⟩
  | 107 => ⟨S_, .f32⟩
  | 108 => ⟨S4x32, .f32⟩
  | 109 => ⟨S4x32, .f32⟩
  | 110 => ⟨S4x32, .f32⟩
  | 111 => ⟨S4x32, .f32⟩
  | 112 => ⟨S_, .f32⟩
  | 113 => ⟨S4x32, .f32⟩
  | 114 => ⟨S4x32, .f32⟩
  | 115 => ⟨S_, .f32⟩
  | 116 => ⟨S4x32, .f32⟩
  | 117 => ⟨S4x32, .f32⟩
  | 118 => ⟨S4x32, .f32⟩
  | 119 => ⟨S4x32x1, .f32⟩
  | 120 => ⟨S4x32x1024, .f32⟩
  | 121 => ⟨S4x32x1024, .f32⟩
  | 122 => ⟨S17, .i32⟩
  | 123 => ⟨S_, .i32⟩
  | 124 => ⟨S17, .i32⟩
  | 125 => ⟨S17, .i32⟩
  | 126 => ⟨S4x64x1, .i32⟩
  | 127 => ⟨S1x1x17, .i32⟩
  | _ => ⟨S4x2048x1024, .f32⟩

abbrev hbmTy0_3 (i : Nat) : BufTy := match i % 128 with
  | 0 => ⟨S4x64x17, .i32⟩
  | 1 => ⟨S4x64x17, .i32⟩
  | 2 => ⟨S4x64x17, .i32⟩
  | 3 => ⟨S_, .i32⟩
  | 4 => ⟨S4x64x17, .i32⟩
  | 5 => ⟨S4x64x17, .i1⟩
  | 6 => ⟨S_, .i32⟩
  | 7 => ⟨S4x64x17, .i32⟩
  | 8 => ⟨S4x64x17, .i1⟩
  | 9 => ⟨S4x64x17, .i1⟩
  | 10 => ⟨S_, .i32⟩
  | 11 => ⟨S_, .i32⟩
  | 12 => ⟨S_, .i32⟩
  | 13 => ⟨S4x64x17, .i32⟩
  | 14 => ⟨S4x64x17, .i32⟩
  | 15 => ⟨S_, .i32⟩
  | 16 => ⟨S4x64x17, .i32⟩
  | 17 => ⟨S4x64x17, .i32⟩
  | 18 => ⟨S4, .i32⟩
  | 19 => ⟨S4x1x1, .i32⟩
  | 20 => ⟨S_, .i32⟩
  | 21 => ⟨S4x1x1, .i32⟩
  | 22 => ⟨S4x1x1, .i1⟩
  | 23 => ⟨S_, .i32⟩
  | 24 => ⟨S4x1x1, .i32⟩
  | 25 => ⟨S4x1x1, .i32⟩
  | 26 => ⟨S4x1x1, .i32⟩
  | 27 => ⟨S_, .i32⟩
  | 28 => ⟨S4x64x17, .i32⟩
  | 29 => ⟨S4x64x17, .i1⟩
  | 30 => ⟨S_, .i32⟩
  | 31 => ⟨S4x64x17, .i32⟩
  | 32 => ⟨S4x64x17, .i32⟩
  | 33 => ⟨S4x64x17, .i32⟩
  | 34 => ⟨S4x64x17, .i32⟩
  | 35 => ⟨S4x64x17x1, .i32⟩
  | 36 => ⟨S4x64x17x1, .i32⟩
  | 37 => ⟨S4x64x17x2, .i32⟩
  | 38 => ⟨S4x64x17, .f32⟩
  | 39 => ⟨S4x64x17, .i32⟩
  | 40 => ⟨S_, .i32⟩
  | 41 => ⟨S4x64, .i32⟩
  | 42 => ⟨S4x64x17, .f32⟩
  | 43 => ⟨S4x64x17, .f32⟩
  | 44 => ⟨S_, .f32⟩
  | 45 => ⟨S4x64, .f32⟩
  | 46 => ⟨S_, .i32⟩
  | 47 => ⟨S4x64, .i32⟩
  | 48 => ⟨S4x64, .i32⟩
  | 49 => ⟨S4x64, .f32⟩
  | 50 => ⟨S4x64, .f32⟩
  | 51 => ⟨S_, .i32⟩
  | 52 => ⟨S4x64, .i32⟩
  | 53 => ⟨S4x64, .i1⟩
  | 54 => ⟨S_, .i32⟩
  | 55 => ⟨S4x64, .i32⟩
  | 56 => ⟨S4x64, .i1⟩
  | 57 => ⟨S4x64, .i1⟩
  | 58 => ⟨S_, .f32⟩
  | 59 => ⟨S4x64, .f32⟩
  | 60 => ⟨S4x64, .f32⟩
  | 61 => ⟨S4x32, .f32⟩
  | 62 => ⟨S4x32, .i32⟩
  | 63 => ⟨S_, .i32⟩
  | 64 => ⟨S4x32, .i32⟩
  | 65 => ⟨S4x32, .i1⟩
  | 66 => ⟨S_, .i32⟩
  | 67 => ⟨S4x32, .i32⟩
  | 68 => ⟨S4x32, .i32⟩
  | 69 => ⟨S4x32, .i32⟩
  | 70 => ⟨S4x32x1, .i32⟩
  | 71 => ⟨S1, .i32⟩
  | 72 => ⟨S_, .i32⟩
  | 73 => ⟨S4x32x1, .i32⟩
  | 74 => ⟨S4x32x1, .i1⟩
  | 75 => ⟨S1x1x1, .i32⟩
  | 76 => ⟨S4x32x1, .i32⟩
  | 77 => ⟨S4x32x1, .i1⟩
  | 78 => ⟨S4x32x1, .i1⟩
  | 79 => ⟨S_, .i1⟩
  | 80 => ⟨S4x32, .i1⟩
  | 81 => ⟨S4x32, .i32⟩
  | 82 => ⟨S_, .i32⟩
  | 83 => ⟨S4x32, .i32⟩
  | 84 => ⟨S4x32, .i32⟩
  | 85 => ⟨S17, .i32⟩
  | 86 => ⟨S_, .i32⟩
  | 87 => ⟨S17, .i32⟩
  | 88 => ⟨S17, .i32⟩
  | 89 => ⟨S4x32x1, .i32⟩
  | 90 => ⟨S1x1x17, .i32⟩
  | 91 => ⟨S4x32x17, .i32⟩
  | 92 => ⟨S4x32x17, .i32⟩
  | 93 => ⟨S4x32x17, .i32⟩
  | 94 => ⟨S_, .i32⟩
  | 95 => ⟨S4x32x17, .i32⟩
  | 96 => ⟨S4x32x17, .i1⟩
  | 97 => ⟨S_, .i32⟩
  | 98 => ⟨S4x32x17, .i32⟩
  | 99 => ⟨S4x32x17, .i1⟩
  | 100 => ⟨S4x32x17, .i1⟩
  | 101 => ⟨S4x32x17, .f32⟩
  | 102 => ⟨S_, .i32⟩
  | 103 => ⟨S_, .i32⟩
  | 104 => ⟨S_, .i32⟩
  | 105 => ⟨S4x32x17, .i32⟩
  | 106 => ⟨S4x32x17, .i32⟩
  | 107 => ⟨S_, .i32⟩
  | 108 => ⟨S4x32x17, .i32⟩
  | 109 => ⟨S4x32x17, .i32⟩
  | 110 => ⟨S4, .i32⟩
  | 111 => ⟨S4x1x1, .i32⟩
  | 112 => ⟨S17, .f32⟩
  | 113 => ⟨S_, .f32⟩
  | 114 => ⟨S17, .f32⟩
  | 115 => ⟨S17, .f32⟩
  | 116 => ⟨S17, .f32⟩
  | 117 => ⟨S_, .f32⟩
  | 118 => ⟨S17, .f32⟩
  | 119 => ⟨S17, .f32⟩
  | 120 => ⟨S17, .f32⟩
  | 121 => ⟨S1x1x17, .f32⟩
  | 122 => ⟨S_, .i32⟩
  | 123 => ⟨S4x1x1, .i32⟩
  | 124 => ⟨S4x1x1, .i1⟩
  | 125 => ⟨S_, .i32⟩
  | 126 => ⟨S4x1x1, .i32⟩
  | 127 => ⟨S4x1x1, .i32⟩
  | _ => ⟨S4x2048x1024, .f32⟩

abbrev hbmTy0_4 (i : Nat) : BufTy := match i % 128 with
  | 0 => ⟨S4x1x1, .i32⟩
  | 1 => ⟨S_, .i32⟩
  | 2 => ⟨S4x32x17, .i32⟩
  | 3 => ⟨S4x32x17, .i1⟩
  | 4 => ⟨S_, .i32⟩
  | 5 => ⟨S4x32x17, .i32⟩
  | 6 => ⟨S4x32x17, .i32⟩
  | 7 => ⟨S4x32x17, .i32⟩
  | 8 => ⟨S4x32x17, .i32⟩
  | 9 => ⟨S4x32x17x1, .i32⟩
  | 10 => ⟨S4x32x17x1, .i32⟩
  | 11 => ⟨S4x32x17x2, .i32⟩
  | 12 => ⟨S4x32x17, .f32⟩
  | 13 => ⟨S4x32x17, .f32⟩
  | 14 => ⟨S4x32x17, .f32⟩
  | 15 => ⟨S4x32x17, .f32⟩
  | 16 => ⟨S_, .i32⟩
  | 17 => ⟨S4x1x1, .i32⟩
  | 18 => ⟨S4x1x1, .i1⟩
  | 19 => ⟨S_, .i32⟩
  | 20 => ⟨S4x1x1, .i32⟩
  | 21 => ⟨S4x1x1, .i32⟩
  | 22 => ⟨S4x1x1, .i32⟩
  | 23 => ⟨S_, .i32⟩
  | 24 => ⟨S4x32x17, .i32⟩
  | 25 => ⟨S4x32x17, .i1⟩
  | 26 => ⟨S_, .i32⟩
  | 27 => ⟨S4x32x17, .i32⟩
  | 28 => ⟨S4x32x17, .i32⟩
  | 29 => ⟨S4x32x17, .i32⟩
  | 30 => ⟨S4x32x17, .i32⟩
  | 31 => ⟨S4x32x17x1, .i32⟩
  | 32 => ⟨S4x32x17x1, .i32⟩
  | 33 => ⟨S4x32x17x2, .i32⟩
  | 34 => ⟨S4x32x17x512, .f32⟩
  | 35 => ⟨S_, .f32⟩
  | 36 => ⟨S4x32, .f32⟩
  | 37 => ⟨S4x32x1, .f32⟩
  | 38 => ⟨S_, .f32⟩
  | 39 => ⟨S4x32x1, .f32⟩
  | 40 => ⟨S4x32x1, .f32⟩
  | 41 => ⟨S4x32x17, .f32⟩
  | 42 => ⟨S4x32x17, .f32⟩
  | 43 => ⟨S4x32x17x1, .f32⟩
  | 44 => ⟨S4x32x17x512, .f32⟩
  | 45 => ⟨S4x32x17x512, .f32⟩
  | 46 => ⟨S_, .f32⟩
  | 47 => ⟨S4x32x512, .f32⟩
  | 48 => ⟨S_, .i32⟩
  | 49 => ⟨S4x32, .i32⟩
  | 50 => ⟨S4x32, .i1⟩
  | 51 => ⟨S_, .i32⟩
  | 52 => ⟨S4x32, .i32⟩
  | 53 => ⟨S4x32, .i1⟩
  | 54 => ⟨S4x32, .i1⟩
  | 55 => ⟨S4x32, .f32⟩
  | 56 => ⟨S512x2048, .f32⟩
  | 57 => ⟨S4x32x2048, .f32⟩
  | 58 => ⟨S1x1x2048, .f32⟩
  | 59 => ⟨S4x32x2048, .f32⟩
  | 60 => ⟨S4x32x2048, .f32⟩
  | 61 => ⟨S4x32x1024, .f32⟩
  | 62 => ⟨S1024x1024, .f32⟩
  | 63 => ⟨S4x32x1024, .f32⟩
  | 64 => ⟨S1x1x1024, .f32⟩
  | 65 => ⟨S4x32x1024, .f32⟩
  | 66 => ⟨S4x32x1024, .f32⟩
  | 67 => ⟨S4x32x1024, .f32⟩
  | 68 => ⟨S1024x1024, .f32⟩
  | 69 => ⟨S1024x1024, .f32⟩
  | 70 => ⟨S1024x1024, .f32⟩
  | 71 => ⟨S1024, .f32⟩
  | 72 => ⟨S1024, .f32⟩
  | 73 => ⟨S1024, .f32⟩
  | 74 => ⟨S1024x1024, .f32⟩
  | 75 => ⟨S4x32x1024, .f32⟩
  | 76 => ⟨S1x1x1024, .f32⟩
  | 77 => ⟨S4x32x1024, .f32⟩
  | 78 => ⟨S4x32x1024, .f32⟩
  | 79 => ⟨S1024x1024, .f32⟩
  | 80 => ⟨S4x2048x1024, .f32⟩
  | 81 => ⟨S1x1x1024, .f32⟩
  | 82 => ⟨S4x2048x1024, .f32⟩
  | 83 => ⟨S4x2048x1024, .f32⟩
  | 84 => ⟨S1024x1024, .f32⟩
  | 85 => ⟨S4x2048x1024, .f32⟩
  | 86 => ⟨S1x1x1024, .f32⟩
  | 87 => ⟨S4x2048x1024, .f32⟩
  | 88 => ⟨S4x2048x1024, .f32⟩
  | 89 => ⟨S4x32x16x64, .f32⟩
  | 90 => ⟨S4x16x32x64, .f32⟩
  | 91 => ⟨S4x2048x16x64, .f32⟩
  | 92 => ⟨S4x16x2048x64, .f32⟩
  | 93 => ⟨S4x2048x16x64, .f32⟩
  | 94 => ⟨S4x16x2048x64, .f32⟩
  | 95 => ⟨S4x16x64x2048, .f32⟩
  | 96 => ⟨S4x16x32x2048, .f32⟩
  | 97 => ⟨S_, .f32⟩
  | 98 => ⟨S_, .f32⟩
  | 99 => ⟨S4x16x32x2048, .f32⟩
  | 100 => ⟨S4x16x32x2048, .f32⟩
  | 101 => ⟨S_, .f32⟩
  | 102 => ⟨S4x16x32, .f32⟩
  | 103 => ⟨S_, .f32⟩
  | 104 => ⟨S4x16x32, .f32⟩
  | 105 => ⟨S4x16x32, .f32⟩
  | 106 => ⟨S4x16x32x1, .f32⟩
  | 107 => ⟨S4x16x32x2048, .f32⟩
  | 108 => ⟨S4x16x32x2048, .f32⟩
  | 109 => ⟨S4x16x32x2048, .f32⟩
  | 110 => ⟨S_, .f32⟩
  | 111 => ⟨S4x16x32, .f32⟩
  | 112 => ⟨S4x16x32x1, .f32⟩
  | 113 => ⟨S4x16x32x2048, .f32⟩
  | 114 => ⟨S4x16x32x2048, .f32⟩
  | 115 => ⟨S4x16x32x64, .f32⟩
  | 116 => ⟨S4x32x16x64, .f32⟩
  | 117 => ⟨S4x32x1024, .f32⟩
  | 118 => ⟨S1024x1024, .f32⟩
  | 119 => ⟨S4x32x1024, .f32⟩
  | 120 => ⟨S1x1x1024, .f32⟩
  | 121 => ⟨S4x32x1024, .f32⟩
  | 122 => ⟨S4x32x1024, .f32⟩
  | 123 => ⟨S1024x1024, .f32⟩
  | 124 => ⟨S4x32x1024, .f32⟩
  | 125 => ⟨S1x1x1024, .f32⟩
  | 126 => ⟨S4x32x1024, .f32⟩
  | 127 => ⟨S4x32x1024, .f32⟩
  | _ => ⟨S4x2048x1024, .f32⟩

abbrev hbmTy0_5 (i : Nat) : BufTy := match i % 128 with
  | 0 => ⟨S_, .f32⟩
  | 1 => ⟨S4x32, .f32⟩
  | 2 => ⟨S4x32, .i1⟩
  | 3 => ⟨S17, .i32⟩
  | 4 => ⟨S_, .i32⟩
  | 5 => ⟨S17, .i32⟩
  | 6 => ⟨S17, .i32⟩
  | 7 => ⟨S4x32x1, .i32⟩
  | 8 => ⟨S1x1x17, .i32⟩
  | 9 => ⟨S4x32x17, .i32⟩
  | 10 => ⟨S4x32x17, .i32⟩
  | 11 => ⟨S4x32x17, .i32⟩
  | 12 => ⟨S_, .i32⟩
  | 13 => ⟨S4x32x17, .i32⟩
  | 14 => ⟨S4x32x17, .i1⟩
  | 15 => ⟨S_, .i32⟩
  | 16 => ⟨S4x32x17, .i32⟩
  | 17 => ⟨S4x32x17, .i1⟩
  | 18 => ⟨S4x32x17, .i1⟩
  | 19 => ⟨S_, .i32⟩
  | 20 => ⟨S_, .i32⟩
  | 21 => ⟨S_, .i32⟩
  | 22 => ⟨S4x32x17, .i32⟩
  | 23 => ⟨S4x32x17, .i32⟩
  | 24 => ⟨S_, .i32⟩
  | 25 => ⟨S4x32x17, .i32⟩
  | 26 => ⟨S4x32x17, .i32⟩
  | 27 => ⟨S4, .i32⟩
  | 28 => ⟨S4x1x1, .i32⟩
  | 29 => ⟨S_, .i32⟩
  | 30 => ⟨S4x1x1, .i32⟩
  | 31 => ⟨S4x1x1, .i1⟩
  | 32 => ⟨S_, .i32⟩
  | 33 => ⟨S4x1x1, .i32⟩
  | 34 => ⟨S4x1x1, .i32⟩
  | 35 => ⟨S4x1x1, .i32⟩
  | 36 => ⟨S_, .i32⟩
  | 37 => ⟨S4x32x17, .i32⟩
  | 38 => ⟨S4x32x17, .i1⟩
  | 39 => ⟨S_, .i32⟩
  | 40 => ⟨S4x32x17, .i32⟩
  | 41 => ⟨S4x32x17, .i32⟩
  | 42 => ⟨S4x32x17, .i32⟩
  | 43 => ⟨S4x32x17, .i32⟩
  | 44 => ⟨S4x32x17x1, .i32⟩
  | 45 => ⟨S4x32x17x1, .i32⟩
  | 46 => ⟨S4x32x17x2, .i32⟩
  | 47 => ⟨S4x32x17, .f32⟩
  | 48 => ⟨S4x32x17, .i32⟩
  | 49 => ⟨S_, .i32⟩
  | 50 => ⟨S4x32, .i32⟩
  | 51 => ⟨S4x32x17, .f32⟩
  | 52 => ⟨S4x32x17, .f32⟩
  | 53 => ⟨S_, .f32⟩
  | 54 => ⟨S4x32, .f32⟩
  | 55 => ⟨S_, .i32⟩
  | 56 => ⟨S4x32, .i32⟩
  | 57 => ⟨S4x32, .i32⟩
  | 58 => ⟨S4x32, .f32⟩
  | 59 => ⟨S4x32, .f32⟩
  | 60 => ⟨S_, .i32⟩
  | 61 => ⟨S4x32, .i32⟩
  | 62 => ⟨S4x32, .i1⟩
  | 63 => ⟨S_, .i32⟩
  | 64 => ⟨S4x32, .i32⟩
  | 65 => ⟨S4x32, .i1⟩
  | 66 => ⟨S4x32, .i1⟩
  | 67 => ⟨S_, .f32⟩
  | 68 => ⟨S4x32, .f32⟩
  | 69 => ⟨S4x32, .f32⟩
  | 70 => ⟨S_, .f32⟩
  | 71 => ⟨S_, .f32⟩
  | 72 => ⟨S4x32, .f32⟩
  | 73 => ⟨S4x32, .f32⟩
  | 74 => ⟨S_, .f32⟩
  | 75 => ⟨S4x32, .f32⟩
  | 76 => ⟨S4x32, .f32⟩
  | 77 => ⟨S4x32, .f32⟩
  | 78 => ⟨S4x32, .f32⟩
  | 79 => ⟨S_, .f32⟩
  | 80 => ⟨S4x32, .f32⟩
  | 81 => ⟨S4x32, .f32⟩
  | 82 => ⟨S_, .f32⟩
  | 83 => ⟨S4x32, .f32⟩
  | 84 => ⟨S4x32, .f32⟩
  | 85 => ⟨S4x32, .f32⟩
  | 86 => ⟨S4x32x1, .f32⟩
  | 87 => ⟨S4x32x1024, .f32⟩
  | 88 => ⟨S4x32x1024, .f32⟩
  | 89 => ⟨S4x64x1024, .f32⟩
  | 90 => ⟨S64, .i32⟩
  | 91 => ⟨S64, .f32⟩
  | 92 => ⟨S_, .f32⟩
  | 93 => ⟨S64, .f32⟩
  | 94 => ⟨S64, .f32⟩
  | 95 => ⟨S64, .f32⟩
  | 96 => ⟨S64, .i32⟩
  | 97 => ⟨S_, .i32⟩
  | 98 => ⟨S64, .i32⟩
  | 99 => ⟨S64, .i1⟩
  | 100 => ⟨S_, .i32⟩
  | 101 => ⟨S64, .i32⟩
  | 102 => ⟨S64, .i32⟩
  | 103 => ⟨S64, .i32⟩
  | 104 => ⟨S64x1, .i32⟩
  | 105 => ⟨S4x64, .f32⟩
  | 106 => ⟨S_, .i32⟩
  | 107 => ⟨S64, .i32⟩
  | 108 => ⟨S64, .i1⟩
  | 109 => ⟨S_, .i32⟩
  | 110 => ⟨S64, .i32⟩
  | 111 => ⟨S64, .i32⟩
  | 112 => ⟨S64, .i32⟩
  | 113 => ⟨S64x1, .i32⟩
  | 114 => ⟨S4x64, .f32⟩
  | 115 => ⟨S4x1x64, .f32⟩
  | 116 => ⟨S4x1x64, .f32⟩
  | 117 => ⟨S4x2x64, .f32⟩
  | 118 => ⟨S_, .f32⟩
  | 119 => ⟨S4x64, .f32⟩
  | 120 => ⟨S4x1x64, .f32⟩
  | 121 => ⟨S_, .f32⟩
  | 122 => ⟨S4x1x64, .f32⟩
  | 123 => ⟨S4x1x64, .f32⟩
  | 124 => ⟨S4x2x64, .f32⟩
  | 125 => ⟨S4x2x64, .f32⟩
  | 126 => ⟨S4x64x1024, .f32⟩
  | 127 => ⟨S_, .f32⟩
  | _ => ⟨S4x2048x1024, .f32⟩

abbrev hbmTy0_6 (i : Nat) : BufTy := match i % 128 with
  | 0 => ⟨S4x64x1024, .f32⟩
  | 1 => ⟨S4x64x1024, .f32⟩
  | 2 => ⟨S4x64x1024, .f32⟩
  | _ => ⟨S4x2048x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c_0 : Ref sig .tc := ⟨.hbm, 36, rfl⟩
abbrev main_v13 : Ref sig .tc := ⟨.hbm, 37, rfl⟩
abbrev main_v14 : Ref sig .tc := ⟨.hbm, 38, rfl⟩
abbrev main_c_1 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_c_2 : Ref sig .tc := ⟨.hbm, 43, rfl⟩
abbrev main_c_3 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_c_4 : Ref sig .tc := ⟨.hbm, 53, rfl⟩
abbrev main_v21 : Ref sig .tc := ⟨.hbm, 54, rfl⟩
abbrev main_v22 : Ref sig .tc := ⟨.hbm, 55, rfl⟩
abbrev main_c_5 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_c_6 : Ref sig .tc := ⟨.hbm, 60, rfl⟩
abbrev main_v26 : Ref sig .tc := ⟨.hbm, 61, rfl⟩
abbrev main_v27 : Ref sig .tc := ⟨.hbm, 62, rfl⟩
abbrev main_c_7 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_c_8 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_cst : Ref sig .tc := ⟨.hbm, 77, rfl⟩
abbrev main_v40 : Ref sig .tc := ⟨.hbm, 78, rfl⟩
abbrev main_c_9 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_c_10 : Ref sig .tc := ⟨.hbm, 84, rfl⟩
abbrev main_v45 : Ref sig .tc := ⟨.hbm, 85, rfl⟩
abbrev main_v46 : Ref sig .tc := ⟨.hbm, 86, rfl⟩
abbrev main_c_11 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_cst_12 : Ref sig .tc := ⟨.hbm, 91, rfl⟩
abbrev main_call1_v0 : Ref sig .tc := ⟨.hbm, 92, rfl⟩
abbrev main_v50 : Ref sig .tc := ⟨.hbm, 93, rfl⟩
abbrev main_values : Ref sig .tc := ⟨.hbm, 94, rfl⟩
abbrev main_indices : Ref sig .tc := ⟨.hbm, 95, rfl⟩
abbrev main_call2_c : Ref sig .tc := ⟨.hbm, 96, rfl⟩
abbrev main_call2_v0 : Ref sig .tc := ⟨.hbm, 97, rfl⟩
abbrev main_call2_v1 : Ref sig .tc := ⟨.hbm, 98, rfl⟩
abbrev main_call2_c_0 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_call2_v5 : Ref sig .tc := ⟨.hbm, 103, rfl⟩
abbrev main_call2_c_1 : Ref sig .tc := ⟨.hbm, 104, rfl⟩
abbrev main_call2_c_2 : Ref sig .tc := ⟨.hbm, 105, rfl⟩
abbrev main_call2_v6 : Ref sig .tc := ⟨.hbm, 106, rfl⟩
abbrev main_call2_v7 : Ref sig .tc := ⟨.hbm, 107, rfl⟩
abbrev main_call2_v8 : Ref sig .tc := ⟨.hbm, 108, rfl⟩
abbrev main_call2_v9 : Ref sig .tc := ⟨.hbm, 109, rfl⟩
abbrev main_call2_v10 : Ref sig .tc := ⟨.hbm, 110, rfl⟩
abbrev main_call2_v11 : Ref sig .tc := ⟨.hbm, 111, rfl⟩
abbrev main_call2_c_3 : Ref sig .tc := ⟨.hbm, 112, rfl⟩
abbrev main_call2_v12 : Ref sig .tc := ⟨.hbm, 113, rfl⟩
abbrev main_call2_v13 : Ref sig .tc := ⟨.hbm, 114, rfl⟩
abbrev main_call2_c_4 : Ref sig .tc := ⟨.hbm, 115, rfl⟩
abbrev main_call2_v14 : Ref sig .tc := ⟨.hbm, 116, rfl⟩
abbrev main_v51 : Ref sig .tc := ⟨.hbm, 117, rfl⟩
abbrev main_v52 : Ref sig .tc := ⟨.hbm, 118, rfl⟩
abbrev main_c_13 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_c_14 : Ref sig .tc := ⟨.hbm, 127, rfl⟩
abbrev main_v60 : Ref sig .tc := ⟨.hbm, 128, rfl⟩
abbrev main_v61 : Ref sig .tc := ⟨.hbm, 129, rfl⟩
abbrev main_c_15 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_c_16 : Ref sig .tc := ⟨.hbm, 135, rfl⟩
abbrev main_c_17 : Ref sig .tc := ⟨.hbm, 136, rfl⟩
abbrev main_call3_v0 : Ref sig .tc := ⟨.hbm, 137, rfl⟩
abbrev main_call3_v1 : Ref sig .tc := ⟨.hbm, 138, rfl⟩
abbrev main_call3_v2 : Ref sig .tc := ⟨.hbm, 139, rfl⟩
abbrev main_call3_v3 : Ref sig .tc := ⟨.hbm, 140, rfl⟩
abbrev main_call3_v4 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_cst_18 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_cst_19 : Ref sig .tc := ⟨.hbm, 150, rfl⟩
abbrev main_v73 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_c_20 : Ref sig .tc := ⟨.hbm, 155, rfl⟩
abbrev main_v77 : Ref sig .tc := ⟨.hbm, 156, rfl⟩
abbrev main_v78 : Ref sig .tc := ⟨.hbm, 157, rfl⟩
abbrev main_c_21 : Ref sig .tc := ⟨.hbm, 158, rfl⟩
abbrev main_v79 : Ref sig .tc := ⟨.hbm, 159, rfl⟩
abbrev main_v80 : Ref sig .tc := ⟨.hbm, 160, rfl⟩
abbrev main_v81 : Ref sig .tc := ⟨.hbm, 161, rfl⟩
abbrev main_c_22 : Ref sig .tc := ⟨.hbm, 162, rfl⟩
abbrev main_v82 : Ref sig .tc := ⟨.hbm, 163, rfl⟩
abbrev main_v83 : Ref sig .tc := ⟨.hbm, 164, rfl⟩
abbrev main_c_23 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_v92 : Ref sig .tc := ⟨.hbm, 174, rfl⟩
abbrev main_v93 : Ref sig .tc := ⟨.hbm, 175, rfl⟩
abbrev main_v94 : Ref sig .tc := ⟨.hbm, 176, rfl⟩
abbrev main_c_24 : Ref sig .tc := ⟨.hbm, 177, rfl⟩
abbrev main_v95 : Ref sig .tc := ⟨.hbm, 178, rfl⟩
abbrev main_v96 : Ref sig .tc := ⟨.hbm, 179, rfl⟩
abbrev main_c_25 : Ref sig .tc := ⟨.hbm, 180, rfl⟩
abbrev main_v97 : Ref sig .tc := ⟨.hbm, 181, rfl⟩
abbrev main_v98 : Ref sig .tc := ⟨.hbm, 182, rfl⟩
abbrev main_v99 : Ref sig .tc := ⟨.hbm, 183, rfl⟩
abbrev main_c_26 : Ref sig .tc := ⟨.hbm, 184, rfl⟩
abbrev main_v100 : Ref sig .tc := ⟨.hbm, 185, rfl⟩
abbrev main_v101 : Ref sig .tc := ⟨.hbm, 186, rfl⟩
abbrev main_c_27 : Ref sig .tc := ⟨.hbm, 187, rfl⟩
abbrev main_v102 : Ref sig .tc := ⟨.hbm, 188, rfl⟩
abbrev main_v103 : Ref sig .tc := ⟨.hbm, 189, rfl⟩
abbrev main_v104 : Ref sig .tc := ⟨.hbm, 190, rfl⟩
abbrev main_v105 : Ref sig .tc := ⟨.hbm, 191, rfl⟩
abbrev main_v106 : Ref sig .tc := ⟨.hbm, 192, rfl⟩
abbrev main_v107 : Ref sig .tc := ⟨.hbm, 193, rfl⟩
abbrev main_v108 : Ref sig .tc := ⟨.hbm, 194, rfl⟩
abbrev main_v109 : Ref sig .tc := ⟨.hbm, 195, rfl⟩
abbrev main_cst_28 : Ref sig .tc := ⟨.hbm, 196, rfl⟩
abbrev main_v110 : Ref sig .tc := ⟨.hbm, 197, rfl⟩
abbrev main_v111 : Ref sig .tc := ⟨.hbm, 198, rfl⟩
abbrev main_cst_29 : Ref sig .tc := ⟨.hbm, 199, rfl⟩
abbrev main_v112 : Ref sig .tc := ⟨.hbm, 200, rfl⟩
abbrev main_v113 : Ref sig .tc := ⟨.hbm, 201, rfl⟩
abbrev main_v114 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩
abbrev main_cst_30 : Ref sig .tc := ⟨.hbm, 207, rfl⟩
abbrev main_v119 : Ref sig .tc := ⟨.hbm, 208, rfl⟩
abbrev main_c_31 : Ref sig .tc := ⟨.hbm, 209, rfl⟩
abbrev main_v120 : Ref sig .tc := ⟨.hbm, 210, rfl⟩
abbrev main_v121 : Ref sig .tc := ⟨.hbm, 211, rfl⟩
abbrev main_c_32 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_v125 : Ref sig .tc := ⟨.hbm, 216, rfl⟩
abbrev main_v126 : Ref sig .tc := ⟨.hbm, 217, rfl⟩
abbrev main_v127 : Ref sig .tc := ⟨.hbm, 218, rfl⟩
abbrev main_v128 : Ref sig .tc := ⟨.hbm, 219, rfl⟩
abbrev main_v129 : Ref sig .tc := ⟨.hbm, 220, rfl⟩
abbrev main_v130 : Ref sig .tc := ⟨.hbm, 221, rfl⟩
abbrev main_v131 : Ref sig .tc := ⟨.hbm, 222, rfl⟩
abbrev main_v132 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_v136 : Ref sig .tc := ⟨.hbm, 227, rfl⟩
abbrev main_v137 : Ref sig .tc := ⟨.hbm, 228, rfl⟩
abbrev main_v138 : Ref sig .tc := ⟨.hbm, 229, rfl⟩
abbrev main_v139 : Ref sig .tc := ⟨.hbm, 230, rfl⟩
abbrev main_v140 : Ref sig .tc := ⟨.hbm, 231, rfl⟩
abbrev main_v141 : Ref sig .tc := ⟨.hbm, 232, rfl⟩
abbrev main_v142 : Ref sig .tc := ⟨.hbm, 233, rfl⟩
abbrev main_v143 : Ref sig .tc := ⟨.hbm, 234, rfl⟩
abbrev main_v144 : Ref sig .tc := ⟨.hbm, 235, rfl⟩
abbrev main_v145 : Ref sig .tc := ⟨.hbm, 236, rfl⟩
abbrev main_v146 : Ref sig .tc := ⟨.hbm, 237, rfl⟩
abbrev main_v147 : Ref sig .tc := ⟨.hbm, 238, rfl⟩
abbrev main_v148 : Ref sig .tc := ⟨.hbm, 239, rfl⟩
abbrev main_v149 : Ref sig .tc := ⟨.hbm, 240, rfl⟩
abbrev main_v150 : Ref sig .tc := ⟨.hbm, 241, rfl⟩
abbrev main_v151 : Ref sig .tc := ⟨.hbm, 242, rfl⟩
abbrev main_v152 : Ref sig .tc := ⟨.hbm, 243, rfl⟩
abbrev main_v153 : Ref sig .tc := ⟨.hbm, 244, rfl⟩
abbrev main_v154 : Ref sig .tc := ⟨.hbm, 245, rfl⟩
abbrev main_v155 : Ref sig .tc := ⟨.hbm, 246, rfl⟩
abbrev main_v156 : Ref sig .tc := ⟨.hbm, 247, rfl⟩
abbrev main_v157 : Ref sig .tc := ⟨.hbm, 248, rfl⟩
abbrev main_v158 : Ref sig .tc := ⟨.hbm, 249, rfl⟩
abbrev main_v159 : Ref sig .tc := ⟨.hbm, 250, rfl⟩
abbrev main_v160 : Ref sig .tc := ⟨.hbm, 251, rfl⟩
abbrev main_v161 : Ref sig .tc := ⟨.hbm, 252, rfl⟩
abbrev main_v162 : Ref sig .tc := ⟨.hbm, 253, rfl⟩
abbrev main_v163 : Ref sig .tc := ⟨.hbm, 254, rfl⟩
abbrev main_v164 : Ref sig .tc := ⟨.hbm, 255, rfl⟩
abbrev main_v165 : Ref sig .tc := ⟨.hbm, 256, rfl⟩
abbrev main_v166 : Ref sig .tc := ⟨.hbm, 257, rfl⟩
abbrev main_cst_33 : Ref sig .tc := ⟨.hbm, 258, rfl⟩
abbrev main_v167 : Ref sig .tc := ⟨.hbm, 259, rfl⟩
abbrev main_v168 : Ref sig .tc := ⟨.hbm, 260, rfl⟩
abbrev main_v169 : Ref sig .tc := ⟨.hbm, 261, rfl⟩
abbrev main_cst_34 : Ref sig .tc := ⟨.hbm, 262, rfl⟩
abbrev main_v170 : Ref sig .tc := ⟨.hbm, 263, rfl⟩
abbrev main_cst_35 : Ref sig .tc := ⟨.hbm, 264, rfl⟩
abbrev main_v171 : Ref sig .tc := ⟨.hbm, 265, rfl⟩
abbrev main_v172 : Ref sig .tc := ⟨.hbm, 266, rfl⟩
abbrev main_v173 : Ref sig .tc := ⟨.hbm, 267, rfl⟩
abbrev main_v174 : Ref sig .tc := ⟨.hbm, 268, rfl⟩
abbrev main_v175 : Ref sig .tc := ⟨.hbm, 269, rfl⟩
abbrev main_v176 : Ref sig .tc := ⟨.hbm, 270, rfl⟩
abbrev main_cst_36 : Ref sig .tc := ⟨.hbm, 271, rfl⟩
abbrev main_v177 : Ref sig .tc := ⟨.hbm, 272, rfl⟩
abbrev main_v178 : Ref sig .tc := ⟨.hbm, 273, rfl⟩
abbrev main_v179 : Ref sig .tc := ⟨.hbm, 274, rfl⟩
abbrev main_v180 : Ref sig .tc := ⟨.hbm, 275, rfl⟩
abbrev main_v181 : Ref sig .tc := ⟨.hbm, 276, rfl⟩
abbrev main_v182 : Ref sig .tc := ⟨.hbm, 277, rfl⟩
abbrev main_v183 : Ref sig .tc := ⟨.hbm, 278, rfl⟩
abbrev main_v184 : Ref sig .tc := ⟨.hbm, 279, rfl⟩
abbrev main_v185 : Ref sig .tc := ⟨.hbm, 280, rfl⟩
abbrev main_v186 : Ref sig .tc := ⟨.hbm, 281, rfl⟩
abbrev main_v187 : Ref sig .tc := ⟨.hbm, 282, rfl⟩
abbrev main_v188 : Ref sig .tc := ⟨.hbm, 283, rfl⟩
abbrev main_v189 : Ref sig .tc := ⟨.hbm, 284, rfl⟩
abbrev main_v190 : Ref sig .tc := ⟨.hbm, 285, rfl⟩
abbrev main_v191 : Ref sig .tc := ⟨.hbm, 286, rfl⟩
abbrev main_v192 : Ref sig .tc := ⟨.hbm, 287, rfl⟩
abbrev main_v193 : Ref sig .tc := ⟨.hbm, 288, rfl⟩
abbrev main_cst_37 : Ref sig .tc := ⟨.hbm, 289, rfl⟩
abbrev main_v194 : Ref sig .tc := ⟨.hbm, 290, rfl⟩
abbrev main_v195 : Ref sig .tc := ⟨.hbm, 291, rfl⟩
abbrev main_v196 : Ref sig .tc := ⟨.hbm, 292, rfl⟩
abbrev main_c_38 : Ref sig .tc := ⟨.hbm, 293, rfl⟩
abbrev main_v197 : Ref sig .tc := ⟨.hbm, 294, rfl⟩
abbrev main_v198 : Ref sig .tc := ⟨.hbm, 295, rfl⟩
abbrev main_v199 : Ref sig .tc := ⟨.hbm, 296, rfl⟩
abbrev main_v200 : Ref sig .tc := ⟨.hbm, 297, rfl⟩
abbrev main_v201 : Ref sig .tc := ⟨.hbm, 298, rfl⟩
abbrev main_v202 : Ref sig .tc := ⟨.hbm, 299, rfl⟩
abbrev main_v203 : Ref sig .tc := ⟨.hbm, 300, rfl⟩
abbrev main_c_39 : Ref sig .tc := ⟨.hbm, 301, rfl⟩
abbrev main_v204 : Ref sig .tc := ⟨.hbm, 302, rfl⟩
abbrev main_v205 : Ref sig .tc := ⟨.hbm, 303, rfl⟩
abbrev main_c_40 : Ref sig .tc := ⟨.hbm, 304, rfl⟩
abbrev main_v206 : Ref sig .tc := ⟨.hbm, 305, rfl⟩
abbrev main_v207 : Ref sig .tc := ⟨.hbm, 306, rfl⟩
abbrev main_v208 : Ref sig .tc := ⟨.hbm, 307, rfl⟩
abbrev main_c_41 : Ref sig .tc := ⟨.hbm, 308, rfl⟩
abbrev main_c_42 : Ref sig .tc := ⟨.hbm, 309, rfl⟩
abbrev main_call4_v0 : Ref sig .tc := ⟨.hbm, 310, rfl⟩
abbrev main_call4_v1 : Ref sig .tc := ⟨.hbm, 311, rfl⟩
abbrev main_call4_v2 : Ref sig .tc := ⟨.hbm, 312, rfl⟩
abbrev main_call4_v3 : Ref sig .tc := ⟨.hbm, 313, rfl⟩
abbrev main_call4_v4 : Ref sig .tc := ⟨.hbm, 314, rfl⟩
abbrev main_v209 : Ref sig .tc := ⟨.hbm, 315, rfl⟩
abbrev main_v210 : Ref sig .tc := ⟨.hbm, 316, rfl⟩
abbrev main_v211 : Ref sig .tc := ⟨.hbm, 317, rfl⟩
abbrev main_c_43 : Ref sig .tc := ⟨.hbm, 318, rfl⟩
abbrev main_v212 : Ref sig .tc := ⟨.hbm, 319, rfl⟩
abbrev main_v213 : Ref sig .tc := ⟨.hbm, 320, rfl⟩
abbrev main_c_44 : Ref sig .tc := ⟨.hbm, 321, rfl⟩
abbrev main_v214 : Ref sig .tc := ⟨.hbm, 322, rfl⟩
abbrev main_v215 : Ref sig .tc := ⟨.hbm, 323, rfl⟩
abbrev main_v216 : Ref sig .tc := ⟨.hbm, 324, rfl⟩
abbrev main_c_45 : Ref sig .tc := ⟨.hbm, 325, rfl⟩
abbrev main_v217 : Ref sig .tc := ⟨.hbm, 326, rfl⟩
abbrev main_v218 : Ref sig .tc := ⟨.hbm, 327, rfl⟩
abbrev main_c_46 : Ref sig .tc := ⟨.hbm, 328, rfl⟩
abbrev main_v219 : Ref sig .tc := ⟨.hbm, 329, rfl⟩
abbrev main_v220 : Ref sig .tc := ⟨.hbm, 330, rfl⟩
abbrev main_v221 : Ref sig .tc := ⟨.hbm, 331, rfl⟩
abbrev main_v222 : Ref sig .tc := ⟨.hbm, 332, rfl⟩
abbrev main_v223 : Ref sig .tc := ⟨.hbm, 333, rfl⟩
abbrev main_v224 : Ref sig .tc := ⟨.hbm, 334, rfl⟩
abbrev main_v225 : Ref sig .tc := ⟨.hbm, 335, rfl⟩
abbrev main_v226 : Ref sig .tc := ⟨.hbm, 336, rfl⟩
abbrev main_v227 : Ref sig .tc := ⟨.hbm, 337, rfl⟩
abbrev main_c_47 : Ref sig .tc := ⟨.hbm, 338, rfl⟩
abbrev main_v228 : Ref sig .tc := ⟨.hbm, 339, rfl⟩
abbrev main_v229 : Ref sig .tc := ⟨.hbm, 340, rfl⟩
abbrev main_v230 : Ref sig .tc := ⟨.hbm, 341, rfl⟩
abbrev main_cst_48 : Ref sig .tc := ⟨.hbm, 342, rfl⟩
abbrev main_v231 : Ref sig .tc := ⟨.hbm, 343, rfl⟩
abbrev main_c_49 : Ref sig .tc := ⟨.hbm, 344, rfl⟩
abbrev main_v232 : Ref sig .tc := ⟨.hbm, 345, rfl⟩
abbrev main_v233 : Ref sig .tc := ⟨.hbm, 346, rfl⟩
abbrev main_v234 : Ref sig .tc := ⟨.hbm, 347, rfl⟩
abbrev main_v235 : Ref sig .tc := ⟨.hbm, 348, rfl⟩
abbrev main_c_50 : Ref sig .tc := ⟨.hbm, 349, rfl⟩
abbrev main_v236 : Ref sig .tc := ⟨.hbm, 350, rfl⟩
abbrev main_v237 : Ref sig .tc := ⟨.hbm, 351, rfl⟩
abbrev main_c_51 : Ref sig .tc := ⟨.hbm, 352, rfl⟩
abbrev main_v238 : Ref sig .tc := ⟨.hbm, 353, rfl⟩
abbrev main_v239 : Ref sig .tc := ⟨.hbm, 354, rfl⟩
abbrev main_v240 : Ref sig .tc := ⟨.hbm, 355, rfl⟩
abbrev main_cst_52 : Ref sig .tc := ⟨.hbm, 356, rfl⟩
abbrev main_call5_v0 : Ref sig .tc := ⟨.hbm, 357, rfl⟩
abbrev main_v241 : Ref sig .tc := ⟨.hbm, 358, rfl⟩
abbrev main_cst_53 : Ref sig .tc := ⟨.hbm, 359, rfl⟩
abbrev main_call6_v0 : Ref sig .tc := ⟨.hbm, 360, rfl⟩
abbrev main_call6_v1 : Ref sig .tc := ⟨.hbm, 361, rfl⟩
abbrev main_v242 : Ref sig .tc := ⟨.hbm, 362, rfl⟩
abbrev main_cst_54 : Ref sig .tc := ⟨.hbm, 363, rfl⟩
abbrev main_v243 : Ref sig .tc := ⟨.hbm, 364, rfl⟩
abbrev main_v244 : Ref sig .tc := ⟨.hbm, 365, rfl⟩
abbrev main_v245 : Ref sig .tc := ⟨.hbm, 366, rfl⟩
abbrev main_v246 : Ref sig .tc := ⟨.hbm, 367, rfl⟩
abbrev main_cst_55 : Ref sig .tc := ⟨.hbm, 368, rfl⟩
abbrev main_v247 : Ref sig .tc := ⟨.hbm, 369, rfl⟩
abbrev main_v248 : Ref sig .tc := ⟨.hbm, 370, rfl⟩
abbrev main_cst_56 : Ref sig .tc := ⟨.hbm, 371, rfl⟩
abbrev main_v249 : Ref sig .tc := ⟨.hbm, 372, rfl⟩
abbrev main_v250 : Ref sig .tc := ⟨.hbm, 373, rfl⟩
abbrev main_v251 : Ref sig .tc := ⟨.hbm, 374, rfl⟩
abbrev main_v252 : Ref sig .tc := ⟨.hbm, 375, rfl⟩
abbrev main_v253 : Ref sig .tc := ⟨.hbm, 376, rfl⟩
abbrev main_v254 : Ref sig .tc := ⟨.hbm, 377, rfl⟩
abbrev main_v255 : Ref sig .tc := ⟨.hbm, 378, rfl⟩
abbrev main_c_57 : Ref sig .tc := ⟨.hbm, 379, rfl⟩
abbrev main_v256 : Ref sig .tc := ⟨.hbm, 380, rfl⟩
abbrev main_v257 : Ref sig .tc := ⟨.hbm, 381, rfl⟩
abbrev main_v258 : Ref sig .tc := ⟨.hbm, 382, rfl⟩
abbrev main_v259 : Ref sig .tc := ⟨.hbm, 383, rfl⟩
abbrev main_v260 : Ref sig .tc := ⟨.hbm, 384, rfl⟩
abbrev main_v261 : Ref sig .tc := ⟨.hbm, 385, rfl⟩
abbrev main_v262 : Ref sig .tc := ⟨.hbm, 386, rfl⟩
abbrev main_c_58 : Ref sig .tc := ⟨.hbm, 387, rfl⟩
abbrev main_v263 : Ref sig .tc := ⟨.hbm, 388, rfl⟩
abbrev main_v264 : Ref sig .tc := ⟨.hbm, 389, rfl⟩
abbrev main_c_59 : Ref sig .tc := ⟨.hbm, 390, rfl⟩
abbrev main_v265 : Ref sig .tc := ⟨.hbm, 391, rfl⟩
abbrev main_v266 : Ref sig .tc := ⟨.hbm, 392, rfl⟩
abbrev main_v267 : Ref sig .tc := ⟨.hbm, 393, rfl⟩
abbrev main_c_60 : Ref sig .tc := ⟨.hbm, 394, rfl⟩
abbrev main_c_61 : Ref sig .tc := ⟨.hbm, 395, rfl⟩
abbrev main_call7_v0 : Ref sig .tc := ⟨.hbm, 396, rfl⟩
abbrev main_call7_v1 : Ref sig .tc := ⟨.hbm, 397, rfl⟩
abbrev main_call7_v2 : Ref sig .tc := ⟨.hbm, 398, rfl⟩
abbrev main_call7_v3 : Ref sig .tc := ⟨.hbm, 399, rfl⟩
abbrev main_call7_v4 : Ref sig .tc := ⟨.hbm, 400, rfl⟩
abbrev main_v268 : Ref sig .tc := ⟨.hbm, 401, rfl⟩
abbrev main_v269 : Ref sig .tc := ⟨.hbm, 402, rfl⟩
abbrev main_v270 : Ref sig .tc := ⟨.hbm, 403, rfl⟩
abbrev main_c_62 : Ref sig .tc := ⟨.hbm, 404, rfl⟩
abbrev main_v271 : Ref sig .tc := ⟨.hbm, 405, rfl⟩
abbrev main_v272 : Ref sig .tc := ⟨.hbm, 406, rfl⟩
abbrev main_c_63 : Ref sig .tc := ⟨.hbm, 407, rfl⟩
abbrev main_v273 : Ref sig .tc := ⟨.hbm, 408, rfl⟩
abbrev main_v274 : Ref sig .tc := ⟨.hbm, 409, rfl⟩
abbrev main_v275 : Ref sig .tc := ⟨.hbm, 410, rfl⟩
abbrev main_c_64 : Ref sig .tc := ⟨.hbm, 411, rfl⟩
abbrev main_v276 : Ref sig .tc := ⟨.hbm, 412, rfl⟩
abbrev main_v277 : Ref sig .tc := ⟨.hbm, 413, rfl⟩
abbrev main_c_65 : Ref sig .tc := ⟨.hbm, 414, rfl⟩
abbrev main_v278 : Ref sig .tc := ⟨.hbm, 415, rfl⟩
abbrev main_v279 : Ref sig .tc := ⟨.hbm, 416, rfl⟩
abbrev main_v280 : Ref sig .tc := ⟨.hbm, 417, rfl⟩
abbrev main_v281 : Ref sig .tc := ⟨.hbm, 418, rfl⟩
abbrev main_v282 : Ref sig .tc := ⟨.hbm, 419, rfl⟩
abbrev main_v283 : Ref sig .tc := ⟨.hbm, 420, rfl⟩
abbrev main_v284 : Ref sig .tc := ⟨.hbm, 421, rfl⟩
abbrev main_v285 : Ref sig .tc := ⟨.hbm, 422, rfl⟩
abbrev main_v286 : Ref sig .tc := ⟨.hbm, 423, rfl⟩
abbrev main_c_66 : Ref sig .tc := ⟨.hbm, 424, rfl⟩
abbrev main_v287 : Ref sig .tc := ⟨.hbm, 425, rfl⟩
abbrev main_v288 : Ref sig .tc := ⟨.hbm, 426, rfl⟩
abbrev main_v289 : Ref sig .tc := ⟨.hbm, 427, rfl⟩
abbrev main_cst_67 : Ref sig .tc := ⟨.hbm, 428, rfl⟩
abbrev main_v290 : Ref sig .tc := ⟨.hbm, 429, rfl⟩
abbrev main_c_68 : Ref sig .tc := ⟨.hbm, 430, rfl⟩
abbrev main_v291 : Ref sig .tc := ⟨.hbm, 431, rfl⟩
abbrev main_v292 : Ref sig .tc := ⟨.hbm, 432, rfl⟩
abbrev main_v293 : Ref sig .tc := ⟨.hbm, 433, rfl⟩
abbrev main_v294 : Ref sig .tc := ⟨.hbm, 434, rfl⟩
abbrev main_c_69 : Ref sig .tc := ⟨.hbm, 435, rfl⟩
abbrev main_v295 : Ref sig .tc := ⟨.hbm, 436, rfl⟩
abbrev main_v296 : Ref sig .tc := ⟨.hbm, 437, rfl⟩
abbrev main_c_70 : Ref sig .tc := ⟨.hbm, 438, rfl⟩
abbrev main_v297 : Ref sig .tc := ⟨.hbm, 439, rfl⟩
abbrev main_v298 : Ref sig .tc := ⟨.hbm, 440, rfl⟩
abbrev main_v299 : Ref sig .tc := ⟨.hbm, 441, rfl⟩
abbrev main_cst_71 : Ref sig .tc := ⟨.hbm, 442, rfl⟩
abbrev main_call8_v0 : Ref sig .tc := ⟨.hbm, 443, rfl⟩
abbrev main_v300 : Ref sig .tc := ⟨.hbm, 444, rfl⟩
abbrev main_values_72 : Ref sig .tc := ⟨.hbm, 445, rfl⟩
abbrev main_indices_73 : Ref sig .tc := ⟨.hbm, 446, rfl⟩
abbrev main_call9_c : Ref sig .tc := ⟨.hbm, 447, rfl⟩
abbrev main_call9_v0 : Ref sig .tc := ⟨.hbm, 448, rfl⟩
abbrev main_call9_v1 : Ref sig .tc := ⟨.hbm, 449, rfl⟩
abbrev main_call9_c_0 : Ref sig .tc := ⟨.hbm, 450, rfl⟩
abbrev main_call9_v2 : Ref sig .tc := ⟨.hbm, 451, rfl⟩
abbrev main_call9_v3 : Ref sig .tc := ⟨.hbm, 452, rfl⟩
abbrev main_call9_v4 : Ref sig .tc := ⟨.hbm, 453, rfl⟩
abbrev main_call9_v5 : Ref sig .tc := ⟨.hbm, 454, rfl⟩
abbrev main_call9_c_1 : Ref sig .tc := ⟨.hbm, 455, rfl⟩
abbrev main_call9_c_2 : Ref sig .tc := ⟨.hbm, 456, rfl⟩
abbrev main_call9_v6 : Ref sig .tc := ⟨.hbm, 457, rfl⟩
abbrev main_call9_v7 : Ref sig .tc := ⟨.hbm, 458, rfl⟩
abbrev main_call9_v8 : Ref sig .tc := ⟨.hbm, 459, rfl⟩
abbrev main_call9_v9 : Ref sig .tc := ⟨.hbm, 460, rfl⟩
abbrev main_call9_v10 : Ref sig .tc := ⟨.hbm, 461, rfl⟩
abbrev main_call9_v11 : Ref sig .tc := ⟨.hbm, 462, rfl⟩
abbrev main_call9_c_3 : Ref sig .tc := ⟨.hbm, 463, rfl⟩
abbrev main_call9_v12 : Ref sig .tc := ⟨.hbm, 464, rfl⟩
abbrev main_call9_v13 : Ref sig .tc := ⟨.hbm, 465, rfl⟩
abbrev main_call9_c_4 : Ref sig .tc := ⟨.hbm, 466, rfl⟩
abbrev main_call9_v14 : Ref sig .tc := ⟨.hbm, 467, rfl⟩
abbrev main_v301 : Ref sig .tc := ⟨.hbm, 468, rfl⟩
abbrev main_v302 : Ref sig .tc := ⟨.hbm, 469, rfl⟩
abbrev main_c_74 : Ref sig .tc := ⟨.hbm, 470, rfl⟩
abbrev main_v303 : Ref sig .tc := ⟨.hbm, 471, rfl⟩
abbrev main_v304 : Ref sig .tc := ⟨.hbm, 472, rfl⟩
abbrev main_v305 : Ref sig .tc := ⟨.hbm, 473, rfl⟩
abbrev main_v306 : Ref sig .tc := ⟨.hbm, 474, rfl⟩
abbrev main_v307 : Ref sig .tc := ⟨.hbm, 475, rfl⟩
abbrev main_v308 : Ref sig .tc := ⟨.hbm, 476, rfl⟩
abbrev main_v309 : Ref sig .tc := ⟨.hbm, 477, rfl⟩
abbrev main_c_75 : Ref sig .tc := ⟨.hbm, 478, rfl⟩
abbrev main_v310 : Ref sig .tc := ⟨.hbm, 479, rfl⟩
abbrev main_v311 : Ref sig .tc := ⟨.hbm, 480, rfl⟩
abbrev main_c_76 : Ref sig .tc := ⟨.hbm, 481, rfl⟩
abbrev main_v312 : Ref sig .tc := ⟨.hbm, 482, rfl⟩
abbrev main_v313 : Ref sig .tc := ⟨.hbm, 483, rfl⟩
abbrev main_v314 : Ref sig .tc := ⟨.hbm, 484, rfl⟩
abbrev main_v315 : Ref sig .tc := ⟨.hbm, 485, rfl⟩
abbrev main_c_77 : Ref sig .tc := ⟨.hbm, 486, rfl⟩
abbrev main_c_78 : Ref sig .tc := ⟨.hbm, 487, rfl⟩
abbrev main_call10_v0 : Ref sig .tc := ⟨.hbm, 488, rfl⟩
abbrev main_call10_v1 : Ref sig .tc := ⟨.hbm, 489, rfl⟩
abbrev main_call10_v2 : Ref sig .tc := ⟨.hbm, 490, rfl⟩
abbrev main_call10_v3 : Ref sig .tc := ⟨.hbm, 491, rfl⟩
abbrev main_call10_v4 : Ref sig .tc := ⟨.hbm, 492, rfl⟩
abbrev main_v316 : Ref sig .tc := ⟨.hbm, 493, rfl⟩
abbrev main_v317 : Ref sig .tc := ⟨.hbm, 494, rfl⟩
abbrev main_v318 : Ref sig .tc := ⟨.hbm, 495, rfl⟩
abbrev main_v319 : Ref sig .tc := ⟨.hbm, 496, rfl⟩
abbrev main_cst_79 : Ref sig .tc := ⟨.hbm, 497, rfl⟩
abbrev main_v320 : Ref sig .tc := ⟨.hbm, 498, rfl⟩
abbrev main_v321 : Ref sig .tc := ⟨.hbm, 499, rfl⟩
abbrev main_v322 : Ref sig .tc := ⟨.hbm, 500, rfl⟩
abbrev main_cst_80 : Ref sig .tc := ⟨.hbm, 501, rfl⟩
abbrev main_v323 : Ref sig .tc := ⟨.hbm, 502, rfl⟩
abbrev main_v324 : Ref sig .tc := ⟨.hbm, 503, rfl⟩
abbrev main_v325 : Ref sig .tc := ⟨.hbm, 504, rfl⟩
abbrev main_v326 : Ref sig .tc := ⟨.hbm, 505, rfl⟩
abbrev main_c_81 : Ref sig .tc := ⟨.hbm, 506, rfl⟩
abbrev main_v327 : Ref sig .tc := ⟨.hbm, 507, rfl⟩
abbrev main_v328 : Ref sig .tc := ⟨.hbm, 508, rfl⟩
abbrev main_c_82 : Ref sig .tc := ⟨.hbm, 509, rfl⟩
abbrev main_v329 : Ref sig .tc := ⟨.hbm, 510, rfl⟩
abbrev main_v330 : Ref sig .tc := ⟨.hbm, 511, rfl⟩
abbrev main_v331 : Ref sig .tc := ⟨.hbm, 512, rfl⟩
abbrev main_c_83 : Ref sig .tc := ⟨.hbm, 513, rfl⟩
abbrev main_v332 : Ref sig .tc := ⟨.hbm, 514, rfl⟩
abbrev main_v333 : Ref sig .tc := ⟨.hbm, 515, rfl⟩
abbrev main_c_84 : Ref sig .tc := ⟨.hbm, 516, rfl⟩
abbrev main_v334 : Ref sig .tc := ⟨.hbm, 517, rfl⟩
abbrev main_v335 : Ref sig .tc := ⟨.hbm, 518, rfl⟩
abbrev main_v336 : Ref sig .tc := ⟨.hbm, 519, rfl⟩
abbrev main_v337 : Ref sig .tc := ⟨.hbm, 520, rfl⟩
abbrev main_v338 : Ref sig .tc := ⟨.hbm, 521, rfl⟩
abbrev main_v339 : Ref sig .tc := ⟨.hbm, 522, rfl⟩
abbrev main_v340 : Ref sig .tc := ⟨.hbm, 523, rfl⟩
abbrev main_v341 : Ref sig .tc := ⟨.hbm, 524, rfl⟩
abbrev main_v342 : Ref sig .tc := ⟨.hbm, 525, rfl⟩
abbrev main_v343 : Ref sig .tc := ⟨.hbm, 526, rfl⟩
abbrev main_v344 : Ref sig .tc := ⟨.hbm, 527, rfl⟩
abbrev main_c_85 : Ref sig .tc := ⟨.hbm, 528, rfl⟩
abbrev main_v345 : Ref sig .tc := ⟨.hbm, 529, rfl⟩
abbrev main_v346 : Ref sig .tc := ⟨.hbm, 530, rfl⟩
abbrev main_c_86 : Ref sig .tc := ⟨.hbm, 531, rfl⟩
abbrev main_v347 : Ref sig .tc := ⟨.hbm, 532, rfl⟩
abbrev main_v348 : Ref sig .tc := ⟨.hbm, 533, rfl⟩
abbrev main_v349 : Ref sig .tc := ⟨.hbm, 534, rfl⟩
abbrev main_c_87 : Ref sig .tc := ⟨.hbm, 535, rfl⟩
abbrev main_v350 : Ref sig .tc := ⟨.hbm, 536, rfl⟩
abbrev main_v351 : Ref sig .tc := ⟨.hbm, 537, rfl⟩
abbrev main_c_88 : Ref sig .tc := ⟨.hbm, 538, rfl⟩
abbrev main_v352 : Ref sig .tc := ⟨.hbm, 539, rfl⟩
abbrev main_v353 : Ref sig .tc := ⟨.hbm, 540, rfl⟩
abbrev main_v354 : Ref sig .tc := ⟨.hbm, 541, rfl⟩
abbrev main_v355 : Ref sig .tc := ⟨.hbm, 542, rfl⟩
abbrev main_v356 : Ref sig .tc := ⟨.hbm, 543, rfl⟩
abbrev main_v357 : Ref sig .tc := ⟨.hbm, 544, rfl⟩
abbrev main_v358 : Ref sig .tc := ⟨.hbm, 545, rfl⟩
abbrev main_v359 : Ref sig .tc := ⟨.hbm, 546, rfl⟩
abbrev main_cst_89 : Ref sig .tc := ⟨.hbm, 547, rfl⟩
abbrev main_v360 : Ref sig .tc := ⟨.hbm, 548, rfl⟩
abbrev main_v361 : Ref sig .tc := ⟨.hbm, 549, rfl⟩
abbrev main_cst_90 : Ref sig .tc := ⟨.hbm, 550, rfl⟩
abbrev main_v362 : Ref sig .tc := ⟨.hbm, 551, rfl⟩
abbrev main_v363 : Ref sig .tc := ⟨.hbm, 552, rfl⟩
abbrev main_v364 : Ref sig .tc := ⟨.hbm, 553, rfl⟩
abbrev main_v365 : Ref sig .tc := ⟨.hbm, 554, rfl⟩
abbrev main_v366 : Ref sig .tc := ⟨.hbm, 555, rfl⟩
abbrev main_v367 : Ref sig .tc := ⟨.hbm, 556, rfl⟩
abbrev main_v368 : Ref sig .tc := ⟨.hbm, 557, rfl⟩
abbrev main_cst_91 : Ref sig .tc := ⟨.hbm, 558, rfl⟩
abbrev main_v369 : Ref sig .tc := ⟨.hbm, 559, rfl⟩
abbrev main_c_92 : Ref sig .tc := ⟨.hbm, 560, rfl⟩
abbrev main_v370 : Ref sig .tc := ⟨.hbm, 561, rfl⟩
abbrev main_v371 : Ref sig .tc := ⟨.hbm, 562, rfl⟩
abbrev main_c_93 : Ref sig .tc := ⟨.hbm, 563, rfl⟩
abbrev main_v372 : Ref sig .tc := ⟨.hbm, 564, rfl⟩
abbrev main_v373 : Ref sig .tc := ⟨.hbm, 565, rfl⟩
abbrev main_v374 : Ref sig .tc := ⟨.hbm, 566, rfl⟩
abbrev main_v375 : Ref sig .tc := ⟨.hbm, 567, rfl⟩
abbrev main_v376 : Ref sig .tc := ⟨.hbm, 568, rfl⟩
abbrev main_v377 : Ref sig .tc := ⟨.hbm, 569, rfl⟩
abbrev main_v378 : Ref sig .tc := ⟨.hbm, 570, rfl⟩
abbrev main_v379 : Ref sig .tc := ⟨.hbm, 571, rfl⟩
abbrev main_v380 : Ref sig .tc := ⟨.hbm, 572, rfl⟩
abbrev main_v381 : Ref sig .tc := ⟨.hbm, 573, rfl⟩
abbrev main_v382 : Ref sig .tc := ⟨.hbm, 574, rfl⟩
abbrev main_v383 : Ref sig .tc := ⟨.hbm, 575, rfl⟩
abbrev main_v384 : Ref sig .tc := ⟨.hbm, 576, rfl⟩
abbrev main_v385 : Ref sig .tc := ⟨.hbm, 577, rfl⟩
abbrev main_v386 : Ref sig .tc := ⟨.hbm, 578, rfl⟩
abbrev main_v387 : Ref sig .tc := ⟨.hbm, 579, rfl⟩
abbrev main_v388 : Ref sig .tc := ⟨.hbm, 580, rfl⟩
abbrev main_v389 : Ref sig .tc := ⟨.hbm, 581, rfl⟩
abbrev main_v390 : Ref sig .tc := ⟨.hbm, 582, rfl⟩
abbrev main_v391 : Ref sig .tc := ⟨.hbm, 583, rfl⟩
abbrev main_v392 : Ref sig .tc := ⟨.hbm, 584, rfl⟩
abbrev main_v393 : Ref sig .tc := ⟨.hbm, 585, rfl⟩
abbrev main_v394 : Ref sig .tc := ⟨.hbm, 586, rfl⟩
abbrev main_v395 : Ref sig .tc := ⟨.hbm, 587, rfl⟩
abbrev main_v396 : Ref sig .tc := ⟨.hbm, 588, rfl⟩
abbrev main_v397 : Ref sig .tc := ⟨.hbm, 589, rfl⟩
abbrev main_v398 : Ref sig .tc := ⟨.hbm, 590, rfl⟩
abbrev main_v399 : Ref sig .tc := ⟨.hbm, 591, rfl⟩
abbrev main_v400 : Ref sig .tc := ⟨.hbm, 592, rfl⟩
abbrev main_v401 : Ref sig .tc := ⟨.hbm, 593, rfl⟩
abbrev main_v402 : Ref sig .tc := ⟨.hbm, 594, rfl⟩
abbrev main_v403 : Ref sig .tc := ⟨.hbm, 595, rfl⟩
abbrev main_v404 : Ref sig .tc := ⟨.hbm, 596, rfl⟩
abbrev main_v405 : Ref sig .tc := ⟨.hbm, 597, rfl⟩
abbrev main_v406 : Ref sig .tc := ⟨.hbm, 598, rfl⟩
abbrev main_v407 : Ref sig .tc := ⟨.hbm, 599, rfl⟩
abbrev main_v408 : Ref sig .tc := ⟨.hbm, 600, rfl⟩
abbrev main_v409 : Ref sig .tc := ⟨.hbm, 601, rfl⟩
abbrev main_v410 : Ref sig .tc := ⟨.hbm, 602, rfl⟩
abbrev main_v411 : Ref sig .tc := ⟨.hbm, 603, rfl⟩
abbrev main_v412 : Ref sig .tc := ⟨.hbm, 604, rfl⟩
abbrev main_v413 : Ref sig .tc := ⟨.hbm, 605, rfl⟩
abbrev main_v414 : Ref sig .tc := ⟨.hbm, 606, rfl⟩
abbrev main_v415 : Ref sig .tc := ⟨.hbm, 607, rfl⟩
abbrev main_v416 : Ref sig .tc := ⟨.hbm, 608, rfl⟩
abbrev main_cst_94 : Ref sig .tc := ⟨.hbm, 609, rfl⟩
abbrev main_v417 : Ref sig .tc := ⟨.hbm, 610, rfl⟩
abbrev main_v418 : Ref sig .tc := ⟨.hbm, 611, rfl⟩
abbrev main_v419 : Ref sig .tc := ⟨.hbm, 612, rfl⟩
abbrev main_cst_95 : Ref sig .tc := ⟨.hbm, 613, rfl⟩
abbrev main_v420 : Ref sig .tc := ⟨.hbm, 614, rfl⟩
abbrev main_cst_96 : Ref sig .tc := ⟨.hbm, 615, rfl⟩
abbrev main_v421 : Ref sig .tc := ⟨.hbm, 616, rfl⟩
abbrev main_v422 : Ref sig .tc := ⟨.hbm, 617, rfl⟩
abbrev main_v423 : Ref sig .tc := ⟨.hbm, 618, rfl⟩
abbrev main_v424 : Ref sig .tc := ⟨.hbm, 619, rfl⟩
abbrev main_v425 : Ref sig .tc := ⟨.hbm, 620, rfl⟩
abbrev main_v426 : Ref sig .tc := ⟨.hbm, 621, rfl⟩
abbrev main_cst_97 : Ref sig .tc := ⟨.hbm, 622, rfl⟩
abbrev main_v427 : Ref sig .tc := ⟨.hbm, 623, rfl⟩
abbrev main_v428 : Ref sig .tc := ⟨.hbm, 624, rfl⟩
abbrev main_v429 : Ref sig .tc := ⟨.hbm, 625, rfl⟩
abbrev main_v430 : Ref sig .tc := ⟨.hbm, 626, rfl⟩
abbrev main_v431 : Ref sig .tc := ⟨.hbm, 627, rfl⟩
abbrev main_v432 : Ref sig .tc := ⟨.hbm, 628, rfl⟩
abbrev main_v433 : Ref sig .tc := ⟨.hbm, 629, rfl⟩
abbrev main_v434 : Ref sig .tc := ⟨.hbm, 630, rfl⟩
abbrev main_v435 : Ref sig .tc := ⟨.hbm, 631, rfl⟩
abbrev main_v436 : Ref sig .tc := ⟨.hbm, 632, rfl⟩
abbrev main_v437 : Ref sig .tc := ⟨.hbm, 633, rfl⟩
abbrev main_v438 : Ref sig .tc := ⟨.hbm, 634, rfl⟩
abbrev main_v439 : Ref sig .tc := ⟨.hbm, 635, rfl⟩
abbrev main_v440 : Ref sig .tc := ⟨.hbm, 636, rfl⟩
abbrev main_v441 : Ref sig .tc := ⟨.hbm, 637, rfl⟩
abbrev main_v442 : Ref sig .tc := ⟨.hbm, 638, rfl⟩
abbrev main_v443 : Ref sig .tc := ⟨.hbm, 639, rfl⟩
abbrev main_cst_98 : Ref sig .tc := ⟨.hbm, 640, rfl⟩
abbrev main_v444 : Ref sig .tc := ⟨.hbm, 641, rfl⟩
abbrev main_v445 : Ref sig .tc := ⟨.hbm, 642, rfl⟩
abbrev main_v446 : Ref sig .tc := ⟨.hbm, 643, rfl⟩
abbrev main_c_99 : Ref sig .tc := ⟨.hbm, 644, rfl⟩
abbrev main_v447 : Ref sig .tc := ⟨.hbm, 645, rfl⟩
abbrev main_v448 : Ref sig .tc := ⟨.hbm, 646, rfl⟩
abbrev main_v449 : Ref sig .tc := ⟨.hbm, 647, rfl⟩
abbrev main_v450 : Ref sig .tc := ⟨.hbm, 648, rfl⟩
abbrev main_v451 : Ref sig .tc := ⟨.hbm, 649, rfl⟩
abbrev main_v452 : Ref sig .tc := ⟨.hbm, 650, rfl⟩
abbrev main_v453 : Ref sig .tc := ⟨.hbm, 651, rfl⟩
abbrev main_c_100 : Ref sig .tc := ⟨.hbm, 652, rfl⟩
abbrev main_v454 : Ref sig .tc := ⟨.hbm, 653, rfl⟩
abbrev main_v455 : Ref sig .tc := ⟨.hbm, 654, rfl⟩
abbrev main_c_101 : Ref sig .tc := ⟨.hbm, 655, rfl⟩
abbrev main_v456 : Ref sig .tc := ⟨.hbm, 656, rfl⟩
abbrev main_v457 : Ref sig .tc := ⟨.hbm, 657, rfl⟩
abbrev main_v458 : Ref sig .tc := ⟨.hbm, 658, rfl⟩
abbrev main_c_102 : Ref sig .tc := ⟨.hbm, 659, rfl⟩
abbrev main_c_103 : Ref sig .tc := ⟨.hbm, 660, rfl⟩
abbrev main_call11_v0 : Ref sig .tc := ⟨.hbm, 661, rfl⟩
abbrev main_call11_v1 : Ref sig .tc := ⟨.hbm, 662, rfl⟩
abbrev main_call11_v2 : Ref sig .tc := ⟨.hbm, 663, rfl⟩
abbrev main_call11_v3 : Ref sig .tc := ⟨.hbm, 664, rfl⟩
abbrev main_call11_v4 : Ref sig .tc := ⟨.hbm, 665, rfl⟩
abbrev main_v459 : Ref sig .tc := ⟨.hbm, 666, rfl⟩
abbrev main_v460 : Ref sig .tc := ⟨.hbm, 667, rfl⟩
abbrev main_v461 : Ref sig .tc := ⟨.hbm, 668, rfl⟩
abbrev main_c_104 : Ref sig .tc := ⟨.hbm, 669, rfl⟩
abbrev main_v462 : Ref sig .tc := ⟨.hbm, 670, rfl⟩
abbrev main_v463 : Ref sig .tc := ⟨.hbm, 671, rfl⟩
abbrev main_c_105 : Ref sig .tc := ⟨.hbm, 672, rfl⟩
abbrev main_v464 : Ref sig .tc := ⟨.hbm, 673, rfl⟩
abbrev main_v465 : Ref sig .tc := ⟨.hbm, 674, rfl⟩
abbrev main_v466 : Ref sig .tc := ⟨.hbm, 675, rfl⟩
abbrev main_c_106 : Ref sig .tc := ⟨.hbm, 676, rfl⟩
abbrev main_v467 : Ref sig .tc := ⟨.hbm, 677, rfl⟩
abbrev main_v468 : Ref sig .tc := ⟨.hbm, 678, rfl⟩
abbrev main_c_107 : Ref sig .tc := ⟨.hbm, 679, rfl⟩
abbrev main_v469 : Ref sig .tc := ⟨.hbm, 680, rfl⟩
abbrev main_v470 : Ref sig .tc := ⟨.hbm, 681, rfl⟩
abbrev main_v471 : Ref sig .tc := ⟨.hbm, 682, rfl⟩
abbrev main_v472 : Ref sig .tc := ⟨.hbm, 683, rfl⟩
abbrev main_v473 : Ref sig .tc := ⟨.hbm, 684, rfl⟩
abbrev main_v474 : Ref sig .tc := ⟨.hbm, 685, rfl⟩
abbrev main_v475 : Ref sig .tc := ⟨.hbm, 686, rfl⟩
abbrev main_v476 : Ref sig .tc := ⟨.hbm, 687, rfl⟩
abbrev main_v477 : Ref sig .tc := ⟨.hbm, 688, rfl⟩
abbrev main_c_108 : Ref sig .tc := ⟨.hbm, 689, rfl⟩
abbrev main_v478 : Ref sig .tc := ⟨.hbm, 690, rfl⟩
abbrev main_v479 : Ref sig .tc := ⟨.hbm, 691, rfl⟩
abbrev main_v480 : Ref sig .tc := ⟨.hbm, 692, rfl⟩
abbrev main_cst_109 : Ref sig .tc := ⟨.hbm, 693, rfl⟩
abbrev main_v481 : Ref sig .tc := ⟨.hbm, 694, rfl⟩
abbrev main_c_110 : Ref sig .tc := ⟨.hbm, 695, rfl⟩
abbrev main_v482 : Ref sig .tc := ⟨.hbm, 696, rfl⟩
abbrev main_v483 : Ref sig .tc := ⟨.hbm, 697, rfl⟩
abbrev main_v484 : Ref sig .tc := ⟨.hbm, 698, rfl⟩
abbrev main_v485 : Ref sig .tc := ⟨.hbm, 699, rfl⟩
abbrev main_c_111 : Ref sig .tc := ⟨.hbm, 700, rfl⟩
abbrev main_v486 : Ref sig .tc := ⟨.hbm, 701, rfl⟩
abbrev main_v487 : Ref sig .tc := ⟨.hbm, 702, rfl⟩
abbrev main_c_112 : Ref sig .tc := ⟨.hbm, 703, rfl⟩
abbrev main_v488 : Ref sig .tc := ⟨.hbm, 704, rfl⟩
abbrev main_v489 : Ref sig .tc := ⟨.hbm, 705, rfl⟩
abbrev main_v490 : Ref sig .tc := ⟨.hbm, 706, rfl⟩
abbrev main_cst_113 : Ref sig .tc := ⟨.hbm, 707, rfl⟩
abbrev main_call12_v0 : Ref sig .tc := ⟨.hbm, 708, rfl⟩
abbrev main_v491 : Ref sig .tc := ⟨.hbm, 709, rfl⟩
abbrev main_cst_114 : Ref sig .tc := ⟨.hbm, 710, rfl⟩
abbrev main_call13_v0 : Ref sig .tc := ⟨.hbm, 711, rfl⟩
abbrev main_call13_v1 : Ref sig .tc := ⟨.hbm, 712, rfl⟩
abbrev main_v492 : Ref sig .tc := ⟨.hbm, 713, rfl⟩
abbrev main_cst_115 : Ref sig .tc := ⟨.hbm, 714, rfl⟩
abbrev main_v493 : Ref sig .tc := ⟨.hbm, 715, rfl⟩
abbrev main_v494 : Ref sig .tc := ⟨.hbm, 716, rfl⟩
abbrev main_v495 : Ref sig .tc := ⟨.hbm, 717, rfl⟩
abbrev main_v496 : Ref sig .tc := ⟨.hbm, 718, rfl⟩
abbrev main_cst_116 : Ref sig .tc := ⟨.hbm, 719, rfl⟩
abbrev main_v497 : Ref sig .tc := ⟨.hbm, 720, rfl⟩
abbrev main_v498 : Ref sig .tc := ⟨.hbm, 721, rfl⟩
abbrev main_cst_117 : Ref sig .tc := ⟨.hbm, 722, rfl⟩
abbrev main_v499 : Ref sig .tc := ⟨.hbm, 723, rfl⟩
abbrev main_v500 : Ref sig .tc := ⟨.hbm, 724, rfl⟩
abbrev main_v501 : Ref sig .tc := ⟨.hbm, 725, rfl⟩
abbrev main_v502 : Ref sig .tc := ⟨.hbm, 726, rfl⟩
abbrev main_v503 : Ref sig .tc := ⟨.hbm, 727, rfl⟩
abbrev main_v504 : Ref sig .tc := ⟨.hbm, 728, rfl⟩
abbrev main_v505 : Ref sig .tc := ⟨.hbm, 729, rfl⟩
abbrev main_v506 : Ref sig .tc := ⟨.hbm, 730, rfl⟩
abbrev main_v507 : Ref sig .tc := ⟨.hbm, 731, rfl⟩
abbrev main_cst_118 : Ref sig .tc := ⟨.hbm, 732, rfl⟩
abbrev main_v508 : Ref sig .tc := ⟨.hbm, 733, rfl⟩
abbrev main_v509 : Ref sig .tc := ⟨.hbm, 734, rfl⟩
abbrev main_v510 : Ref sig .tc := ⟨.hbm, 735, rfl⟩
abbrev main_v511 : Ref sig .tc := ⟨.hbm, 736, rfl⟩
abbrev main_c_119 : Ref sig .tc := ⟨.hbm, 737, rfl⟩
abbrev main_v512 : Ref sig .tc := ⟨.hbm, 738, rfl⟩
abbrev main_v513 : Ref sig .tc := ⟨.hbm, 739, rfl⟩
abbrev main_c_120 : Ref sig .tc := ⟨.hbm, 740, rfl⟩
abbrev main_v514 : Ref sig .tc := ⟨.hbm, 741, rfl⟩
abbrev main_v515 : Ref sig .tc := ⟨.hbm, 742, rfl⟩
abbrev main_v516 : Ref sig .tc := ⟨.hbm, 743, rfl⟩
abbrev main_v517 : Ref sig .tc := ⟨.hbm, 744, rfl⟩
abbrev main_v518 : Ref sig .tc := ⟨.hbm, 745, rfl⟩
abbrev main_c_121 : Ref sig .tc := ⟨.hbm, 746, rfl⟩
abbrev main_v519 : Ref sig .tc := ⟨.hbm, 747, rfl⟩
abbrev main_v520 : Ref sig .tc := ⟨.hbm, 748, rfl⟩
abbrev main_c_122 : Ref sig .tc := ⟨.hbm, 749, rfl⟩
abbrev main_v521 : Ref sig .tc := ⟨.hbm, 750, rfl⟩
abbrev main_v522 : Ref sig .tc := ⟨.hbm, 751, rfl⟩
abbrev main_v523 : Ref sig .tc := ⟨.hbm, 752, rfl⟩
abbrev main_v524 : Ref sig .tc := ⟨.hbm, 753, rfl⟩
abbrev main_v525 : Ref sig .tc := ⟨.hbm, 754, rfl⟩
abbrev main_v526 : Ref sig .tc := ⟨.hbm, 755, rfl⟩
abbrev main_v527 : Ref sig .tc := ⟨.hbm, 756, rfl⟩
abbrev main_v528 : Ref sig .tc := ⟨.hbm, 757, rfl⟩
abbrev main_cst_123 : Ref sig .tc := ⟨.hbm, 758, rfl⟩
abbrev main_v529 : Ref sig .tc := ⟨.hbm, 759, rfl⟩
abbrev main_v530 : Ref sig .tc := ⟨.hbm, 760, rfl⟩
abbrev main_cst_124 : Ref sig .tc := ⟨.hbm, 761, rfl⟩
abbrev main_v531 : Ref sig .tc := ⟨.hbm, 762, rfl⟩
abbrev main_v532 : Ref sig .tc := ⟨.hbm, 763, rfl⟩
abbrev main_v533 : Ref sig .tc := ⟨.hbm, 764, rfl⟩
abbrev main_v534 : Ref sig .tc := ⟨.hbm, 765, rfl⟩
abbrev main_v535 : Ref sig .tc := ⟨.hbm, 766, rfl⟩
abbrev main_cst_125 : Ref sig .tc := ⟨.hbm, 767, rfl⟩
abbrev main_v536 : Ref sig .tc := ⟨.hbm, 768, rfl⟩
abbrev main_v537 : Ref sig .tc := ⟨.hbm, 769, rfl⟩
abbrev main_v538 : Ref sig .tc := ⟨.hbm, 770, rfl⟩

abbrev nD : Nat := 1
abbrev τ : Topo := Topo.v7x

variable {F : FTy → Type} [FloatOps F]
-- ==== Proof.KernelIdealRun.Base.lean ====
/- The test of the preparation body's grid point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The condition of the body's first test: the grid point is the first. -/
abbrev cond0 (i : grid0.Coords) : Prop := k0_cond1 i = 1#1
/-- The test holds at the first point only. -/
theorem hcond0 : ∀ t : Fin cfg0.N, cond0 (grid0.coords t) ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [cond0, k0_cond1, e0]
    word_cmp
   : ∀ t : Fin grid0.N, cond0 (grid0.coords t) ↔ t.val % 4 = 0)

end Cert.KernelIdeal.Whole

end
-- ==== Proof.KernelIdealRun.PrepA.lean ====
/- The preparation body, at the first grid point. -/
module

public import proofs.«01_k».proof.Proof.KernelIdealRun.Base

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (c : Dev nD) (i : grid0.Coords)
  (arg1 : Memref sig .tc .vmem S1x2048x512 .f32) (harg1 : arg1.IsWhole)
  (arg2 : Memref sig .tc .vmem S1x1x2048 .f32) (harg2 : arg2.IsWhole)
  (arg3 : Memref sig .tc .vmem S1x1x64 .i32) (harg3 : arg3.IsWhole)
  (arg4 : Memref sig .tc .vmem S1x1024x512 .bf16) (harg4 : arg4.IsWhole)
  (arg5 : Memref sig .tc .vmem S1x1024 .f32) (harg5 : arg5.IsWhole)
  (arg6 : Memref sig .tc .vmem S1x2048x512 .f32) (harg6 : arg6.IsWhole)
  (arg7 : Memref sig .tc .vmem S1x1x2048 .f32) (harg7 : arg7.IsWhole)
  (arg8 : Memref sig .tc .vmem S1x1x64 .i32) (harg8 : arg8.IsWhole)
  (arg9 : Memref sig .tc .vmem S1x1024x512 .bf16) (harg9 : arg9.IsWhole)
  (arg10 : Memref sig .tc .vmem S1x1024 .f32) (harg10 : arg10.IsWhole)
  (arg11 : Memref sig .tc .vmem S1024x1024 .bf16) (harg11 : arg11.IsWhole)
  (arg12 : Memref sig .tc .vmem S1x1024 .f32) (harg12 : arg12.IsWhole)
  (arg13 : Memref sig .tc .vmem S1024x1024 .bf16) (harg13 : arg13.IsWhole)
  (arg14 : Memref sig .tc .vmem S1x1024 .f32) (harg14 : arg14.IsWhole)
  (arg15 : Memref sig .tc .vmem S1024x1024 .bf16) (harg15 : arg15.IsWhole)
  (arg16 : Memref sig .tc .vmem S1024x1024 .bf16) (harg16 : arg16.IsWhole)
  (arg17 : Memref sig .tc .vmem S1024x1024 .bf16) (harg17 : arg17.IsWhole)
  (arg18 : Memref sig .tc .vmem S1x1024 .f32) (harg18 : arg18.IsWhole)
  (arg19 : Memref sig .tc .vmem S1x1024 .f32) (harg19 : arg19.IsWhole)
  (arg20 : Memref sig .tc .vmem S1x1024x1024 .bf16) (harg20 : arg20.IsWhole)
  (arg21 : Memref sig .tc .vmem S1x64x1 .f32) (harg21 : arg21.IsWhole)
  (arg22 : Memref sig .tc .vmem S1024x1024 .bf16) (harg22 : arg22.IsWhole)
  (arg23 : Memref sig .tc .vmem S1x1024 .f32) (harg23 : arg23.IsWhole)
  (arg24 : Memref sig .tc .vmem S1024x1024 .bf16) (harg24 : arg24.IsWhole)
variable (x0 : Vec F S1x2048x512 .f32) (x1 : Vec F S1x1x2048 .f32) (x2 : Vec F S1x1x64 .i32) (x3 : Vec F S1x1024x512 .bf16) (x4 : Vec F S1x1024 .f32) (x5 : Vec F S1x2048x512 .f32) (x6 : Vec F S1x1x2048 .f32) (x7 : Vec F S1x1x64 .i32) (x8 : Vec F S1x1024x512 .bf16) (x9 : Vec F S1x1024 .f32) (x10 : Vec F S1024x1024 .bf16) (x11 : Vec F S1x1024 .f32) (x12 : Vec F S1024x1024 .bf16) (x13 : Vec F S1x1024 .f32) (x14 : Vec F S1024x1024 .bf16) (x15 : Vec F S1024x1024 .bf16) (x16 : Vec F S1024x1024 .bf16) (x17 : Vec F S1x1024 .f32) (x18 : Vec F S1x1024 .f32)

set_option maxHeartbeats 8000000 in
/-- The preparation body run at the first point: the three products of the weights are computed and kept, in the two output windows 21, 22 and in the scratch. The lists are the stores it leaves in each buffer, last first. -/
def prepRunA (hc : cond0 i) :
    Σ' (L19 : List (View.Piece (Elt F) S1x1024x1024 .bf16)), Σ' (L20 : List (View.Piece (Elt F) S1x64x1 .f32)), Σ' (L21 : List (View.Piece (Elt F) S1024x1024 .bf16)), Σ' (L22 : List (View.Piece (Elt F) S1x1024 .f32)), { LS : List (View.Piece (Elt F) S1024x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f LS)) -∗ K ⟨⟩))
          ⊢ wp frame (wpE (defs₀ (F := F)) Variants.none c none) E (cc0__prep_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, ?_, fun E K => ?run⟩
  case run =>
    simp only [cc0__prep_kernel_eq_skeleton]; unfold cc0__prep_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%d22, %f22, -, H22⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18
    sl_exec (disch := sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]; · iexists _; iexact H19
    isplitl [H20]; · iexists _; iexact H20
    isplitl [H21]; · iexists _; iexact H21
    isplitl [H22]; · iexists _; iexact H22
    iexists _; iexact HS

end Cert.KernelIdeal.Whole

end
-- ==== Proof.KernelIdealRun.PrepB.lean ====
/- The preparation body, at a later grid point. -/
module

public import proofs.«01_k».proof.Proof.KernelIdealRun.Base

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (c : Dev nD) (i : grid0.Coords)
  (arg1 : Memref sig .tc .vmem S1x2048x512 .f32) (harg1 : arg1.IsWhole)
  (arg2 : Memref sig .tc .vmem S1x1x2048 .f32) (harg2 : arg2.IsWhole)
  (arg3 : Memref sig .tc .vmem S1x1x64 .i32) (harg3 : arg3.IsWhole)
  (arg4 : Memref sig .tc .vmem S1x1024x512 .bf16) (harg4 : arg4.IsWhole)
  (arg5 : Memref sig .tc .vmem S1x1024 .f32) (harg5 : arg5.IsWhole)
  (arg6 : Memref sig .tc .vmem S1x2048x512 .f32) (harg6 : arg6.IsWhole)
  (arg7 : Memref sig .tc .vmem S1x1x2048 .f32) (harg7 : arg7.IsWhole)
  (arg8 : Memref sig .tc .vmem S1x1x64 .i32) (harg8 : arg8.IsWhole)
  (arg9 : Memref sig .tc .vmem S1x1024x512 .bf16) (harg9 : arg9.IsWhole)
  (arg10 : Memref sig .tc .vmem S1x1024 .f32) (harg10 : arg10.IsWhole)
  (arg11 : Memref sig .tc .vmem S1024x1024 .bf16) (harg11 : arg11.IsWhole)
  (arg12 : Memref sig .tc .vmem S1x1024 .f32) (harg12 : arg12.IsWhole)
  (arg13 : Memref sig .tc .vmem S1024x1024 .bf16) (harg13 : arg13.IsWhole)
  (arg14 : Memref sig .tc .vmem S1x1024 .f32) (harg14 : arg14.IsWhole)
  (arg15 : Memref sig .tc .vmem S1024x1024 .bf16) (harg15 : arg15.IsWhole)
  (arg16 : Memref sig .tc .vmem S1024x1024 .bf16) (harg16 : arg16.IsWhole)
  (arg17 : Memref sig .tc .vmem S1024x1024 .bf16) (harg17 : arg17.IsWhole)
  (arg18 : Memref sig .tc .vmem S1x1024 .f32) (harg18 : arg18.IsWhole)
  (arg19 : Memref sig .tc .vmem S1x1024 .f32) (harg19 : arg19.IsWhole)
  (arg20 : Memref sig .tc .vmem S1x1024x1024 .bf16) (harg20 : arg20.IsWhole)
  (arg21 : Memref sig .tc .vmem S1x64x1 .f32) (harg21 : arg21.IsWhole)
  (arg22 : Memref sig .tc .vmem S1024x1024 .bf16) (harg22 : arg22.IsWhole)
  (arg23 : Memref sig .tc .vmem S1x1024 .f32) (harg23 : arg23.IsWhole)
  (arg24 : Memref sig .tc .vmem S1024x1024 .bf16) (harg24 : arg24.IsWhole)
variable (x0 : Vec F S1x2048x512 .f32) (x1 : Vec F S1x1x2048 .f32) (x2 : Vec F S1x1x64 .i32) (x3 : Vec F S1x1024x512 .bf16) (x4 : Vec F S1x1024 .f32) (x5 : Vec F S1x2048x512 .f32) (x6 : Vec F S1x1x2048 .f32) (x7 : Vec F S1x1x64 .i32) (x8 : Vec F S1x1024x512 .bf16) (x9 : Vec F S1x1024 .f32) (x10 : Vec F S1024x1024 .bf16) (x11 : Vec F S1x1024 .f32) (x12 : Vec F S1024x1024 .bf16) (x13 : Vec F S1x1024 .f32) (x14 : Vec F S1024x1024 .bf16) (x15 : Vec F S1024x1024 .bf16) (x16 : Vec F S1024x1024 .bf16) (x17 : Vec F S1x1024 .f32) (x18 : Vec F S1x1024 .f32)

set_option maxHeartbeats 8000000 in
/-- The preparation body run at a later point: the scratch is read at the contents `xs` it has, and the output windows 21, 22 are not touched. The lists are the stores it leaves in each buffer, last first. -/
def prepRunB (hc : ¬cond0 i) (xs : Vec F S1024x1024 .bf16) :
    Σ' (L19 : List (View.Piece (Elt F) S1x1024x1024 .bf16)), { L20 : List (View.Piece (Elt F) S1x64x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ owns (c : Thread nD τ) arg24 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ owns (c : Thread nD τ) arg24 fullShare xs) -∗ K ⟨⟩))
          ⊢ wp frame (wpE (defs₀ (F := F)) Variants.none c none) E (cc0__prep_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, fun E K => ?run⟩
  case run =>
    simp only [cc0__prep_kernel_eq_skeleton]; unfold cc0__prep_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg24.eq_unread hfs
    sl_exec (disch := sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]; · iexists _; iexact H19
    isplitl [H20]; · iexists _; iexact H20
    iexists _; isplitr; · ipureintro; exact harg24.read_unread _
    iexact HS

end Cert.KernelIdeal.Whole

end
-- ==== Proof.KernelIdealRun.Prep.lean ====
/- The preparation call: what each window holds after each grid point, and its body obligation. -/
module

public import proofs.«01_k».proof.Proof.KernelIdealRun.PrepA
public import proofs.«01_k».proof.Proof.KernelIdealRun.PrepB

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)
theorem before0_14_of {c : Dev nD} (dat : Dat τ (Elt F) Unit ℕ (UR sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)
theorem before0_15_of {c : Dev nD} (dat : Dat τ (Elt F) Unit ℕ (UR sig nD τ) ℕ cfg0 c) (hA : dat.A 15 = V c (Pipeline.arrRef spec0 15))
    (hafter : ∀ t, dat.after 15 t = iblk0 V c 15 t) (t : Fin cfg0.N) (d) : dat.before 15 t d = iblk0 V c 15 t :=
  (dat.before_in_eq_fetched 15 rfl (fun _ => rfl) (fun _ _ _ => rfl) (fun t => by rw [hafter]; unfold Dat.blockOf iblk0; rw [hA]; try rfl) t d).trans
    (by unfold Dat.fetched Dat.blockOf iblk0; rw [hA]; try rfl)
theorem before0_16_of {c : Dev nD} (dat : Dat τ (Elt F) Unit ℕ (UR sig nD τ) ℕ cfg0 c) (hA : dat.A 16 = V c (Pipeline.arrRef spec0 16))
    (hafter : ∀ t, dat.after 16 t = iblk0 V c 16 t) (t : Fin cfg0.N) (d) : dat.before 16 t d = iblk0 V c 16 t :=
  (dat.before_in_eq_fetched 16 rfl (fun _ => rfl) (fun _ _ _ => rfl) (fun t => by rw [hafter]; unfold Dat.blockOf iblk0; rw [hA]; try rfl) t d).trans
    (by unfold Dat.fetched Dat.blockOf iblk0; rw [hA]; try rfl)
theorem before0_17_of {c : Dev nD} (dat : Dat τ (Elt F) Unit ℕ (UR sig nD τ) ℕ cfg0 c) (hA : dat.A 17 = V c (Pipeline.arrRef spec0 17))
    (hafter : ∀ t, dat.after 17 t = iblk0 V c 17 t) (t : Fin cfg0.N) (d) : dat.before 17 t d = iblk0 V c 17 t :=
  (dat.before_in_eq_fetched 17 rfl (fun _ => rfl) (fun _ _ _ => rfl) (fun t => by rw [hafter]; unfold Dat.blockOf iblk0; rw [hA]; try rfl) t d).trans
    (by unfold Dat.fetched Dat.blockOf iblk0; rw [hA]; try rfl)
theorem before0_18_of {c : Dev nD} (dat : Dat τ (Elt F) Unit ℕ (UR sig nD τ) ℕ cfg0 c) (hA : dat.A 18 = V c (Pipeline.arrRef spec0 18))
    (hafter : ∀ t, dat.after 18 t = iblk0 V c 18 t) (t : Fin cfg0.N) (d) : dat.before 18 t d = iblk0 V c 18 t :=
  (dat.before_in_eq_fetched 18 rfl (fun _ => rfl) (fun _ _ _ => rfl) (fun t => by rw [hafter]; unfold Dat.blockOf iblk0; rw [hA]; try rfl) t d).trans
    (by unfold Dat.fetched Dat.blockOf iblk0; rw [hA]; try rfl)
/-- A buffer of output window 19, through which its contents are stated. -/
abbrev VO0_19 : View sig .tc .vmem S1x1024x1024 .bf16 := (Memref.whole cc0_stg19_0 : Memref sig .tc .vmem S1x1024x1024 .bf16).view
/-- A buffer of output window 20, through which its contents are stated. -/
abbrev VO0_20 : View sig .tc .vmem S1x64x1 .f32 := (Memref.whole cc0_stg20_0 : Memref sig .tc .vmem S1x64x1 .f32).view
/-- A buffer of output window 21, through which its contents are stated. -/
abbrev VO0_21 : View sig .tc .vmem S1024x1024 .bf16 := (Memref.whole cc0_stg21_0 : Memref sig .tc .vmem S1024x1024 .bf16).view
/-- A buffer of output window 22, through which its contents are stated. -/
abbrev VO0_22 : View sig .tc .vmem S1x1024 .f32 := (Memref.whole cc0_stg22_0 : Memref sig .tc .vmem S1x1024 .f32).view
/-- The scratch operand, and it as a view. -/
abbrev scM0 : Memref sig .tc .vmem S1024x1024 .bf16 := Memref.whole cc0_scratch0
abbrev VS0 : View sig .tc .vmem S1024x1024 .bf16 := scM0.view
abbrev ms0_0 (t : Fin cfg0.N) : Memref sig .tc .vmem S1x2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x64 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x64 .i32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1024x1024 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1024 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1024x1024 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1024x1024 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1024x1024 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x1024 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x1024 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x1024x1024 .bf16 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1x64x1 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S1024x1024 .bf16 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S1x1024 .f32 := win0_22.stage (cfg0.slots t 22)
abbrev hs0_22 (t : Fin cfg0.N) : (ms0_22 t).IsWhole := hstage0_22 ((cfg0.slots t 22).cast nbuf0_22)

/-- The body's run at the first point, on the point's buffers and blocks. -/
def runA0 (c : Dev nD) (t : Fin cfg0.N) (hc : cond0 (grid0.coords t)) :=
  prepRunA (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) hc
/-- The body's run at a later point, the scratch at `xs`. -/
def runB0 (c : Dev nD) (t : Fin cfg0.N) (hc : ¬cond0 (grid0.coords t)) (xs : Vec F S1024x1024 .bf16) :=
  prepRunB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) hc xs

theorem hc0 : cond0 (grid0.coords t0_0) := (hcond0 t0_0).mpr rfl
theorem coverA_19 (c : Dev nD) (t : Fin cfg0.N) (hc : cond0 (grid0.coords t)) (y : S1x1024x1024.Idx) :
    ∃ pc ∈ (runA0 V c t hc).1, y ∈ pc.1.set :=
  View.cover_of_tiledL (runA0 V c t hc).1 S1x64x1024.size (by sl_kernel_rfl) y
theorem coverA_20 (c : Dev nD) (t : Fin cfg0.N) (hc : cond0 (grid0.coords t)) (y : S1x64x1.Idx) :
    ∃ pc ∈ (runA0 V c t hc).2.1, y ∈ pc.1.set :=
  View.cover_of_tiledL (runA0 V c t hc).2.1 S1x32x1.size (by sl_kernel_rfl) y
theorem coverA_21 (c : Dev nD) (t : Fin cfg0.N) (hc : cond0 (grid0.coords t)) (y : S1024x1024.Idx) :
    ∃ pc ∈ (runA0 V c t hc).2.2.1, y ∈ pc.1.set :=
  View.cover_of_tiledL (runA0 V c t hc).2.2.1 S1024x1024.size (by sl_kernel_rfl) y
theorem coverA_22 (c : Dev nD) (t : Fin cfg0.N) (hc : cond0 (grid0.coords t)) (y : S1x1024.Idx) :
    ∃ pc ∈ (runA0 V c t hc).2.2.2.1, y ∈ pc.1.set :=
  View.cover_of_tiledL (runA0 V c t hc).2.2.2.1 S1x1024.size (by sl_kernel_rfl) y
theorem coverA_S (c : Dev nD) (t : Fin cfg0.N) (hc : cond0 (grid0.coords t)) (y : S1024x1024.Idx) :
    ∃ pc ∈ (runA0 V c t hc).2.2.2.2.1, y ∈ pc.1.set :=
  View.cover_of_tiledL (runA0 V c t hc).2.2.2.2.1 S1024x1024.size (by sl_kernel_rfl) y
theorem coverB_19 (c : Dev nD) (t : Fin cfg0.N) (hc : ¬cond0 (grid0.coords t)) (xs : Vec F S1024x1024 .bf16) (y : S1x1024x1024.Idx) :
    ∃ pc ∈ (runB0 V c t hc xs).1, y ∈ pc.1.set :=
  View.cover_of_tiledL (runB0 V c t hc xs).1 S1x64x1024.size (by sl_kernel_rfl) y
theorem coverB_20 (c : Dev nD) (t : Fin cfg0.N) (hc : ¬cond0 (grid0.coords t)) (xs : Vec F S1024x1024 .bf16) (y : S1x64x1.Idx) :
    ∃ pc ∈ (runB0 V c t hc xs).2.1, y ∈ pc.1.set :=
  View.cover_of_tiledL (runB0 V c t hc xs).2.1 S1x32x1.size (by sl_kernel_rfl) y
/-- What the first point leaves in output window 21. -/
def res21 (c : Dev nD) : Vec F S1024x1024 .bf16 :=
  VO0_21.read (Elt F) (VO0_21.writes (Elt F) VO0_21.junk (runA0 V c t0_0 hc0).2.2.1)
/-- What the first point leaves in output window 22. -/
def res22 (c : Dev nD) : Vec F S1x1024 .f32 :=
  VO0_22.read (Elt F) (VO0_22.writes (Elt F) VO0_22.junk (runA0 V c t0_0 hc0).2.2.2.1)
/-- What the first point leaves in the scratch. -/
def resS (c : Dev nD) : Vec F S1024x1024 .bf16 :=
  VS0.read (Elt F) (VS0.writes (Elt F) VS0.junk (runA0 V c t0_0 hc0).2.2.2.2.1)
/-- What point `t` leaves in output window 19. -/
def res19 (c : Dev nD) (t : Fin cfg0.N) : Vec F S1x1024x1024 .bf16 :=
  if hc : cond0 (grid0.coords t) then
    VO0_19.read (Elt F) (VO0_19.writes (Elt F) VO0_19.junk (runA0 V c t hc).1)
  else VO0_19.read (Elt F) (VO0_19.writes (Elt F) VO0_19.junk (runB0 V c t hc (resS V c)).1)
/-- What point `t` leaves in output window 20. -/
def res20 (c : Dev nD) (t : Fin cfg0.N) : Vec F S1x64x1 .f32 :=
  if hc : cond0 (grid0.coords t) then
    VO0_20.read (Elt F) (VO0_20.writes (Elt F) VO0_20.junk (runA0 V c t hc).2.1)
  else VO0_20.read (Elt F) (VO0_20.writes (Elt F) VO0_20.junk (runB0 V c t hc (resS V c)).2.1)

/-- The other scoped buffers' part of the invariant, with the scratch at some contents. -/
theorem PhiA0_eq (c : Dev nD) :
    (Pipeline.ΦA spec0 c : sProp 𝕄)
      = iprop(iprop((∃ d, owns (c : Thread nD τ) scM0 fullShare d) ∗ Pipeline.scopedRestBut spec0 c [cc0_scratch0]) ∗ (∃ r, prngReg c r)) := by
  unfold Pipeline.ΦA; rw [Pipeline.scopedRest_split_of_list spec0 c [cc0_scratch0] (by decide) (by decide)]; simp only [scM0, owns_whole]; try rfl

/-- The invariant before position `n`: the scratch at anything before the first point, at `resS` after it. -/
def PhiS (c : Dev nD) : ℕ → sProp 𝕄
  | 0 => Pipeline.ΦA spec0 c
  | _ + 1 => iprop(iprop(owns (c : Thread nD τ) scM0 fullShare (resS V c) ∗ Pipeline.scopedRestBut spec0 c [cc0_scratch0]) ∗ (∃ r, prngReg c r))

theorem PhiS_pos (c : Dev nD) (n : ℕ) (hz : n ≠ 0) : PhiS V c n = iprop(iprop(owns (c : Thread nD τ) scM0 fullShare (resS V c) ∗ Pipeline.scopedRestBut spec0 c [cc0_scratch0]) ∗ (∃ r, prngReg c r)) := by
  cases n with
  | zero => exact absurd rfl hz
  | succ n => rfl

/-- The call's proof data: its arrays as found; after point `t` each input's buffer at its block, the outputs' at the
    contents above; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => iblk0 V c 16 t
    | ⟨17, _⟩ => iblk0 V c 17 t
    | ⟨18, _⟩ => iblk0 V c 18 t
    | ⟨19, _⟩ => res19 V c t
    | ⟨20, _⟩ => res20 V c t
    | ⟨21, _⟩ => res21 V c
    | ⟨22, _⟩ => res22 V c
    | ⟨_ + 23, h⟩ => absurd h (Nat.not_lt.2 (Nat.le_add_left _ _))
  Φ t := PhiS V c t.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem before0_0 (c : Dev nD) (t : Fin cfg0.N) (d) : (dat0 V c).before 0 t d = iblk0 V c 0 t :=
  before0_0_of V (dat0 V c) (A_eq0 V c 0) (after0_0 V c) t d
theorem after0_1 (c : Dev nD) (t : Fin cfg0.N) : (dat0 V c).after 1 t = iblk0 V c 1 t := by dsimp only [dat0]
theorem before0_1 (c : Dev nD) (t : Fin cfg0.N) (d) : (dat0 V c).before 1 t d = iblk0 V c 1 t :=
  before0_1_of V (dat0 V c) (A_eq0 V c 1) (after0_1 V c) t d
theorem after0_2 (c : Dev nD) (t : Fin cfg0.N) : (dat0 V c).after 2 t = iblk0 V c 2 t := by dsimp only [dat0]
theorem before0_2 (c : Dev nD) (t : Fin cfg0.N) (d) : (dat0 V c).before 2 t d = iblk0 V c 2 t :=
  before0_2_of V (dat0 V c) (A_eq0 V c 2) (after0_2 V c) t d
theorem after0_3 (c : Dev nD) (t : Fin cfg0.N) : (dat0 V c).after 3 t = iblk0 V c 3 t := by dsimp only [dat0]
theorem before0_3 (c : Dev nD) (t : Fin cfg0.N) (d) : (dat0 V c).before 3 t d = iblk0 V c 3 t :=
  before0_3_of V (dat0 V c) (A_eq0 V c 3) (after0_3 V c) t d
theorem after0_4 (c : Dev nD) (t : Fin cfg0.N) : (dat0 V c).after 4 t = iblk0 V c 4 t := by dsimp only [dat0]
theorem before0_4 (c : Dev nD) (t : Fin cfg0.N) (d) : (dat0 V c).before 4 t d = iblk0 V c 4 t :=
  before0_4_of V (dat0 V c) (A_eq0 V c 4) (after0_4 V c) t d
theorem after0_5 (c : Dev nD) (t : Fin cfg0.N) : (dat0 V c).after 5 t = iblk0 V c 5 t := by dsimp only [dat0]
theorem before0_5 (c : Dev nD) (t : Fin cfg0.N) (d) : (dat0 V c).before 5 t d = iblk0 V c 5 t :=
  before0_5_of V (dat0 V c) (A_eq0 V c 5) (after0_5 V c) t d
theorem after0_6 (c : Dev nD) (t : Fin cfg0.N) : (dat0 V c).after 6 t = iblk0 V c 6 t := by dsimp only [dat0]
theorem before0_6 (c : Dev nD) (t : Fin cfg0.N) (d) : (dat0 V c).before 6 t d = iblk0 V c 6 t :=
  before0_6_of V (dat0 V c) (A_eq0 V c 6) (after0_6 V c) t d
theorem after0_7 (c : Dev nD) (t : Fin cfg0.N) : (dat0 V c).after 7 t = iblk0 V c 7 t := by dsimp only [dat0]
theorem before0_7 (c : Dev nD) (t : Fin cfg0.N) (d) : (dat0 V c).before 7 t d = iblk0 V c 7 t :=
  before0_7_of V (dat0 V c) (A_eq0 V c 7) (after0_7 V c) t d
theorem after0_8 (c : Dev nD) (t : Fin cfg0.N) : (dat0 V c).after 8 t = iblk0 V c 8 t := by dsimp only [dat0]
theorem before0_8 (c : Dev nD) (t : Fin cfg0.N) (d) : (dat0 V c).before 8 t d = iblk0 V c 8 t :=
  before0_8_of V (dat0 V c) (A_eq0 V c 8) (after0_8 V c) t d
theorem after0_9 (c : Dev nD) (t : Fin cfg0.N) : (dat0 V c).after 9 t = iblk0 V c 9 t := by dsimp only [dat0]
theorem before0_9 (c : Dev nD) (t : Fin cfg0.N) (d) : (dat0 V c).before 9 t d = iblk0 V c 9 t :=
  before0_9_of V (dat0 V c) (A_eq0 V c 9) (after0_9 V c) t d
theorem after0_10 (c : Dev nD) (t : Fin cfg0.N) : (dat0 V c).after 10 t = iblk0 V c 10 t := by dsimp only [dat0]
theorem before0_10 (c : Dev nD) (t : Fin cfg0.N) (d) : (dat0 V c).before 10 t d = iblk0 V c 10 t :=
  before0_10_of V (dat0 V c) (A_eq0 V c 10) (after0_10 V c) t d
theorem after0_11 (c : Dev nD) (t : Fin cfg0.N) : (dat0 V c).after 11 t = iblk0 V c 11 t := by dsimp only [dat0]
theorem before0_11 (c : Dev nD) (t : Fin cfg0.N) (d) : (dat0 V c).before 11 t d = iblk0 V c 11 t :=
  before0_11_of V (dat0 V c) (A_eq0 V c 11) (after0_11 V c) t d
theorem after0_12 (c : Dev nD) (t : Fin cfg0.N) : (dat0 V c).after 12 t = iblk0 V c 12 t := by dsimp only [dat0]
theorem before0_12 (c : Dev nD) (t : Fin cfg0.N) (d) : (dat0 V c).before 12 t d = iblk0 V c 12 t :=
  before0_12_of V (dat0 V c) (A_eq0 V c 12) (after0_12 V c) t d
theorem after0_13 (c : Dev nD) (t : Fin cfg0.N) : (dat0 V c).after 13 t = iblk0 V c 13 t := by dsimp only [dat0]
theorem before0_13 (c : Dev nD) (t : Fin cfg0.N) (d) : (dat0 V c).before 13 t d = iblk0 V c 13 t :=
  before0_13_of V (dat0 V c) (A_eq0 V c 13) (after0_13 V c) t d
theorem after0_14 (c : Dev nD) (t : Fin cfg0.N) : (dat0 V c).after 14 t = iblk0 V c 14 t := by dsimp only [dat0]
theorem before0_14 (c : Dev nD) (t : Fin cfg0.N) (d) : (dat0 V c).before 14 t d = iblk0 V c 14 t :=
  before0_14_of V (dat0 V c) (A_eq0 V c 14) (after0_14 V c) t d
theorem after0_15 (c : Dev nD) (t : Fin cfg0.N) : (dat0 V c).after 15 t = iblk0 V c 15 t := by dsimp only [dat0]
theorem before0_15 (c : Dev nD) (t : Fin cfg0.N) (d) : (dat0 V c).before 15 t d = iblk0 V c 15 t :=
  before0_15_of V (dat0 V c) (A_eq0 V c 15) (after0_15 V c) t d
theorem after0_16 (c : Dev nD) (t : Fin cfg0.N) : (dat0 V c).after 16 t = iblk0 V c 16 t := by dsimp only [dat0]
theorem before0_16 (c : Dev nD) (t : Fin cfg0.N) (d) : (dat0 V c).before 16 t d = iblk0 V c 16 t :=
  before0_16_of V (dat0 V c) (A_eq0 V c 16) (after0_16 V c) t d
theorem after0_17 (c : Dev nD) (t : Fin cfg0.N) : (dat0 V c).after 17 t = iblk0 V c 17 t := by dsimp only [dat0]
theorem before0_17 (c : Dev nD) (t : Fin cfg0.N) (d) : (dat0 V c).before 17 t d = iblk0 V c 17 t :=
  before0_17_of V (dat0 V c) (A_eq0 V c 17) (after0_17 V c) t d
theorem after0_18 (c : Dev nD) (t : Fin cfg0.N) : (dat0 V c).after 18 t = iblk0 V c 18 t := by dsimp only [dat0]
theorem before0_18 (c : Dev nD) (t : Fin cfg0.N) (d) : (dat0 V c).before 18 t d = iblk0 V c 18 t :=
  before0_18_of V (dat0 V c) (A_eq0 V c 18) (after0_18 V c) t d
theorem after0_19 (c : Dev nD) (t : Fin cfg0.N) : (dat0 V c).after 19 t = res19 V c t := by dsimp only [dat0]
theorem after0_20 (c : Dev nD) (t : Fin cfg0.N) : (dat0 V c).after 20 t = res20 V c t := by dsimp only [dat0]
theorem after0_21 (c : Dev nD) (t : Fin cfg0.N) : (dat0 V c).after 21 t = res21 V c := by dsimp only [dat0]
theorem after0_22 (c : Dev nD) (t : Fin cfg0.N) : (dat0 V c).after 22 t = res22 V c := by dsimp only [dat0]

/-- Output 21's buffer holds nothing stored before the first point only. -/
def freshTab21 : ℕ → Bool
  | 0 => true
  | n + 1 => (0x8 : ℕ).testBit n
theorem freshTab21_step : ∀ t : Fin cfg0.N,
    freshTab21 (t.val + 1) = ((cfg0.win 21).flush t || (cfg0.idle 21 (cfg0.grid.coords t) && freshTab21 t.val)) := by decide +kernel
theorem notFresh21 : ∀ t : Fin cfg0.N, ¬cond0 (grid0.coords t) → cfg0.fresh 21 t.val = false := by
  intro t; rw [Pipeline.Cfg.fresh_tab cfg0 21 freshTab21 rfl freshTab21_step t.val (Nat.le_of_lt t.isLt)]; revert t; decide +kernel
theorem live21 : ∀ t : Fin cfg0.N, cond0 (grid0.coords t) → cfg0.idle 21 (grid0.coords t) = false := by decide +kernel
theorem idle21 : ∀ t : Fin cfg0.N, ¬cond0 (grid0.coords t) → cfg0.idle 21 (grid0.coords t) = true := by decide +kernel
/-- At a later point output 21's buffer holds what the first point left. -/
theorem before0_21 (c : Dev nD) (t : Fin cfg0.N) (h : ¬cond0 (grid0.coords t)) (d) : (dat0 V c).before 21 t d = res21 V c := by
  rw [Dat.before_out_traj _ 21 rfl (fun _ _ => rfl) (fun t _ _ _ => by rw [after0_21, after0_21]) t.val t rfl d,
    if_neg (by rw [notFresh21 t h]; exact Bool.false_ne_true), after0_21]
/-- What a later point hands back of output 21: the buffer at what the first point left. -/
theorem leaves0_21 (c : Dev nD) (t : Fin cfg0.N) (h : ¬cond0 (grid0.coords t)) :
    owns (c : Thread nD τ) (ms0_21 t) fullShare (res21 V c) ⊢ ((dat0 V c).leavesExact 21 t : sProp 𝕄) := by
  unfold Dat.leavesExact; rw [idle21 t h]
  cases (cfg0.win 21).flush t with
  | false =>
    iintro H
    iexists (res21 V c); rw [before0_21 V c t h]; iexact H
  | true => rw [after0_21]

/-- Output 22's buffer holds nothing stored before the first point only. -/
def freshTab22 : ℕ → Bool
  | 0 => true
  | n + 1 => (0x8 : ℕ).testBit n
theorem freshTab22_step : ∀ t : Fin cfg0.N,
    freshTab22 (t.val + 1) = ((cfg0.win 22).flush t || (cfg0.idle 22 (cfg0.grid.coords t) && freshTab22 t.val)) := by decide +kernel
theorem notFresh22 : ∀ t : Fin cfg0.N, ¬cond0 (grid0.coords t) → cfg0.fresh 22 t.val = false := by
  intro t; rw [Pipeline.Cfg.fresh_tab cfg0 22 freshTab22 rfl freshTab22_step t.val (Nat.le_of_lt t.isLt)]; revert t; decide +kernel
theorem live22 : ∀ t : Fin cfg0.N, cond0 (grid0.coords t) → cfg0.idle 22 (grid0.coords t) = false := by decide +kernel
theorem idle22 : ∀ t : Fin cfg0.N, ¬cond0 (grid0.coords t) → cfg0.idle 22 (grid0.coords t) = true := by decide +kernel
/-- At a later point output 22's buffer holds what the first point left. -/
theorem before0_22 (c : Dev nD) (t : Fin cfg0.N) (h : ¬cond0 (grid0.coords t)) (d) : (dat0 V c).before 22 t d = res22 V c := by
  rw [Dat.before_out_traj _ 22 rfl (fun _ _ => rfl) (fun t _ _ _ => by rw [after0_22, after0_22]) t.val t rfl d,
    if_neg (by rw [notFresh22 t h]; exact Bool.false_ne_true), after0_22]
/-- What a later point hands back of output 22: the buffer at what the first point left. -/
theorem leaves0_22 (c : Dev nD) (t : Fin cfg0.N) (h : ¬cond0 (grid0.coords t)) :
    owns (c : Thread nD τ) (ms0_22 t) fullShare (res22 V c) ⊢ ((dat0 V c).leavesExact 22 t : sProp 𝕄) := by
  unfold Dat.leavesExact; rw [idle22 t h]
  cases (cfg0.win 22).flush t with
  | false =>
    iintro H
    iexists (res22 V c); rw [before0_22 V c t h]; iexact H
  | true => rw [after0_22]
theorem leaves0_0 (c : Dev nD) (t : Fin cfg0.N) : (dat0 V c).leavesExact 0 t = owns (c : Thread nD τ) (ms0_0 t) fullShare ((dat0 V c).after 0 t) := by
  unfold Dat.leavesExact; rw [show cfg0.idle 0 (grid0.coords t) = false from rfl]
theorem leaves0_1 (c : Dev nD) (t : Fin cfg0.N) : (dat0 V c).leavesExact 1 t = owns (c : Thread nD τ) (ms0_1 t) fullShare ((dat0 V c).after 1 t) := by
  unfold Dat.leavesExact; rw [show cfg0.idle 1 (grid0.coords t) = false from rfl]
theorem leaves0_2 (c : Dev nD) (t : Fin cfg0.N) : (dat0 V c).leavesExact 2 t = owns (c : Thread nD τ) (ms0_2 t) fullShare ((dat0 V c).after 2 t) := by
  unfold Dat.leavesExact; rw [show cfg0.idle 2 (grid0.coords t) = false from rfl]
theorem leaves0_3 (c : Dev nD) (t : Fin cfg0.N) : (dat0 V c).leavesExact 3 t = owns (c : Thread nD τ) (ms0_3 t) fullShare ((dat0 V c).after 3 t) := by
  unfold Dat.leavesExact; rw [show cfg0.idle 3 (grid0.coords t) = false from rfl]
theorem leaves0_4 (c : Dev nD) (t : Fin cfg0.N) : (dat0 V c).leavesExact 4 t = owns (c : Thread nD τ) (ms0_4 t) fullShare ((dat0 V c).after 4 t) := by
  unfold Dat.leavesExact; rw [show cfg0.idle 4 (grid0.coords t) = false from rfl]
theorem leaves0_5 (c : Dev nD) (t : Fin cfg0.N) : (dat0 V c).leavesExact 5 t = owns (c : Thread nD τ) (ms0_5 t) fullShare ((dat0 V c).after 5 t) := by
  unfold Dat.leavesExact; rw [show cfg0.idle 5 (grid0.coords t) = false from rfl]
theorem leaves0_6 (c : Dev nD) (t : Fin cfg0.N) : (dat0 V c).leavesExact 6 t = owns (c : Thread nD τ) (ms0_6 t) fullShare ((dat0 V c).after 6 t) := by
  unfold Dat.leavesExact; rw [show cfg0.idle 6 (grid0.coords t) = false from rfl]
theorem leaves0_7 (c : Dev nD) (t : Fin cfg0.N) : (dat0 V c).leavesExact 7 t = owns (c : Thread nD τ) (ms0_7 t) fullShare ((dat0 V c).after 7 t) := by
  unfold Dat.leavesExact; rw [show cfg0.idle 7 (grid0.coords t) = false from rfl]
theorem leaves0_8 (c : Dev nD) (t : Fin cfg0.N) : (dat0 V c).leavesExact 8 t = owns (c : Thread nD τ) (ms0_8 t) fullShare ((dat0 V c).after 8 t) := by
  unfold Dat.leavesExact; rw [show cfg0.idle 8 (grid0.coords t) = false from rfl]
theorem leaves0_9 (c : Dev nD) (t : Fin cfg0.N) : (dat0 V c).leavesExact 9 t = owns (c : Thread nD τ) (ms0_9 t) fullShare ((dat0 V c).after 9 t) := by
  unfold Dat.leavesExact; rw [show cfg0.idle 9 (grid0.coords t) = false from rfl]
theorem leaves0_10 (c : Dev nD) (t : Fin cfg0.N) : (dat0 V c).leavesExact 10 t = owns (c : Thread nD τ) (ms0_10 t) fullShare ((dat0 V c).after 10 t) := by
  unfold Dat.leavesExact; rw [show cfg0.idle 10 (grid0.coords t) = false from rfl]
theorem leaves0_11 (c : Dev nD) (t : Fin cfg0.N) : (dat0 V c).leavesExact 11 t = owns (c : Thread nD τ) (ms0_11 t) fullShare ((dat0 V c).after 11 t) := by
  unfold Dat.leavesExact; rw [show cfg0.idle 11 (grid0.coords t) = false from rfl]
theorem leaves0_12 (c : Dev nD) (t : Fin cfg0.N) : (dat0 V c).leavesExact 12 t = owns (c : Thread nD τ) (ms0_12 t) fullShare ((dat0 V c).after 12 t) := by
  unfold Dat.leavesExact; rw [show cfg0.idle 12 (grid0.coords t) = false from rfl]
theorem leaves0_13 (c : Dev nD) (t : Fin cfg0.N) : (dat0 V c).leavesExact 13 t = owns (c : Thread nD τ) (ms0_13 t) fullShare ((dat0 V c).after 13 t) := by
  unfold Dat.leavesExact; rw [show cfg0.idle 13 (grid0.coords t) = false from rfl]
theorem leaves0_14 (c : Dev nD) (t : Fin cfg0.N) : (dat0 V c).leavesExact 14 t = owns (c : Thread nD τ) (ms0_14 t) fullShare ((dat0 V c).after 14 t) := by
  unfold Dat.leavesExact; rw [show cfg0.idle 14 (grid0.coords t) = false from rfl]
theorem leaves0_15 (c : Dev nD) (t : Fin cfg0.N) : (dat0 V c).leavesExact 15 t = owns (c : Thread nD τ) (ms0_15 t) fullShare ((dat0 V c).after 15 t) := by
  unfold Dat.leavesExact; rw [show cfg0.idle 15 (grid0.coords t) = false from rfl]
theorem leaves0_16 (c : Dev nD) (t : Fin cfg0.N) : (dat0 V c).leavesExact 16 t = owns (c : Thread nD τ) (ms0_16 t) fullShare ((dat0 V c).after 16 t) := by
  unfold Dat.leavesExact; rw [show cfg0.idle 16 (grid0.coords t) = false from rfl]
theorem leaves0_17 (c : Dev nD) (t : Fin cfg0.N) : (dat0 V c).leavesExact 17 t = owns (c : Thread nD τ) (ms0_17 t) fullShare ((dat0 V c).after 17 t) := by
  unfold Dat.leavesExact; rw [show cfg0.idle 17 (grid0.coords t) = false from rfl]
theorem leaves0_18 (c : Dev nD) (t : Fin cfg0.N) : (dat0 V c).leavesExact 18 t = owns (c : Thread nD τ) (ms0_18 t) fullShare ((dat0 V c).after 18 t) := by
  unfold Dat.leavesExact; rw [show cfg0.idle 18 (grid0.coords t) = false from rfl]
theorem leaves0_19 (c : Dev nD) (t : Fin cfg0.N) : (dat0 V c).leavesExact 19 t = owns (c : Thread nD τ) (ms0_19 t) fullShare ((dat0 V c).after 19 t) := by
  unfold Dat.leavesExact; rw [show cfg0.idle 19 (grid0.coords t) = false from rfl]
theorem leaves0_20 (c : Dev nD) (t : Fin cfg0.N) : (dat0 V c).leavesExact 20 t = owns (c : Thread nD τ) (ms0_20 t) fullShare ((dat0 V c).after 20 t) := by
  unfold Dat.leavesExact; rw [show cfg0.idle 20 (grid0.coords t) = false from rfl]

/-- What the body is called with at point `t`, window by window. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d))
    ∗ (∃ d, owns (c : Thread nD τ) (ms0_13 t) fullShare ((dat0 V c).before 13 t d))
    ∗ (∃ d, owns (c : Thread nD τ) (ms0_14 t) fullShare ((dat0 V c).before 14 t d))
    ∗ (∃ d, owns (c : Thread nD τ) (ms0_15 t) fullShare ((dat0 V c).before 15 t d))
    ∗ (∃ d, owns (c : Thread nD τ) (ms0_16 t) fullShare ((dat0 V c).before 16 t d))
    ∗ (∃ d, owns (c : Thread nD τ) (ms0_17 t) fullShare ((dat0 V c).before 17 t d))
    ∗ (∃ d, owns (c : Thread nD τ) (ms0_18 t) fullShare ((dat0 V c).before 18 t d))
    ∗ (∃ d, owns (c : Thread nD τ) (ms0_19 t) fullShare ((dat0 V c).before 19 t d))
    ∗ (∃ d, owns (c : Thread nD τ) (ms0_20 t) fullShare ((dat0 V c).before 20 t d))
    ∗ (∃ d, owns (c : Thread nD τ) (ms0_21 t) fullShare ((dat0 V c).before 21 t d))
    ∗ (∃ d, owns (c : Thread nD τ) (ms0_22 t) fullShare ((dat0 V c).before 22 t d)))

/-- What it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t
    ∗ (dat0 V c).leavesExact 12 t
    ∗ (dat0 V c).leavesExact 13 t
    ∗ (dat0 V c).leavesExact 14 t
    ∗ (dat0 V c).leavesExact 15 t
    ∗ (dat0 V c).leavesExact 16 t
    ∗ (dat0 V c).leavesExact 17 t
    ∗ (dat0 V c).leavesExact 18 t
    ∗ (dat0 V c).leavesExact 19 t
    ∗ (dat0 V c).leavesExact 20 t
    ∗ (dat0 V c).leavesExact 21 t
    ∗ (dat0 V c).leavesExact 22 t)

set_option maxHeartbeats 1200000 in
/-- The body's triple at the first point. -/
theorem sound_body0_A (c : Dev nD) (t : Fin cfg0.N) (h : cond0 (grid0.coords t)) :
    bodyPre0 V c t ⊢ wp frame (wpE (defs₀ (F := F)) Variants.none c none) Set.univ (bodyAt0 t) (fun _ => bodyPost0 V c t) := by
  unfold bodyPre0 bodyPost0 bodyAt0
  have hN : t.val < 4 := lt_of_lt_of_eq t.isLt (show cfg0.N = 4 from N_0)
  have ht : t.val = 0 := by have := (hcond0 t).mp h; omega
  simp only [before0_0, before0_1, before0_2, before0_3, before0_4, before0_5, before0_6, before0_7, before0_8, before0_9, before0_10, before0_11, before0_12, before0_13, before0_14, before0_15, before0_16, before0_17, before0_18]
  rw [show (dat0 V c).owesAt () t.succ = (dat0 V c).owesAt () t.castSucc from rfl,
    show (dat0 V c).Φ t.succ = PhiS V c (t.val + 1) from rfl, PhiS_pos V c _ (Nat.succ_ne_zero _),
    show (dat0 V c).Φ t.castSucc = PhiS V c t.val from rfl,
    leaves0_0, after0_0, leaves0_1, after0_1, leaves0_2, after0_2, leaves0_3, after0_3, leaves0_4, after0_4, leaves0_5, after0_5, leaves0_6, after0_6, leaves0_7, after0_7, leaves0_8, after0_8, leaves0_9, after0_9, leaves0_10, after0_10, leaves0_11, after0_11, leaves0_12, after0_12, leaves0_13, after0_13, leaves0_14, after0_14, leaves0_15, after0_15, leaves0_16, after0_16, leaves0_17, after0_17, leaves0_18, after0_18, leaves0_19, after0_19, leaves0_20, after0_20]
  have e0 : t = t0_0 := Fin.ext ht
  rw [show PhiS V c t.val = Pipeline.ΦA spec0 c from by rw [ht]; rfl, PhiA0_eq,
    show res19 V c t = VO0_19.read (Elt F) (VO0_19.writes (Elt F) VO0_19.junk (runA0 V c t h).1) from dif_pos h,
    show res20 V c t = VO0_20.read (Elt F) (VO0_20.writes (Elt F) VO0_20.junk (runA0 V c t h).2.1) from dif_pos h,
    show (dat0 V c).leavesExact 21 t = owns (c : Thread nD τ) (ms0_21 t) fullShare ((dat0 V c).after 21 t) from by
      unfold Dat.leavesExact; rw [live21 t h],
    show (dat0 V c).leavesExact 22 t = owns (c : Thread nD τ) (ms0_22 t) fullShare ((dat0 V c).after 22 t) from by
      unfold Dat.leavesExact; rw [live22 t h], after0_21, after0_22,
    show res21 V c = VO0_21.read (Elt F) (VO0_21.writes (Elt F) VO0_21.junk (runA0 V c t h).2.2.1) from by subst e0; rfl,
    show res22 V c = VO0_22.read (Elt F) (VO0_22.writes (Elt F) VO0_22.junk (runA0 V c t h).2.2.2.1) from by subst e0; rfl,
    show resS V c = VS0.read (Elt F) (VS0.writes (Elt F) VS0.junk (runA0 V c t h).2.2.2.2.1) from by subst e0; rfl]
  iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply ((runA0 V c t h).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [H21]; · iexists _; iexact H21
  isplitl [H22]; · iexists _; iexact H22
  isplitl [HS]; · iexact HS
  iintro ⟨H0, H1, H2, H3, H4, H5, H6, H7, H8, H9, H10, H11, H12, H13, H14, H15, H16, H17, H18, ⟨%e19, H19⟩, ⟨%e20, H20⟩, ⟨%e21, H21⟩, ⟨%e22, H22⟩, ⟨%es, HS⟩⟩
  isplitl [HS HR Hg]
  · isplitl [HS HR]
    · isplitl [HS]
      · unfold owns; iexists _; isplitr
        swap; · iexact HS
        ipureintro; exact View.read_writes_of_cover _ _ _ _ _ (coverA_S V c t h)
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]
  · unfold owns; iexists _; isplitr
    swap; · iexact H19
    ipureintro; exact View.read_writes_of_cover _ _ _ _ _ (coverA_19 V c t h)
  isplitl [H20]
  · unfold owns; iexists _; isplitr
    swap; · iexact H20
    ipureintro; exact View.read_writes_of_cover _ _ _ _ _ (coverA_20 V c t h)
  isplitl [H21]
  · unfold owns; iexists _; isplitr
    swap; · iexact H21
    ipureintro; exact View.read_writes_of_cover _ _ _ _ _ (coverA_21 V c t h)
  unfold owns; iexists _; isplitr
  swap; · iexact H22
  ipureintro; exact View.read_writes_of_cover _ _ _ _ _ (coverA_22 V c t h)

set_option maxHeartbeats 1200000 in
/-- The body's triple at a later point. -/
theorem sound_body0_B (c : Dev nD) (t : Fin cfg0.N) (h : ¬cond0 (grid0.coords t)) :
    bodyPre0 V c t ⊢ wp frame (wpE (defs₀ (F := F)) Variants.none c none) Set.univ (bodyAt0 t) (fun _ => bodyPost0 V c t) := by
  unfold bodyPre0 bodyPost0 bodyAt0
  have hN : t.val < 4 := lt_of_lt_of_eq t.isLt (show cfg0.N = 4 from N_0)
  have ht : t.val ≠ 0 := by have := fun q : t.val = 0 => h ((hcond0 t).mpr (by rw [q])); omega
  simp only [before0_0, before0_1, before0_2, before0_3, before0_4, before0_5, before0_6, before0_7, before0_8, before0_9, before0_10, before0_11, before0_12, before0_13, before0_14, before0_15, before0_16, before0_17, before0_18]
  simp only [before0_21 V c t h, before0_22 V c t h]
  rw [show (dat0 V c).owesAt () t.succ = (dat0 V c).owesAt () t.castSucc from rfl,
    show (dat0 V c).Φ t.succ = PhiS V c (t.val + 1) from rfl, PhiS_pos V c _ (Nat.succ_ne_zero _),
    show (dat0 V c).Φ t.castSucc = PhiS V c t.val from rfl,
    leaves0_0, after0_0, leaves0_1, after0_1, leaves0_2, after0_2, leaves0_3, after0_3, leaves0_4, after0_4, leaves0_5, after0_5, leaves0_6, after0_6, leaves0_7, after0_7, leaves0_8, after0_8, leaves0_9, after0_9, leaves0_10, after0_10, leaves0_11, after0_11, leaves0_12, after0_12, leaves0_13, after0_13, leaves0_14, after0_14, leaves0_15, after0_15, leaves0_16, after0_16, leaves0_17, after0_17, leaves0_18, after0_18, leaves0_19, after0_19, leaves0_20, after0_20]
  rw [PhiS_pos V c _ ht,
    show res19 V c t = VO0_19.read (Elt F) (VO0_19.writes (Elt F) VO0_19.junk (runB0 V c t h (resS V c)).1) from dif_neg h,
    show res20 V c t = VO0_20.read (Elt F) (VO0_20.writes (Elt F) VO0_20.junk (runB0 V c t h (resS V c)).2.1) from dif_neg h]
  iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply ((runB0 V c t h (resS V c)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [HS]; · iexact HS
  iintro ⟨H0, H1, H2, H3, H4, H5, H6, H7, H8, H9, H10, H11, H12, H13, H14, H15, H16, H17, H18, ⟨%e19, H19⟩, ⟨%e20, H20⟩, HS⟩
  isplitl [HS HR Hg]
  · isplitl [HS HR]
    · isplitl [HS]
      · iexact HS
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]
  · unfold owns; iexists _; isplitr
    swap; · iexact H19
    ipureintro; exact View.read_writes_of_cover _ _ _ _ _ (coverB_19 V c t h (resS V c))
  isplitl [H20]
  · unfold owns; iexists _; isplitr
    swap; · iexact H20
    ipureintro; exact View.read_writes_of_cover _ _ _ _ _ (coverB_20 V c t h (resS V c))
  isplitl [H21]
  · iapply (leaves0_21 V c t h); iexact H21
  iapply (leaves0_22 V c t h); iexact H22

/-- The body's triple at any point. -/
theorem sound_body0 (c : Dev nD) (t : Fin cfg0.N) :
    bodyPre0 V c t ⊢ wp frame (wpE (defs₀ (F := F)) Variants.none c none) Set.univ (bodyAt0 t) (fun _ => bodyPost0 V c t) := by
  by_cases h : cond0 (grid0.coords t)
  · exact sound_body0_A V c t h
  · exact sound_body0_B V c t h

theorem defs₀_row0 (t : Fin cfg0.N) :
    defs₀ (F := F) .tc cfg0.body (cfg0.bodyArgs t (cfg0.slots t)) = bodyAt0 t := by
  unfold defs₀; rw [Defs.onTc_tc]

set_option maxHeartbeats 8000000 in
/-- The body obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- After the last point the invariant gives the scratch back at some contents. -/
theorem Phi0_out (c : Dev nD) : (dat0 V c).Φ (Fin.last cfg0.N) ⊢ (Pipeline.ΦA spec0 c : sProp 𝕄) := by
  rw [show (dat0 V c).Φ (Fin.last cfg0.N) = PhiS V c (Fin.last cfg0.N).val from rfl,
    PhiS_pos V c _ (by rw [Fin.val_last]; have : cfg0.N = 4 := N_0; omega), PhiA0_eq]
  iintro ⟨⟨HS, HR⟩, Hg⟩
  isplitl [HS HR]
  · isplitl [HS]
    · iexists _; iexact HS
    iexact HR
  iexact Hg

end Cert.KernelIdeal.Whole

end
-- ==== Proof.KernelIdealRun.Attn.lean ====
/- The attention call: what each window holds after each grid point, and its body obligation. -/
module

public import proofs.«01_k».proof.Proof.KernelIdealRun.Base

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 12, through which its contents are stated (`View.read_writes_of_cover`: the
    choice does not matter). -/
abbrev VO1_12 : View sig .tc .vmem S1x64x1024 .f32 := (Memref.whole cc1_stg12_0 : Memref sig .tc .vmem S1x64x1024 .f32).view
/-- Each window's current staging memref at point `t`, spelled as the pipeline passes it (`bodyAt1`), and its wholeness. -/
abbrev ms1_0 (t : Fin cfg1.N) : Memref sig .tc .vmem S1x2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x1024 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1024 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x64x1 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x64x32 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x64x32 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S2x1024 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S1x64x1024 .f32 := win1_12.stage (cfg1.slots t 12)
abbrev hs1_12 (t : Fin cfg1.N) : (ms1_12 t).IsWhole := hstage1_12 ((cfg1.slots t 12).cast nbuf1_12)
/-- The scratch operands: whole scoped buffers of the kernel's own, passed beside the windows. -/
abbrev scM1_0 : Memref sig .tc .vmem S64x1024 .f32 := Memref.whole cc1_scratch0

/-- The scratch buffer apart from the other scoped buffers. -/
theorem scopedRest1_flat (c : Dev nD) :
    (Pipeline.scopedRest spec1 c : sProp 𝕄)
      = iprop((∃ f : Buf (Elt F) ((c : Thread nD τ).loc cc1_scratch0), ((c : Thread nD τ).loc cc1_scratch0) ↦{fullShare} f) ∗ Pipeline.scopedRestBut spec1 c [cc1_scratch0]) := by
  rw [scopedRest1_split]

/-- The invariant with the scratch at some contents. -/
theorem PhiA1_eq (c : Dev nD) :
    (Pipeline.ΦA spec1 c : sProp 𝕄)
      = iprop(iprop((∃ d, owns (c : Thread nD τ) scM1_0 fullShare d) ∗ Pipeline.scopedRestBut spec1 c [cc1_scratch0]) ∗ (∃ r, prngReg c r)) := by
  unfold Pipeline.ΦA; rw [scopedRest1_flat]; simp only [scM1_0, owns_whole]; try rfl

set_option maxHeartbeats 1000000 in
/-- The attention body run on whole buffers. The lists are the stores it leaves in the output and in the scratch, last first. -/
def kernelRun1_A (c : Dev nD) (i : grid1.Coords) (arg1 : Memref sig .tc .vmem S1x2048x1024 .f32) (harg1 : arg1.IsWhole) (arg2 : Memref sig .tc .vmem S1x1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x64x1 .f32) (harg9 : arg9.IsWhole) (arg10 : Memref sig .tc .vmem S1x64x32 .f32) (harg10 : arg10.IsWhole) (arg11 : Memref sig .tc .vmem S1x64x32 .f32) (harg11 : arg11.IsWhole) (arg12 : Memref sig .tc .vmem S2x1024 .f32) (harg12 : arg12.IsWhole) (arg13 : Memref sig .tc .vmem S1x64x1024 .f32) (harg13 : arg13.IsWhole) (arg14 : Memref sig .tc .vmem S64x1024 .f32) (harg14 : arg14.IsWhole)
    (x0 : Vec F S1x2048x1024 .f32) (x1 : Vec F S1x1024x1024 .bf16) (x2 : Vec F S1024x1024 .bf16) (x3 : Vec F S1x1024 .f32) (x4 : Vec F S1024x1024 .bf16) (x5 : Vec F S1x1024 .f32) (x6 : Vec F S1024x1024 .bf16) (x7 : Vec F S1x1024 .f32) (x8 : Vec F S1x64x1 .f32) (x9 : Vec F S1x64x32 .f32) (x10 : Vec F S1x64x32 .f32) (x11 : Vec F S2x1024 .f32) :
    Σ' (L12 : List (View.Piece (Elt F) S1x64x1024 .f32)), { LT0 : List (View.Piece (Elt F) S64x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f LT0)) -∗ K ⟨⟩))
          ⊢ wp frame (wpE (defs₀ (F := F)) Variants.none c none) E (cc1__attn_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc1__attn_kernel_eq_skeleton]; unfold cc1__attn_kernel_skel
    simp only [k1_part1_eq_skeleton, k1_part2_eq_skeleton, k1_part3_eq_skeleton, k1_part4_eq_skeleton, k1_part5_eq_skeleton, k1_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    iexists _; iexact HS0

/-- The output's stores cover it. -/
theorem cover1_A_12 (c : Dev nD) (i : grid1.Coords) (arg1 : Memref sig .tc .vmem S1x2048x1024 .f32) (harg1 : arg1.IsWhole) (arg2 : Memref sig .tc .vmem S1x1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x64x1 .f32) (harg9 : arg9.IsWhole) (arg10 : Memref sig .tc .vmem S1x64x32 .f32) (harg10 : arg10.IsWhole) (arg11 : Memref sig .tc .vmem S1x64x32 .f32) (harg11 : arg11.IsWhole) (arg12 : Memref sig .tc .vmem S2x1024 .f32) (harg12 : arg12.IsWhole) (arg13 : Memref sig .tc .vmem S1x64x1024 .f32) (harg13 : arg13.IsWhole) (arg14 : Memref sig .tc .vmem S64x1024 .f32) (harg14 : arg14.IsWhole)
    (x0 : Vec F S1x2048x1024 .f32) (x1 : Vec F S1x1024x1024 .bf16) (x2 : Vec F S1024x1024 .bf16) (x3 : Vec F S1x1024 .f32) (x4 : Vec F S1024x1024 .bf16) (x5 : Vec F S1x1024 .f32) (x6 : Vec F S1024x1024 .bf16) (x7 : Vec F S1x1024 .f32) (x8 : Vec F S1x64x1 .f32) (x9 : Vec F S1x64x32 .f32) (x10 : Vec F S1x64x32 .f32) (x11 : Vec F S2x1024 .f32) (y : S1x64x1024.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11).1 S1x64x1024.size (by sl_kernel_rfl) y

/-- What the run leaves in output 12's staging buffer: its pieces read back over junk. -/
def out1_A_12 (c : Dev nD) (i : grid1.Coords) (arg1 : Memref sig .tc .vmem S1x2048x1024 .f32) (harg1 : arg1.IsWhole) (arg2 : Memref sig .tc .vmem S1x1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x64x1 .f32) (harg9 : arg9.IsWhole) (arg10 : Memref sig .tc .vmem S1x64x32 .f32) (harg10 : arg10.IsWhole) (arg11 : Memref sig .tc .vmem S1x64x32 .f32) (harg11 : arg11.IsWhole) (arg12 : Memref sig .tc .vmem S2x1024 .f32) (harg12 : arg12.IsWhole) (arg13 : Memref sig .tc .vmem S1x64x1024 .f32) (harg13 : arg13.IsWhole) (arg14 : Memref sig .tc .vmem S64x1024 .f32) (harg14 : arg14.IsWhole)
    (x0 : Vec F S1x2048x1024 .f32) (x1 : Vec F S1x1024x1024 .bf16) (x2 : Vec F S1024x1024 .bf16) (x3 : Vec F S1x1024 .f32) (x4 : Vec F S1024x1024 .bf16) (x5 : Vec F S1x1024 .f32) (x6 : Vec F S1024x1024 .bf16) (x7 : Vec F S1x1024 .f32) (x8 : Vec F S1x64x1 .f32) (x9 : Vec F S1x64x32 .f32) (x10 : Vec F S1x64x32 .f32) (x11 : Vec F S2x1024 .f32) : Vec F S1x64x1024 .f32 :=
  VO1_12.read (Elt F) (VO1_12.writes (Elt F) VO1_12.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11).1)

/-! ## What the outputs hold after each point -/

/-- What the outputs' staging buffers hold after the body at point `t`: the run's contents at
    the point's memrefs and input blocks. -/
def outsAt1 (c : Dev nD) (t : Fin cfg1.N) : Vec F S1x64x1024 .f32 :=
  out1_A_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)

/-! ## The pipeline's proof data -/

/-- The attention call's proof data: its arrays as found; after point `t` each input's buffer at its block and the output's at
    `outsAt1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => (outsAt1 V c t)
  Φ _ := Pipeline.ΦA spec1 c
  q _ := fullShare
  owed _ := 0

/-- The arrays are as the call finds them. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d

/-! ## The body obligation, at a generic point -/

/-- What the body is called with at point `t`, window by window. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t))

set_option maxHeartbeats 1200000 in
/-- The body's triple at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12]
  rw [show (dat1 V c).Φ t.castSucc = Pipeline.ΦA spec1 c from rfl, PhiA1_eq]
  unfold outsAt1
  unfold out1_A_12
  iintro ⟨⟨⟨HS0, HR1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun1_A c (grid1.coords t) _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [HS0]; · iexact HS0
  iintro ⟨H0, H1, H2, H3, H4, H5, H6, H7, H8, H9, H10, H11, ⟨%e12, H12⟩, ⟨%fT0, HS0⟩⟩
  isplitl [HS0 HR1 Hg]
  · isplitl [HS0 HR1]
    · isplitl [HS0]
      · iexists _; unfold owns; iexists _; isplitr
        swap; · iexact HS0
        ipureintro; rfl
      iexact HR1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  unfold owns; iexists _; isplitr
  swap; · iexact H12
  ipureintro; exact View.read_writes_of_cover _ _ _ _ _ (cover1_A_12 c _ _ _ _ _ _ _ _ _ _ _ _ _ _ _ _ _ _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Whole

end
-- ==== Proof.KernelIdealRun.Run.lean ====
/- The whole program's run: the host operations and the two calls in order, from the launch to the return. -/
module

public import proofs.«01_k».proof.Proof.KernelIdealRun.Prep
public import proofs.«01_k».proof.Proof.KernelIdealRun.Attn

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21]

/-! ## The host stretches -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v29, main_v30, main_v31, main_v32, main_v33, main_v34]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- After the preparation call: its arrays at what its write-backs leave, every other buffer as before. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of call 0's output arrays keeps its contents. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- After call 0 its arrays hold what it leaves, every other buffer what it held. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- After the attention call: its arrays at what its write-backs leave, every other buffer as before. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of call 1's output arrays keeps its contents. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- After call 1 its arrays hold what it leaves, every other buffer what it held. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The proof data family and the thread state -/

/-- The prefetched tables' admissible contents: no pipeline has a table. -/
abbrev adm : (p : Fin 2) → (pcfgs (F := F) p).Adm := fun p => (cfgs p).toPCfg_adm
/-- Each call's proof data, at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers: the generator register at some state and nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state: every buffer at `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Call 0 as a segment of @main. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Phi0_out (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment of @main. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of its segments. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- The run: every execution of @main from memory `m` with zero counters ends with every buffer that outlives it at
    `W4` — the contents the boundaries above fold to — and every counter at zero. -/
theorem run_end : θ_run defs (onTc (τ := τ) (main (F := F))) ⟨m, fun _ => 0, ρ⟩ (fun r => (∀ c : Dev nD,
      ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- Every execution ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21))
      ∧ r.2.sem = fun _ => 0) :=
  (θ_run defs _ _).mono (fun r h => ⟨fun c => by
    have ha : ∀ a ∈ argRefs, ¬ (Proc.devRef .tc a : DevRef τ sig).isScoped → r.2.mem ((c.tc : Thread nD τ).loc a) = m ((c.tc : Thread nD τ).loc a) :=
      fun a h1 h2 => (h.1 c _ (mem_uc a h2)).trans (W4_args m ρ c a h1)
    refine ⟨?_, ?_, ?_, ?_, ?_, ?_, ?_, ?_, ?_, ?_, ?_, ?_, ?_, ?_, ?_, ?_, ?_, ?_, ?_, ?_, ?_, ?_⟩ <;> exact ha _ (by decide) (by decide), h.2⟩) (run_end m ρ)

end Cert.KernelIdeal.Whole

end
-- ==== Proof.Val.Attn.lean ====
module
public import proofs.«01_k».proof.Proof.KernelIdealRun.Attn
public import Idealize.ShloMosaic.Lib.Pointwise
public import Idealize.ShloMosaic.Lib.WholeRead
@[expose] public section
set_option maxRecDepth 16384
noncomputable section
namespace Cert.KernelIdeal.Whole
open Idealize.ShloMosaic Idealize.ShloMosaic.TcCoe
open Cert.KernelIdeal.Gen

/-- One attended row: the exponential weights of the scaled scores of a folded query `q` against the rows of `x`,
    taken off their maximum, average the rows of `x`; entry `k` of the average. -/
def mixK (q : Fin 1024 → EReal) (x : Fin 2048 → Fin 1024 → EReal) (k : Fin 1024) : EReal :=
  Ideal.div
    (∑ t, Ideal.exp ((∑ j, q j * x t j) * Ideal.ofBits FTy.f32 1040187392#32
      - Finset.fold max (Ideal.ofBits FTy.f32 4286578688#32) (fun t' => (∑ j, q j * x t' j) * Ideal.ofBits FTy.f32 1040187392#32) Finset.univ) * x t k)
    (∑ t, Ideal.exp ((∑ j, q j * x t j) * Ideal.ofBits FTy.f32 1040187392#32
      - Finset.fold max (Ideal.ofBits FTy.f32 4286578688#32) (fun t' => (∑ j, q j * x t' j) * Ideal.ofBits FTy.f32 1040187392#32) Finset.univ))

/-- The head outputs of the attention block, all heads side by side: column `d` belongs to head `d / 64`, whose
    query for slot `s` is row `64 * (d / 64) + s` of the folded queries. -/
def headsK (x0 : Vec Ideal S1x2048x1024 .f32) (x1 : Vec Ideal S1x1024x1024 .bf16) (x2 : Vec Ideal S1024x1024 .bf16) (x3 : Vec Ideal S1x1024 .f32)
    (s : Fin 64) (d : Fin 1024) : EReal :=
  ∑ k, mixK (fun j => x1 (ix3 0 ⟨64 * (d.val / 64) + s.val, by omega⟩ j)) (fun t j => x0 (ix3 0 t j)) k * x2 (ix2 d k) + x3 (ix2 0 d)

/-- The block the attention call writes, entry by entry, from the blocks it reads. -/
def attnK (x0 : Vec Ideal S1x2048x1024 .f32) (x1 : Vec Ideal S1x1024x1024 .bf16) (x2 : Vec Ideal S1024x1024 .bf16) (x3 : Vec Ideal S1x1024 .f32) (x4 : Vec Ideal S1024x1024 .bf16) (x5 : Vec Ideal S1x1024 .f32) (x6 : Vec Ideal S1024x1024 .bf16) (x7 : Vec Ideal S1x1024 .f32) (x8 : Vec Ideal S1x64x1 .f32) (x9 : Vec Ideal S1x64x32 .f32) (x10 : Vec Ideal S1x64x32 .f32) (x11 : Vec Ideal S2x1024 .f32)
    (s : Fin 64) (d : Fin 1024) : EReal :=
  (∑ x, (∑ j, headsK x0 x1 x2 x3 s j * x4 (ix2 x j) + x5 (ix2 0 x)) * x6 (ix2 d x) + x7 (ix2 0 d)) * x8 (ix3 0 s 0)
    + (Ideal.div (x9 (ix3 0 s 0)) (x9 (ix3 0 s 0) + x10 (ix3 0 s 0) + Ideal.ofBits FTy.f32 897988541#32) * x11 (ix2 0 d)
      + Ideal.div (x10 (ix3 0 s 0)) (x9 (ix3 0 s 0) + x10 (ix3 0 s 0) + Ideal.ofBits FTy.f32 897988541#32) * x11 (ix2 1 d))

theorem pay2_at (v0 : Vec Ideal S1x2048x1024 .f32) (v3 : Vec Ideal S1x1024x1024 .bf16) (r c : Fin 1024) :
    k1_pay2 v0 v3 (ix2 r c) = mixK (fun j => v3 (ix3 0 r j)) (fun t j => v0 (ix3 0 t j)) c := by
  unfold mixK
  pointwise [k1_pay2]

/-- The head outputs as an array of the scratch's shape. -/
def headsA (x0 : Vec Ideal S1x2048x1024 .f32) (x1 : Vec Ideal S1x1024x1024 .bf16) (x2 : Vec Ideal S1024x1024 .bf16) (x3 : Vec Ideal S1x1024 .f32)
    (i : S64x1024.Idx) : EReal := headsK x0 x1 x2 x3 (i 0) (i 1)

theorem headsA_of (x0 : Vec Ideal S1x2048x1024 .f32) (x1 : Vec Ideal S1x1024x1024 .bf16) (x2 : Vec Ideal S1024x1024 .bf16) (x3 : Vec Ideal S1x1024 .f32)
    (a : Fin 64) (n m : ℕ) (hn : n < 1024) (hm : m < 1024) (e : m = 64 * (n / 64) + a.val) :
    ∑ x, mixK (fun j => x1 (ix3 0 ⟨m, hm⟩ j)) (fun t j => x0 (ix3 0 t j)) x * x2 (ix2 ⟨n, hn⟩ x) + x3 (ix2 0 ⟨n, hn⟩)
      = headsA x0 x1 x2 x3 (ix2 a ⟨n, hn⟩) := by
  subst e
  rfl

/-- Where a head's store puts its entry `(a, b)`. -/
theorem emb_head (o : ℕ) (inb : ∀ a, (![0, o] : Fin 2 → ℕ) a + (![64, 64] : Fin 2 → ℕ) a ≤ S64x1024.size a) (a b : Fin 64) :
    (Rect.unit (s := S64x1024) ![0, o] ![64, 64] inb).emb (ix2 a b)
      = ix2 a ⟨o + b.val, by have h : o + 64 ≤ 1024 := inb 1; omega⟩ := by
  funext k
  apply Fin.ext
  match k with
  | ⟨0, _⟩ => show 0 + 1 * a.val = a.val; omega
  | ⟨1, _⟩ => show o + 1 * b.val = o + b.val; omega

set_option maxHeartbeats 2000000 in
/-- The scratch's pieces are the head outputs, each head at its own columns. -/
theorem heads_pieces (c : Dev nD) (i : grid1.Coords) (arg1 : Memref sig .tc .vmem S1x2048x1024 .f32) (harg1 : arg1.IsWhole) (arg2 : Memref sig .tc .vmem S1x1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x64x1 .f32) (harg9 : arg9.IsWhole) (arg10 : Memref sig .tc .vmem S1x64x32 .f32) (harg10 : arg10.IsWhole) (arg11 : Memref sig .tc .vmem S1x64x32 .f32) (harg11 : arg11.IsWhole) (arg12 : Memref sig .tc .vmem S2x1024 .f32) (harg12 : arg12.IsWhole) (arg13 : Memref sig .tc .vmem S1x64x1024 .f32) (harg13 : arg13.IsWhole) (arg14 : Memref sig .tc .vmem S64x1024 .f32) (harg14 : arg14.IsWhole)
    (x0 : Vec Ideal S1x2048x1024 .f32) (x1 : Vec Ideal S1x1024x1024 .bf16) (x2 : Vec Ideal S1024x1024 .bf16) (x3 : Vec Ideal S1x1024 .f32) (x4 : Vec Ideal S1024x1024 .bf16) (x5 : Vec Ideal S1x1024 .f32) (x6 : Vec Ideal S1024x1024 .bf16) (x7 : Vec Ideal S1x1024 .f32) (x8 : Vec Ideal S1x64x1 .f32) (x9 : Vec Ideal S1x64x32 .f32) (x10 : Vec Ideal S1x64x32 .f32) (x11 : Vec Ideal S2x1024 .f32) :
    ∀ p ∈ kernelRun1_A.sl.HS0_16 c arg1 harg1 arg2 harg2 arg3 harg3 arg4 harg4 x0 x1 x2 x3, ∀ x : p.1.shape.Idx,
      p.2 x = headsA x0 x1 x2 x3 (p.1.emb x) := by
  unfold kernelRun1_A.sl.HS0_16
  simp only [List.forall_mem_cons]
  refine ⟨?_, ?_, ?_, ?_, ?_, ?_, ?_, ?_, ?_, ?_, ?_, ?_, ?_, ?_, ?_, ?_, by simp⟩
  all_goals
    clear x4 x5 x6 x7 x8 x9 x10 x11
    intro x
    obtain ⟨a, b, rfl⟩ : ∃ (a : Fin 64) (b : Fin 64), x = ix2 a b := ⟨x 0, x 1, eq_ix2 x⟩
    rw [emb_head]
    try simp only [kernelRun1_A.sl.r, kernelRun1_A.sl.r_1, kernelRun1_A.sl.r_2, kernelRun1_A.sl.r_3, kernelRun1_A.sl.r_4, kernelRun1_A.sl.r_5, kernelRun1_A.sl.r_6]
    pointwise [k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, Memref.IsWhole.readAt_unread, pay2_at]
  · exact headsA_of x0 x1 x2 x3 a (960 + b.val) (960 + a.val) (by omega) (by omega) (by omega)
  · exact headsA_of x0 x1 x2 x3 a (896 + b.val) (896 + a.val) (by omega) (by omega) (by omega)
  · exact headsA_of x0 x1 x2 x3 a (832 + b.val) (832 + a.val) (by omega) (by omega) (by omega)
  · exact headsA_of x0 x1 x2 x3 a (768 + b.val) (768 + a.val) (by omega) (by omega) (by omega)
  · exact headsA_of x0 x1 x2 x3 a (704 + b.val) (704 + a.val) (by omega) (by omega) (by omega)
  · exact headsA_of x0 x1 x2 x3 a (640 + b.val) (640 + a.val) (by omega) (by omega) (by omega)
  · exact headsA_of x0 x1 x2 x3 a (576 + b.val) (576 + a.val) (by omega) (by omega) (by omega)
  · exact headsA_of x0 x1 x2 x3 a (512 + b.val) (512 + a.val) (by omega) (by omega) (by omega)
  · exact headsA_of x0 x1 x2 x3 a (448 + b.val) (448 + a.val) (by omega) (by omega) (by omega)
  · exact headsA_of x0 x1 x2 x3 a (384 + b.val) (384 + a.val) (by omega) (by omega) (by omega)
  · exact headsA_of x0 x1 x2 x3 a (320 + b.val) (320 + a.val) (by omega) (by omega) (by omega)
  · exact headsA_of x0 x1 x2 x3 a (256 + b.val) (256 + a.val) (by omega) (by omega) (by omega)
  · exact headsA_of x0 x1 x2 x3 a (192 + b.val) (192 + a.val) (by omega) (by omega) (by omega)
  · exact headsA_of x0 x1 x2 x3 a (128 + b.val) (128 + a.val) (by omega) (by omega) (by omega)
  · exact headsA_of x0 x1 x2 x3 a (64 + b.val) (64 + a.val) (by omega) (by omega) (by omega)
  · exact headsA_of x0 x1 x2 x3 a b.val a.val (by omega) (by omega) (by omega)

/-- The scratch as the output projection loads it: the head outputs. -/
theorem scratch_at (c : Dev nD) (i : grid1.Coords) (arg1 : Memref sig .tc .vmem S1x2048x1024 .f32) (harg1 : arg1.IsWhole) (arg2 : Memref sig .tc .vmem S1x1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x64x1 .f32) (harg9 : arg9.IsWhole) (arg10 : Memref sig .tc .vmem S1x64x32 .f32) (harg10 : arg10.IsWhole) (arg11 : Memref sig .tc .vmem S1x64x32 .f32) (harg11 : arg11.IsWhole) (arg12 : Memref sig .tc .vmem S2x1024 .f32) (harg12 : arg12.IsWhole) (arg13 : Memref sig .tc .vmem S1x64x1024 .f32) (harg13 : arg13.IsWhole) (arg14 : Memref sig .tc .vmem S64x1024 .f32) (harg14 : arg14.IsWhole)
    (x0 : Vec Ideal S1x2048x1024 .f32) (x1 : Vec Ideal S1x1024x1024 .bf16) (x2 : Vec Ideal S1024x1024 .bf16) (x3 : Vec Ideal S1x1024 .f32) (x4 : Vec Ideal S1024x1024 .bf16) (x5 : Vec Ideal S1x1024 .f32) (x6 : Vec Ideal S1024x1024 .bf16) (x7 : Vec Ideal S1x1024 .f32) (x8 : Vec Ideal S1x64x1 .f32) (x9 : Vec Ideal S1x64x32 .f32) (x10 : Vec Ideal S1x64x32 .f32) (x11 : Vec Ideal S2x1024 .f32) (s : Fin 64) (j : Fin 1024) :
    kernelRun1_A.sl.v182 c arg1 harg1 arg2 harg2 arg3 harg3 arg4 harg4 arg14 x0 x1 x2 x3 (ix2 s j) = headsK x0 x1 x2 x3 s j := by
  unfold kernelRun1_A.sl.v182
  rw [View.readCov_eq_canon']
  refine (View.canon_apply_of_pieces (headsA x0 x1 x2 x3) _ ?_ _ ?_).trans ?_
  · exact heads_pieces c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11
  · exact View.cover_of_tiledL (s := S64x1024) _ (![64, 64] : Fin 2 → ℕ) (by sl_kernel_rfl) _
  · show headsA x0 x1 x2 x3 _ = headsA x0 x1 x2 x3 (ix2 s j)
    congr 1
    funext k
    apply Fin.ext
    match k with
    | ⟨0, _⟩ => show 0 + 1 * s.val = s.val; omega
    | ⟨1, _⟩ => show 0 + 1 * j.val = j.val; omega

/-- What the attention call leaves in its output block, at an entry. -/
theorem out_at (c : Dev nD) (i : grid1.Coords) (arg1 : Memref sig .tc .vmem S1x2048x1024 .f32) (harg1 : arg1.IsWhole) (arg2 : Memref sig .tc .vmem S1x1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x64x1 .f32) (harg9 : arg9.IsWhole) (arg10 : Memref sig .tc .vmem S1x64x32 .f32) (harg10 : arg10.IsWhole) (arg11 : Memref sig .tc .vmem S1x64x32 .f32) (harg11 : arg11.IsWhole) (arg12 : Memref sig .tc .vmem S2x1024 .f32) (harg12 : arg12.IsWhole) (arg13 : Memref sig .tc .vmem S1x64x1024 .f32) (harg13 : arg13.IsWhole) (arg14 : Memref sig .tc .vmem S64x1024 .f32) (harg14 : arg14.IsWhole)
    (x0 : Vec Ideal S1x2048x1024 .f32) (x1 : Vec Ideal S1x1024x1024 .bf16) (x2 : Vec Ideal S1024x1024 .bf16) (x3 : Vec Ideal S1x1024 .f32) (x4 : Vec Ideal S1024x1024 .bf16) (x5 : Vec Ideal S1x1024 .f32) (x6 : Vec Ideal S1024x1024 .bf16) (x7 : Vec Ideal S1x1024 .f32) (x8 : Vec Ideal S1x64x1 .f32) (x9 : Vec Ideal S1x64x32 .f32) (x10 : Vec Ideal S1x64x32 .f32) (x11 : Vec Ideal S2x1024 .f32) (s : Fin 64) (d : Fin 1024) :
    out1_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 (ix3 0 s d) = attnK x0 x1 x2 x3 x4 x5 x6 x7 x8 x9 x10 x11 s d := by
  unfold out1_A_12
  rw [View.read_writes_junk_eq_canon]
  unfold kernelRun1_A
  dsimp only
  rw [View.canon_unit_zero (by decide)]
  pointwise [k1_pay1, kernelRun1_A.sl.r_9, k1_pay26, kernelRun1_A.sl.r_7, kernelRun1_A.sl.r_8, k1_pay24, k1_pay25, Memref.IsWhole.readAt_unread, attnK]
  simp only [scratch_at c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11]

end Cert.KernelIdeal.Whole
-- ==== Proof.Val.AttnCore.lean ====
module
public import proofs.«01_k».proof.Proof.Val.Attn
public import Idealize.ShloMosaic.Lib.IdealHost
@[expose] public section
noncomputable section
/-! Attention over real inputs: folding the key and value projections into the queries and the outputs changes nothing. -/
namespace Cert.Math
open Idealize.ShloMosaic

theorem coe_sum {ι : Type} (S : Finset ι) (f : ι → ℝ) : ((∑ i ∈ S, f i : ℝ) : EReal) = ∑ i ∈ S, (f i : EReal) := by
  classical
  induction S using Finset.induction_on with
  | empty => simp
  | insert a S h ih => rw [Finset.sum_insert h, Finset.sum_insert h, EReal.coe_add, ih]

/-- The maximum of real numbers from below everything is below everything or real. -/
theorem fold_max_or {ι : Type} (S : Finset ι) (f : ι → ℝ) :
    Finset.fold max (⊥ : EReal) (fun i => (f i : EReal)) S = ⊥ ∧ S = ∅ ∨ ∃ M : ℝ, Finset.fold max (⊥ : EReal) (fun i => (f i : EReal)) S = M := by
  classical
  induction S using Finset.induction_on with
  | empty => left; simp
  | insert a S h ih =>
    right
    rw [Finset.fold_insert h]
    rcases ih with ⟨ih, _⟩ | ⟨M, ih⟩
    · exact ⟨f a, by rw [ih]; simp⟩
    · exact ⟨max (f a) M, by rw [ih]; exact (EReal.coe_strictMono.monotone.map_max (a := f a) (b := M)).symm⟩

theorem fold_max_real {n : ℕ} [Nonempty (Fin n)] (f : Fin n → ℝ) :
    ∃ M : ℝ, Finset.fold max (⊥ : EReal) (fun i => (f i : EReal)) Finset.univ = M := by
  rcases fold_max_or Finset.univ f with ⟨_, h⟩ | h
  · exact absurd h (Finset.univ_nonempty (α := Fin n)).ne_empty
  · exact h

theorem neg_inf_eq : Ideal.ofBits FTy.f32 4286578688#32 = (⊥ : EReal) := by
  simp [Ideal.ofBits, Ideal.ieee]

theorem eighth_eq : Ideal.ofBits FTy.f32 1040187392#32 = ((1/8 : ℝ) : EReal) := by
  simp [Ideal.ofBits, Ideal.ieee]; rw [← EReal.coe_mul]; norm_num

/-- The softmax weight of a position, over the reals. -/
def sm {n : ℕ} (l : Fin n → ℝ) (t : Fin n) : ℝ := Real.exp (l t) / ∑ t', Real.exp (l t')

theorem sm_shift {n : ℕ} (l : Fin n → ℝ) (M : ℝ) (t : Fin n) : sm (fun t => l t - M) t = sm l t := by
  unfold sm
  simp only [Real.exp_sub]
  rw [← Finset.sum_div, div_div_div_cancel_right₀ (Real.exp_ne_zero M)]

theorem sum_exp_pos {n : ℕ} [Nonempty (Fin n)] (l : Fin n → ℝ) : 0 < ∑ t, Real.exp (l t) :=
  Finset.sum_pos (fun _ _ => Real.exp_pos _) Finset.univ_nonempty

theorem sm_sum {n : ℕ} [Nonempty (Fin n)] (l : Fin n → ℝ) : ∑ t, sm l t = 1 := by
  unfold sm
  rw [← Finset.sum_div, div_self (sum_exp_pos l).ne']

/-- A quotient of reals with a divisor that is not zero is the real quotient. -/
theorem div_real (a b : ℝ) (hb : b ≠ 0) : Ideal.div (a : EReal) (b : EReal) = ((a / b : ℝ) : EReal) := by
  rw [Ideal.div_coe hb, ← EReal.coe_mul, mul_one_div]

theorem exp_sub_real (a b : ℝ) : Ideal.exp ((a : EReal) - (b : EReal)) = ((Real.exp (a - b) : ℝ) : EReal) := by
  rw [← EReal.coe_sub, Ideal.exp_coe]

/-- A softmax average over reals, computed after taking away the largest score. -/
theorem soft_real {n : ℕ} [Nonempty (Fin n)] (l x : Fin n → ℝ) :
    Ideal.div (∑ t, Ideal.exp ((l t : EReal) - Finset.fold max (⊥ : EReal) (fun t => (l t : EReal)) Finset.univ) * (x t : EReal))
      (∑ t, Ideal.exp ((l t : EReal) - Finset.fold max (⊥ : EReal) (fun t => (l t : EReal)) Finset.univ))
      = ((∑ t, sm l t * x t : ℝ) : EReal) := by
  obtain ⟨M, hM⟩ := fold_max_real l
  rw [hM]
  simp only [exp_sub_real, ← EReal.coe_mul, ← coe_sum]
  rw [div_real _ _ (sum_exp_pos _).ne']
  congr 1
  rw [Finset.sum_div]
  refine Finset.sum_congr rfl fun t _ => ?_
  rw [← sm_shift l M]
  unfold sm
  ring

/-- The same average when each weight is divided first. -/
theorem soft_real' {n : ℕ} [Nonempty (Fin n)] (l x : Fin n → ℝ) :
    ∑ t, Ideal.div (Ideal.exp ((l t : EReal) - Finset.fold max (⊥ : EReal) (fun t => (l t : EReal)) Finset.univ))
      (∑ t, Ideal.exp ((l t : EReal) - Finset.fold max (⊥ : EReal) (fun t => (l t : EReal)) Finset.univ)) * (x t : EReal)
      = ((∑ t, sm l t * x t : ℝ) : EReal) := by
  obtain ⟨M, hM⟩ := fold_max_real l
  rw [hM]
  simp only [exp_sub_real, ← EReal.coe_mul, ← coe_sum]
  have hd : ∀ t, Ideal.div ((Real.exp (l t - M) : ℝ) : EReal) ((∑ t, Real.exp (l t - M) : ℝ) : EReal) = ((sm l t : ℝ) : EReal) := by
    intro t
    rw [div_real _ _ (sum_exp_pos _).ne', ← sm_shift l M]
    rfl
  simp only [hd, ← EReal.coe_mul, ← coe_sum]

/-- The attended row over real inputs: the softmax average of the rows. -/
theorem mixK_real (q : Fin 1024 → ℝ) (X : Fin 2048 → Fin 1024 → ℝ) (k : Fin 1024) :
    KernelIdeal.Whole.mixK (fun j => (q j : EReal)) (fun t j => (X t j : EReal)) k
      = ((∑ t, sm (fun t => (∑ j, q j * X t j) * (1/8)) t * X t k : ℝ) : EReal) := by
  unfold KernelIdeal.Whole.mixK
  simp only [neg_inf_eq, eighth_eq, ← EReal.coe_mul, ← coe_sum]
  exact soft_real (fun t => (∑ j, q j * X t j) * (1/8)) (fun t => X t k)

/-- Averaging with weights of sum one commutes with the value projection. -/
theorem value_fold {n m d : ℕ} (p : Fin n → ℝ) (hp : ∑ t, p t = 1) (X : Fin n → Fin m → ℝ) (W : Fin d → Fin m → ℝ)
    (bm v : Fin d → ℝ) (bv : ℝ) :
    (∑ k, (∑ t, p t * X t k) * (∑ e, v e * W e k)) + ((∑ e, bm e * v e) + bv)
      = ∑ t, p t * ((∑ e, ((∑ k, X t k * W e k) + bm e) * v e) + bv) := by
  have h1 : ∀ t, (∑ e, ((∑ k, X t k * W e k) + bm e) * v e) = (∑ k, X t k * ∑ e, v e * W e k) + ∑ e, bm e * v e := by
    intro t
    simp only [add_mul, Finset.sum_add_distrib, Finset.sum_mul, Finset.mul_sum]
    rw [Finset.sum_comm]
    congr 1
    exact Finset.sum_congr rfl fun k _ => Finset.sum_congr rfl fun e _ => by ring
  simp only [h1]
  simp only [mul_add, Finset.sum_add_distrib, ← Finset.sum_mul, hp, one_mul]
  rw [add_assoc]
  congr 1
  simp only [Finset.sum_mul, Finset.mul_sum]
  refine (Finset.sum_congr rfl fun k _ => Finset.sum_comm).trans ?_
  rw [Finset.sum_comm]
  exact Finset.sum_congr rfl fun t _ => Finset.sum_congr rfl fun k _ => Finset.sum_congr rfl fun e _ => by ring

/-- Folding the key projection into the query moves every score by the same amount. -/
theorem key_fold {h n m d : ℕ} (qh : Fin h → ℝ) (X : Fin n → Fin m → ℝ) (W : Fin d → Fin m → ℝ)
    (bm : Fin d → ℝ) (wk : Fin h → Fin d → ℝ) (bk : Fin h → ℝ) (t : Fin n) :
    ∑ e, qh e * ((∑ i, ((∑ k, X t k * W i k) + bm i) * wk e i) + bk e)
      = (∑ j, (∑ e, qh e * ∑ i, wk e i * W i j) * X t j) + ∑ e, qh e * ((∑ i, bm i * wk e i) + bk e) := by
  have h1 : ∀ e, (∑ i, ((∑ k, X t k * W i k) + bm i) * wk e i) = (∑ j, (∑ i, wk e i * W i j) * X t j) + ∑ i, bm i * wk e i := by
    intro e
    simp only [add_mul, Finset.sum_add_distrib, Finset.sum_mul]
    rw [Finset.sum_comm]
    congr 1
    exact Finset.sum_congr rfl fun k _ => Finset.sum_congr rfl fun i _ => by ring
  simp only [h1, add_assoc]
  simp only [mul_add, Finset.sum_add_distrib]
  congr 1
  simp only [Finset.sum_mul, Finset.mul_sum]
  rw [Finset.sum_comm]
  exact Finset.sum_congr rfl fun t _ => Finset.sum_congr rfl fun k _ => Finset.sum_congr rfl fun e _ => by ring
end Cert.Math
-- ==== Proof.Val.AttnEq.lean ====
module
public import proofs.«01_k».proof.Proof.Val.AttnCore
@[expose] public section
noncomputable section
/-! One head: the folded attention is the plain attention, over real inputs. -/
namespace Cert.Math
open Idealize.ShloMosaic

/-- The value is a real number. -/
def IsR (x : EReal) : Prop := ∃ r : ℝ, x = (r : EReal)

theorem IsR.add {x y : EReal} (hx : IsR x) (hy : IsR y) : IsR (x + y) := by
  obtain ⟨a, rfl⟩ := hx; obtain ⟨b, rfl⟩ := hy; exact ⟨a + b, (EReal.coe_add a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.sum {ι : Type} (S : Finset ι) (f : ι → EReal) (h : ∀ i, IsR (f i)) : IsR (∑ i ∈ S, f i) := by
  choose g hg using h
  exact ⟨∑ i ∈ S, g i, by rw [coe_sum]; exact Finset.sum_congr rfl fun i _ => hg i⟩
theorem isR_tanh (x : EReal) : IsR (Ideal.tanh x) := by
  induction x with
  | bot => exact ⟨-1, rfl⟩
  | top => exact ⟨1, rfl⟩
  | coe r => exact ⟨Real.tanh r, rfl⟩

theorem root_eq : Ideal.sqrt (Ideal.ofBits FTy.f32 1115684864#32) = ((8 : ℝ) : EReal) := by
  have e : Ideal.ofBits FTy.f32 1115684864#32 = ((64 : ℝ) : EReal) := by
    simp [Ideal.ofBits, Ideal.ieee]; rw [← EReal.coe_mul]; norm_num
  rw [e, Ideal.sqrt_coe, if_neg (by norm_num)]
  congr 1
  rw [show (64 : ℝ) = 8 ^ 2 by norm_num]
  exact Real.sqrt_sq (by norm_num)

/-- The plain scores of one head. -/
def logit (q : Fin 64 → EReal) (X : Fin 2048 → Fin 1024 → EReal) (W : Fin 1024 → Fin 1024 → EReal) (bm : Fin 1024 → EReal)
    (wk : Fin 64 → Fin 1024 → EReal) (bk : Fin 64 → EReal) (t : Fin 2048) : EReal :=
  Ideal.div (∑ e, q e * ((∑ i, ((∑ k, X t k * W i k) + bm i) * wk e i) + bk e)) (Ideal.sqrt (Ideal.ofBits FTy.f32 1115684864#32))

/-- The plain attention of one head, one output column. -/
def headR (L : Fin 2048 → EReal) (V : Fin 2048 → EReal) : EReal :=
  ∑ t, Ideal.div (Ideal.exp (L t - Finset.fold max (Ideal.ofBits FTy.f32 4286578688#32) L Finset.univ))
    (∑ t', Ideal.exp (L t' - Finset.fold max (Ideal.ofBits FTy.f32 4286578688#32) L Finset.univ)) * V t

/-- The two attentions agree when the inputs are real. -/
theorem attn_eq (q : Fin 64 → EReal) (X : Fin 2048 → Fin 1024 → EReal) (W : Fin 1024 → Fin 1024 → EReal) (bm : Fin 1024 → EReal)
    (wk : Fin 64 → Fin 1024 → EReal) (bk : Fin 64 → EReal) (wv : Fin 1024 → EReal) (bv : EReal)
    (hq : ∀ e, IsR (q e)) (hX : ∀ t j, IsR (X t j)) (hW : ∀ i j, IsR (W i j)) (hbm : ∀ i, IsR (bm i)) (hwk : ∀ e i, IsR (wk e i))
    (hbk : ∀ e, IsR (bk e)) (hwv : ∀ i, IsR (wv i)) (hbv : IsR bv) :
    (∑ k, KernelIdeal.Whole.mixK (fun j => ∑ e, q e * ∑ i, wk e i * W i j) X k * (∑ i, wv i * W i k)) + ((∑ e, bm e * wv e) + bv)
      = headR (logit q X W bm wk bk) (fun t => (∑ e, ((∑ k, X t k * W e k) + bm e) * wv e) + bv) := by
  choose q' hq using hq
  choose X' hX using hX
  choose W' hW using hW
  choose bm' hbm using hbm
  choose wk' hwk using hwk
  choose bk' hbk using hbk
  choose wv' hwv using hwv
  obtain ⟨bv', rfl⟩ := hbv
  obtain rfl : q = fun e => (q' e : EReal) := funext hq
  obtain rfl : X = fun t j => (X' t j : EReal) := funext fun t => funext (hX t)
  obtain rfl : W = fun t j => (W' t j : EReal) := funext fun t => funext (hW t)
  obtain rfl : bm = fun e => (bm' e : EReal) := funext hbm
  obtain rfl : wk = fun t j => (wk' t j : EReal) := funext fun t => funext (hwk t)
  obtain rfl : bk = fun e => (bk' e : EReal) := funext hbk
  obtain rfl : wv = fun e => (wv' e : EReal) := funext hwv
  have hL : logit (fun e => (q' e : EReal)) (fun t j => (X' t j : EReal)) (fun t j => (W' t j : EReal)) (fun e => (bm' e : EReal))
      (fun t j => (wk' t j : EReal)) (fun e => (bk' e : EReal))
      = fun t => (((∑ e, q' e * ((∑ i, ((∑ k, X' t k * W' i k) + bm' i) * wk' e i) + bk' e)) * (1/8) : ℝ) : EReal) := by
    funext t
    unfold logit
    rw [root_eq]
    simp only [← EReal.coe_mul, ← coe_sum, ← EReal.coe_add]
    rw [div_real _ _ (by norm_num)]
    congr 1
    ring
  rw [hL]
  unfold headR
  rw [neg_inf_eq]
  simp only [← EReal.coe_mul, ← coe_sum, ← EReal.coe_add]
  rw [soft_real' (fun t => (∑ e, q' e * ((∑ i, ((∑ k, X' t k * W' i k) + bm' i) * wk' e i) + bk' e)) * (1/8))
    (fun t => (∑ e, ((∑ k, X' t k * W' e k) + bm' e) * wv' e) + bv')]
  simp only [mixK_real, ← EReal.coe_mul, ← coe_sum, ← EReal.coe_add]
  congr 1
  have hs : sm (fun t => (∑ e, q' e * ((∑ i, ((∑ k, X' t k * W' i k) + bm' i) * wk' e i) + bk' e)) * (1/8))
      = sm (fun t => (∑ j, (∑ e, q' e * ∑ i, wk' e i * W' i j) * X' t j) * (1/8)) := by
    funext t
    rw [← sm_shift _ ((∑ e, q' e * ((∑ i, bm' i * wk' e i) + bk' e)) * (1/8)) t]
    congr 1
    funext t'
    rw [key_fold]
    ring
  rw [hs]
  exact value_fold _ (sm_sum _) X' W' bm' wv' bv'
end Cert.Math
-- ==== Proof.Val.Pre.lean ====
module
public import proofs.«01_k».proof.Proof.Gen.KernelIdeal.Skeleton
public import Idealize.ShloMosaic.Lib.Pointwise
@[expose] public section
set_option maxRecDepth 16384
noncomputable section
/-! The named values of the preparation body, as functions of the blocks it reads. -/
namespace Cert.KernelIdeal.Pre
open Idealize.ShloMosaic
open Cert.KernelIdeal.Gen

/-- Sixty-four rows of an array of 1024 rows, from row `o` on. -/
def rowsOf (wk : FVec Ideal S1024x1024 .bf16) (o : ℕ) (h : o ≤ 960) : FVec Ideal S64x1024 .bf16 :=
  fun j => wk (ix2 ⟨o + (j 0).val, by have := (j 0).isLt; simp at this; omega⟩ (j 1))

def ta (x10 : Vec Ideal S1024x1024 .bf16) := k0_pay8 (F := Ideal) x10
def t1 (x11 : Vec Ideal S1x1024 .f32) := k0_pay9 (F := Ideal) x11
def t2 (x12 : Vec Ideal S1024x1024 .bf16) := k0_pay10 (F := Ideal) x12
def t3 (x13 : Vec Ideal S1x1024 .f32) := k0_pay11 (F := Ideal) x13
def t4 (x1 : Vec Ideal S1x1x2048 .f32) := k0_pay12 (F := Ideal) x1
def t5 (x2 : Vec Ideal S1x1x64 .i32) := k0_pay13 (F := Ideal) x2
def t6 (x2 : Vec Ideal S1x1x64 .i32) := k0_pay14 (F := Ideal) x2
def t7 (x2 : Vec Ideal S1x1x64 .i32) := k0_pay15 (F := Ideal) x2
def t8 (x1 : Vec Ideal S1x1x2048 .f32) (x2 : Vec Ideal S1x1x64 .i32) := k0_pay17 (F := Ideal) x1 x2
def t9 (x2 : Vec Ideal S1x1x64 .i32) := k0_pay18 (F := Ideal) x2
def t10 (x2 : Vec Ideal S1x1x64 .i32) := k0_pay19 (F := Ideal) x2
def t11 (x1 : Vec Ideal S1x1x2048 .f32) (x2 : Vec Ideal S1x1x64 .i32) := k0_pay20 (F := Ideal) (t4 x1) (t7 x2) (t8 x1 x2)
def t12 (x2 : Vec Ideal S1x1x64 .i32) := k0_pay21 (t6 x2) k0_pay16 (t9 x2) (t10 x2) 2048#32
def t13 (x2 : Vec Ideal S1x1x64 .i32) := k0_pay22 (t7 x2)
def t14 (x1 : Vec Ideal S1x1x2048 .f32) := k0_pay23 (F := Ideal) (t4 x1)
def t15 (x2 : Vec Ideal S1x1x64 .i32) := k0_pay25 (t6 x2) (t12 x2)
def t16 (x1 : Vec Ideal S1x1x2048 .f32) (x2 : Vec Ideal S1x1x64 .i32) := k0_pay26 (F := Ideal) (t4 x1) (t7 x2) (t11 x1 x2) (t13 x2) (t14 x1) (k0_pay24 (F := Ideal))
def t17 (x2 : Vec Ideal S1x1x64 .i32) := k0_pay27 (t6 x2)
def t18 (x2 : Vec Ideal S1x1x64 .i32) := k0_pay28 (t6 x2)
def t19 (x1 : Vec Ideal S1x1x2048 .f32) (x2 : Vec Ideal S1x1x64 .i32) := k0_pay29 (F := Ideal) (t4 x1) (t7 x2) (t16 x1 x2)
def t20 (x2 : Vec Ideal S1x1x64 .i32) := k0_pay30 (t6 x2) (t15 x2) (t17 x2) (t18 x2) 2048#32
def t21 (x2 : Vec Ideal S1x1x64 .i32) := k0_pay31 (t7 x2)
def t22 (x1 : Vec Ideal S1x1x2048 .f32) := k0_pay32 (F := Ideal) (t4 x1)
def t23 (x2 : Vec Ideal S1x1x64 .i32) := k0_pay34 (t6 x2) (t20 x2)
def t24 (x1 : Vec Ideal S1x1x2048 .f32) (x2 : Vec Ideal S1x1x64 .i32) := k0_pay35 (F := Ideal) (t4 x1) (t7 x2) (t19 x1 x2) (t21 x2) (t22 x1) (k0_pay33 (F := Ideal))
def t25 (x2 : Vec Ideal S1x1x64 .i32) := k0_pay36 (t6 x2)
def t26 (x2 : Vec Ideal S1x1x64 .i32) := k0_pay37 (t6 x2)
def t27 (x1 : Vec Ideal S1x1x2048 .f32) (x2 : Vec Ideal S1x1x64 .i32) := k0_pay38 (F := Ideal) (t4 x1) (t7 x2) (t24 x1 x2)
def t28 (x2 : Vec Ideal S1x1x64 .i32) := k0_pay39 (t6 x2) (t23 x2) (t25 x2) (t26 x2) 2048#32
def t29 (x2 : Vec Ideal S1x1x64 .i32) := k0_pay40 (t7 x2)
def t30 (x1 : Vec Ideal S1x1x2048 .f32) := k0_pay41 (F := Ideal) (t4 x1)
def t31 (x2 : Vec Ideal S1x1x64 .i32) := k0_pay43 (t6 x2) (t28 x2)
def t32 (x1 : Vec Ideal S1x1x2048 .f32) (x2 : Vec Ideal S1x1x64 .i32) := k0_pay44 (F := Ideal) (t4 x1) (t7 x2) (t27 x1 x2) (t29 x2) (t30 x1) (k0_pay42 (F := Ideal))
def t33 (x2 : Vec Ideal S1x1x64 .i32) := k0_pay45 (t6 x2)
def t34 (x2 : Vec Ideal S1x1x64 .i32) := k0_pay46 (t6 x2)
def t35 (x1 : Vec Ideal S1x1x2048 .f32) (x2 : Vec Ideal S1x1x64 .i32) := k0_pay48 (F := Ideal) (t4 x1) (t6 x2) (t7 x2) (t31 x2) (t32 x1 x2) (t33 x2) (t34 x2) 2048#32
def t36 (x1 : Vec Ideal S1x1x2048 .f32) (x2 : Vec Ideal S1x1x64 .i32) := k0_pay49 (F := Ideal) (t4 x1) (t6 x2) (t7 x2) (t31 x2) (t32 x1 x2) (t33 x2) (t34 x2) 2048#32
def t37 (x1 : Vec Ideal S1x1x2048 .f32) (x2 : Vec Ideal S1x1x64 .i32) := k0_pay50 (F := Ideal) (t4 x1) (t5 x2) (t6 x2) (t7 x2) (t31 x2) (t32 x1 x2) (t33 x2) (t34 x2) 2048#32
def t38 (x1 : Vec Ideal S1x1x2048 .f32) (x2 : Vec Ideal S1x1x64 .i32) := k0_pay51 (F := Ideal) (t35 x1 x2) (t36 x1 x2)
def t39 (x0 : Vec Ideal S1x2048x512 .f32) (x1 : Vec Ideal S1x1x2048 .f32) (x2 : Vec Ideal S1x1x64 .i32) := k0_pay52 (F := Ideal) (t4 x1) (t37 x1 x2) x0
def t40 (x3 : Vec Ideal S1x1024x512 .bf16) := k0_pay53 (F := Ideal) x3
def t41 (x0 : Vec Ideal S1x2048x512 .f32) (x1 : Vec Ideal S1x1x2048 .f32) (x2 : Vec Ideal S1x1x64 .i32) (x3 : Vec Ideal S1x1024x512 .bf16) (x4 : Vec Ideal S1x1024 .f32) (x10 : Vec Ideal S1024x1024 .bf16) (x11 : Vec Ideal S1x1024 .f32) (x12 : Vec Ideal S1024x1024 .bf16) (x13 : Vec Ideal S1x1024 .f32) := k0_pay54 (F := Ideal) (ta x10) (t1 x11) (t2 x12) (t3 x13) (t39 x0 x1 x2) (t40 x3) (constant S32x1024 FTy.f32 0#32) x4
def t42 (x10 : Vec Ideal S1024x1024 .bf16) := k0_pay55 (F := Ideal) x10
def t43 (x11 : Vec Ideal S1x1024 .f32) := k0_pay56 (F := Ideal) x11
def t44 (x12 : Vec Ideal S1024x1024 .bf16) := k0_pay57 (F := Ideal) x12
def t45 (x13 : Vec Ideal S1x1024 .f32) := k0_pay58 (F := Ideal) x13
def t46 (x6 : Vec Ideal S1x1x2048 .f32) := k0_pay59 (F := Ideal) x6
def t47 (x7 : Vec Ideal S1x1x64 .i32) := k0_pay60 (F := Ideal) x7
def t48 (x7 : Vec Ideal S1x1x64 .i32) := k0_pay61 (F := Ideal) x7
def t49 (x7 : Vec Ideal S1x1x64 .i32) := k0_pay62 (F := Ideal) x7
def t50 (x7 : Vec Ideal S1x1x64 .i32) := k0_pay65 (F := Ideal) x7
def t51 (x6 : Vec Ideal S1x1x2048 .f32) := k0_pay66 (F := Ideal) x6
def t52 (x7 : Vec Ideal S1x1x64 .i32) := k0_pay68 (t48 x7) k0_pay64
def t53 (x6 : Vec Ideal S1x1x2048 .f32) (x7 : Vec Ideal S1x1x64 .i32) := k0_pay69 (F := Ideal) (t46 x6) (t49 x7) (k0_pay63 (F := Ideal)) (t50 x7) (t51 x6) (k0_pay67 (F := Ideal))
def t54 (x7 : Vec Ideal S1x1x64 .i32) := k0_pay70 (t48 x7)
def t55 (x7 : Vec Ideal S1x1x64 .i32) := k0_pay71 (t48 x7)
def t56 (x6 : Vec Ideal S1x1x2048 .f32) (x7 : Vec Ideal S1x1x64 .i32) := k0_pay72 (F := Ideal) (t46 x6) (t49 x7) (t53 x6 x7)
def t57 (x7 : Vec Ideal S1x1x64 .i32) := k0_pay73 (t48 x7) (t52 x7) (t54 x7) (t55 x7) 2048#32
def t58 (x7 : Vec Ideal S1x1x64 .i32) := k0_pay74 (t49 x7)
def t59 (x6 : Vec Ideal S1x1x2048 .f32) := k0_pay75 (F := Ideal) (t46 x6)
def t60 (x7 : Vec Ideal S1x1x64 .i32) := k0_pay77 (t48 x7) (t57 x7)
def t61 (x6 : Vec Ideal S1x1x2048 .f32) (x7 : Vec Ideal S1x1x64 .i32) := k0_pay78 (F := Ideal) (t46 x6) (t49 x7) (t56 x6 x7) (t58 x7) (t59 x6) (k0_pay76 (F := Ideal))
def t62 (x7 : Vec Ideal S1x1x64 .i32) := k0_pay79 (t48 x7)
def t63 (x7 : Vec Ideal S1x1x64 .i32) := k0_pay80 (t48 x7)
def t64 (x6 : Vec Ideal S1x1x2048 .f32) (x7 : Vec Ideal S1x1x64 .i32) := k0_pay81 (F := Ideal) (t46 x6) (t49 x7) (t61 x6 x7)
def t65 (x7 : Vec Ideal S1x1x64 .i32) := k0_pay82 (t48 x7) (t60 x7) (t62 x7) (t63 x7) 2048#32
def t66 (x7 : Vec Ideal S1x1x64 .i32) := k0_pay83 (t49 x7)
def t67 (x6 : Vec Ideal S1x1x2048 .f32) := k0_pay84 (F := Ideal) (t46 x6)
def t68 (x7 : Vec Ideal S1x1x64 .i32) := k0_pay86 (t48 x7) (t65 x7)
def t69 (x6 : Vec Ideal S1x1x2048 .f32) (x7 : Vec Ideal S1x1x64 .i32) := k0_pay87 (F := Ideal) (t46 x6) (t49 x7) (t64 x6 x7) (t66 x7) (t67 x6) (k0_pay85 (F := Ideal))
def t70 (x7 : Vec Ideal S1x1x64 .i32) := k0_pay88 (t48 x7)
def t71 (x7 : Vec Ideal S1x1x64 .i32) := k0_pay89 (t48 x7)
def t72 (x6 : Vec Ideal S1x1x2048 .f32) (x7 : Vec Ideal S1x1x64 .i32) := k0_pay90 (F := Ideal) (t46 x6) (t49 x7) (t69 x6 x7)
def t73 (x7 : Vec Ideal S1x1x64 .i32) := k0_pay91 (t48 x7) (t68 x7) (t70 x7) (t71 x7) 2048#32
def t74 (x7 : Vec Ideal S1x1x64 .i32) := k0_pay92 (t49 x7)
def t75 (x6 : Vec Ideal S1x1x2048 .f32) := k0_pay93 (F := Ideal) (t46 x6)
def t76 (x6 : Vec Ideal S1x1x2048 .f32) (x7 : Vec Ideal S1x1x64 .i32) := k0_pay96 (F := Ideal) (t46 x6) (t48 x7) (t49 x7) (t72 x6 x7) (t73 x7) (t74 x7) (t75 x6) (k0_pay94 (F := Ideal))
def t77 (x6 : Vec Ideal S1x1x2048 .f32) (x7 : Vec Ideal S1x1x64 .i32) := k0_pay97 (F := Ideal) (t46 x6) (t48 x7) (t49 x7) (t72 x6 x7) (t73 x7) (t74 x7) (t75 x6) (k0_pay94 (F := Ideal))
def t78 (x6 : Vec Ideal S1x1x2048 .f32) (x7 : Vec Ideal S1x1x64 .i32) := k0_pay99 (F := Ideal) (t76 x6 x7) (t77 x6 x7)
def t79 (x6 : Vec Ideal S1x1x2048 .f32) (x7 : Vec Ideal S1x1x64 .i32) := k0_pay100 (F := Ideal) (t46 x6) (t47 x7) (t77 x6 x7)
def t80 (x0 : Vec Ideal S1x2048x512 .f32) (x1 : Vec Ideal S1x1x2048 .f32) (x2 : Vec Ideal S1x1x64 .i32) (x3 : Vec Ideal S1x1024x512 .bf16) (x4 : Vec Ideal S1x1024 .f32) (x5 : Vec Ideal S1x2048x512 .f32) (x6 : Vec Ideal S1x1x2048 .f32) (x7 : Vec Ideal S1x1x64 .i32) (x8 : Vec Ideal S1x1024x512 .bf16) (x9 : Vec Ideal S1x1024 .f32) (x10 : Vec Ideal S1024x1024 .bf16) (x11 : Vec Ideal S1x1024 .f32) (x12 : Vec Ideal S1024x1024 .bf16) (x13 : Vec Ideal S1x1024 .f32) := k0_pay103 (F := Ideal) (t41 x0 x1 x2 x3 x4 x10 x11 x12 x13) (t42 x10) (t43 x11) (t44 x12) (t45 x13) (t79 x6 x7) x5 x8 x9
def t81 (x0 : Vec Ideal S1x2048x512 .f32) (x1 : Vec Ideal S1x1x2048 .f32) (x2 : Vec Ideal S1x1x64 .i32) (x3 : Vec Ideal S1x1024x512 .bf16) (x4 : Vec Ideal S1x1024 .f32) (x5 : Vec Ideal S1x2048x512 .f32) (x6 : Vec Ideal S1x1x2048 .f32) (x7 : Vec Ideal S1x1x64 .i32) (x8 : Vec Ideal S1x1024x512 .bf16) (x9 : Vec Ideal S1x1024 .f32) (x10 : Vec Ideal S1024x1024 .bf16) (x11 : Vec Ideal S1x1024 .f32) (x12 : Vec Ideal S1024x1024 .bf16) (x13 : Vec Ideal S1x1024 .f32) := k0_pay109 (F := Ideal) (t80 x0 x1 x2 x3 x4 x5 x6 x7 x8 x9 x10 x11 x12 x13)
def t82 (x0 : Vec Ideal S1x2048x512 .f32) (x1 : Vec Ideal S1x1x2048 .f32) (x2 : Vec Ideal S1x1x64 .i32) (x3 : Vec Ideal S1x1024x512 .bf16) (x4 : Vec Ideal S1x1024 .f32) (x5 : Vec Ideal S1x2048x512 .f32) (x6 : Vec Ideal S1x1x2048 .f32) (x7 : Vec Ideal S1x1x64 .i32) (x8 : Vec Ideal S1x1024x512 .bf16) (x9 : Vec Ideal S1x1024 .f32) (x10 : Vec Ideal S1024x1024 .bf16) (x11 : Vec Ideal S1x1024 .f32) (x12 : Vec Ideal S1024x1024 .bf16) (x13 : Vec Ideal S1x1024 .f32) (wk : FVec Ideal S1024x1024 .bf16) := k0_pay114 (F := Ideal) (t80 x0 x1 x2 x3 x4 x5 x6 x7 x8 x9 x10 x11 x12 x13) (rowsOf wk 576 (by omega))
def t83 (x0 : Vec Ideal S1x2048x512 .f32) (x1 : Vec Ideal S1x1x2048 .f32) (x2 : Vec Ideal S1x1x64 .i32) (x3 : Vec Ideal S1x1024x512 .bf16) (x4 : Vec Ideal S1x1024 .f32) (x5 : Vec Ideal S1x2048x512 .f32) (x6 : Vec Ideal S1x1x2048 .f32) (x7 : Vec Ideal S1x1x64 .i32) (x8 : Vec Ideal S1x1024x512 .bf16) (x9 : Vec Ideal S1x1024 .f32) (x10 : Vec Ideal S1024x1024 .bf16) (x11 : Vec Ideal S1x1024 .f32) (x12 : Vec Ideal S1024x1024 .bf16) (x13 : Vec Ideal S1x1024 .f32) (wk : FVec Ideal S1024x1024 .bf16) := k0_pay119 (F := Ideal) (t80 x0 x1 x2 x3 x4 x5 x6 x7 x8 x9 x10 x11 x12 x13) (rowsOf wk 832 (by omega))

end Cert.KernelIdeal.Pre
-- ==== Proof.Val.Math.lean ====
module
public import Idealize.ShloMosaic.PureOps.Ideal
public import Idealize.ShloMosaic.PureOps.ShapeOps
public import Idealize.ShloMosaic.Lib.SortPrefix
public import Idealize.ShloMosaic.Lib.Tactic.WordOmega
@[expose] public section
noncomputable section
/-! The spike pooling as plain mathematics: window means, the ranking of the spikes, Gaussian weights. -/
namespace Cert.Math
open Idealize.ShloMosaic

/-- The gate value `k` places into the seventeen-wide window centred on time `m`, zero past either end. -/
def tap (A : Fin 2048 → EReal) (m : ℕ) (k : Fin 17) : EReal :=
  if h : 8 ≤ m + k.val ∧ m + k.val < 2056 then A ⟨m + k.val - 8, by omega⟩ else 0

/-- How many of the window's places lie inside the sequence. -/
def cnt (m : ℕ) : ℕ := ∑ k : Fin 17, if 8 ≤ m + k.val ∧ m + k.val < 2056 then 1 else 0

/-- The mean gate value over the window centred on `m`. -/
def score (A : Fin 2048 → EReal) (m : ℕ) : EReal :=
  Ideal.div (∑ k, tap A m k) (((max (cnt m) 1 : ℕ) : ℝ) : EReal)

/-- How many positions come before `i` when the values are listed greatest first, ties by position. -/
def rk {n : ℕ} (s : Fin n → EReal) (i : Fin n) : ℕ :=
  ∑ j : Fin n, ((if s i < s j then 1 else 0) + (if s j = s i ∧ j < i then 1 else 0))

/-- `a` comes before `b`: a greater value, or the same value at a lower position. -/
def bef {n : ℕ} (s : Fin n → EReal) : Fin n → Fin n → Bool :=
  fun k k' => decide (s k' < s k) || (decide (s k = s k') && decide (k < k'))

theorem bef_total {n : ℕ} (s : Fin n → EReal) : StrictTotalBefore (bef s) := by
  refine StrictTotalBefore.of_key_then_position (fun a b : EReal => decide (b < a)) s ?_ ?_ ?_
  · intro a; simp
  · intro a b c h1 h2; simp only [decide_eq_true_eq] at *; exact h2.trans h1
  · intro a b; simp only [decide_eq_true_eq]
    rcases lt_trichotomy a b with h | h | h
    · exact Or.inr (Or.inr h)
    · exact Or.inr (Or.inl h)
    · exact Or.inl h

theorem stableSort_bef {n : ℕ} (s : Fin n → EReal) (l : List (Fin n)) (hl : l.Pairwise (· < ·)) :
    stableSort (fun k k' : Fin n => decide (s k' < s k)) l = stableSort (bef s) l := by
  induction l with
  | nil => rfl
  | cons a l ih =>
    rw [List.pairwise_cons] at hl
    unfold stableSort
    rw [ih hl.2]
    refine insertBefore_congr _ _ _ _ fun b hb => ?_
    have hb' : b ∈ l := (perm_stableSort _ l).mem_iff.mp hb
    have hab := hl.1 b hb'
    unfold bef
    have : decide (b < a) = false := decide_eq_false (not_lt.mpr hab.le)
    simp [this]

theorem sortedFrom_bef {n : ℕ} (s : Fin n → EReal) (r : Fin n) :
    sortedFrom (fun k k' : Fin n => decide (s k' < s k)) r = sortedFrom (bef s) r := by
  have h : sortPositions n (fun k k' : Fin n => decide (s k' < s k)) = sortPositions n (bef s) :=
    stableSort_bef s _ (List.pairwise_lt_finRange n)
  unfold sortedFrom
  rw [List.get_of_eq h]
  rfl

theorem rk_eq_card {n : ℕ} (s : Fin n → EReal) (i : Fin n) : rk s i = (Finset.univ.filter fun j => bef s j i = true).card := by
  unfold rk
  rw [Finset.card_filter]
  refine Finset.sum_congr rfl fun j _ => ?_
  unfold bef
  by_cases h1 : s i < s j
  · have : s j ≠ s i := ne_of_gt h1
    simp [h1, this]
  · simp [h1]

theorem rk_lt_of_bef {n : ℕ} (s : Fin n → EReal) (a b : Fin n) (h : bef s a b = true) : rk s a < rk s b := by
  rw [rk_eq_card, rk_eq_card]
  refine Finset.card_lt_card ⟨fun j hj => ?_, fun hs => ?_⟩
  · simp only [Finset.mem_filter, Finset.mem_univ, true_and] at hj ⊢
    exact (bef_total s).trans _ _ _ hj h
  · have : a ∈ Finset.univ.filter fun j => bef s j a = true := hs (by simp [h])
    simp only [Finset.mem_filter, Finset.mem_univ, true_and] at this
    rw [(bef_total s).irrefl a] at this
    exact absurd this (by decide)

theorem rk_lt {n : ℕ} (s : Fin n → EReal) (i : Fin n) : rk s i < n := by
  rw [rk_eq_card]
  have h : (Finset.univ.filter fun j => bef s j i = true) ⊂ (Finset.univ : Finset (Fin n)) := by
    refine ⟨Finset.filter_subset _ _, fun hs => ?_⟩
    have : i ∈ Finset.univ.filter fun j => bef s j i = true := hs (Finset.mem_univ i)
    simp only [Finset.mem_filter, Finset.mem_univ, true_and] at this
    rw [(bef_total s).irrefl i] at this
    exact absurd this (by decide)
  have h2 := Finset.card_lt_card h
  rwa [Finset.card_univ, Fintype.card_fin] at h2

theorem rk_inj {n : ℕ} (s : Fin n → EReal) (a b : Fin n) (h : rk s a = rk s b) : a = b := by
  by_contra hne
  rcases (bef_total s).total a b hne with h' | h'
  · exact absurd h (rk_lt_of_bef s a b h').ne
  · exact absurd h (rk_lt_of_bef s b a h').ne'

/-- The position listed `r`-th has exactly `r` positions before it. -/
theorem rk_sortedFrom {n : ℕ} (s : Fin n → EReal) (r : Fin n) :
    rk s (sortedFrom (fun k k' : Fin n => decide (s k' < s k)) r) = r.val := by
  have hf : Function.Injective (fun i => (⟨rk s i, rk_lt s i⟩ : Fin n)) := fun a b h => rk_inj s a b (congrArg Fin.val h)
  have hs := Finite.injective_iff_surjective.mp hf
  choose g hg using hs
  have hg' : ∀ i, rk s (g i) = i.val := fun i => congrArg Fin.val (hg i)
  have key := (bef_total s).sortedFrom_eq_of_prefix (le_refl n) g
    (fun a b h => Fin.ext (by rw [← hg' a, ← hg' b, h]))
    (fun i j hij => by
      by_contra hb
      have := rk_lt_of_bef s (g j) (g i) (by simpa using hb)
      rw [hg', hg'] at this
      exact absurd hij (by simpa using this.le))
    (fun i p hp => absurd (hf (hg ⟨rk s p, rk_lt s p⟩)) (hp _))
    r
  rw [sortedFrom_bef]
  have e : r.castLE (le_refl n) = r := rfl
  rw [e] at key
  rw [key, hg']

/-- The position of the `r`-th greatest value, ties by position. -/
def top (s : Fin 64 → EReal) (r : Fin 32) : Fin 64 :=
  sortedFrom (fun k k' : Fin 64 => decide (s k' < s k)) (r.castLE (by omega))

theorem rk_top (s : Fin 64 → EReal) (r : Fin 32) : rk s (top s r) = r.val :=
  rk_sortedFrom s _

theorem rk_iff (s : Fin 64 → EReal) (r : Fin 32) (i : Fin 64) : rk s i = r.val ↔ i = top s r := by
  constructor
  · intro h
    exact rk_inj s i _ (h.trans (rk_top s r).symm)
  · intro h; rw [h]; exact rk_top s r

end Cert.Math
-- ==== Proof.Val.Win.lean ====
module
public import proofs.«01_k».proof.Proof.Val.Math
public import Idealize.ShloMosaic.Lib.IdealHost
public import Idealize.ShloMosaic.Lib.Pointwise
@[expose] public section
noncomputable section
/-! The kernel's scans over the whole sequence are sums over the window. -/
namespace Cert.Math
open Idealize.ShloMosaic

/-- The gate value where the distance from `p` is `o`, as a sum over the whole sequence. -/
def tapK (A : Fin 2048 → EReal) (p o : BitVec 32) : EReal :=
  ∑ x : Fin 2048, Scalar.select (IntOp.cmpi .eq (IntOp.subi (BitVec.ofNat 32 ↑x) p) o) (A x) 0

/-- Whether `p` moved by `o` is inside the sequence, as a word. -/
def okK (p o : BitVec 32) : BitVec 32 :=
  BitVec.setWidth 32 (IntOp.andi (IntOp.cmpi .sge (IntOp.addi p o) 0#32) (IntOp.cmpi .slt (IntOp.addi p o) 2048#32))

theorem toInt_small (p : BitVec 32) (h : p.toNat < 2147483648) : p.toInt = p.toNat := by
  rw [BitVec.toInt_eq_toNat_cond, if_pos (by omega)]

theorem tapK_eq (A : Fin 2048 → EReal) (p : BitVec 32) (hp : p.toNat < 2048) (k : Fin 17) (o : BitVec 32)
    (ho : o.toNat = (4294967288 + k.val) % 4294967296) : tapK A p o = tap A p.toNat k := by
  have hk := k.isLt
  have key : ∀ x : Fin 2048, Scalar.select (IntOp.cmpi .eq (IntOp.subi (BitVec.ofNat 32 ↑x) p) o) (A x) 0
      = if x.val + 8 = p.toNat + k.val then A x else 0 := by
    intro x
    have hx := x.isLt
    have : (BitVec.ofNat 32 x.val - p = o) ↔ x.val + 8 = p.toNat + k.val := by
      rw [← BitVec.toNat_inj, BitVec.toNat_sub, BitVec.toNat_ofNat, ho]
      omega
    unfold Scalar.select IntOp.cmpi IntOp.subi
    by_cases h : BitVec.ofNat 32 x.val - p = o
    · rw [if_pos (this.mp h)]; simp [h]
    · rw [if_neg (fun h' => h (this.mpr h')), beq_eq_false_iff_ne.mpr h]; simp
  unfold tapK tap
  simp only [key]
  split_ifs with h
  · rw [Finset.sum_eq_single ⟨p.toNat + k.val - 8, by omega⟩]
    · rw [if_pos (by simp only; omega)]
    · intro b _ hb
      exact if_neg fun h' => hb (Fin.ext (by simp only; omega))
    · intro h'; exact absurd (Finset.mem_univ _) h'
  · refine Finset.sum_eq_zero fun x _ => if_neg fun h' => h ?_
    have := x.isLt
    omega

theorem cmpi_sge_iff (a b : BitVec 32) : IntOp.cmpi .sge a b = BitVec.ofBool (decide (b.toInt ≤ a.toInt)) := by
  unfold IntOp.cmpi; simp [BitVec.sle]
theorem cmpi_sle_iff (a b : BitVec 32) : IntOp.cmpi .sle a b = BitVec.ofBool (decide (a.toInt ≤ b.toInt)) := by
  unfold IntOp.cmpi; simp [BitVec.sle]
theorem cmpi_slt_iff (a b : BitVec 32) : IntOp.cmpi .slt a b = BitVec.ofBool (decide (a.toInt < b.toInt)) := by
  unfold IntOp.cmpi; simp [BitVec.slt]
theorem cmpi_eq_iff (a b : BitVec 32) : IntOp.cmpi .eq a b = BitVec.ofBool (decide (a = b)) := by
  unfold IntOp.cmpi; rfl
theorem andi_ofBool (a b : Bool) : IntOp.andi (BitVec.ofBool a) (BitVec.ofBool b) = BitVec.ofBool (a && b) := by
  cases a <;> cases b <;> rfl

theorem toInt_add_off (p o : BitVec 32) (hp : p.toNat < 2048) (k : Fin 17)
    (ho : o.toNat = (4294967288 + k.val) % 4294967296) : (p + o).toInt = (p.toNat : ℤ) + k.val - 8 := by
  have hk := k.isLt
  rw [BitVec.toInt_eq_toNat_cond, BitVec.toNat_add, ho]
  split_ifs <;> omega

theorem okK_eq (p : BitVec 32) (hp : p.toNat < 2048) (k : Fin 17) (o : BitVec 32)
    (ho : o.toNat = (4294967288 + k.val) % 4294967296) :
    okK p o = BitVec.ofNat 32 (if 8 ≤ p.toNat + k.val ∧ p.toNat + k.val < 2056 then 1 else 0) := by
  have h1 : (p + o).toInt = (p.toNat : ℤ) + k.val - 8 := toInt_add_off p o hp k ho
  unfold okK IntOp.addi
  rw [cmpi_sge_iff, cmpi_slt_iff, andi_ofBool, h1]
  have e0 : (0#32).toInt = 0 := by decide
  have e1 : (2048#32).toInt = 2048 := by decide
  rw [e0, e1]
  by_cases h : 8 ≤ p.toNat + k.val ∧ p.toNat + k.val < 2056
  · rw [if_pos h, decide_eq_true (by omega), decide_eq_true (by omega)]; decide
  · rw [if_neg h]
    by_cases h2 : 8 ≤ p.toNat + k.val
    · rw [decide_eq_true (by omega), decide_eq_false (p := (p.toNat : ℤ) + k.val - 8 < 2048) (by omega)]; decide
    · rw [decide_eq_false (p := (0:ℤ) ≤ (p.toNat : ℤ) + k.val - 8) (by omega), Bool.false_and]; decide

/-- The kernel's window total. -/
def accK (A : Fin 2048 → EReal) (p : BitVec 32) : EReal :=
  0 + tapK A p 4294967288#32 + tapK A p 4294967289#32 + tapK A p 4294967290#32 + tapK A p 4294967291#32
    + tapK A p 4294967292#32 + tapK A p 4294967293#32 + tapK A p 4294967294#32 + tapK A p 4294967295#32
    + tapK A p 0#32 + tapK A p 1#32 + tapK A p 2#32 + tapK A p 3#32 + tapK A p 4#32 + tapK A p 5#32
    + tapK A p 6#32 + tapK A p 7#32 + tapK A p 8#32

/-- The kernel's window count, a word. -/
def cntK (p : BitVec 32) : BitVec 32 :=
  IntOp.addi (IntOp.addi (IntOp.addi (IntOp.addi (IntOp.addi (IntOp.addi (IntOp.addi (IntOp.addi (IntOp.addi
  (IntOp.addi (IntOp.addi (IntOp.addi (IntOp.addi (IntOp.addi (IntOp.addi (IntOp.addi (IntOp.addi 0#32
    (okK p 4294967288#32)) (okK p 4294967289#32)) (okK p 4294967290#32)) (okK p 4294967291#32))
    (okK p 4294967292#32)) (okK p 4294967293#32)) (okK p 4294967294#32)) (okK p 4294967295#32))
    (okK p 0#32)) (okK p 1#32)) (okK p 2#32)) (okK p 3#32)) (okK p 4#32)) (okK p 5#32)) (okK p 6#32))
    (okK p 7#32)) (okK p 8#32)

/-- The kernel's window mean. -/
def scoreK (A : Fin 2048 → EReal) (p : BitVec 32) : EReal :=
  Ideal.div (accK A p) ((((IntOp.maxsi (cntK p) 1#32).toInt : ℝ)) : EReal)

theorem accK_eq (A : Fin 2048 → EReal) (p : BitVec 32) (hp : p.toNat < 2048) : accK A p = ∑ k, tap A p.toNat k := by
  unfold accK
  rw [tapK_eq A p hp 0 _ (by decide), tapK_eq A p hp 1 _ (by decide), tapK_eq A p hp 2 _ (by decide), tapK_eq A p hp 3 _ (by decide),
    tapK_eq A p hp 4 _ (by decide), tapK_eq A p hp 5 _ (by decide), tapK_eq A p hp 6 _ (by decide), tapK_eq A p hp 7 _ (by decide),
    tapK_eq A p hp 8 _ (by decide), tapK_eq A p hp 9 _ (by decide), tapK_eq A p hp 10 _ (by decide), tapK_eq A p hp 11 _ (by decide),
    tapK_eq A p hp 12 _ (by decide), tapK_eq A p hp 13 _ (by decide), tapK_eq A p hp 14 _ (by decide), tapK_eq A p hp 15 _ (by decide),
    tapK_eq A p hp 16 _ (by decide)]
  simp only [Fin.sum_univ_castSucc, Finset.univ_eq_empty, Finset.sum_empty]
  rfl

theorem cntK_eq (p : BitVec 32) (hp : p.toNat < 2048) : cntK p = BitVec.ofNat 32 (cnt p.toNat) := by
  unfold cntK
  rw [okK_eq p hp 0 _ (by decide), okK_eq p hp 1 _ (by decide), okK_eq p hp 2 _ (by decide), okK_eq p hp 3 _ (by decide),
    okK_eq p hp 4 _ (by decide), okK_eq p hp 5 _ (by decide), okK_eq p hp 6 _ (by decide), okK_eq p hp 7 _ (by decide),
    okK_eq p hp 8 _ (by decide), okK_eq p hp 9 _ (by decide), okK_eq p hp 10 _ (by decide), okK_eq p hp 11 _ (by decide),
    okK_eq p hp 12 _ (by decide), okK_eq p hp 13 _ (by decide), okK_eq p hp 14 _ (by decide), okK_eq p hp 15 _ (by decide),
    okK_eq p hp 16 _ (by decide)]
  have e : ∀ a b : ℕ, IntOp.addi (BitVec.ofNat 32 a) (BitVec.ofNat 32 b) = BitVec.ofNat 32 (a + b) :=
    fun a b => (BitVec.ofNat_add a b).symm
  rw [show (0#32) = BitVec.ofNat 32 0 from rfl]
  simp only [e]
  unfold cnt
  simp only [Fin.sum_univ_castSucc, Finset.univ_eq_empty, Finset.sum_empty]
  rfl

theorem cnt_le (m : ℕ) : cnt m ≤ 17 := by
  unfold cnt
  calc _ ≤ ∑ _k : Fin 17, 1 := Finset.sum_le_sum fun k _ => by split_ifs <;> omega
    _ = 17 := by simp

theorem scoreK_eq (A : Fin 2048 → EReal) (p : BitVec 32) (hp : p.toNat < 2048) : scoreK A p = score A p.toNat := by
  unfold scoreK score
  rw [accK_eq A p hp, cntK_eq p hp]
  have h := cnt_le p.toNat
  generalize cnt p.toNat = c at h
  congr 2
  interval_cases c <;> simp [IntOp.maxsi] <;> norm_num

theorem fold_ofNat {ι : Type} [DecidableEq ι] (S : Finset ι) (f : ι → ℕ) :
    S.fold IntOp.addi 0#32 (fun x => BitVec.ofNat 32 (f x)) = BitVec.ofNat 32 (∑ x ∈ S, f x) := by
  induction S using Finset.induction_on with
  | empty => rfl
  | insert a S ha ih =>
    rw [Finset.fold_insert ha, ih, Finset.sum_insert ha, BitVec.ofNat_add]; rfl

/-- The kernel's rank of position `i`, a word. -/
def rankK (s : Fin 64 → EReal) (i : Fin 64) : BitVec 32 :=
  Finset.fold IntOp.addi 0#32 (fun x : Fin 64 => IntOp.addi (BitVec.setWidth 32 (BitVec.ofBool (decide (s i < s x))))
    (BitVec.setWidth 32 (IntOp.andi (BitVec.ofBool (decide (s x = s i))) (IntOp.cmpi .slt (BitVec.ofNat 32 ↑x) (BitVec.ofNat 32 ↑i)))))
    Finset.univ

theorem toInt_ofNat_small (n : ℕ) (h : n < 2147483648) : (BitVec.ofNat 32 n).toInt = n := by
  rw [toInt_small _ (by rw [BitVec.toNat_ofNat]; omega), BitVec.toNat_ofNat]; omega

theorem rankK_eq (s : Fin 64 → EReal) (i : Fin 64) : rankK s i = BitVec.ofNat 32 (rk s i) := by
  unfold rankK rk
  rw [← fold_ofNat]
  congr 1
  funext x
  have hx := x.isLt
  have hi := i.isLt
  rw [cmpi_slt_iff, andi_ofBool, toInt_ofNat_small _ (by omega), toInt_ofNat_small _ (by omega)]
  have e : ((x.val : ℤ) < (i.val : ℤ)) ↔ x < i := by rw [Fin.lt_def]; omega
  unfold IntOp.addi
  by_cases h1 : s i < s x <;> by_cases h2 : s x = s i <;> by_cases h3 : x < i <;> simp [h1, h2, h3, e]

/-- Whether position `i` is the one ranked `r`, a word. -/
def selK (s : Fin 64 → EReal) (r : Fin 32) (i : Fin 64) : BitVec 32 :=
  BitVec.setWidth 32 (IntOp.cmpi .eq (rankK s i) (BitVec.ofNat 32 ↑r))

theorem selK_eq (s : Fin 64 → EReal) (r : Fin 32) (i : Fin 64) : selK s r i = BitVec.ofNat 32 (if i = top s r then 1 else 0) := by
  unfold selK
  rw [cmpi_eq_iff, rankK_eq]
  have h1 := rk_lt s i
  have h2 := r.isLt
  have e : (BitVec.ofNat 32 (rk s i) = BitVec.ofNat 32 r.val) ↔ i = top s r := by
    rw [← rk_iff, ← BitVec.toNat_inj, BitVec.toNat_ofNat, BitVec.toNat_ofNat]; omega
  by_cases h : i = top s r
  · rw [if_pos h, decide_eq_true (e.mpr h)]; decide
  · rw [if_neg h, decide_eq_false (fun h' => h (e.mp h'))]; decide

theorem fold_selK (s : Fin 64 → EReal) (r : Fin 32) (p : Fin 64 → BitVec 32) :
    Finset.fold IntOp.addi 0#32 (fun x => IntOp.muli (selK s r x) (p x)) Finset.univ = p (top s r) := by
  have h : (fun x => IntOp.muli (selK s r x) (p x)) = fun x => BitVec.ofNat 32 (if x = top s r then (p x).toNat else 0) := by
    funext x
    rw [selK_eq]
    unfold IntOp.muli
    split_ifs <;> simp
  rw [h, fold_ofNat, Finset.sum_ite_eq' Finset.univ (top s r) (fun x => (p x).toNat), if_pos (Finset.mem_univ _)]
  simp

theorem sum_selK (s : Fin 64 → EReal) (r : Fin 32) (v : Fin 64 → EReal) :
    ∑ x, (((selK s r x).toInt : ℝ) : EReal) * v x = v (top s r) := by
  rw [Finset.sum_eq_single (top s r)]
  · rw [selK_eq, if_pos rfl]; simp
  · intro b _ hb
    rw [selK_eq, if_neg hb]; simp
  · intro h; exact absurd (Finset.mem_univ _) h

/-- A sum over the sequence of what lies within eight places of `p` is a sum over the window. -/
theorem sum_window (m : ℕ) (F : Fin 2048 → EReal) (hm : m < 2048) :
    (∑ x : Fin 2048, if m ≤ x.val + 8 ∧ x.val ≤ m + 8 then F x else 0)
      = ∑ k : Fin 17, if h : 8 ≤ m + k.val ∧ m + k.val < 2056 then F ⟨m + k.val - 8, by omega⟩ else 0 := by
  rw [← Finset.sum_filter]
  have : ∀ k : Fin 17, (if h : 8 ≤ m + k.val ∧ m + k.val < 2056 then F ⟨m + k.val - 8, by omega⟩ else 0)
      = ∑ x : Fin 2048, if x.val + 8 = m + k.val then F x else 0 := by
    intro k
    split_ifs with h
    · rw [Finset.sum_eq_single ⟨m + k.val - 8, by omega⟩]
      · rw [if_pos (by simp only; omega)]
      · intro b _ hb
        exact if_neg fun h' => hb (Fin.ext (by simp only; omega))
      · intro h'; exact absurd (Finset.mem_univ _) h'
    · refine (Finset.sum_eq_zero fun x _ => if_neg fun h' => h ?_).symm
      have := x.isLt
      omega
  simp only [this]
  rw [Finset.sum_comm, Finset.sum_filter]
  refine Finset.sum_congr rfl fun x _ => ?_
  split_ifs with h
  · rw [Finset.sum_eq_single ⟨x.val + 8 - m, by omega⟩]
    · rw [if_pos (by simp only; omega)]
    · intro b _ hb
      exact if_neg fun h' => hb (Fin.ext (by simp only; omega))
    · intro h'; exact absurd (Finset.mem_univ _) h'
  · refine (Finset.sum_eq_zero fun k _ => if_neg fun h' => h ?_).symm
    have := k.isLt
    omega

/-- The Gaussian weight of the window's `k`-th place. -/
def wgt (k : Fin 17) : EReal := ((Real.exp (-(1/2) * (((k.val : ℝ) - 8) / 4) ^ 2) : ℝ) : EReal)

/-- The small number that keeps the divisions finite. -/
def eps : EReal := Ideal.ofBits .f32 897988541#32

/-- The window's Gaussian-weighted gate values in total, the small number added. -/
def den (A : Fin 2048 → EReal) (m : ℕ) : EReal := (∑ k, wgt k * tap A m k) + eps

/-- The weighted mean of `H` over the window centred on `m`. -/
def pool (A H : Fin 2048 → EReal) (m : ℕ) : EReal := ∑ k, Ideal.div (wgt k * tap A m k) (den A m) * tap H m k

theorem eps_eq : ∃ r : ℝ, 0 < r ∧ eps = (r : EReal) := by
  refine ⟨_, ?_, by unfold eps; simp [Ideal.ofBits, Ideal.ieee]; rfl⟩
  norm_num

theorem tap_nonneg (A : Fin 2048 → EReal) (hA : ∀ t, 0 ≤ A t) (m : ℕ) (k : Fin 17) : 0 ≤ tap A m k := by
  unfold tap; split_ifs
  · exact hA _
  · exact le_refl _

theorem wgt_nonneg (k : Fin 17) : 0 ≤ wgt k := by
  unfold wgt; exact_mod_cast (Real.exp_pos _).le

theorem den_pos (A : Fin 2048 → EReal) (hA : ∀ t, 0 ≤ A t) (m : ℕ) : 0 < den A m := by
  unfold den
  have h1 : 0 ≤ ∑ k, wgt k * tap A m k := Finset.sum_nonneg fun k _ => mul_nonneg (wgt_nonneg k) (tap_nonneg A hA m k)
  obtain ⟨r, hr, he⟩ := eps_eq
  rw [he]
  exact lt_of_lt_of_le (by exact_mod_cast hr) (le_add_of_nonneg_left h1)

/-- The kernel's Gaussian weight at time `x` for centre `p`, zero outside the window. -/
def wK (A : Fin 2048 → EReal) (p : BitVec 32) (x : Fin 2048) : EReal :=
  Scalar.select (IntOp.andi (IntOp.cmpi .sge (IntOp.subi (BitVec.ofNat 32 ↑x) p) 4294967288#32)
      (IntOp.cmpi .sle (IntOp.subi (BitVec.ofNat 32 ↑x) p) 8#32))
    (Ideal.exp (Ideal.ofBits .f32 3204448256#32 * ((((IntOp.subi (BitVec.ofNat 32 ↑x) p).toInt : ℝ) : EReal) * Ideal.ofBits .f32 1048576000#32)
      * ((((IntOp.subi (BitVec.ofNat 32 ↑x) p).toInt : ℝ) : EReal) * Ideal.ofBits .f32 1048576000#32)) * A x) 0

theorem toInt_sub_small (x : Fin 2048) (p : BitVec 32) (hp : p.toNat < 2048) :
    (BitVec.ofNat 32 x.val - p).toInt = (x.val : ℤ) - p.toNat := by
  have hx := x.isLt
  rw [BitVec.toInt_eq_toNat_cond, BitVec.toNat_sub, BitVec.toNat_ofNat]
  split_ifs <;> omega

theorem half_eq : Ideal.ofBits .f32 3204448256#32 = ((-(1/2) : ℝ) : EReal) := by
  simp [Ideal.ofBits, Ideal.ieee]; rw [← EReal.coe_mul]; norm_num
theorem quarter_eq : Ideal.ofBits .f32 1048576000#32 = ((1/4 : ℝ) : EReal) := by
  simp [Ideal.ofBits, Ideal.ieee]; rw [← EReal.coe_mul]; norm_num

/-- The Gaussian weight at time `x` for centre `m`. -/
def wAt (m : ℕ) (x : Fin 2048) : EReal := ((Real.exp (-(1/2) * (((x.val : ℝ) - m) / 4) ^ 2) : ℝ) : EReal)

theorem wK_eq (A : Fin 2048 → EReal) (p : BitVec 32) (hp : p.toNat < 2048) (x : Fin 2048) :
    wK A p x = if p.toNat ≤ x.val + 8 ∧ x.val ≤ p.toNat + 8 then wAt p.toNat x * A x else 0 := by
  unfold wK IntOp.subi
  rw [cmpi_sge_iff, cmpi_sle_iff, andi_ofBool, toInt_sub_small x p hp, half_eq, quarter_eq]
  have e0 : (4294967288#32).toInt = -8 := by decide
  have e1 : (8#32).toInt = 8 := by decide
  rw [e0, e1]
  have ec : (decide ((-8:ℤ) ≤ (x.val : ℤ) - p.toNat) && decide ((x.val : ℤ) - p.toNat ≤ 8)) = decide (p.toNat ≤ x.val + 8 ∧ x.val ≤ p.toNat + 8) := by
    rw [← Bool.decide_and]; congr 1; exact propext ⟨fun h => by omega, fun h => by omega⟩
  rw [ec]
  have ew : Ideal.exp (((-(1/2) : ℝ) : EReal) * (((((x.val : ℤ) - p.toNat : ℤ) : ℝ) : EReal) * ((1/4 : ℝ) : EReal))
      * (((((x.val : ℤ) - p.toNat : ℤ) : ℝ) : EReal) * ((1/4 : ℝ) : EReal))) = wAt p.toNat x := by
    unfold wAt
    rw [← EReal.coe_mul, ← EReal.coe_mul, ← EReal.coe_mul, Ideal.exp_coe]
    congr 2
    push_cast
    ring
  rw [ew]
  unfold Scalar.select
  by_cases h : p.toNat ≤ x.val + 8 ∧ x.val ≤ p.toNat + 8
  · rw [if_pos h, decide_eq_true h]; rfl
  · rw [if_neg h, decide_eq_false h]; rfl

theorem wAt_win (A : Fin 2048 → EReal) (m : ℕ) (k : Fin 17) :
    (if h : 8 ≤ m + k.val ∧ m + k.val < 2056 then wAt m ⟨m + k.val - 8, by omega⟩ * A ⟨m + k.val - 8, by omega⟩ else 0)
      = wgt k * tap A m k := by
  unfold tap
  split_ifs with h
  · congr 1
    unfold wAt wgt
    congr 4
    simp only
    rw [Nat.cast_sub (by omega)]
    push_cast
    ring
  · rw [mul_zero]

theorem sum_wK (A : Fin 2048 → EReal) (p : BitVec 32) (hp : p.toNat < 2048) :
    (∑ x, wK A p x) = ∑ k, wgt k * tap A p.toNat k := by
  simp only [wK_eq A p hp]
  rw [sum_window _ (fun x => wAt p.toNat x * A x) hp]
  exact Finset.sum_congr rfl fun k _ => wAt_win A _ k

/-- The kernel's pooled feature is the window's weighted mean. -/
theorem poolK_eq (A H : Fin 2048 → EReal) (hA : ∀ t, 0 ≤ A t) (p : BitVec 32) (hp : p.toNat < 2048) :
    (∑ x, Ideal.div (wK A p x) ((∑ y, wK A p y) + eps) * H x) = pool A H p.toNat := by
  rw [sum_wK A p hp]
  have hd : den A p.toNat ≠ 0 := (den_pos A hA _).ne'
  have hz : Ideal.div 0 (den A p.toNat) = 0 := by unfold Ideal.div; rw [if_neg hd, zero_mul]
  change (∑ x, Ideal.div (wK A p x) (den A p.toNat) * H x) = _
  have : ∀ x : Fin 2048, Ideal.div (wK A p x) (den A p.toNat) * H x
      = if p.toNat ≤ x.val + 8 ∧ x.val ≤ p.toNat + 8 then Ideal.div (wAt p.toNat x * A x) (den A p.toNat) * H x else 0 := by
    intro x
    rw [wK_eq A p hp]
    split_ifs
    · rfl
    · rw [hz, zero_mul]
  simp only [this]
  rw [sum_window _ (fun x => Ideal.div (wAt p.toNat x * A x) (den A p.toNat) * H x) hp]
  unfold pool
  refine Finset.sum_congr rfl fun k _ => ?_
  rw [← wAt_win A]
  unfold tap
  split_ifs with h
  · rfl
  · rw [mul_zero]

end Cert.Math
-- ==== Proof.Val.Score.lean ====
module
public import proofs.«01_k».proof.Proof.Val.Pre
public import proofs.«01_k».proof.Proof.Val.Win
@[expose] public section
set_option maxRecDepth 16384
noncomputable section
/-! The preparation body's named values at an index. -/
namespace Cert.KernelIdeal.Pre
open Idealize.ShloMosaic
open Cert.KernelIdeal.Gen Cert.Math

/-- A gate row, as a function of time. -/
def row (x : Vec Ideal S1x1x2048 .f32) (t : Fin 2048) : EReal := x (ix3 0 0 t)
/-- The scores of the spikes. -/
def scs (x1 : Vec Ideal S1x1x2048 .f32) (x2 : Vec Ideal S1x1x64 .i32) (i : Fin 64) : EReal := scoreK (row x1) (x2 (ix3 0 0 i))

set_option maxHeartbeats 4000000 in
theorem t35_at (x1 : Vec Ideal S1x1x2048 .f32) (x2 : Vec Ideal S1x1x64 .i32) (i : Fin 64) : t35 x1 x2 (ix2 0 i) = scs x1 x2 i := by
  unfold t35 t34 t33 t32 t31 t30 t29 t28 t27 t26 t25 t24 t23 t22 t21 t20 t19 t18 t17 t16 t15 t14 t13 t12 t11 t10 t9 t8 t7 t6 t4
  pointwise [k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12]
  unfold scs scoreK accK
  rw [zero_add]
  refine congr (congrArg _ ?_) ?_
  · unfold tapK row;
    rfl
  · rfl

set_option maxHeartbeats 4000000 in
theorem col_at (x1 : Vec Ideal S1x1x2048 .f32) (x2 : Vec Ideal S1x1x64 .i32) (i : Fin 64) :
    k0_pay47 (F := Ideal) (t4 x1) (t6 x2) (t7 x2) (t31 x2) (t32 x1 x2) (t33 x2) (t34 x2) 2048#32 (ix2 i 0) = scs x1 x2 i := by
  rw [← t35_at]
  unfold t35
  pointwise [k0_pay48]

theorem t36_at (x1 : Vec Ideal S1x1x2048 .f32) (x2 : Vec Ideal S1x1x64 .i32) (r : Fin 32) (i : Fin 64) :
    t36 x1 x2 (ix2 r i) = selK (scs x1 x2) r i := by
  unfold t36
  pointwise [k0_pay49, k0_pay48]
  simp only [col_at]
  rfl

theorem t37_at (x1 : Vec Ideal S1x1x2048 .f32) (x2 : Vec Ideal S1x1x64 .i32) (r : Fin 32) (i : Fin 64) :
    t37 x1 x2 (ix2 r i) = IntOp.muli (selK (scs x1 x2) r i) (x2 (ix3 0 0 i)) := by
  have h := t36_at x1 x2 r i
  unfold t36 at h
  unfold t37 t5
  pointwise [k0_pay50, k0_pay13]
  rw [h]

theorem t38_at (x1 : Vec Ideal S1x1x2048 .f32) (x2 : Vec Ideal S1x1x64 .i32) (r : Fin 32) :
    t38 x1 x2 (ix2 r 0) = Ideal.logistic (Ideal.ofBits .f32 1073741824#32 * scs x1 x2 (top (scs x1 x2) r)) := by
  unfold t38
  pointwise [k0_pay51]
  simp only [t36_at, t35_at]
  rw [← sum_selK (scs x1 x2) r (scs x1 x2)]
  rfl

theorem t39_at (x0 : Vec Ideal S1x2048x512 .f32) (x1 : Vec Ideal S1x1x2048 .f32) (x2 : Vec Ideal S1x1x64 .i32) (r : Fin 32) (c : Fin 512) :
    t39 x0 x1 x2 (ix2 r c) = ∑ x, Ideal.div (wK (row x1) (x2 (ix3 0 0 (top (scs x1 x2) r))) x)
      ((∑ y, wK (row x1) (x2 (ix3 0 0 (top (scs x1 x2) r))) y) + eps) * x0 (ix3 0 x c) := by
  unfold t39 t4
  pointwise [k0_pay52, k0_pay12]
  simp only [t37_at]
  rw [fold_selK (scs x1 x2) r (fun i => x2 (ix3 0 0 i))]
  rfl

/-- A query row: the pooled features through the seed, the bounded query and the attention's query projections. -/
def qrow (z : Fin 512 → EReal) (wkv : Fin 1024 → Fin 512 → EReal) (bkv : Fin 1024 → EReal) (wq : Fin 1024 → Fin 1024 → EReal)
    (bq : Fin 1024 → EReal) (wqi : Fin 1024 → Fin 1024 → EReal) (bqi : Fin 1024 → EReal) (e : Fin 1024) : EReal :=
  ∑ d, Ideal.tanh (∑ d', (∑ c, z c * wkv d' c + bkv d') * wq d d' + bq d) * wqi e d + bqi e

/-- The kernel's pooled features of the spike ranked `r`. -/
def zK (x0 : Vec Ideal S1x2048x512 .f32) (x1 : Vec Ideal S1x1x2048 .f32) (x2 : Vec Ideal S1x1x64 .i32) (r : Fin 32) (c : Fin 512) : EReal :=
  ∑ x, Ideal.div (wK (row x1) (x2 (ix3 0 0 (top (scs x1 x2) r))) x)
      ((∑ y, wK (row x1) (x2 (ix3 0 0 (top (scs x1 x2) r))) y) + eps) * x0 (ix3 0 x c)

theorem t41_at (x0 : Vec Ideal S1x2048x512 .f32) (x1 : Vec Ideal S1x1x2048 .f32) (x2 : Vec Ideal S1x1x64 .i32) (x3 : Vec Ideal S1x1024x512 .bf16) (x4 : Vec Ideal S1x1024 .f32) (x10 : Vec Ideal S1024x1024 .bf16) (x11 : Vec Ideal S1x1024 .f32) (x12 : Vec Ideal S1024x1024 .bf16) (x13 : Vec Ideal S1x1024 .f32) (r : Fin 32) (e : Fin 1024) :
    t41 x0 x1 x2 x3 x4 x10 x11 x12 x13 (ix2 r e) = qrow (zK x0 x1 x2 r) (fun d c => x3 (ix3 0 d c)) (fun d => x4 (ix2 0 d))
      (fun d d' => x10 (ix2 d d')) (fun d => x11 (ix2 0 d)) (fun d d' => x12 (ix2 d d')) (fun d => x13 (ix2 0 d)) e := by
  unfold t41 ta t1 t2 t3 t40
  pointwise [k0_pay54, k0_pay8, k0_pay9, k0_pay10, k0_pay11, k0_pay53]
  simp only [t39_at]
  rfl

theorem t76_eq (x1 : Vec Ideal S1x1x2048 .f32) (x2 : Vec Ideal S1x1x64 .i32) : t76 x1 x2 = t35 x1 x2 := rfl
theorem t78_eq (x1 : Vec Ideal S1x1x2048 .f32) (x2 : Vec Ideal S1x1x64 .i32) : t78 x1 x2 = t38 x1 x2 := rfl
theorem pay98_eq (x1 : Vec Ideal S1x1x2048 .f32) (x2 : Vec Ideal S1x1x64 .i32) : k0_pay98 (t77 x1 x2) = t36 x1 x2 := rfl

theorem t79_at (x1 : Vec Ideal S1x1x2048 .f32) (x2 : Vec Ideal S1x1x64 .i32) (r : Fin 32) (x : Fin 2048) :
    t79 x1 x2 (ix2 r x) = Ideal.div (wK (row x1) (x2 (ix3 0 0 (top (scs x1 x2) r))) x)
      ((∑ y, wK (row x1) (x2 (ix3 0 0 (top (scs x1 x2) r))) y) + eps)  := by
  unfold t79 t46 t47
  pointwise [k0_pay100, k0_pay59, k0_pay60]
  simp only [pay98_eq, t36_at]
  rw [fold_selK (scs x1 x2) r (fun i => x2 (ix3 0 0 i))]
  rfl

theorem t80_at (x0 : Vec Ideal S1x2048x512 .f32) (x1 : Vec Ideal S1x1x2048 .f32) (x2 : Vec Ideal S1x1x64 .i32) (x3 : Vec Ideal S1x1024x512 .bf16) (x4 : Vec Ideal S1x1024 .f32) (x5 : Vec Ideal S1x2048x512 .f32) (x6 : Vec Ideal S1x1x2048 .f32) (x7 : Vec Ideal S1x1x64 .i32) (x8 : Vec Ideal S1x1024x512 .bf16) (x9 : Vec Ideal S1x1024 .f32) (x10 : Vec Ideal S1024x1024 .bf16) (x11 : Vec Ideal S1x1024 .f32) (x12 : Vec Ideal S1024x1024 .bf16) (x13 : Vec Ideal S1x1024 .f32) (r : Fin 64) (e : Fin 1024) :
    t80 x0 x1 x2 x3 x4 x5 x6 x7 x8 x9 x10 x11 x12 x13 (ix2 r e) =
      if h : r.val < 32 then qrow (zK x0 x1 x2 ⟨r.val, h⟩) (fun d c => x3 (ix3 0 d c)) (fun d => x4 (ix2 0 d))
        (fun d d' => x10 (ix2 d d')) (fun d => x11 (ix2 0 d)) (fun d d' => x12 (ix2 d d')) (fun d => x13 (ix2 0 d)) e
      else qrow (zK x5 x6 x7 ⟨r.val - 32, by omega⟩) (fun d c => x8 (ix3 0 d c)) (fun d => x9 (ix2 0 d))
        (fun d d' => x10 (ix2 d d')) (fun d => x11 (ix2 0 d)) (fun d d' => x12 (ix2 d d')) (fun d => x13 (ix2 0 d)) e := by
  unfold t80 t42 t43 t44 t45
  pointwise [k0_pay103, k0_pay55, k0_pay56, k0_pay57, k0_pay58]
  simp only [t41_at, t79_at]
  rfl

end Cert.KernelIdeal.Pre
-- ==== Proof.Val.Canon.lean ====
module
public import proofs.«01_k».proof.Proof.Val.AttnEq
public import proofs.«01_k».proof.Proof.Val.Score
@[expose] public section
noncomputable section
/-! The result of one track, as a formula both programs reach. -/
namespace Cert.Math
open Idealize.ShloMosaic

/-- The time of the spike with the `r`-th greatest score. -/
def spk (A : Fin 2048 → EReal) (p : Fin 64 → BitVec 32) (r : Fin 32) : ℕ :=
  (p (top (fun i => score A (p i).toNat) r)).toNat

/-- The query row of that spike. -/
def qv (A : Fin 2048 → EReal) (H : Fin 2048 → Fin 512 → EReal) (p : Fin 64 → BitVec 32)
    (wkv : Fin 1024 → Fin 512 → EReal) (bkv : Fin 1024 → EReal) (wq : Fin 1024 → Fin 1024 → EReal) (bq : Fin 1024 → EReal)
    (ipw : Fin 3072 → Fin 1024 → EReal) (ipb : Fin 3072 → EReal) (r : Fin 32) (e : Fin 1024) : EReal :=
  KernelIdeal.Pre.qrow (fun c => pool A (fun t => H t c) (spk A p r)) wkv bkv wq bq
    (fun e j => ipw ⟨e.val, by omega⟩ j) (fun e => ipb ⟨e.val, by omega⟩) e

/-- The gate of that spike. -/
def gt (A : Fin 2048 → EReal) (p : Fin 64 → BitVec 32) (r : Fin 32) : EReal :=
  Ideal.logistic (Ideal.ofBits .f32 1073741824#32 * score A (spk A p r))

/-- One column of the attended row, plainly computed. -/
def hd (q : Fin 1024 → EReal) (X : Fin 2048 → Fin 1024 → EReal) (W : Fin 1024 → Fin 1024 → EReal) (bm : Fin 1024 → EReal)
    (ipw : Fin 3072 → Fin 1024 → EReal) (ipb : Fin 3072 → EReal) (j : Fin 1024) : EReal :=
  headR (logit (fun e => q ⟨j.val / 64 * 64 + e.val, by omega⟩) X W bm (fun e i => ipw ⟨1024 + (j.val / 64 * 64 + e.val), by omega⟩ i)
      (fun e => ipb ⟨1024 + (j.val / 64 * 64 + e.val), by omega⟩))
    (fun t => (∑ e, ((∑ k, X t k * W e k) + bm e) * ipw ⟨2048 + j.val, by omega⟩ e) + ipb ⟨2048 + j.val, by omega⟩)

/-- A row through both output projections. -/
def outp (h : Fin 1024 → EReal) (opw : Fin 1024 → Fin 1024 → EReal) (opb : Fin 1024 → EReal) (wo : Fin 1024 → Fin 1024 → EReal)
    (bo : Fin 1024 → EReal) (d : Fin 1024) : EReal := (∑ x, ((∑ j, h j * opw x j) + opb x) * wo d x) + bo d

end Cert.Math
-- ==== Proof.Val.PrepEq.lean ====
module
public import proofs.«01_k».proof.Proof.KernelIdealRun.Prep
public import proofs.«01_k».proof.Proof.Val.Score
public import Idealize.ShloMosaic.Lib.WholeRead
@[expose] public section
set_option maxRecDepth 16384
noncomputable section
/-! The preparation body's named values are the functions of the blocks it reads. -/
namespace Cert.KernelIdeal.Whole
open Idealize.ShloMosaic Idealize.ShloMosaic.TcCoe Idealize.ShloMosaic.Tactic
open Cert.KernelIdeal.Gen

theorem rd_S1024x1024 {e : EltTy} (m : Memref sig .tc .vmem S1024x1024 e) (h : m.IsWhole) (X : S1024x1024.Idx → Elt Ideal e) :
    View.readAt (Elt Ideal) m.view (Rect.unit (s := S1024x1024) ![0, 0] S1024x1024.size inb_S1024x1024_S1024x1024_0_0).toLoadRect (h.unread X) = X := by
  funext x
  rw [h.readAt_unread]
  congr 1
  funext k
  apply Fin.ext
  match k with
  | ⟨0, _⟩ => show 0 + 1 * (x 0).val = (x 0).val; omega
  | ⟨1, _⟩ => show 0 + 1 * (x 1).val = (x 1).val; omega
theorem rd_S1x1024 {e : EltTy} (m : Memref sig .tc .vmem S1x1024 e) (h : m.IsWhole) (X : S1x1024.Idx → Elt Ideal e) :
    View.readAt (Elt Ideal) m.view (Rect.unit (s := S1x1024) ![0, 0] S1x1024.size inb_S1x1024_S1x1024_0_0).toLoadRect (h.unread X) = X := by
  funext x
  rw [h.readAt_unread]
  congr 1
  funext k
  apply Fin.ext
  match k with
  | ⟨0, _⟩ => show 0 + 1 * (x 0).val = (x 0).val; omega
  | ⟨1, _⟩ => show 0 + 1 * (x 1).val = (x 1).val; omega
theorem rd_S1x1x2048 {e : EltTy} (m : Memref sig .tc .vmem S1x1x2048 e) (h : m.IsWhole) (X : S1x1x2048.Idx → Elt Ideal e) :
    View.readAt (Elt Ideal) m.view (Rect.unit (s := S1x1x2048) ![0, 0, 0] S1x1x2048.size inb_S1x1x2048_S1x1x2048_0_0_0).toLoadRect (h.unread X) = X := by
  funext x
  rw [h.readAt_unread]
  congr 1
  funext k
  apply Fin.ext
  match k with
  | ⟨0, _⟩ => show 0 + 1 * (x 0).val = (x 0).val; omega
  | ⟨1, _⟩ => show 0 + 1 * (x 1).val = (x 1).val; omega
  | ⟨2, _⟩ => show 0 + 1 * (x 2).val = (x 2).val; omega
theorem rd_S1x1x64 {e : EltTy} (m : Memref sig .tc .vmem S1x1x64 e) (h : m.IsWhole) (X : S1x1x64.Idx → Elt Ideal e) :
    View.readAt (Elt Ideal) m.view (Rect.unit (s := S1x1x64) ![0, 0, 0] S1x1x64.size inb_S1x1x64_S1x1x64_0_0_0).toLoadRect (h.unread X) = X := by
  funext x
  rw [h.readAt_unread]
  congr 1
  funext k
  apply Fin.ext
  match k with
  | ⟨0, _⟩ => show 0 + 1 * (x 0).val = (x 0).val; omega
  | ⟨1, _⟩ => show 0 + 1 * (x 1).val = (x 1).val; omega
  | ⟨2, _⟩ => show 0 + 1 * (x 2).val = (x 2).val; omega
theorem rd_S1x2048x512 {e : EltTy} (m : Memref sig .tc .vmem S1x2048x512 e) (h : m.IsWhole) (X : S1x2048x512.Idx → Elt Ideal e) :
    View.readAt (Elt Ideal) m.view (Rect.unit (s := S1x2048x512) ![0, 0, 0] S1x2048x512.size inb_S1x2048x512_S1x2048x512_0_0_0).toLoadRect (h.unread X) = X := by
  funext x
  rw [h.readAt_unread]
  congr 1
  funext k
  apply Fin.ext
  match k with
  | ⟨0, _⟩ => show 0 + 1 * (x 0).val = (x 0).val; omega
  | ⟨1, _⟩ => show 0 + 1 * (x 1).val = (x 1).val; omega
  | ⟨2, _⟩ => show 0 + 1 * (x 2).val = (x 2).val; omega
theorem rd_S1x1024x512 {e : EltTy} (m : Memref sig .tc .vmem S1x1024x512 e) (h : m.IsWhole) (X : S1x1024x512.Idx → Elt Ideal e) :
    View.readAt (Elt Ideal) m.view (Rect.unit (s := S1x1024x512) ![0, 0, 0] S1x1024x512.size inb_S1x1024x512_S1x1024x512_0_0_0).toLoadRect (h.unread X) = X := by
  funext x
  rw [h.readAt_unread]
  congr 1
  funext k
  apply Fin.ext
  match k with
  | ⟨0, _⟩ => show 0 + 1 * (x 0).val = (x 0).val; omega
  | ⟨1, _⟩ => show 0 + 1 * (x 1).val = (x 1).val; omega
  | ⟨2, _⟩ => show 0 + 1 * (x 2).val = (x 2).val; omega

variable (c : Dev nD) (i : grid0.Coords)
  (arg1 : Memref sig .tc .vmem S1x2048x512 .f32) (harg1 : arg1.IsWhole)
  (arg2 : Memref sig .tc .vmem S1x1x2048 .f32) (harg2 : arg2.IsWhole)
  (arg3 : Memref sig .tc .vmem S1x1x64 .i32) (harg3 : arg3.IsWhole)
  (arg4 : Memref sig .tc .vmem S1x1024x512 .bf16) (harg4 : arg4.IsWhole)
  (arg5 : Memref sig .tc .vmem S1x1024 .f32) (harg5 : arg5.IsWhole)
  (arg6 : Memref sig .tc .vmem S1x2048x512 .f32) (harg6 : arg6.IsWhole)
  (arg7 : Memref sig .tc .vmem S1x1x2048 .f32) (harg7 : arg7.IsWhole)
  (arg8 : Memref sig .tc .vmem S1x1x64 .i32) (harg8 : arg8.IsWhole)
  (arg9 : Memref sig .tc .vmem S1x1024x512 .bf16) (harg9 : arg9.IsWhole)
  (arg10 : Memref sig .tc .vmem S1x1024 .f32) (harg10 : arg10.IsWhole)
  (arg11 : Memref sig .tc .vmem S1024x1024 .bf16) (harg11 : arg11.IsWhole)
  (arg12 : Memref sig .tc .vmem S1x1024 .f32) (harg12 : arg12.IsWhole)
  (arg13 : Memref sig .tc .vmem S1024x1024 .bf16) (harg13 : arg13.IsWhole)
  (arg14 : Memref sig .tc .vmem S1x1024 .f32) (harg14 : arg14.IsWhole)
  (arg15 : Memref sig .tc .vmem S1024x1024 .bf16) (harg15 : arg15.IsWhole)
  (arg16 : Memref sig .tc .vmem S1024x1024 .bf16) (harg16 : arg16.IsWhole)
  (arg17 : Memref sig .tc .vmem S1024x1024 .bf16) (harg17 : arg17.IsWhole)
  (arg18 : Memref sig .tc .vmem S1x1024 .f32) (harg18 : arg18.IsWhole)
  (arg19 : Memref sig .tc .vmem S1x1024 .f32) (harg19 : arg19.IsWhole)
  (arg20 : Memref sig .tc .vmem S1x1024x1024 .bf16) (harg20 : arg20.IsWhole)
  (arg21 : Memref sig .tc .vmem S1x64x1 .f32) (harg21 : arg21.IsWhole)
  (arg22 : Memref sig .tc .vmem S1024x1024 .bf16) (harg22 : arg22.IsWhole)
  (arg23 : Memref sig .tc .vmem S1x1024 .f32) (harg23 : arg23.IsWhole)
  (arg24 : Memref sig .tc .vmem S1024x1024 .bf16) (harg24 : arg24.IsWhole)
variable (x0 : Vec Ideal S1x2048x512 .f32) (x1 : Vec Ideal S1x1x2048 .f32) (x2 : Vec Ideal S1x1x64 .i32) (x3 : Vec Ideal S1x1024x512 .bf16) (x4 : Vec Ideal S1x1024 .f32) (x5 : Vec Ideal S1x2048x512 .f32) (x6 : Vec Ideal S1x1x2048 .f32) (x7 : Vec Ideal S1x1x64 .i32) (x8 : Vec Ideal S1x1024x512 .bf16) (x9 : Vec Ideal S1x1024 .f32) (x10 : Vec Ideal S1024x1024 .bf16) (x11 : Vec Ideal S1x1024 .f32) (x12 : Vec Ideal S1024x1024 .bf16) (x13 : Vec Ideal S1x1024 .f32) (x14 : Vec Ideal S1024x1024 .bf16) (x15 : Vec Ideal S1024x1024 .bf16) (x16 : Vec Ideal S1024x1024 .bf16) (x17 : Vec Ideal S1x1024 .f32) (x18 : Vec Ideal S1x1024 .f32)

theorem eqA_r : prepRunA.sl.r (F := Ideal) c arg11 harg11 x10 = Pre.ta x10 := by
  unfold prepRunA.sl.r ; rw [rd_S1024x1024 arg11 harg11 x10]; try rfl
theorem eqA_r_1 : prepRunA.sl.r_1 (F := Ideal) c arg12 harg12 x11 = Pre.t1 x11 := by
  unfold prepRunA.sl.r_1 ; rw [rd_S1x1024 arg12 harg12 x11]; try rfl
theorem eqA_r_2 : prepRunA.sl.r_2 (F := Ideal) c arg13 harg13 x12 = Pre.t2 x12 := by
  unfold prepRunA.sl.r_2 ; rw [rd_S1024x1024 arg13 harg13 x12]; try rfl
theorem eqA_r_3 : prepRunA.sl.r_3 (F := Ideal) c arg14 harg14 x13 = Pre.t3 x13 := by
  unfold prepRunA.sl.r_3 ; rw [rd_S1x1024 arg14 harg14 x13]; try rfl
theorem eqA_r_4 : prepRunA.sl.r_4 (F := Ideal) c arg2 harg2 x1 = Pre.t4 x1 := by
  unfold prepRunA.sl.r_4 ; rw [rd_S1x1x2048 arg2 harg2 x1]; try rfl
theorem eqA_r_5 : prepRunA.sl.r_5 (F := Ideal) c arg3 harg3 x2 = Pre.t5 x2 := by
  unfold prepRunA.sl.r_5 ; rw [rd_S1x1x64 arg3 harg3 x2]; try rfl
theorem eqA_r_6 : prepRunA.sl.r_6 (F := Ideal) c arg3 harg3 x2 = Pre.t6 x2 := by
  unfold prepRunA.sl.r_6 ; rw [rd_S1x1x64 arg3 harg3 x2]; try rfl
theorem eqA_r_7 : prepRunA.sl.r_7 (F := Ideal) c arg3 harg3 x2 = Pre.t7 x2 := by
  unfold prepRunA.sl.r_7 ; rw [rd_S1x1x64 arg3 harg3 x2]; try rfl
theorem eqA_r_8 : prepRunA.sl.r_8 (F := Ideal) c arg2 harg2 arg3 harg3 x1 x2 = Pre.t8 x1 x2 := by
  unfold prepRunA.sl.r_8 ; rw [rd_S1x1x2048 arg2 harg2 x1, rd_S1x1x64 arg3 harg3 x2]; try rfl
theorem eqA_r_9 : prepRunA.sl.r_9 (F := Ideal) c arg3 harg3 x2 = Pre.t9 x2 := by
  unfold prepRunA.sl.r_9 ; rw [rd_S1x1x64 arg3 harg3 x2]; try rfl
theorem eqA_r_10 : prepRunA.sl.r_10 (F := Ideal) c arg3 harg3 x2 = Pre.t10 x2 := by
  unfold prepRunA.sl.r_10 ; rw [rd_S1x1x64 arg3 harg3 x2]; try rfl
theorem eqA_r_11 : prepRunA.sl.r_11 (F := Ideal) c arg2 harg2 arg3 harg3 x1 x2 = Pre.t11 x1 x2 := by
  unfold prepRunA.sl.r_11 ; rw [eqA_r_4, eqA_r_7, eqA_r_8]; try rfl
theorem eqA_r_12 : prepRunA.sl.r_12 (F := Ideal) c arg3 harg3 x2 = Pre.t12 x2 := by
  unfold prepRunA.sl.r_12 ; rw [eqA_r_10, eqA_r_6, eqA_r_9]; try rfl
theorem eqA_r_13 : prepRunA.sl.r_13 (F := Ideal) c arg3 harg3 x2 = Pre.t13 x2 := by
  unfold prepRunA.sl.r_13 ; rw [eqA_r_7]; try rfl
theorem eqA_r_14 : prepRunA.sl.r_14 (F := Ideal) c arg2 harg2 x1 = Pre.t14 x1 := by
  unfold prepRunA.sl.r_14 ; rw [eqA_r_4]; try rfl
theorem eqA_r_15 : prepRunA.sl.r_15 (F := Ideal) c arg3 harg3 x2 = Pre.t15 x2 := by
  unfold prepRunA.sl.r_15 ; rw [eqA_r_12, eqA_r_6]; try rfl
theorem eqA_r_16 : prepRunA.sl.r_16 (F := Ideal) c arg2 harg2 arg3 harg3 x1 x2 = Pre.t16 x1 x2 := by
  unfold prepRunA.sl.r_16 ; rw [eqA_r_11, eqA_r_13, eqA_r_14, eqA_r_4, eqA_r_7]; try rfl
theorem eqA_r_17 : prepRunA.sl.r_17 (F := Ideal) c arg3 harg3 x2 = Pre.t17 x2 := by
  unfold prepRunA.sl.r_17 ; rw [eqA_r_6]; try rfl
theorem eqA_r_18 : prepRunA.sl.r_18 (F := Ideal) c arg3 harg3 x2 = Pre.t18 x2 := by
  unfold prepRunA.sl.r_18 ; rw [eqA_r_6]; try rfl
theorem eqA_r_19 : prepRunA.sl.r_19 (F := Ideal) c arg2 harg2 arg3 harg3 x1 x2 = Pre.t19 x1 x2 := by
  unfold prepRunA.sl.r_19 ; rw [eqA_r_16, eqA_r_4, eqA_r_7]; try rfl
theorem eqA_r_20 : prepRunA.sl.r_20 (F := Ideal) c arg3 harg3 x2 = Pre.t20 x2 := by
  unfold prepRunA.sl.r_20 ; rw [eqA_r_15, eqA_r_17, eqA_r_18, eqA_r_6]; try rfl
theorem eqA_r_21 : prepRunA.sl.r_21 (F := Ideal) c arg3 harg3 x2 = Pre.t21 x2 := by
  unfold prepRunA.sl.r_21 ; rw [eqA_r_7]; try rfl
theorem eqA_r_22 : prepRunA.sl.r_22 (F := Ideal) c arg2 harg2 x1 = Pre.t22 x1 := by
  unfold prepRunA.sl.r_22 ; rw [eqA_r_4]; try rfl
theorem eqA_r_23 : prepRunA.sl.r_23 (F := Ideal) c arg3 harg3 x2 = Pre.t23 x2 := by
  unfold prepRunA.sl.r_23 ; rw [eqA_r_20, eqA_r_6]; try rfl
theorem eqA_r_24 : prepRunA.sl.r_24 (F := Ideal) c arg2 harg2 arg3 harg3 x1 x2 = Pre.t24 x1 x2 := by
  unfold prepRunA.sl.r_24 ; rw [eqA_r_19, eqA_r_21, eqA_r_22, eqA_r_4, eqA_r_7]; try rfl
theorem eqA_r_25 : prepRunA.sl.r_25 (F := Ideal) c arg3 harg3 x2 = Pre.t25 x2 := by
  unfold prepRunA.sl.r_25 ; rw [eqA_r_6]; try rfl
theorem eqA_r_26 : prepRunA.sl.r_26 (F := Ideal) c arg3 harg3 x2 = Pre.t26 x2 := by
  unfold prepRunA.sl.r_26 ; rw [eqA_r_6]; try rfl
theorem eqA_r_27 : prepRunA.sl.r_27 (F := Ideal) c arg2 harg2 arg3 harg3 x1 x2 = Pre.t27 x1 x2 := by
  unfold prepRunA.sl.r_27 ; rw [eqA_r_24, eqA_r_4, eqA_r_7]; try rfl
theorem eqA_r_28 : prepRunA.sl.r_28 (F := Ideal) c arg3 harg3 x2 = Pre.t28 x2 := by
  unfold prepRunA.sl.r_28 ; rw [eqA_r_23, eqA_r_25, eqA_r_26, eqA_r_6]; try rfl
theorem eqA_r_29 : prepRunA.sl.r_29 (F := Ideal) c arg3 harg3 x2 = Pre.t29 x2 := by
  unfold prepRunA.sl.r_29 ; rw [eqA_r_7]; try rfl
theorem eqA_r_30 : prepRunA.sl.r_30 (F := Ideal) c arg2 harg2 x1 = Pre.t30 x1 := by
  unfold prepRunA.sl.r_30 ; rw [eqA_r_4]; try rfl
theorem eqA_r_31 : prepRunA.sl.r_31 (F := Ideal) c arg3 harg3 x2 = Pre.t31 x2 := by
  unfold prepRunA.sl.r_31 ; rw [eqA_r_28, eqA_r_6]; try rfl
theorem eqA_r_32 : prepRunA.sl.r_32 (F := Ideal) c arg2 harg2 arg3 harg3 x1 x2 = Pre.t32 x1 x2 := by
  unfold prepRunA.sl.r_32 ; rw [eqA_r_27, eqA_r_29, eqA_r_30, eqA_r_4, eqA_r_7]; try rfl
theorem eqA_r_33 : prepRunA.sl.r_33 (F := Ideal) c arg3 harg3 x2 = Pre.t33 x2 := by
  unfold prepRunA.sl.r_33 ; rw [eqA_r_6]; try rfl
theorem eqA_r_34 : prepRunA.sl.r_34 (F := Ideal) c arg3 harg3 x2 = Pre.t34 x2 := by
  unfold prepRunA.sl.r_34 ; rw [eqA_r_6]; try rfl
theorem eqA_r_35 : prepRunA.sl.r_35 (F := Ideal) c arg2 harg2 arg3 harg3 x1 x2 = Pre.t35 x1 x2 := by
  unfold prepRunA.sl.r_35 ; rw [eqA_r_31, eqA_r_32, eqA_r_33, eqA_r_34, eqA_r_4, eqA_r_6, eqA_r_7]; try rfl
theorem eqA_r_36 : prepRunA.sl.r_36 (F := Ideal) c arg2 harg2 arg3 harg3 x1 x2 = Pre.t36 x1 x2 := by
  unfold prepRunA.sl.r_36 ; rw [eqA_r_31, eqA_r_32, eqA_r_33, eqA_r_34, eqA_r_4, eqA_r_6, eqA_r_7]; try rfl
theorem eqA_r_37 : prepRunA.sl.r_37 (F := Ideal) c arg2 harg2 arg3 harg3 x1 x2 = Pre.t37 x1 x2 := by
  unfold prepRunA.sl.r_37 ; rw [eqA_r_31, eqA_r_32, eqA_r_33, eqA_r_34, eqA_r_4, eqA_r_5, eqA_r_6, eqA_r_7]; try rfl
theorem eqA_r_38 : prepRunA.sl.r_38 (F := Ideal) c arg2 harg2 arg3 harg3 x1 x2 = Pre.t38 x1 x2 := by
  unfold prepRunA.sl.r_38 ; rw [eqA_r_35, eqA_r_36]; try rfl
theorem eqA_r_39 : prepRunA.sl.r_39 (F := Ideal) c arg1 harg1 arg2 harg2 arg3 harg3 x0 x1 x2 = Pre.t39 x0 x1 x2 := by
  unfold prepRunA.sl.r_39 ; rw [eqA_r_37, eqA_r_4, rd_S1x2048x512 arg1 harg1 x0]; try rfl
theorem eqA_r_40 : prepRunA.sl.r_40 (F := Ideal) c arg4 harg4 x3 = Pre.t40 x3 := by
  unfold prepRunA.sl.r_40 ; rw [rd_S1x1024x512 arg4 harg4 x3]; try rfl
theorem eqA_r_41 : prepRunA.sl.r_41 (F := Ideal) c arg1 harg1 arg2 harg2 arg3 harg3 arg4 harg4 arg5 harg5 arg11 harg11 arg12 harg12 arg13 harg13 arg14 harg14 x0 x1 x2 x3 x4 x10 x11 x12 x13 = Pre.t41 x0 x1 x2 x3 x4 x10 x11 x12 x13 := by
  unfold prepRunA.sl.r_41 prepRunA.sl.cst_119; rw [eqA_r, eqA_r_1, eqA_r_2, eqA_r_3, eqA_r_39, eqA_r_40, rd_S1x1024 arg5 harg5 x4]; try rfl
theorem eqA_r_42 : prepRunA.sl.r_42 (F := Ideal) c arg11 harg11 x10 = Pre.t42 x10 := by
  unfold prepRunA.sl.r_42 ; rw [rd_S1024x1024 arg11 harg11 x10]; try rfl
theorem eqA_r_43 : prepRunA.sl.r_43 (F := Ideal) c arg12 harg12 x11 = Pre.t43 x11 := by
  unfold prepRunA.sl.r_43 ; rw [rd_S1x1024 arg12 harg12 x11]; try rfl
theorem eqA_r_44 : prepRunA.sl.r_44 (F := Ideal) c arg13 harg13 x12 = Pre.t44 x12 := by
  unfold prepRunA.sl.r_44 ; rw [rd_S1024x1024 arg13 harg13 x12]; try rfl
theorem eqA_r_45 : prepRunA.sl.r_45 (F := Ideal) c arg14 harg14 x13 = Pre.t45 x13 := by
  unfold prepRunA.sl.r_45 ; rw [rd_S1x1024 arg14 harg14 x13]; try rfl
theorem eqA_r_46 : prepRunA.sl.r_46 (F := Ideal) c arg7 harg7 x6 = Pre.t46 x6 := by
  unfold prepRunA.sl.r_46 ; rw [rd_S1x1x2048 arg7 harg7 x6]; try rfl
theorem eqA_r_47 : prepRunA.sl.r_47 (F := Ideal) c arg8 harg8 x7 = Pre.t47 x7 := by
  unfold prepRunA.sl.r_47 ; rw [rd_S1x1x64 arg8 harg8 x7]; try rfl
theorem eqA_r_48 : prepRunA.sl.r_48 (F := Ideal) c arg8 harg8 x7 = Pre.t48 x7 := by
  unfold prepRunA.sl.r_48 ; rw [rd_S1x1x64 arg8 harg8 x7]; try rfl
theorem eqA_r_49 : prepRunA.sl.r_49 (F := Ideal) c arg8 harg8 x7 = Pre.t49 x7 := by
  unfold prepRunA.sl.r_49 ; rw [rd_S1x1x64 arg8 harg8 x7]; try rfl
theorem eqA_r_50 : prepRunA.sl.r_50 (F := Ideal) c arg8 harg8 x7 = Pre.t50 x7 := by
  unfold prepRunA.sl.r_50 ; rw [rd_S1x1x64 arg8 harg8 x7]; try rfl
theorem eqA_r_51 : prepRunA.sl.r_51 (F := Ideal) c arg7 harg7 x6 = Pre.t51 x6 := by
  unfold prepRunA.sl.r_51 ; rw [rd_S1x1x2048 arg7 harg7 x6]; try rfl
theorem eqA_r_52 : prepRunA.sl.r_52 (F := Ideal) c arg8 harg8 x7 = Pre.t52 x7 := by
  unfold prepRunA.sl.r_52 ; rw [eqA_r_48]; try rfl
theorem eqA_r_53 : prepRunA.sl.r_53 (F := Ideal) c arg7 harg7 arg8 harg8 x6 x7 = Pre.t53 x6 x7 := by
  unfold prepRunA.sl.r_53 ; rw [eqA_r_46, eqA_r_49, eqA_r_50, eqA_r_51]; try rfl
theorem eqA_r_54 : prepRunA.sl.r_54 (F := Ideal) c arg8 harg8 x7 = Pre.t54 x7 := by
  unfold prepRunA.sl.r_54 ; rw [eqA_r_48]; try rfl
theorem eqA_r_55 : prepRunA.sl.r_55 (F := Ideal) c arg8 harg8 x7 = Pre.t55 x7 := by
  unfold prepRunA.sl.r_55 ; rw [eqA_r_48]; try rfl
theorem eqA_r_56 : prepRunA.sl.r_56 (F := Ideal) c arg7 harg7 arg8 harg8 x6 x7 = Pre.t56 x6 x7 := by
  unfold prepRunA.sl.r_56 ; rw [eqA_r_46, eqA_r_49, eqA_r_53]; try rfl
theorem eqA_r_57 : prepRunA.sl.r_57 (F := Ideal) c arg8 harg8 x7 = Pre.t57 x7 := by
  unfold prepRunA.sl.r_57 ; rw [eqA_r_48, eqA_r_52, eqA_r_54, eqA_r_55]; try rfl
theorem eqA_r_58 : prepRunA.sl.r_58 (F := Ideal) c arg8 harg8 x7 = Pre.t58 x7 := by
  unfold prepRunA.sl.r_58 ; rw [eqA_r_49]; try rfl
theorem eqA_r_59 : prepRunA.sl.r_59 (F := Ideal) c arg7 harg7 x6 = Pre.t59 x6 := by
  unfold prepRunA.sl.r_59 ; rw [eqA_r_46]; try rfl
theorem eqA_r_60 : prepRunA.sl.r_60 (F := Ideal) c arg8 harg8 x7 = Pre.t60 x7 := by
  unfold prepRunA.sl.r_60 ; rw [eqA_r_48, eqA_r_57]; try rfl
theorem eqA_r_61 : prepRunA.sl.r_61 (F := Ideal) c arg7 harg7 arg8 harg8 x6 x7 = Pre.t61 x6 x7 := by
  unfold prepRunA.sl.r_61 ; rw [eqA_r_46, eqA_r_49, eqA_r_56, eqA_r_58, eqA_r_59]; try rfl
theorem eqA_r_62 : prepRunA.sl.r_62 (F := Ideal) c arg8 harg8 x7 = Pre.t62 x7 := by
  unfold prepRunA.sl.r_62 ; rw [eqA_r_48]; try rfl
theorem eqA_r_63 : prepRunA.sl.r_63 (F := Ideal) c arg8 harg8 x7 = Pre.t63 x7 := by
  unfold prepRunA.sl.r_63 ; rw [eqA_r_48]; try rfl
theorem eqA_r_64 : prepRunA.sl.r_64 (F := Ideal) c arg7 harg7 arg8 harg8 x6 x7 = Pre.t64 x6 x7 := by
  unfold prepRunA.sl.r_64 ; rw [eqA_r_46, eqA_r_49, eqA_r_61]; try rfl
theorem eqA_r_65 : prepRunA.sl.r_65 (F := Ideal) c arg8 harg8 x7 = Pre.t65 x7 := by
  unfold prepRunA.sl.r_65 ; rw [eqA_r_48, eqA_r_60, eqA_r_62, eqA_r_63]; try rfl
theorem eqA_r_66 : prepRunA.sl.r_66 (F := Ideal) c arg8 harg8 x7 = Pre.t66 x7 := by
  unfold prepRunA.sl.r_66 ; rw [eqA_r_49]; try rfl
theorem eqA_r_67 : prepRunA.sl.r_67 (F := Ideal) c arg7 harg7 x6 = Pre.t67 x6 := by
  unfold prepRunA.sl.r_67 ; rw [eqA_r_46]; try rfl
theorem eqA_r_68 : prepRunA.sl.r_68 (F := Ideal) c arg8 harg8 x7 = Pre.t68 x7 := by
  unfold prepRunA.sl.r_68 ; rw [eqA_r_48, eqA_r_65]; try rfl
theorem eqA_r_69 : prepRunA.sl.r_69 (F := Ideal) c arg7 harg7 arg8 harg8 x6 x7 = Pre.t69 x6 x7 := by
  unfold prepRunA.sl.r_69 ; rw [eqA_r_46, eqA_r_49, eqA_r_64, eqA_r_66, eqA_r_67]; try rfl
theorem eqA_r_70 : prepRunA.sl.r_70 (F := Ideal) c arg8 harg8 x7 = Pre.t70 x7 := by
  unfold prepRunA.sl.r_70 ; rw [eqA_r_48]; try rfl
theorem eqA_r_71 : prepRunA.sl.r_71 (F := Ideal) c arg8 harg8 x7 = Pre.t71 x7 := by
  unfold prepRunA.sl.r_71 ; rw [eqA_r_48]; try rfl
theorem eqA_r_72 : prepRunA.sl.r_72 (F := Ideal) c arg7 harg7 arg8 harg8 x6 x7 = Pre.t72 x6 x7 := by
  unfold prepRunA.sl.r_72 ; rw [eqA_r_46, eqA_r_49, eqA_r_69]; try rfl
theorem eqA_r_73 : prepRunA.sl.r_73 (F := Ideal) c arg8 harg8 x7 = Pre.t73 x7 := by
  unfold prepRunA.sl.r_73 ; rw [eqA_r_48, eqA_r_68, eqA_r_70, eqA_r_71]; try rfl
theorem eqA_r_74 : prepRunA.sl.r_74 (F := Ideal) c arg8 harg8 x7 = Pre.t74 x7 := by
  unfold prepRunA.sl.r_74 ; rw [eqA_r_49]; try rfl
theorem eqA_r_75 : prepRunA.sl.r_75 (F := Ideal) c arg7 harg7 x6 = Pre.t75 x6 := by
  unfold prepRunA.sl.r_75 ; rw [eqA_r_46]; try rfl
theorem eqA_r_76 : prepRunA.sl.r_76 (F := Ideal) c arg7 harg7 arg8 harg8 x6 x7 = Pre.t76 x6 x7 := by
  unfold prepRunA.sl.r_76 ; rw [eqA_r_46, eqA_r_48, eqA_r_49, eqA_r_72, eqA_r_73, eqA_r_74, eqA_r_75]; try rfl
theorem eqA_r_77 : prepRunA.sl.r_77 (F := Ideal) c arg7 harg7 arg8 harg8 x6 x7 = Pre.t77 x6 x7 := by
  unfold prepRunA.sl.r_77 ; rw [eqA_r_46, eqA_r_48, eqA_r_49, eqA_r_72, eqA_r_73, eqA_r_74, eqA_r_75]; try rfl
theorem eqA_r_78 : prepRunA.sl.r_78 (F := Ideal) c arg7 harg7 arg8 harg8 x6 x7 = Pre.t78 x6 x7 := by
  unfold prepRunA.sl.r_78 ; rw [eqA_r_76, eqA_r_77]; try rfl
theorem eqA_r_79 : prepRunA.sl.r_79 (F := Ideal) c arg7 harg7 arg8 harg8 x6 x7 = Pre.t79 x6 x7 := by
  unfold prepRunA.sl.r_79 ; rw [eqA_r_46, eqA_r_47, eqA_r_77]; try rfl
theorem eqA_r_80 : prepRunA.sl.r_80 (F := Ideal) c arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13 = Pre.t80 x0 x1 x2 x3 x4 x5 x6 x7 x8 x9 x10 x11 x12 x13 := by
  unfold prepRunA.sl.r_80 ; rw [eqA_r_41, eqA_r_42, eqA_r_43, eqA_r_44, eqA_r_45, eqA_r_79, rd_S1x2048x512 arg6 harg6 x5, rd_S1x1024x512 arg9 harg9 x8, rd_S1x1024 arg10 harg10 x9]; try rfl
theorem eqB_r : prepRunB.sl.r (F := Ideal) c arg11 harg11 x10 = Pre.ta x10 := by
  unfold prepRunB.sl.r ; rw [rd_S1024x1024 arg11 harg11 x10]; try rfl
theorem eqB_r_1 : prepRunB.sl.r_1 (F := Ideal) c arg12 harg12 x11 = Pre.t1 x11 := by
  unfold prepRunB.sl.r_1 ; rw [rd_S1x1024 arg12 harg12 x11]; try rfl
theorem eqB_r_2 : prepRunB.sl.r_2 (F := Ideal) c arg13 harg13 x12 = Pre.t2 x12 := by
  unfold prepRunB.sl.r_2 ; rw [rd_S1024x1024 arg13 harg13 x12]; try rfl
theorem eqB_r_3 : prepRunB.sl.r_3 (F := Ideal) c arg14 harg14 x13 = Pre.t3 x13 := by
  unfold prepRunB.sl.r_3 ; rw [rd_S1x1024 arg14 harg14 x13]; try rfl
theorem eqB_r_4 : prepRunB.sl.r_4 (F := Ideal) c arg2 harg2 x1 = Pre.t4 x1 := by
  unfold prepRunB.sl.r_4 ; rw [rd_S1x1x2048 arg2 harg2 x1]; try rfl
theorem eqB_r_5 : prepRunB.sl.r_5 (F := Ideal) c arg3 harg3 x2 = Pre.t5 x2 := by
  unfold prepRunB.sl.r_5 ; rw [rd_S1x1x64 arg3 harg3 x2]; try rfl
theorem eqB_r_6 : prepRunB.sl.r_6 (F := Ideal) c arg3 harg3 x2 = Pre.t6 x2 := by
  unfold prepRunB.sl.r_6 ; rw [rd_S1x1x64 arg3 harg3 x2]; try rfl
theorem eqB_r_7 : prepRunB.sl.r_7 (F := Ideal) c arg3 harg3 x2 = Pre.t7 x2 := by
  unfold prepRunB.sl.r_7 ; rw [rd_S1x1x64 arg3 harg3 x2]; try rfl
theorem eqB_r_8 : prepRunB.sl.r_8 (F := Ideal) c arg2 harg2 arg3 harg3 x1 x2 = Pre.t8 x1 x2 := by
  unfold prepRunB.sl.r_8 ; rw [rd_S1x1x2048 arg2 harg2 x1, rd_S1x1x64 arg3 harg3 x2]; try rfl
theorem eqB_r_9 : prepRunB.sl.r_9 (F := Ideal) c arg3 harg3 x2 = Pre.t9 x2 := by
  unfold prepRunB.sl.r_9 ; rw [rd_S1x1x64 arg3 harg3 x2]; try rfl
theorem eqB_r_10 : prepRunB.sl.r_10 (F := Ideal) c arg3 harg3 x2 = Pre.t10 x2 := by
  unfold prepRunB.sl.r_10 ; rw [rd_S1x1x64 arg3 harg3 x2]; try rfl
theorem eqB_r_11 : prepRunB.sl.r_11 (F := Ideal) c arg2 harg2 arg3 harg3 x1 x2 = Pre.t11 x1 x2 := by
  unfold prepRunB.sl.r_11 ; rw [eqB_r_4, eqB_r_7, eqB_r_8]; try rfl
theorem eqB_r_12 : prepRunB.sl.r_12 (F := Ideal) c arg3 harg3 x2 = Pre.t12 x2 := by
  unfold prepRunB.sl.r_12 ; rw [eqB_r_10, eqB_r_6, eqB_r_9]; try rfl
theorem eqB_r_13 : prepRunB.sl.r_13 (F := Ideal) c arg3 harg3 x2 = Pre.t13 x2 := by
  unfold prepRunB.sl.r_13 ; rw [eqB_r_7]; try rfl
theorem eqB_r_14 : prepRunB.sl.r_14 (F := Ideal) c arg2 harg2 x1 = Pre.t14 x1 := by
  unfold prepRunB.sl.r_14 ; rw [eqB_r_4]; try rfl
theorem eqB_r_15 : prepRunB.sl.r_15 (F := Ideal) c arg3 harg3 x2 = Pre.t15 x2 := by
  unfold prepRunB.sl.r_15 ; rw [eqB_r_12, eqB_r_6]; try rfl
theorem eqB_r_16 : prepRunB.sl.r_16 (F := Ideal) c arg2 harg2 arg3 harg3 x1 x2 = Pre.t16 x1 x2 := by
  unfold prepRunB.sl.r_16 ; rw [eqB_r_11, eqB_r_13, eqB_r_14, eqB_r_4, eqB_r_7]; try rfl
theorem eqB_r_17 : prepRunB.sl.r_17 (F := Ideal) c arg3 harg3 x2 = Pre.t17 x2 := by
  unfold prepRunB.sl.r_17 ; rw [eqB_r_6]; try rfl
theorem eqB_r_18 : prepRunB.sl.r_18 (F := Ideal) c arg3 harg3 x2 = Pre.t18 x2 := by
  unfold prepRunB.sl.r_18 ; rw [eqB_r_6]; try rfl
theorem eqB_r_19 : prepRunB.sl.r_19 (F := Ideal) c arg2 harg2 arg3 harg3 x1 x2 = Pre.t19 x1 x2 := by
  unfold prepRunB.sl.r_19 ; rw [eqB_r_16, eqB_r_4, eqB_r_7]; try rfl
theorem eqB_r_20 : prepRunB.sl.r_20 (F := Ideal) c arg3 harg3 x2 = Pre.t20 x2 := by
  unfold prepRunB.sl.r_20 ; rw [eqB_r_15, eqB_r_17, eqB_r_18, eqB_r_6]; try rfl
theorem eqB_r_21 : prepRunB.sl.r_21 (F := Ideal) c arg3 harg3 x2 = Pre.t21 x2 := by
  unfold prepRunB.sl.r_21 ; rw [eqB_r_7]; try rfl
theorem eqB_r_22 : prepRunB.sl.r_22 (F := Ideal) c arg2 harg2 x1 = Pre.t22 x1 := by
  unfold prepRunB.sl.r_22 ; rw [eqB_r_4]; try rfl
theorem eqB_r_23 : prepRunB.sl.r_23 (F := Ideal) c arg3 harg3 x2 = Pre.t23 x2 := by
  unfold prepRunB.sl.r_23 ; rw [eqB_r_20, eqB_r_6]; try rfl
theorem eqB_r_24 : prepRunB.sl.r_24 (F := Ideal) c arg2 harg2 arg3 harg3 x1 x2 = Pre.t24 x1 x2 := by
  unfold prepRunB.sl.r_24 ; rw [eqB_r_19, eqB_r_21, eqB_r_22, eqB_r_4, eqB_r_7]; try rfl
theorem eqB_r_25 : prepRunB.sl.r_25 (F := Ideal) c arg3 harg3 x2 = Pre.t25 x2 := by
  unfold prepRunB.sl.r_25 ; rw [eqB_r_6]; try rfl
theorem eqB_r_26 : prepRunB.sl.r_26 (F := Ideal) c arg3 harg3 x2 = Pre.t26 x2 := by
  unfold prepRunB.sl.r_26 ; rw [eqB_r_6]; try rfl
theorem eqB_r_27 : prepRunB.sl.r_27 (F := Ideal) c arg2 harg2 arg3 harg3 x1 x2 = Pre.t27 x1 x2 := by
  unfold prepRunB.sl.r_27 ; rw [eqB_r_24, eqB_r_4, eqB_r_7]; try rfl
theorem eqB_r_28 : prepRunB.sl.r_28 (F := Ideal) c arg3 harg3 x2 = Pre.t28 x2 := by
  unfold prepRunB.sl.r_28 ; rw [eqB_r_23, eqB_r_25, eqB_r_26, eqB_r_6]; try rfl
theorem eqB_r_29 : prepRunB.sl.r_29 (F := Ideal) c arg3 harg3 x2 = Pre.t29 x2 := by
  unfold prepRunB.sl.r_29 ; rw [eqB_r_7]; try rfl
theorem eqB_r_30 : prepRunB.sl.r_30 (F := Ideal) c arg2 harg2 x1 = Pre.t30 x1 := by
  unfold prepRunB.sl.r_30 ; rw [eqB_r_4]; try rfl
theorem eqB_r_31 : prepRunB.sl.r_31 (F := Ideal) c arg3 harg3 x2 = Pre.t31 x2 := by
  unfold prepRunB.sl.r_31 ; rw [eqB_r_28, eqB_r_6]; try rfl
theorem eqB_r_32 : prepRunB.sl.r_32 (F := Ideal) c arg2 harg2 arg3 harg3 x1 x2 = Pre.t32 x1 x2 := by
  unfold prepRunB.sl.r_32 ; rw [eqB_r_27, eqB_r_29, eqB_r_30, eqB_r_4, eqB_r_7]; try rfl
theorem eqB_r_33 : prepRunB.sl.r_33 (F := Ideal) c arg3 harg3 x2 = Pre.t33 x2 := by
  unfold prepRunB.sl.r_33 ; rw [eqB_r_6]; try rfl
theorem eqB_r_34 : prepRunB.sl.r_34 (F := Ideal) c arg3 harg3 x2 = Pre.t34 x2 := by
  unfold prepRunB.sl.r_34 ; rw [eqB_r_6]; try rfl
theorem eqB_r_35 : prepRunB.sl.r_35 (F := Ideal) c arg2 harg2 arg3 harg3 x1 x2 = Pre.t35 x1 x2 := by
  unfold prepRunB.sl.r_35 ; rw [eqB_r_31, eqB_r_32, eqB_r_33, eqB_r_34, eqB_r_4, eqB_r_6, eqB_r_7]; try rfl
theorem eqB_r_36 : prepRunB.sl.r_36 (F := Ideal) c arg2 harg2 arg3 harg3 x1 x2 = Pre.t36 x1 x2 := by
  unfold prepRunB.sl.r_36 ; rw [eqB_r_31, eqB_r_32, eqB_r_33, eqB_r_34, eqB_r_4, eqB_r_6, eqB_r_7]; try rfl
theorem eqB_r_37 : prepRunB.sl.r_37 (F := Ideal) c arg2 harg2 arg3 harg3 x1 x2 = Pre.t37 x1 x2 := by
  unfold prepRunB.sl.r_37 ; rw [eqB_r_31, eqB_r_32, eqB_r_33, eqB_r_34, eqB_r_4, eqB_r_5, eqB_r_6, eqB_r_7]; try rfl
theorem eqB_r_38 : prepRunB.sl.r_38 (F := Ideal) c arg2 harg2 arg3 harg3 x1 x2 = Pre.t38 x1 x2 := by
  unfold prepRunB.sl.r_38 ; rw [eqB_r_35, eqB_r_36]; try rfl
theorem eqB_r_39 : prepRunB.sl.r_39 (F := Ideal) c arg1 harg1 arg2 harg2 arg3 harg3 x0 x1 x2 = Pre.t39 x0 x1 x2 := by
  unfold prepRunB.sl.r_39 ; rw [eqB_r_37, eqB_r_4, rd_S1x2048x512 arg1 harg1 x0]; try rfl
theorem eqB_r_40 : prepRunB.sl.r_40 (F := Ideal) c arg4 harg4 x3 = Pre.t40 x3 := by
  unfold prepRunB.sl.r_40 ; rw [rd_S1x1024x512 arg4 harg4 x3]; try rfl
theorem eqB_r_41 : prepRunB.sl.r_41 (F := Ideal) c arg1 harg1 arg2 harg2 arg3 harg3 arg4 harg4 arg5 harg5 arg11 harg11 arg12 harg12 arg13 harg13 arg14 harg14 x0 x1 x2 x3 x4 x10 x11 x12 x13 = Pre.t41 x0 x1 x2 x3 x4 x10 x11 x12 x13 := by
  unfold prepRunB.sl.r_41 prepRunB.sl.cst_119; rw [eqB_r, eqB_r_1, eqB_r_2, eqB_r_3, eqB_r_39, eqB_r_40, rd_S1x1024 arg5 harg5 x4]; try rfl
theorem eqB_r_42 : prepRunB.sl.r_42 (F := Ideal) c arg11 harg11 x10 = Pre.t42 x10 := by
  unfold prepRunB.sl.r_42 ; rw [rd_S1024x1024 arg11 harg11 x10]; try rfl
theorem eqB_r_43 : prepRunB.sl.r_43 (F := Ideal) c arg12 harg12 x11 = Pre.t43 x11 := by
  unfold prepRunB.sl.r_43 ; rw [rd_S1x1024 arg12 harg12 x11]; try rfl
theorem eqB_r_44 : prepRunB.sl.r_44 (F := Ideal) c arg13 harg13 x12 = Pre.t44 x12 := by
  unfold prepRunB.sl.r_44 ; rw [rd_S1024x1024 arg13 harg13 x12]; try rfl
theorem eqB_r_45 : prepRunB.sl.r_45 (F := Ideal) c arg14 harg14 x13 = Pre.t45 x13 := by
  unfold prepRunB.sl.r_45 ; rw [rd_S1x1024 arg14 harg14 x13]; try rfl
theorem eqB_r_46 : prepRunB.sl.r_46 (F := Ideal) c arg7 harg7 x6 = Pre.t46 x6 := by
  unfold prepRunB.sl.r_46 ; rw [rd_S1x1x2048 arg7 harg7 x6]; try rfl
theorem eqB_r_47 : prepRunB.sl.r_47 (F := Ideal) c arg8 harg8 x7 = Pre.t47 x7 := by
  unfold prepRunB.sl.r_47 ; rw [rd_S1x1x64 arg8 harg8 x7]; try rfl
theorem eqB_r_48 : prepRunB.sl.r_48 (F := Ideal) c arg8 harg8 x7 = Pre.t48 x7 := by
  unfold prepRunB.sl.r_48 ; rw [rd_S1x1x64 arg8 harg8 x7]; try rfl
theorem eqB_r_49 : prepRunB.sl.r_49 (F := Ideal) c arg8 harg8 x7 = Pre.t49 x7 := by
  unfold prepRunB.sl.r_49 ; rw [rd_S1x1x64 arg8 harg8 x7]; try rfl
theorem eqB_r_50 : prepRunB.sl.r_50 (F := Ideal) c arg8 harg8 x7 = Pre.t50 x7 := by
  unfold prepRunB.sl.r_50 ; rw [rd_S1x1x64 arg8 harg8 x7]; try rfl
theorem eqB_r_51 : prepRunB.sl.r_51 (F := Ideal) c arg7 harg7 x6 = Pre.t51 x6 := by
  unfold prepRunB.sl.r_51 ; rw [rd_S1x1x2048 arg7 harg7 x6]; try rfl
theorem eqB_r_52 : prepRunB.sl.r_52 (F := Ideal) c arg8 harg8 x7 = Pre.t52 x7 := by
  unfold prepRunB.sl.r_52 ; rw [eqB_r_48]; try rfl
theorem eqB_r_53 : prepRunB.sl.r_53 (F := Ideal) c arg7 harg7 arg8 harg8 x6 x7 = Pre.t53 x6 x7 := by
  unfold prepRunB.sl.r_53 ; rw [eqB_r_46, eqB_r_49, eqB_r_50, eqB_r_51]; try rfl
theorem eqB_r_54 : prepRunB.sl.r_54 (F := Ideal) c arg8 harg8 x7 = Pre.t54 x7 := by
  unfold prepRunB.sl.r_54 ; rw [eqB_r_48]; try rfl
theorem eqB_r_55 : prepRunB.sl.r_55 (F := Ideal) c arg8 harg8 x7 = Pre.t55 x7 := by
  unfold prepRunB.sl.r_55 ; rw [eqB_r_48]; try rfl
theorem eqB_r_56 : prepRunB.sl.r_56 (F := Ideal) c arg7 harg7 arg8 harg8 x6 x7 = Pre.t56 x6 x7 := by
  unfold prepRunB.sl.r_56 ; rw [eqB_r_46, eqB_r_49, eqB_r_53]; try rfl
theorem eqB_r_57 : prepRunB.sl.r_57 (F := Ideal) c arg8 harg8 x7 = Pre.t57 x7 := by
  unfold prepRunB.sl.r_57 ; rw [eqB_r_48, eqB_r_52, eqB_r_54, eqB_r_55]; try rfl
theorem eqB_r_58 : prepRunB.sl.r_58 (F := Ideal) c arg8 harg8 x7 = Pre.t58 x7 := by
  unfold prepRunB.sl.r_58 ; rw [eqB_r_49]; try rfl
theorem eqB_r_59 : prepRunB.sl.r_59 (F := Ideal) c arg7 harg7 x6 = Pre.t59 x6 := by
  unfold prepRunB.sl.r_59 ; rw [eqB_r_46]; try rfl
theorem eqB_r_60 : prepRunB.sl.r_60 (F := Ideal) c arg8 harg8 x7 = Pre.t60 x7 := by
  unfold prepRunB.sl.r_60 ; rw [eqB_r_48, eqB_r_57]; try rfl
theorem eqB_r_61 : prepRunB.sl.r_61 (F := Ideal) c arg7 harg7 arg8 harg8 x6 x7 = Pre.t61 x6 x7 := by
  unfold prepRunB.sl.r_61 ; rw [eqB_r_46, eqB_r_49, eqB_r_56, eqB_r_58, eqB_r_59]; try rfl
theorem eqB_r_62 : prepRunB.sl.r_62 (F := Ideal) c arg8 harg8 x7 = Pre.t62 x7 := by
  unfold prepRunB.sl.r_62 ; rw [eqB_r_48]; try rfl
theorem eqB_r_63 : prepRunB.sl.r_63 (F := Ideal) c arg8 harg8 x7 = Pre.t63 x7 := by
  unfold prepRunB.sl.r_63 ; rw [eqB_r_48]; try rfl
theorem eqB_r_64 : prepRunB.sl.r_64 (F := Ideal) c arg7 harg7 arg8 harg8 x6 x7 = Pre.t64 x6 x7 := by
  unfold prepRunB.sl.r_64 ; rw [eqB_r_46, eqB_r_49, eqB_r_61]; try rfl
theorem eqB_r_65 : prepRunB.sl.r_65 (F := Ideal) c arg8 harg8 x7 = Pre.t65 x7 := by
  unfold prepRunB.sl.r_65 ; rw [eqB_r_48, eqB_r_60, eqB_r_62, eqB_r_63]; try rfl
theorem eqB_r_66 : prepRunB.sl.r_66 (F := Ideal) c arg8 harg8 x7 = Pre.t66 x7 := by
  unfold prepRunB.sl.r_66 ; rw [eqB_r_49]; try rfl
theorem eqB_r_67 : prepRunB.sl.r_67 (F := Ideal) c arg7 harg7 x6 = Pre.t67 x6 := by
  unfold prepRunB.sl.r_67 ; rw [eqB_r_46]; try rfl
theorem eqB_r_68 : prepRunB.sl.r_68 (F := Ideal) c arg8 harg8 x7 = Pre.t68 x7 := by
  unfold prepRunB.sl.r_68 ; rw [eqB_r_48, eqB_r_65]; try rfl
theorem eqB_r_69 : prepRunB.sl.r_69 (F := Ideal) c arg7 harg7 arg8 harg8 x6 x7 = Pre.t69 x6 x7 := by
  unfold prepRunB.sl.r_69 ; rw [eqB_r_46, eqB_r_49, eqB_r_64, eqB_r_66, eqB_r_67]; try rfl
theorem eqB_r_70 : prepRunB.sl.r_70 (F := Ideal) c arg8 harg8 x7 = Pre.t70 x7 := by
  unfold prepRunB.sl.r_70 ; rw [eqB_r_48]; try rfl
theorem eqB_r_71 : prepRunB.sl.r_71 (F := Ideal) c arg8 harg8 x7 = Pre.t71 x7 := by
  unfold prepRunB.sl.r_71 ; rw [eqB_r_48]; try rfl
theorem eqB_r_72 : prepRunB.sl.r_72 (F := Ideal) c arg7 harg7 arg8 harg8 x6 x7 = Pre.t72 x6 x7 := by
  unfold prepRunB.sl.r_72 ; rw [eqB_r_46, eqB_r_49, eqB_r_69]; try rfl
theorem eqB_r_73 : prepRunB.sl.r_73 (F := Ideal) c arg8 harg8 x7 = Pre.t73 x7 := by
  unfold prepRunB.sl.r_73 ; rw [eqB_r_48, eqB_r_68, eqB_r_70, eqB_r_71]; try rfl
theorem eqB_r_74 : prepRunB.sl.r_74 (F := Ideal) c arg8 harg8 x7 = Pre.t74 x7 := by
  unfold prepRunB.sl.r_74 ; rw [eqB_r_49]; try rfl
theorem eqB_r_75 : prepRunB.sl.r_75 (F := Ideal) c arg7 harg7 x6 = Pre.t75 x6 := by
  unfold prepRunB.sl.r_75 ; rw [eqB_r_46]; try rfl
theorem eqB_r_76 : prepRunB.sl.r_76 (F := Ideal) c arg7 harg7 arg8 harg8 x6 x7 = Pre.t76 x6 x7 := by
  unfold prepRunB.sl.r_76 ; rw [eqB_r_46, eqB_r_48, eqB_r_49, eqB_r_72, eqB_r_73, eqB_r_74, eqB_r_75]; try rfl
theorem eqB_r_77 : prepRunB.sl.r_77 (F := Ideal) c arg7 harg7 arg8 harg8 x6 x7 = Pre.t77 x6 x7 := by
  unfold prepRunB.sl.r_77 ; rw [eqB_r_46, eqB_r_48, eqB_r_49, eqB_r_72, eqB_r_73, eqB_r_74, eqB_r_75]; try rfl
theorem eqB_r_78 : prepRunB.sl.r_78 (F := Ideal) c arg7 harg7 arg8 harg8 x6 x7 = Pre.t78 x6 x7 := by
  unfold prepRunB.sl.r_78 ; rw [eqB_r_76, eqB_r_77]; try rfl
theorem eqB_r_79 : prepRunB.sl.r_79 (F := Ideal) c arg7 harg7 arg8 harg8 x6 x7 = Pre.t79 x6 x7 := by
  unfold prepRunB.sl.r_79 ; rw [eqB_r_46, eqB_r_47, eqB_r_77]; try rfl
theorem eqB_r_80 : prepRunB.sl.r_80 (F := Ideal) c arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13 = Pre.t80 x0 x1 x2 x3 x4 x5 x6 x7 x8 x9 x10 x11 x12 x13 := by
  unfold prepRunB.sl.r_80 ; rw [eqB_r_41, eqB_r_42, eqB_r_43, eqB_r_44, eqB_r_45, eqB_r_79, rd_S1x2048x512 arg6 harg6 x5, rd_S1x1024x512 arg9 harg9 x8, rd_S1x1024 arg10 harg10 x9]; try rfl

end Cert.KernelIdeal.Whole
-- ==== Proof.Val.PrepOut.lean ====
module
public import proofs.«01_k».proof.Proof.Val.PrepEq
@[expose] public section
set_option maxRecDepth 16384
noncomputable section
/-! What the preparation body leaves in its output blocks, entry by entry. -/
namespace Cert.KernelIdeal.Whole
open Idealize.ShloMosaic Idealize.ShloMosaic.TcCoe Idealize.ShloMosaic.Tactic
open Cert.KernelIdeal.Gen

/-- The folded queries as an array: row `64 h + s` is head `h`'s part of query row `s` against that head's rows of `wk`. -/
def qpArr (qa : FVec Ideal S64x1024 .bf16) (wk : FVec Ideal S1024x1024 .bf16) (y : S1x1024x1024.Idx) : EReal :=
  ∑ e : Fin 64, qa (ix2 ⟨(y 1).val % 64, Nat.mod_lt _ (by omega)⟩ ⟨64 * ((y 1).val / 64) + e.val, by have h : (y 1).val < 1024 := (y 1).isLt; omega⟩)
    * wk (ix2 ⟨64 * ((y 1).val / 64) + e.val, by have h : (y 1).val < 1024 := (y 1).isLt; omega⟩ (y 2))

theorem qpArr_of (qa : FVec Ideal S64x1024 .bf16) (wk : FVec Ideal S1024x1024 .bf16) (h : ℕ) (hh : h < 16) (a : Fin 64) (b : Fin 1024)
    (n : ℕ) (hn : n < 1024) (e : n = 64 * h + a.val) (o : ℕ) (ho : o ≤ 960) (eo : o = 64 * h)  :
    ∑ x : Fin 64, qa (ix2 a ⟨o + x.val, by omega⟩) * Pre.rowsOf wk o ho (ix2 x b) = qpArr qa wk (ix3 0 ⟨n, hn⟩ b) := by
  subst e eo
  unfold qpArr Pre.rowsOf
  refine Finset.sum_congr rfl fun x _ => ?_
  have e1 : (64 * h + a.val) % 64 = a.val := by omega
  have e2 : (64 * h + a.val) / 64 = h := by omega
  congr 2
  · congr 1
    · exact Fin.ext e1.symm
    · exact Fin.ext (by show 64 * h + x.val = 64 * ((64 * h + a.val) / 64) + x.val; rw [e2])
  · congr 1
    exact Fin.ext (by show 64 * h + x.val = 64 * ((64 * h + a.val) / 64) + x.val; rw [e2])

theorem emb_qp (o : ℕ) (inb : ∀ a, (![0, o, 0] : Fin 3 → ℕ) a + (![1, 64, 1024] : Fin 3 → ℕ) a ≤ S1x1024x1024.size a) (u : Fin 1) (a : Fin 64) (b : Fin 1024) :
    (Rect.unit (s := S1x1024x1024) ![0, o, 0] ![1, 64, 1024] inb).emb (ix3 u a b)
      = ix3 0 ⟨o + a.val, by have h : o + 64 ≤ 1024 := inb 1; omega⟩ b := by
  funext k
  apply Fin.ext
  match k with
  | ⟨0, _⟩ => show 0 + 1 * u.val = 0; omega
  | ⟨1, _⟩ => show o + 1 * a.val = o + a.val; omega
  | ⟨2, _⟩ => show 0 + 1 * b.val = b.val; omega

theorem idx_rows (o : ℕ) (ho : o ≤ 960) (inb : ∀ a, (![o, 0] : Fin 2 → ℕ) a + S64x1024.size a ≤ S1024x1024.size a) (j : S64x1024.Idx) :
    (Rect.unit (s := S1024x1024) ![o, 0] S64x1024.size inb).toLoadRect.idx j
      = ix2 ⟨o + (j 0).val, by have := (j 0).isLt; simp at this; omega⟩ (j 1) := by
  funext k
  apply Fin.ext
  match k with
  | ⟨0, _⟩ => show o + 1 * (j 0).val = o + (j 0).val; omega
  | ⟨1, _⟩ => show 0 + 1 * (j 1).val = (j 1).val; omega

/-- Sixty-four rows loaded from a buffer held at `X`. -/
theorem rdRows (m : Memref sig .tc .vmem S1024x1024 .bf16) (h : m.IsWhole) (X : Vec Ideal S1024x1024 .bf16) (o : ℕ) (ho : o ≤ 960)
    (inb : ∀ a, (![o, 0] : Fin 2 → ℕ) a + S64x1024.size a ≤ S1024x1024.size a) :
    View.readAt (Elt Ideal) m.view (Rect.unit (s := S1024x1024) ![o, 0] S64x1024.size inb).toLoadRect (h.unread X) = Pre.rowsOf X o ho := by
  funext j
  rw [h.readAt_unread, idx_rows o ho]
  rfl

theorem rdRows' (m : Memref sig .tc .vmem S1024x1024 .bf16) (h : m.IsWhole) (X : Vec Ideal S1024x1024 .bf16) (o : ℕ) (ho : o ≤ 960)
    (inb : ∀ a, (![o, 0] : Fin 2 → ℕ) a + (![64, 1024] : Fin 2 → ℕ) a ≤ S1024x1024.size a) :
    View.readAt (Elt Ideal) m.view (Rect.unit (s := S1024x1024) ![o, 0] ![64, 1024] inb).toLoadRect (h.unread X) = Pre.rowsOf X o ho :=
  rdRows m h X o ho inb

theorem rdLit3 {a b c : ℕ} {e : EltTy} (m : Memref sig .tc .vmem ⟨3, ![a, b, c]⟩ e) (h : m.IsWhole) (X : (⟨3, ![a, b, c]⟩ : Shape).Idx → Elt Ideal e)
    (inb : ∀ k, (![0, 0, 0] : Fin 3 → ℕ) k + (![a, b, c] : Fin 3 → ℕ) k ≤ (⟨3, ![a, b, c]⟩ : Shape).size k) :
    View.readAt (Elt Ideal) m.view (Rect.unit (s := ⟨3, ![a, b, c]⟩) ![0, 0, 0] ![a, b, c] inb).toLoadRect (h.unread X) = X := by
  funext x
  rw [h.readAt_unread]
  congr 1
  funext k
  apply Fin.ext
  match k with
  | ⟨0, _⟩ => show 0 + 1 * (x 0).val = (x 0).val; omega
  | ⟨1, _⟩ => show 0 + 1 * (x 1).val = (x 1).val; omega
  | ⟨2, _⟩ => show 0 + 1 * (x 2).val = (x 2).val; omega

theorem rdLit2 {a b : ℕ} {e : EltTy} (m : Memref sig .tc .vmem ⟨2, ![a, b]⟩ e) (h : m.IsWhole) (X : (⟨2, ![a, b]⟩ : Shape).Idx → Elt Ideal e)
    (inb : ∀ k, (![0, 0] : Fin 2 → ℕ) k + (![a, b] : Fin 2 → ℕ) k ≤ (⟨2, ![a, b]⟩ : Shape).size k) :
    View.readAt (Elt Ideal) m.view (Rect.unit (s := ⟨2, ![a, b]⟩) ![0, 0] ![a, b] inb).toLoadRect (h.unread X) = X := by
  funext x
  rw [h.readAt_unread]
  congr 1
  funext k
  apply Fin.ext
  match k with
  | ⟨0, _⟩ => show 0 + 1 * (x 0).val = (x 0).val; omega
  | ⟨1, _⟩ => show 0 + 1 * (x 1).val = (x 1).val; omega

theorem qpArr_of0 (qa : FVec Ideal S64x1024 .bf16) (wk : FVec Ideal S1024x1024 .bf16) (a : Fin 64) (b : Fin 1024)
    (n : ℕ) (hn : n < 1024) (e : n = a.val) :
    ∑ x : Fin 64, qa (ix2 a ⟨x.val, by omega⟩) * Pre.rowsOf wk 0 (by omega) (ix2 x b) = qpArr qa wk (ix3 0 ⟨n, hn⟩ b) := by
  rw [← qpArr_of qa wk 0 (by omega) a b n hn (by omega) 0 (by omega) (by omega)]
  refine Finset.sum_congr rfl fun x _ => ?_
  congr 3
  exact Fin.ext (by show x.val = 0 + x.val; omega)

/-- Sixty-four rows loaded back from what one whole store of `X` left. -/
theorem covRows (v : View sig .tc .vmem S1024x1024 .bf16) (X : Vec Ideal S1024x1024 .bf16) (o : ℕ) (ho : o ≤ 960) (inb0)
    (inb : ∀ a, (![o, 0] : Fin 2 → ℕ) a + S64x1024.size a ≤ S1024x1024.size a) :
    v.readCov [(⟨Rect.unit (s := S1024x1024) ![0, 0] S1024x1024.size inb0, X⟩ : View.Piece (Elt Ideal) S1024x1024 .bf16)]
      (Rect.unit (s := S1024x1024) ![o, 0] S64x1024.size inb).toLoadRect = Pre.rowsOf X o ho := by
  rw [View.readCov_eq_canon', View.canon_unit_zero (by decide)]
  funext j
  rw [idx_rows o ho]
  rfl

variable (c : Dev nD) (i : grid0.Coords)
  (arg1 : Memref sig .tc .vmem S1x2048x512 .f32) (harg1 : arg1.IsWhole)
  (arg2 : Memref sig .tc .vmem S1x1x2048 .f32) (harg2 : arg2.IsWhole)
  (arg3 : Memref sig .tc .vmem S1x1x64 .i32) (harg3 : arg3.IsWhole)
  (arg4 : Memref sig .tc .vmem S1x1024x512 .bf16) (harg4 : arg4.IsWhole)
  (arg5 : Memref sig .tc .vmem S1x1024 .f32) (harg5 : arg5.IsWhole)
  (arg6 : Memref sig .tc .vmem S1x2048x512 .f32) (harg6 : arg6.IsWhole)
  (arg7 : Memref sig .tc .vmem S1x1x2048 .f32) (harg7 : arg7.IsWhole)
  (arg8 : Memref sig .tc .vmem S1x1x64 .i32) (harg8 : arg8.IsWhole)
  (arg9 : Memref sig .tc .vmem S1x1024x512 .bf16) (harg9 : arg9.IsWhole)
  (arg10 : Memref sig .tc .vmem S1x1024 .f32) (harg10 : arg10.IsWhole)
  (arg11 : Memref sig .tc .vmem S1024x1024 .bf16) (harg11 : arg11.IsWhole)
  (arg12 : Memref sig .tc .vmem S1x1024 .f32) (harg12 : arg12.IsWhole)
  (arg13 : Memref sig .tc .vmem S1024x1024 .bf16) (harg13 : arg13.IsWhole)
  (arg14 : Memref sig .tc .vmem S1x1024 .f32) (harg14 : arg14.IsWhole)
  (arg15 : Memref sig .tc .vmem S1024x1024 .bf16) (harg15 : arg15.IsWhole)
  (arg16 : Memref sig .tc .vmem S1024x1024 .bf16) (harg16 : arg16.IsWhole)
  (arg17 : Memref sig .tc .vmem S1024x1024 .bf16) (harg17 : arg17.IsWhole)
  (arg18 : Memref sig .tc .vmem S1x1024 .f32) (harg18 : arg18.IsWhole)
  (arg19 : Memref sig .tc .vmem S1x1024 .f32) (harg19 : arg19.IsWhole)
  (arg20 : Memref sig .tc .vmem S1x1024x1024 .bf16) (harg20 : arg20.IsWhole)
  (arg21 : Memref sig .tc .vmem S1x64x1 .f32) (harg21 : arg21.IsWhole)
  (arg22 : Memref sig .tc .vmem S1024x1024 .bf16) (harg22 : arg22.IsWhole)
  (arg23 : Memref sig .tc .vmem S1x1024 .f32) (harg23 : arg23.IsWhole)
  (arg24 : Memref sig .tc .vmem S1024x1024 .bf16) (harg24 : arg24.IsWhole)
variable (x0 : Vec Ideal S1x2048x512 .f32) (x1 : Vec Ideal S1x1x2048 .f32) (x2 : Vec Ideal S1x1x64 .i32) (x3 : Vec Ideal S1x1024x512 .bf16) (x4 : Vec Ideal S1x1024 .f32) (x5 : Vec Ideal S1x2048x512 .f32) (x6 : Vec Ideal S1x1x2048 .f32) (x7 : Vec Ideal S1x1x64 .i32) (x8 : Vec Ideal S1x1024x512 .bf16) (x9 : Vec Ideal S1x1024 .f32) (x10 : Vec Ideal S1024x1024 .bf16) (x11 : Vec Ideal S1x1024 .f32) (x12 : Vec Ideal S1024x1024 .bf16) (x13 : Vec Ideal S1x1024 .f32) (x14 : Vec Ideal S1024x1024 .bf16) (x15 : Vec Ideal S1024x1024 .bf16) (x16 : Vec Ideal S1024x1024 .bf16) (x17 : Vec Ideal S1x1024 .f32) (x18 : Vec Ideal S1x1024 .f32)

theorem eqA_v831 : prepRunA.sl.v831 (F := Ideal) c arg15 harg15 arg17 harg17 arg24 x14 x16 = Pre.rowsOf (k0_pay5 x16 x14) 0 (by omega) := by
  unfold prepRunA.sl.v831 prepRunA.sl.HS_1
  rw [rd_S1024x1024 arg15 harg15 x14, rd_S1024x1024 arg17 harg17 x16]
  exact covRows _ _ _ _ _ _
theorem eqA_v838 : prepRunA.sl.v838 (F := Ideal) c arg15 harg15 arg17 harg17 arg24 x14 x16 = Pre.rowsOf (k0_pay5 x16 x14) 64 (by omega) := by
  unfold prepRunA.sl.v838 prepRunA.sl.HS_1
  rw [rd_S1024x1024 arg15 harg15 x14, rd_S1024x1024 arg17 harg17 x16]
  exact covRows _ _ _ _ _ _
theorem eqA_v845 : prepRunA.sl.v845 (F := Ideal) c arg15 harg15 arg17 harg17 arg24 x14 x16 = Pre.rowsOf (k0_pay5 x16 x14) 128 (by omega) := by
  unfold prepRunA.sl.v845 prepRunA.sl.HS_1
  rw [rd_S1024x1024 arg15 harg15 x14, rd_S1024x1024 arg17 harg17 x16]
  exact covRows _ _ _ _ _ _
theorem eqA_v852 : prepRunA.sl.v852 (F := Ideal) c arg15 harg15 arg17 harg17 arg24 x14 x16 = Pre.rowsOf (k0_pay5 x16 x14) 192 (by omega) := by
  unfold prepRunA.sl.v852 prepRunA.sl.HS_1
  rw [rd_S1024x1024 arg15 harg15 x14, rd_S1024x1024 arg17 harg17 x16]
  exact covRows _ _ _ _ _ _
theorem eqA_v859 : prepRunA.sl.v859 (F := Ideal) c arg15 harg15 arg17 harg17 arg24 x14 x16 = Pre.rowsOf (k0_pay5 x16 x14) 256 (by omega) := by
  unfold prepRunA.sl.v859 prepRunA.sl.HS_1
  rw [rd_S1024x1024 arg15 harg15 x14, rd_S1024x1024 arg17 harg17 x16]
  exact covRows _ _ _ _ _ _
theorem eqA_v866 : prepRunA.sl.v866 (F := Ideal) c arg15 harg15 arg17 harg17 arg24 x14 x16 = Pre.rowsOf (k0_pay5 x16 x14) 320 (by omega) := by
  unfold prepRunA.sl.v866 prepRunA.sl.HS_1
  rw [rd_S1024x1024 arg15 harg15 x14, rd_S1024x1024 arg17 harg17 x16]
  exact covRows _ _ _ _ _ _
theorem eqA_v873 : prepRunA.sl.v873 (F := Ideal) c arg15 harg15 arg17 harg17 arg24 x14 x16 = Pre.rowsOf (k0_pay5 x16 x14) 384 (by omega) := by
  unfold prepRunA.sl.v873 prepRunA.sl.HS_1
  rw [rd_S1024x1024 arg15 harg15 x14, rd_S1024x1024 arg17 harg17 x16]
  exact covRows _ _ _ _ _ _
theorem eqA_v880 : prepRunA.sl.v880 (F := Ideal) c arg15 harg15 arg17 harg17 arg24 x14 x16 = Pre.rowsOf (k0_pay5 x16 x14) 448 (by omega) := by
  unfold prepRunA.sl.v880 prepRunA.sl.HS_1
  rw [rd_S1024x1024 arg15 harg15 x14, rd_S1024x1024 arg17 harg17 x16]
  exact covRows _ _ _ _ _ _
theorem eqA_v887 : prepRunA.sl.v887 (F := Ideal) c arg15 harg15 arg17 harg17 arg24 x14 x16 = Pre.rowsOf (k0_pay5 x16 x14) 512 (by omega) := by
  unfold prepRunA.sl.v887 prepRunA.sl.HS_1
  rw [rd_S1024x1024 arg15 harg15 x14, rd_S1024x1024 arg17 harg17 x16]
  exact covRows _ _ _ _ _ _
theorem eqA_v894 : prepRunA.sl.v894 (F := Ideal) c arg15 harg15 arg17 harg17 arg24 x14 x16 = Pre.rowsOf (k0_pay5 x16 x14) 576 (by omega) := by
  unfold prepRunA.sl.v894 prepRunA.sl.HS_1
  rw [rd_S1024x1024 arg15 harg15 x14, rd_S1024x1024 arg17 harg17 x16]
  exact covRows _ _ _ _ _ _
theorem eqA_v901 : prepRunA.sl.v901 (F := Ideal) c arg15 harg15 arg17 harg17 arg24 x14 x16 = Pre.rowsOf (k0_pay5 x16 x14) 640 (by omega) := by
  unfold prepRunA.sl.v901 prepRunA.sl.HS_1
  rw [rd_S1024x1024 arg15 harg15 x14, rd_S1024x1024 arg17 harg17 x16]
  exact covRows _ _ _ _ _ _
theorem eqA_v908 : prepRunA.sl.v908 (F := Ideal) c arg15 harg15 arg17 harg17 arg24 x14 x16 = Pre.rowsOf (k0_pay5 x16 x14) 704 (by omega) := by
  unfold prepRunA.sl.v908 prepRunA.sl.HS_1
  rw [rd_S1024x1024 arg15 harg15 x14, rd_S1024x1024 arg17 harg17 x16]
  exact covRows _ _ _ _ _ _
theorem eqA_v915 : prepRunA.sl.v915 (F := Ideal) c arg15 harg15 arg17 harg17 arg24 x14 x16 = Pre.rowsOf (k0_pay5 x16 x14) 768 (by omega) := by
  unfold prepRunA.sl.v915 prepRunA.sl.HS_1
  rw [rd_S1024x1024 arg15 harg15 x14, rd_S1024x1024 arg17 harg17 x16]
  exact covRows _ _ _ _ _ _
theorem eqA_v922 : prepRunA.sl.v922 (F := Ideal) c arg15 harg15 arg17 harg17 arg24 x14 x16 = Pre.rowsOf (k0_pay5 x16 x14) 832 (by omega) := by
  unfold prepRunA.sl.v922 prepRunA.sl.HS_1
  rw [rd_S1024x1024 arg15 harg15 x14, rd_S1024x1024 arg17 harg17 x16]
  exact covRows _ _ _ _ _ _
theorem eqA_v929 : prepRunA.sl.v929 (F := Ideal) c arg15 harg15 arg17 harg17 arg24 x14 x16 = Pre.rowsOf (k0_pay5 x16 x14) 896 (by omega) := by
  unfold prepRunA.sl.v929 prepRunA.sl.HS_1
  rw [rd_S1024x1024 arg15 harg15 x14, rd_S1024x1024 arg17 harg17 x16]
  exact covRows _ _ _ _ _ _
theorem eqA_v936 : prepRunA.sl.v936 (F := Ideal) c arg15 harg15 arg17 harg17 arg24 x14 x16 = Pre.rowsOf (k0_pay5 x16 x14) 960 (by omega) := by
  unfold prepRunA.sl.v936 prepRunA.sl.HS_1
  rw [rd_S1024x1024 arg15 harg15 x14, rd_S1024x1024 arg17 harg17 x16]
  exact covRows _ _ _ _ _ _

set_option maxHeartbeats 4000000 in
theorem qpA_pieces (hc : cond0 i) : ∀ p ∈ (prepRunA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 hc).1, ∀ x : p.1.shape.Idx,
    p.2 x = qpArr (Pre.t80 x0 x1 x2 x3 x4 x5 x6 x7 x8 x9 x10 x11 x12 x13) (k0_pay5 x16 x14) (p.1.emb x) := by
  unfold prepRunA
  dsimp only
  simp only [List.forall_mem_cons]
  refine ⟨?_, ?_, ?_, ?_, ?_, ?_, ?_, ?_, ?_, ?_, ?_, ?_, ?_, ?_, ?_, ?_, by simp⟩
  · intro x
    obtain ⟨u, a, b, rfl⟩ : ∃ (u : Fin 1) (a : Fin 64) (b : Fin 1024), x = ix3 u a b := ⟨x 0, x 1, x 2, eq_ix3 x⟩
    rw [emb_qp]
    try unfold prepRunA.sl.r_81
    try unfold prepRunA.sl.r_82
    try unfold prepRunA.sl.r_83
    rw [eqA_r_80]
    rw [eqA_v936]
    pointwise [k0_pay1, k0_pay2, k0_pay3, k0_pay105, k0_pay106, k0_pay107, k0_pay108, k0_pay109, k0_pay110, k0_pay111, k0_pay112, k0_pay113, k0_pay114, k0_pay115, k0_pay116, k0_pay117, k0_pay118, k0_pay119]
    exact qpArr_of (Pre.t80 x0 x1 x2 x3 x4 x5 x6 x7 x8 x9 x10 x11 x12 x13) (k0_pay5 x16 x14) 15 (by omega) a b _ _ (by omega) 960 (by omega) (by omega)
  · intro x
    obtain ⟨u, a, b, rfl⟩ : ∃ (u : Fin 1) (a : Fin 64) (b : Fin 1024), x = ix3 u a b := ⟨x 0, x 1, x 2, eq_ix3 x⟩
    rw [emb_qp]
    try unfold prepRunA.sl.r_81
    try unfold prepRunA.sl.r_82
    try unfold prepRunA.sl.r_83
    rw [eqA_r_80]
    rw [eqA_v929]
    pointwise [k0_pay1, k0_pay2, k0_pay3, k0_pay105, k0_pay106, k0_pay107, k0_pay108, k0_pay109, k0_pay110, k0_pay111, k0_pay112, k0_pay113, k0_pay114, k0_pay115, k0_pay116, k0_pay117, k0_pay118, k0_pay119]
    exact qpArr_of (Pre.t80 x0 x1 x2 x3 x4 x5 x6 x7 x8 x9 x10 x11 x12 x13) (k0_pay5 x16 x14) 14 (by omega) a b _ _ (by omega) 896 (by omega) (by omega)
  · intro x
    obtain ⟨u, a, b, rfl⟩ : ∃ (u : Fin 1) (a : Fin 64) (b : Fin 1024), x = ix3 u a b := ⟨x 0, x 1, x 2, eq_ix3 x⟩
    rw [emb_qp]
    try unfold prepRunA.sl.r_81
    try unfold prepRunA.sl.r_82
    try unfold prepRunA.sl.r_83
    rw [eqA_r_80]
    rw [eqA_v922]
    pointwise [k0_pay1, k0_pay2, k0_pay3, k0_pay105, k0_pay106, k0_pay107, k0_pay108, k0_pay109, k0_pay110, k0_pay111, k0_pay112, k0_pay113, k0_pay114, k0_pay115, k0_pay116, k0_pay117, k0_pay118, k0_pay119]
    exact qpArr_of (Pre.t80 x0 x1 x2 x3 x4 x5 x6 x7 x8 x9 x10 x11 x12 x13) (k0_pay5 x16 x14) 13 (by omega) a b _ _ (by omega) 832 (by omega) (by omega)
  · intro x
    obtain ⟨u, a, b, rfl⟩ : ∃ (u : Fin 1) (a : Fin 64) (b : Fin 1024), x = ix3 u a b := ⟨x 0, x 1, x 2, eq_ix3 x⟩
    rw [emb_qp]
    try unfold prepRunA.sl.r_81
    try unfold prepRunA.sl.r_82
    try unfold prepRunA.sl.r_83
    rw [eqA_r_80]
    rw [eqA_v915]
    pointwise [k0_pay1, k0_pay2, k0_pay3, k0_pay105, k0_pay106, k0_pay107, k0_pay108, k0_pay109, k0_pay110, k0_pay111, k0_pay112, k0_pay113, k0_pay114, k0_pay115, k0_pay116, k0_pay117, k0_pay118, k0_pay119]
    exact qpArr_of (Pre.t80 x0 x1 x2 x3 x4 x5 x6 x7 x8 x9 x10 x11 x12 x13) (k0_pay5 x16 x14) 12 (by omega) a b _ _ (by omega) 768 (by omega) (by omega)
  · intro x
    obtain ⟨u, a, b, rfl⟩ : ∃ (u : Fin 1) (a : Fin 64) (b : Fin 1024), x = ix3 u a b := ⟨x 0, x 1, x 2, eq_ix3 x⟩
    rw [emb_qp]
    try unfold prepRunA.sl.r_81
    try unfold prepRunA.sl.r_82
    try unfold prepRunA.sl.r_83
    rw [eqA_r_80]
    rw [eqA_v908]
    pointwise [k0_pay1, k0_pay2, k0_pay3, k0_pay105, k0_pay106, k0_pay107, k0_pay108, k0_pay109, k0_pay110, k0_pay111, k0_pay112, k0_pay113, k0_pay114, k0_pay115, k0_pay116, k0_pay117, k0_pay118, k0_pay119]
    exact qpArr_of (Pre.t80 x0 x1 x2 x3 x4 x5 x6 x7 x8 x9 x10 x11 x12 x13) (k0_pay5 x16 x14) 11 (by omega) a b _ _ (by omega) 704 (by omega) (by omega)
  · intro x
    obtain ⟨u, a, b, rfl⟩ : ∃ (u : Fin 1) (a : Fin 64) (b : Fin 1024), x = ix3 u a b := ⟨x 0, x 1, x 2, eq_ix3 x⟩
    rw [emb_qp]
    try unfold prepRunA.sl.r_81
    try unfold prepRunA.sl.r_82
    try unfold prepRunA.sl.r_83
    rw [eqA_r_80]
    rw [eqA_v901]
    pointwise [k0_pay1, k0_pay2, k0_pay3, k0_pay105, k0_pay106, k0_pay107, k0_pay108, k0_pay109, k0_pay110, k0_pay111, k0_pay112, k0_pay113, k0_pay114, k0_pay115, k0_pay116, k0_pay117, k0_pay118, k0_pay119]
    exact qpArr_of (Pre.t80 x0 x1 x2 x3 x4 x5 x6 x7 x8 x9 x10 x11 x12 x13) (k0_pay5 x16 x14) 10 (by omega) a b _ _ (by omega) 640 (by omega) (by omega)
  · intro x
    obtain ⟨u, a, b, rfl⟩ : ∃ (u : Fin 1) (a : Fin 64) (b : Fin 1024), x = ix3 u a b := ⟨x 0, x 1, x 2, eq_ix3 x⟩
    rw [emb_qp]
    try unfold prepRunA.sl.r_81
    try unfold prepRunA.sl.r_82
    try unfold prepRunA.sl.r_83
    rw [eqA_r_80]
    rw [eqA_v894]
    pointwise [k0_pay1, k0_pay2, k0_pay3, k0_pay105, k0_pay106, k0_pay107, k0_pay108, k0_pay109, k0_pay110, k0_pay111, k0_pay112, k0_pay113, k0_pay114, k0_pay115, k0_pay116, k0_pay117, k0_pay118, k0_pay119]
    exact qpArr_of (Pre.t80 x0 x1 x2 x3 x4 x5 x6 x7 x8 x9 x10 x11 x12 x13) (k0_pay5 x16 x14) 9 (by omega) a b _ _ (by omega) 576 (by omega) (by omega)
  · intro x
    obtain ⟨u, a, b, rfl⟩ : ∃ (u : Fin 1) (a : Fin 64) (b : Fin 1024), x = ix3 u a b := ⟨x 0, x 1, x 2, eq_ix3 x⟩
    rw [emb_qp]
    try unfold prepRunA.sl.r_81
    try unfold prepRunA.sl.r_82
    try unfold prepRunA.sl.r_83
    rw [eqA_r_80]
    rw [eqA_v887]
    pointwise [k0_pay1, k0_pay2, k0_pay3, k0_pay105, k0_pay106, k0_pay107, k0_pay108, k0_pay109, k0_pay110, k0_pay111, k0_pay112, k0_pay113, k0_pay114, k0_pay115, k0_pay116, k0_pay117, k0_pay118, k0_pay119]
    exact qpArr_of (Pre.t80 x0 x1 x2 x3 x4 x5 x6 x7 x8 x9 x10 x11 x12 x13) (k0_pay5 x16 x14) 8 (by omega) a b _ _ (by omega) 512 (by omega) (by omega)
  · intro x
    obtain ⟨u, a, b, rfl⟩ : ∃ (u : Fin 1) (a : Fin 64) (b : Fin 1024), x = ix3 u a b := ⟨x 0, x 1, x 2, eq_ix3 x⟩
    rw [emb_qp]
    try unfold prepRunA.sl.r_81
    try unfold prepRunA.sl.r_82
    try unfold prepRunA.sl.r_83
    rw [eqA_r_80]
    rw [eqA_v880]
    pointwise [k0_pay1, k0_pay2, k0_pay3, k0_pay105, k0_pay106, k0_pay107, k0_pay108, k0_pay109, k0_pay110, k0_pay111, k0_pay112, k0_pay113, k0_pay114, k0_pay115, k0_pay116, k0_pay117, k0_pay118, k0_pay119]
    exact qpArr_of (Pre.t80 x0 x1 x2 x3 x4 x5 x6 x7 x8 x9 x10 x11 x12 x13) (k0_pay5 x16 x14) 7 (by omega) a b _ _ (by omega) 448 (by omega) (by omega)
  · intro x
    obtain ⟨u, a, b, rfl⟩ : ∃ (u : Fin 1) (a : Fin 64) (b : Fin 1024), x = ix3 u a b := ⟨x 0, x 1, x 2, eq_ix3 x⟩
    rw [emb_qp]
    try unfold prepRunA.sl.r_81
    try unfold prepRunA.sl.r_82
    try unfold prepRunA.sl.r_83
    rw [eqA_r_80]
    rw [eqA_v873]
    pointwise [k0_pay1, k0_pay2, k0_pay3, k0_pay105, k0_pay106, k0_pay107, k0_pay108, k0_pay109, k0_pay110, k0_pay111, k0_pay112, k0_pay113, k0_pay114, k0_pay115, k0_pay116, k0_pay117, k0_pay118, k0_pay119]
    exact qpArr_of (Pre.t80 x0 x1 x2 x3 x4 x5 x6 x7 x8 x9 x10 x11 x12 x13) (k0_pay5 x16 x14) 6 (by omega) a b _ _ (by omega) 384 (by omega) (by omega)
  · intro x
    obtain ⟨u, a, b, rfl⟩ : ∃ (u : Fin 1) (a : Fin 64) (b : Fin 1024), x = ix3 u a b := ⟨x 0, x 1, x 2, eq_ix3 x⟩
    rw [emb_qp]
    try unfold prepRunA.sl.r_81
    try unfold prepRunA.sl.r_82
    try unfold prepRunA.sl.r_83
    rw [eqA_r_80]
    rw [eqA_v866]
    pointwise [k0_pay1, k0_pay2, k0_pay3, k0_pay105, k0_pay106, k0_pay107, k0_pay108, k0_pay109, k0_pay110, k0_pay111, k0_pay112, k0_pay113, k0_pay114, k0_pay115, k0_pay116, k0_pay117, k0_pay118, k0_pay119]
    exact qpArr_of (Pre.t80 x0 x1 x2 x3 x4 x5 x6 x7 x8 x9 x10 x11 x12 x13) (k0_pay5 x16 x14) 5 (by omega) a b _ _ (by omega) 320 (by omega) (by omega)
  · intro x
    obtain ⟨u, a, b, rfl⟩ : ∃ (u : Fin 1) (a : Fin 64) (b : Fin 1024), x = ix3 u a b := ⟨x 0, x 1, x 2, eq_ix3 x⟩
    rw [emb_qp]
    try unfold prepRunA.sl.r_81
    try unfold prepRunA.sl.r_82
    try unfold prepRunA.sl.r_83
    rw [eqA_r_80]
    rw [eqA_v859]
    pointwise [k0_pay1, k0_pay2, k0_pay3, k0_pay105, k0_pay106, k0_pay107, k0_pay108, k0_pay109, k0_pay110, k0_pay111, k0_pay112, k0_pay113, k0_pay114, k0_pay115, k0_pay116, k0_pay117, k0_pay118, k0_pay119]
    exact qpArr_of (Pre.t80 x0 x1 x2 x3 x4 x5 x6 x7 x8 x9 x10 x11 x12 x13) (k0_pay5 x16 x14) 4 (by omega) a b _ _ (by omega) 256 (by omega) (by omega)
  · intro x
    obtain ⟨u, a, b, rfl⟩ : ∃ (u : Fin 1) (a : Fin 64) (b : Fin 1024), x = ix3 u a b := ⟨x 0, x 1, x 2, eq_ix3 x⟩
    rw [emb_qp]
    try unfold prepRunA.sl.r_81
    try unfold prepRunA.sl.r_82
    try unfold prepRunA.sl.r_83
    rw [eqA_r_80]
    rw [eqA_v852]
    pointwise [k0_pay1, k0_pay2, k0_pay3, k0_pay105, k0_pay106, k0_pay107, k0_pay108, k0_pay109, k0_pay110, k0_pay111, k0_pay112, k0_pay113, k0_pay114, k0_pay115, k0_pay116, k0_pay117, k0_pay118, k0_pay119]
    exact qpArr_of (Pre.t80 x0 x1 x2 x3 x4 x5 x6 x7 x8 x9 x10 x11 x12 x13) (k0_pay5 x16 x14) 3 (by omega) a b _ _ (by omega) 192 (by omega) (by omega)
  · intro x
    obtain ⟨u, a, b, rfl⟩ : ∃ (u : Fin 1) (a : Fin 64) (b : Fin 1024), x = ix3 u a b := ⟨x 0, x 1, x 2, eq_ix3 x⟩
    rw [emb_qp]
    try unfold prepRunA.sl.r_81
    try unfold prepRunA.sl.r_82
    try unfold prepRunA.sl.r_83
    rw [eqA_r_80]
    rw [eqA_v845]
    pointwise [k0_pay1, k0_pay2, k0_pay3, k0_pay105, k0_pay106, k0_pay107, k0_pay108, k0_pay109, k0_pay110, k0_pay111, k0_pay112, k0_pay113, k0_pay114, k0_pay115, k0_pay116, k0_pay117, k0_pay118, k0_pay119]
    exact qpArr_of (Pre.t80 x0 x1 x2 x3 x4 x5 x6 x7 x8 x9 x10 x11 x12 x13) (k0_pay5 x16 x14) 2 (by omega) a b _ _ (by omega) 128 (by omega) (by omega)
  · intro x
    obtain ⟨u, a, b, rfl⟩ : ∃ (u : Fin 1) (a : Fin 64) (b : Fin 1024), x = ix3 u a b := ⟨x 0, x 1, x 2, eq_ix3 x⟩
    rw [emb_qp]
    try unfold prepRunA.sl.r_81
    try unfold prepRunA.sl.r_82
    try unfold prepRunA.sl.r_83
    rw [eqA_r_80]
    rw [eqA_v838]
    pointwise [k0_pay1, k0_pay2, k0_pay3, k0_pay105, k0_pay106, k0_pay107, k0_pay108, k0_pay109, k0_pay110, k0_pay111, k0_pay112, k0_pay113, k0_pay114, k0_pay115, k0_pay116, k0_pay117, k0_pay118, k0_pay119]
    exact qpArr_of (Pre.t80 x0 x1 x2 x3 x4 x5 x6 x7 x8 x9 x10 x11 x12 x13) (k0_pay5 x16 x14) 1 (by omega) a b _ _ (by omega) 64 (by omega) (by omega)
  · intro x
    obtain ⟨u, a, b, rfl⟩ : ∃ (u : Fin 1) (a : Fin 64) (b : Fin 1024), x = ix3 u a b := ⟨x 0, x 1, x 2, eq_ix3 x⟩
    rw [emb_qp]
    try unfold prepRunA.sl.r_81
    try unfold prepRunA.sl.r_82
    try unfold prepRunA.sl.r_83
    rw [eqA_r_41, eqA_r_42, eqA_r_43, eqA_r_44, eqA_r_45, eqA_r_79]
    erw [rdLit3 arg6 harg6 x5, rdLit3 arg9 harg9 x8, rdLit2 arg10 harg10 x9]
    rw [eqA_v831]
    pointwise [k0_pay104]
    exact qpArr_of0 (Pre.t80 x0 x1 x2 x3 x4 x5 x6 x7 x8 x9 x10 x11 x12 x13) (k0_pay5 x16 x14) a b _ _ (by omega)

set_option maxHeartbeats 4000000 in
theorem qpB_pieces (hc : ¬cond0 i) (xs : Vec Ideal S1024x1024 .bf16) : ∀ p ∈ (prepRunB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 hc xs).1, ∀ x : p.1.shape.Idx,
    p.2 x = qpArr (Pre.t80 x0 x1 x2 x3 x4 x5 x6 x7 x8 x9 x10 x11 x12 x13) xs (p.1.emb x) := by
  unfold prepRunB
  dsimp only
  simp only [List.forall_mem_cons]
  refine ⟨?_, ?_, ?_, ?_, ?_, ?_, ?_, ?_, ?_, ?_, ?_, ?_, ?_, ?_, ?_, ?_, by simp⟩
  · intro x
    obtain ⟨u, a, b, rfl⟩ : ∃ (u : Fin 1) (a : Fin 64) (b : Fin 1024), x = ix3 u a b := ⟨x 0, x 1, x 2, eq_ix3 x⟩
    rw [emb_qp]
    try unfold prepRunB.sl.r_81
    try unfold prepRunB.sl.r_82
    try unfold prepRunB.sl.r_83
    try unfold prepRunB.sl.r_84
    rw [eqB_r_80]
    first | rw [rdRows arg24 harg24 xs 960 (by omega)] | rw [rdRows' arg24 harg24 xs 960 (by omega)] | erw [rdRows' arg24 harg24 xs 960 (by omega)]
    pointwise [k0_pay1, k0_pay2, k0_pay3, k0_pay105, k0_pay106, k0_pay107, k0_pay108, k0_pay109, k0_pay110, k0_pay111, k0_pay112, k0_pay113, k0_pay114, k0_pay115, k0_pay116, k0_pay117, k0_pay118, k0_pay119]
    exact qpArr_of (Pre.t80 x0 x1 x2 x3 x4 x5 x6 x7 x8 x9 x10 x11 x12 x13) xs 15 (by omega) a b _ _ (by omega) 960 (by omega) (by omega)
  · intro x
    obtain ⟨u, a, b, rfl⟩ : ∃ (u : Fin 1) (a : Fin 64) (b : Fin 1024), x = ix3 u a b := ⟨x 0, x 1, x 2, eq_ix3 x⟩
    rw [emb_qp]
    try unfold prepRunB.sl.r_81
    try unfold prepRunB.sl.r_82
    try unfold prepRunB.sl.r_83
    try unfold prepRunB.sl.r_84
    rw [eqB_r_80]
    first | rw [rdRows arg24 harg24 xs 896 (by omega)] | rw [rdRows' arg24 harg24 xs 896 (by omega)] | erw [rdRows' arg24 harg24 xs 896 (by omega)]
    pointwise [k0_pay1, k0_pay2, k0_pay3, k0_pay105, k0_pay106, k0_pay107, k0_pay108, k0_pay109, k0_pay110, k0_pay111, k0_pay112, k0_pay113, k0_pay114, k0_pay115, k0_pay116, k0_pay117, k0_pay118, k0_pay119]
    exact qpArr_of (Pre.t80 x0 x1 x2 x3 x4 x5 x6 x7 x8 x9 x10 x11 x12 x13) xs 14 (by omega) a b _ _ (by omega) 896 (by omega) (by omega)
  · intro x
    obtain ⟨u, a, b, rfl⟩ : ∃ (u : Fin 1) (a : Fin 64) (b : Fin 1024), x = ix3 u a b := ⟨x 0, x 1, x 2, eq_ix3 x⟩
    rw [emb_qp]
    try unfold prepRunB.sl.r_81
    try unfold prepRunB.sl.r_82
    try unfold prepRunB.sl.r_83
    try unfold prepRunB.sl.r_84
    rw [eqB_r_80]
    first | rw [rdRows arg24 harg24 xs 832 (by omega)] | rw [rdRows' arg24 harg24 xs 832 (by omega)] | erw [rdRows' arg24 harg24 xs 832 (by omega)]
    pointwise [k0_pay1, k0_pay2, k0_pay3, k0_pay105, k0_pay106, k0_pay107, k0_pay108, k0_pay109, k0_pay110, k0_pay111, k0_pay112, k0_pay113, k0_pay114, k0_pay115, k0_pay116, k0_pay117, k0_pay118, k0_pay119]
    exact qpArr_of (Pre.t80 x0 x1 x2 x3 x4 x5 x6 x7 x8 x9 x10 x11 x12 x13) xs 13 (by omega) a b _ _ (by omega) 832 (by omega) (by omega)
  · intro x
    obtain ⟨u, a, b, rfl⟩ : ∃ (u : Fin 1) (a : Fin 64) (b : Fin 1024), x = ix3 u a b := ⟨x 0, x 1, x 2, eq_ix3 x⟩
    rw [emb_qp]
    try unfold prepRunB.sl.r_81
    try unfold prepRunB.sl.r_82
    try unfold prepRunB.sl.r_83
    try unfold prepRunB.sl.r_84
    rw [eqB_r_80]
    first | rw [rdRows arg24 harg24 xs 768 (by omega)] | rw [rdRows' arg24 harg24 xs 768 (by omega)] | erw [rdRows' arg24 harg24 xs 768 (by omega)]
    pointwise [k0_pay1, k0_pay2, k0_pay3, k0_pay105, k0_pay106, k0_pay107, k0_pay108, k0_pay109, k0_pay110, k0_pay111, k0_pay112, k0_pay113, k0_pay114, k0_pay115, k0_pay116, k0_pay117, k0_pay118, k0_pay119]
    exact qpArr_of (Pre.t80 x0 x1 x2 x3 x4 x5 x6 x7 x8 x9 x10 x11 x12 x13) xs 12 (by omega) a b _ _ (by omega) 768 (by omega) (by omega)
  · intro x
    obtain ⟨u, a, b, rfl⟩ : ∃ (u : Fin 1) (a : Fin 64) (b : Fin 1024), x = ix3 u a b := ⟨x 0, x 1, x 2, eq_ix3 x⟩
    rw [emb_qp]
    try unfold prepRunB.sl.r_81
    try unfold prepRunB.sl.r_82
    try unfold prepRunB.sl.r_83
    try unfold prepRunB.sl.r_84
    rw [eqB_r_80]
    first | rw [rdRows arg24 harg24 xs 704 (by omega)] | rw [rdRows' arg24 harg24 xs 704 (by omega)] | erw [rdRows' arg24 harg24 xs 704 (by omega)]
    pointwise [k0_pay1, k0_pay2, k0_pay3, k0_pay105, k0_pay106, k0_pay107, k0_pay108, k0_pay109, k0_pay110, k0_pay111, k0_pay112, k0_pay113, k0_pay114, k0_pay115, k0_pay116, k0_pay117, k0_pay118, k0_pay119]
    exact qpArr_of (Pre.t80 x0 x1 x2 x3 x4 x5 x6 x7 x8 x9 x10 x11 x12 x13) xs 11 (by omega) a b _ _ (by omega) 704 (by omega) (by omega)
  · intro x
    obtain ⟨u, a, b, rfl⟩ : ∃ (u : Fin 1) (a : Fin 64) (b : Fin 1024), x = ix3 u a b := ⟨x 0, x 1, x 2, eq_ix3 x⟩
    rw [emb_qp]
    try unfold prepRunB.sl.r_81
    try unfold prepRunB.sl.r_82
    try unfold prepRunB.sl.r_83
    try unfold prepRunB.sl.r_84
    rw [eqB_r_80]
    first | rw [rdRows arg24 harg24 xs 640 (by omega)] | rw [rdRows' arg24 harg24 xs 640 (by omega)] | erw [rdRows' arg24 harg24 xs 640 (by omega)]
    pointwise [k0_pay1, k0_pay2, k0_pay3, k0_pay105, k0_pay106, k0_pay107, k0_pay108, k0_pay109, k0_pay110, k0_pay111, k0_pay112, k0_pay113, k0_pay114, k0_pay115, k0_pay116, k0_pay117, k0_pay118, k0_pay119]
    exact qpArr_of (Pre.t80 x0 x1 x2 x3 x4 x5 x6 x7 x8 x9 x10 x11 x12 x13) xs 10 (by omega) a b _ _ (by omega) 640 (by omega) (by omega)
  · intro x
    obtain ⟨u, a, b, rfl⟩ : ∃ (u : Fin 1) (a : Fin 64) (b : Fin 1024), x = ix3 u a b := ⟨x 0, x 1, x 2, eq_ix3 x⟩
    rw [emb_qp]
    try unfold prepRunB.sl.r_81
    try unfold prepRunB.sl.r_82
    try unfold prepRunB.sl.r_83
    try unfold prepRunB.sl.r_84
    rw [eqB_r_80]
    first | rw [rdRows arg24 harg24 xs 576 (by omega)] | rw [rdRows' arg24 harg24 xs 576 (by omega)] | erw [rdRows' arg24 harg24 xs 576 (by omega)]
    pointwise [k0_pay1, k0_pay2, k0_pay3, k0_pay105, k0_pay106, k0_pay107, k0_pay108, k0_pay109, k0_pay110, k0_pay111, k0_pay112, k0_pay113, k0_pay114, k0_pay115, k0_pay116, k0_pay117, k0_pay118, k0_pay119]
    exact qpArr_of (Pre.t80 x0 x1 x2 x3 x4 x5 x6 x7 x8 x9 x10 x11 x12 x13) xs 9 (by omega) a b _ _ (by omega) 576 (by omega) (by omega)
  · intro x
    obtain ⟨u, a, b, rfl⟩ : ∃ (u : Fin 1) (a : Fin 64) (b : Fin 1024), x = ix3 u a b := ⟨x 0, x 1, x 2, eq_ix3 x⟩
    rw [emb_qp]
    try unfold prepRunB.sl.r_81
    try unfold prepRunB.sl.r_82
    try unfold prepRunB.sl.r_83
    try unfold prepRunB.sl.r_84
    rw [eqB_r_80]
    first | rw [rdRows arg24 harg24 xs 512 (by omega)] | rw [rdRows' arg24 harg24 xs 512 (by omega)] | erw [rdRows' arg24 harg24 xs 512 (by omega)]
    pointwise [k0_pay1, k0_pay2, k0_pay3, k0_pay105, k0_pay106, k0_pay107, k0_pay108, k0_pay109, k0_pay110, k0_pay111, k0_pay112, k0_pay113, k0_pay114, k0_pay115, k0_pay116, k0_pay117, k0_pay118, k0_pay119]
    exact qpArr_of (Pre.t80 x0 x1 x2 x3 x4 x5 x6 x7 x8 x9 x10 x11 x12 x13) xs 8 (by omega) a b _ _ (by omega) 512 (by omega) (by omega)
  · intro x
    obtain ⟨u, a, b, rfl⟩ : ∃ (u : Fin 1) (a : Fin 64) (b : Fin 1024), x = ix3 u a b := ⟨x 0, x 1, x 2, eq_ix3 x⟩
    rw [emb_qp]
    try unfold prepRunB.sl.r_81
    try unfold prepRunB.sl.r_82
    try unfold prepRunB.sl.r_83
    try unfold prepRunB.sl.r_84
    rw [eqB_r_80]
    first | rw [rdRows arg24 harg24 xs 448 (by omega)] | rw [rdRows' arg24 harg24 xs 448 (by omega)] | erw [rdRows' arg24 harg24 xs 448 (by omega)]
    pointwise [k0_pay1, k0_pay2, k0_pay3, k0_pay105, k0_pay106, k0_pay107, k0_pay108, k0_pay109, k0_pay110, k0_pay111, k0_pay112, k0_pay113, k0_pay114, k0_pay115, k0_pay116, k0_pay117, k0_pay118, k0_pay119]
    exact qpArr_of (Pre.t80 x0 x1 x2 x3 x4 x5 x6 x7 x8 x9 x10 x11 x12 x13) xs 7 (by omega) a b _ _ (by omega) 448 (by omega) (by omega)
  · intro x
    obtain ⟨u, a, b, rfl⟩ : ∃ (u : Fin 1) (a : Fin 64) (b : Fin 1024), x = ix3 u a b := ⟨x 0, x 1, x 2, eq_ix3 x⟩
    rw [emb_qp]
    try unfold prepRunB.sl.r_81
    try unfold prepRunB.sl.r_82
    try unfold prepRunB.sl.r_83
    try unfold prepRunB.sl.r_84
    rw [eqB_r_80]
    first | rw [rdRows arg24 harg24 xs 384 (by omega)] | rw [rdRows' arg24 harg24 xs 384 (by omega)] | erw [rdRows' arg24 harg24 xs 384 (by omega)]
    pointwise [k0_pay1, k0_pay2, k0_pay3, k0_pay105, k0_pay106, k0_pay107, k0_pay108, k0_pay109, k0_pay110, k0_pay111, k0_pay112, k0_pay113, k0_pay114, k0_pay115, k0_pay116, k0_pay117, k0_pay118, k0_pay119]
    exact qpArr_of (Pre.t80 x0 x1 x2 x3 x4 x5 x6 x7 x8 x9 x10 x11 x12 x13) xs 6 (by omega) a b _ _ (by omega) 384 (by omega) (by omega)
  · intro x
    obtain ⟨u, a, b, rfl⟩ : ∃ (u : Fin 1) (a : Fin 64) (b : Fin 1024), x = ix3 u a b := ⟨x 0, x 1, x 2, eq_ix3 x⟩
    rw [emb_qp]
    try unfold prepRunB.sl.r_81
    try unfold prepRunB.sl.r_82
    try unfold prepRunB.sl.r_83
    try unfold prepRunB.sl.r_84
    rw [eqB_r_80]
    first | rw [rdRows arg24 harg24 xs 320 (by omega)] | rw [rdRows' arg24 harg24 xs 320 (by omega)] | erw [rdRows' arg24 harg24 xs 320 (by omega)]
    pointwise [k0_pay1, k0_pay2, k0_pay3, k0_pay105, k0_pay106, k0_pay107, k0_pay108, k0_pay109, k0_pay110, k0_pay111, k0_pay112, k0_pay113, k0_pay114, k0_pay115, k0_pay116, k0_pay117, k0_pay118, k0_pay119]
    exact qpArr_of (Pre.t80 x0 x1 x2 x3 x4 x5 x6 x7 x8 x9 x10 x11 x12 x13) xs 5 (by omega) a b _ _ (by omega) 320 (by omega) (by omega)
  · intro x
    obtain ⟨u, a, b, rfl⟩ : ∃ (u : Fin 1) (a : Fin 64) (b : Fin 1024), x = ix3 u a b := ⟨x 0, x 1, x 2, eq_ix3 x⟩
    rw [emb_qp]
    try unfold prepRunB.sl.r_81
    try unfold prepRunB.sl.r_82
    try unfold prepRunB.sl.r_83
    try unfold prepRunB.sl.r_84
    rw [eqB_r_80]
    first | rw [rdRows arg24 harg24 xs 256 (by omega)] | rw [rdRows' arg24 harg24 xs 256 (by omega)] | erw [rdRows' arg24 harg24 xs 256 (by omega)]
    pointwise [k0_pay1, k0_pay2, k0_pay3, k0_pay105, k0_pay106, k0_pay107, k0_pay108, k0_pay109, k0_pay110, k0_pay111, k0_pay112, k0_pay113, k0_pay114, k0_pay115, k0_pay116, k0_pay117, k0_pay118, k0_pay119]
    exact qpArr_of (Pre.t80 x0 x1 x2 x3 x4 x5 x6 x7 x8 x9 x10 x11 x12 x13) xs 4 (by omega) a b _ _ (by omega) 256 (by omega) (by omega)
  · intro x
    obtain ⟨u, a, b, rfl⟩ : ∃ (u : Fin 1) (a : Fin 64) (b : Fin 1024), x = ix3 u a b := ⟨x 0, x 1, x 2, eq_ix3 x⟩
    rw [emb_qp]
    try unfold prepRunB.sl.r_81
    try unfold prepRunB.sl.r_82
    try unfold prepRunB.sl.r_83
    try unfold prepRunB.sl.r_84
    rw [eqB_r_80]
    first | rw [rdRows arg24 harg24 xs 192 (by omega)] | rw [rdRows' arg24 harg24 xs 192 (by omega)] | erw [rdRows' arg24 harg24 xs 192 (by omega)]
    pointwise [k0_pay1, k0_pay2, k0_pay3, k0_pay105, k0_pay106, k0_pay107, k0_pay108, k0_pay109, k0_pay110, k0_pay111, k0_pay112, k0_pay113, k0_pay114, k0_pay115, k0_pay116, k0_pay117, k0_pay118, k0_pay119]
    exact qpArr_of (Pre.t80 x0 x1 x2 x3 x4 x5 x6 x7 x8 x9 x10 x11 x12 x13) xs 3 (by omega) a b _ _ (by omega) 192 (by omega) (by omega)
  · intro x
    obtain ⟨u, a, b, rfl⟩ : ∃ (u : Fin 1) (a : Fin 64) (b : Fin 1024), x = ix3 u a b := ⟨x 0, x 1, x 2, eq_ix3 x⟩
    rw [emb_qp]
    try unfold prepRunB.sl.r_81
    try unfold prepRunB.sl.r_82
    try unfold prepRunB.sl.r_83
    try unfold prepRunB.sl.r_84
    rw [eqB_r_80]
    first | rw [rdRows arg24 harg24 xs 128 (by omega)] | rw [rdRows' arg24 harg24 xs 128 (by omega)] | erw [rdRows' arg24 harg24 xs 128 (by omega)]
    pointwise [k0_pay1, k0_pay2, k0_pay3, k0_pay105, k0_pay106, k0_pay107, k0_pay108, k0_pay109, k0_pay110, k0_pay111, k0_pay112, k0_pay113, k0_pay114, k0_pay115, k0_pay116, k0_pay117, k0_pay118, k0_pay119]
    exact qpArr_of (Pre.t80 x0 x1 x2 x3 x4 x5 x6 x7 x8 x9 x10 x11 x12 x13) xs 2 (by omega) a b _ _ (by omega) 128 (by omega) (by omega)
  · intro x
    obtain ⟨u, a, b, rfl⟩ : ∃ (u : Fin 1) (a : Fin 64) (b : Fin 1024), x = ix3 u a b := ⟨x 0, x 1, x 2, eq_ix3 x⟩
    rw [emb_qp]
    try unfold prepRunB.sl.r_81
    try unfold prepRunB.sl.r_82
    try unfold prepRunB.sl.r_83
    try unfold prepRunB.sl.r_84
    rw [eqB_r_80]
    first | rw [rdRows arg24 harg24 xs 64 (by omega)] | rw [rdRows' arg24 harg24 xs 64 (by omega)] | erw [rdRows' arg24 harg24 xs 64 (by omega)]
    pointwise [k0_pay1, k0_pay2, k0_pay3, k0_pay105, k0_pay106, k0_pay107, k0_pay108, k0_pay109, k0_pay110, k0_pay111, k0_pay112, k0_pay113, k0_pay114, k0_pay115, k0_pay116, k0_pay117, k0_pay118, k0_pay119]
    exact qpArr_of (Pre.t80 x0 x1 x2 x3 x4 x5 x6 x7 x8 x9 x10 x11 x12 x13) xs 1 (by omega) a b _ _ (by omega) 64 (by omega) (by omega)
  · intro x
    obtain ⟨u, a, b, rfl⟩ : ∃ (u : Fin 1) (a : Fin 64) (b : Fin 1024), x = ix3 u a b := ⟨x 0, x 1, x 2, eq_ix3 x⟩
    rw [emb_qp]
    try unfold prepRunB.sl.r_81
    try unfold prepRunB.sl.r_82
    try unfold prepRunB.sl.r_83
    try unfold prepRunB.sl.r_84
    rw [eqB_r_41, eqB_r_42, eqB_r_43, eqB_r_44, eqB_r_45, eqB_r_79]
    erw [rdLit3 arg6 harg6 x5, rdLit3 arg9 harg9 x8, rdLit2 arg10 harg10 x9]
    first | rw [rdRows arg24 harg24 xs 0 (by omega)] | rw [rdRows' arg24 harg24 xs 0 (by omega)] | erw [rdRows' arg24 harg24 xs 0 (by omega)]
    pointwise [k0_pay104]
    exact qpArr_of0 (Pre.t80 x0 x1 x2 x3 x4 x5 x6 x7 x8 x9 x10 x11 x12 x13) xs a b _ _ (by omega)

end Cert.KernelIdeal.Whole
-- ==== Proof.Val.PrepRes.lean ====
module
public import proofs.«01_k».proof.Proof.Val.PrepOut
@[expose] public section
set_option maxRecDepth 16384
noncomputable section
/-! What the preparation call leaves in its output windows at each grid point. -/
namespace Cert.KernelIdeal.Whole
open Idealize.ShloMosaic Idealize.ShloMosaic.TcCoe Idealize.ShloMosaic.Tactic
open Cert.KernelIdeal.Gen

/-- The gates as an array: rows 0 to 31 are track 0's, the rest track 1's. -/
def gArr (g0 g1 : FVec Ideal S32x1 .f32) (y : S1x64x1.Idx) : EReal :=
  if h : (y 1).val < 32 then g0 (ix2 ⟨(y 1).val, h⟩ 0) else g1 (ix2 ⟨(y 1).val - 32, by have h : (y 1).val < 64 := (y 1).isLt; omega⟩ 0)

theorem emb_g (o : ℕ) (inb : ∀ a, (![0, o, 0] : Fin 3 → ℕ) a + (![1, 32, 1] : Fin 3 → ℕ) a ≤ S1x64x1.size a) (u : Fin 1) (a : Fin 32) (b : Fin 1) :
    (Rect.unit (s := S1x64x1) ![0, o, 0] ![1, 32, 1] inb).emb (ix3 u a b)
      = ix3 0 ⟨o + a.val, by have h : o + 32 ≤ 64 := inb 1; omega⟩ 0 := by
  funext k
  apply Fin.ext
  match k with
  | ⟨0, _⟩ => show 0 + 1 * u.val = 0; omega
  | ⟨1, _⟩ => show o + 1 * a.val = o + a.val; omega
  | ⟨2, _⟩ => show 0 + 1 * b.val = 0; omega

variable (c : Dev nD) (i : grid0.Coords)
  (arg1 : Memref sig .tc .vmem S1x2048x512 .f32) (harg1 : arg1.IsWhole)
  (arg2 : Memref sig .tc .vmem S1x1x2048 .f32) (harg2 : arg2.IsWhole)
  (arg3 : Memref sig .tc .vmem S1x1x64 .i32) (harg3 : arg3.IsWhole)
  (arg4 : Memref sig .tc .vmem S1x1024x512 .bf16) (harg4 : arg4.IsWhole)
  (arg5 : Memref sig .tc .vmem S1x1024 .f32) (harg5 : arg5.IsWhole)
  (arg6 : Memref sig .tc .vmem S1x2048x512 .f32) (harg6 : arg6.IsWhole)
  (arg7 : Memref sig .tc .vmem S1x1x2048 .f32) (harg7 : arg7.IsWhole)
  (arg8 : Memref sig .tc .vmem S1x1x64 .i32) (harg8 : arg8.IsWhole)
  (arg9 : Memref sig .tc .vmem S1x1024x512 .bf16) (harg9 : arg9.IsWhole)
  (arg10 : Memref sig .tc .vmem S1x1024 .f32) (harg10 : arg10.IsWhole)
  (arg11 : Memref sig .tc .vmem S1024x1024 .bf16) (harg11 : arg11.IsWhole)
  (arg12 : Memref sig .tc .vmem S1x1024 .f32) (harg12 : arg12.IsWhole)
  (arg13 : Memref sig .tc .vmem S1024x1024 .bf16) (harg13 : arg13.IsWhole)
  (arg14 : Memref sig .tc .vmem S1x1024 .f32) (harg14 : arg14.IsWhole)
  (arg15 : Memref sig .tc .vmem S1024x1024 .bf16) (harg15 : arg15.IsWhole)
  (arg16 : Memref sig .tc .vmem S1024x1024 .bf16) (harg16 : arg16.IsWhole)
  (arg17 : Memref sig .tc .vmem S1024x1024 .bf16) (harg17 : arg17.IsWhole)
  (arg18 : Memref sig .tc .vmem S1x1024 .f32) (harg18 : arg18.IsWhole)
  (arg19 : Memref sig .tc .vmem S1x1024 .f32) (harg19 : arg19.IsWhole)
  (arg20 : Memref sig .tc .vmem S1x1024x1024 .bf16) (harg20 : arg20.IsWhole)
  (arg21 : Memref sig .tc .vmem S1x64x1 .f32) (harg21 : arg21.IsWhole)
  (arg22 : Memref sig .tc .vmem S1024x1024 .bf16) (harg22 : arg22.IsWhole)
  (arg23 : Memref sig .tc .vmem S1x1024 .f32) (harg23 : arg23.IsWhole)
  (arg24 : Memref sig .tc .vmem S1024x1024 .bf16) (harg24 : arg24.IsWhole)
variable (x0 : Vec Ideal S1x2048x512 .f32) (x1 : Vec Ideal S1x1x2048 .f32) (x2 : Vec Ideal S1x1x64 .i32) (x3 : Vec Ideal S1x1024x512 .bf16) (x4 : Vec Ideal S1x1024 .f32) (x5 : Vec Ideal S1x2048x512 .f32) (x6 : Vec Ideal S1x1x2048 .f32) (x7 : Vec Ideal S1x1x64 .i32) (x8 : Vec Ideal S1x1024x512 .bf16) (x9 : Vec Ideal S1x1024 .f32) (x10 : Vec Ideal S1024x1024 .bf16) (x11 : Vec Ideal S1x1024 .f32) (x12 : Vec Ideal S1024x1024 .bf16) (x13 : Vec Ideal S1x1024 .f32) (x14 : Vec Ideal S1024x1024 .bf16) (x15 : Vec Ideal S1024x1024 .bf16) (x16 : Vec Ideal S1024x1024 .bf16) (x17 : Vec Ideal S1x1024 .f32) (x18 : Vec Ideal S1x1024 .f32)

theorem gA_pieces (hc : cond0 i) : ∀ p ∈ (prepRunA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 hc).2.1, ∀ x : p.1.shape.Idx,
    p.2 x = gArr (Pre.t38 x1 x2) (Pre.t78 x6 x7) (p.1.emb x) := by
  unfold prepRunA
  dsimp only
  simp only [List.forall_mem_cons]
  refine ⟨?_, ?_, by simp⟩
  · intro x
    obtain ⟨u, a, b, rfl⟩ : ∃ (u : Fin 1) (a : Fin 32) (b : Fin 1), x = ix3 u a b := ⟨x 0, x 1, x 2, eq_ix3 x⟩
    rw [emb_g, eqA_r_78]
    pointwise [k0_pay102]
    unfold gArr
    rw [dif_neg (by show ¬ (32 + a.val < 32); omega)]
    congr 2
    exact Fin.ext (by show a.val = 32 + a.val - 32; omega)
  · intro x
    obtain ⟨u, a, b, rfl⟩ : ∃ (u : Fin 1) (a : Fin 32) (b : Fin 1), x = ix3 u a b := ⟨x 0, x 1, x 2, eq_ix3 x⟩
    rw [emb_g, eqA_r_38]
    pointwise [k0_pay101]
    unfold gArr
    rw [dif_pos (by show a.val < 32; exact a.isLt)]
    congr 2

theorem gB_pieces (hc : ¬cond0 i) (xs : Vec Ideal S1024x1024 .bf16) : ∀ p ∈ (prepRunB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 hc xs).2.1, ∀ x : p.1.shape.Idx,
    p.2 x = gArr (Pre.t38 x1 x2) (Pre.t78 x6 x7) (p.1.emb x) := by
  unfold prepRunB
  dsimp only
  simp only [List.forall_mem_cons]
  refine ⟨?_, ?_, by simp⟩
  · intro x
    obtain ⟨u, a, b, rfl⟩ : ∃ (u : Fin 1) (a : Fin 32) (b : Fin 1), x = ix3 u a b := ⟨x 0, x 1, x 2, eq_ix3 x⟩
    rw [emb_g, eqB_r_78]
    pointwise [k0_pay102]
    unfold gArr
    rw [dif_neg (by show ¬ (32 + a.val < 32); omega)]
    congr 2
    exact Fin.ext (by show a.val = 32 + a.val - 32; omega)
  · intro x
    obtain ⟨u, a, b, rfl⟩ : ∃ (u : Fin 1) (a : Fin 32) (b : Fin 1), x = ix3 u a b := ⟨x 0, x 1, x 2, eq_ix3 x⟩
    rw [emb_g, eqB_r_38]
    pointwise [k0_pay101]
    unfold gArr
    rw [dif_pos (by show a.val < 32; exact a.isLt)]
    congr 2

theorem wvA (hc : cond0 i) : View.canon (prepRunA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 hc).2.2.1 = k0_pay6 x16 x15 := by
  unfold prepRunA
  dsimp only
  rw [View.canon_unit_zero (by decide)]
  erw [rdLit2 arg16 harg16 x15, rdLit2 arg17 harg17 x16]
theorem bvA (hc : cond0 i) : View.canon (prepRunA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 hc).2.2.2.1 = k0_pay7 x17 x15 x18 := by
  unfold prepRunA
  dsimp only
  rw [View.canon_unit_zero (by decide)]
  erw [rdLit2 arg16 harg16 x15, rdLit2 arg18 harg18 x17, rdLit2 arg19 harg19 x18]
theorem wkA (hc : cond0 i) : View.canon (prepRunA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 hc).2.2.2.2.1 = k0_pay5 x16 x14 := by
  unfold prepRunA
  dsimp only
  unfold prepRunA.sl.HS_1
  rw [View.canon_unit_zero (by decide)]
  erw [rdLit2 arg15 harg15 x14, rdLit2 arg17 harg17 x16]

variable (V : (c : Dev nD) → (b : Ref sig .tc) → Buf (Elt Ideal) ((c : Thread nD τ).loc b))

/-- The query rows of a grid point. -/
def qaAt (c : Dev nD) (t : Fin cfg0.N) : FVec Ideal S64x1024 .bf16 := Pre.t80 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
/-- The key rows folded with the memory weights, computed at the first point. -/
def wkAt (c : Dev nD) : FVec Ideal S1024x1024 .bf16 := k0_pay5 (F := Ideal) (iblk0 V c 16 t0_0) (iblk0 V c 14 t0_0)

theorem resS_eq (c : Dev nD) : resS V c = wkAt V c := by
  unfold resS
  rw [View.read_writes_junk_eq_canon]
  unfold runA0
  exact wkA ..
theorem res21_eq (c : Dev nD) : res21 V c = k0_pay6 (F := Ideal) (iblk0 V c 16 t0_0) (iblk0 V c 15 t0_0) := by
  unfold res21
  rw [View.read_writes_junk_eq_canon]
  unfold runA0
  exact wvA ..
theorem res22_eq (c : Dev nD) : res22 V c = k0_pay7 (F := Ideal) (iblk0 V c 17 t0_0) (iblk0 V c 15 t0_0) (iblk0 V c 18 t0_0) := by
  unfold res22
  rw [View.read_writes_junk_eq_canon]
  unfold runA0
  exact bvA ..
theorem eq_t0 (t : Fin cfg0.N) (hc : cond0 (grid0.coords t)) : t = t0_0 := by
  have h := (hcond0 t).mp hc
  have ht : t.val < 4 := Nat.lt_of_lt_of_eq t.isLt N_0
  apply Fin.ext
  show t.val = 0
  omega
theorem res19_at (c : Dev nD) (t : Fin cfg0.N) (y : S1x1024x1024.Idx) : res19 V c t y = qpArr (qaAt V c t) (wkAt V c) y := by
  unfold res19
  split_ifs with hc
  · obtain rfl := eq_t0 t hc
    rw [View.read_writes_junk_eq_canon]
    refine View.canon_apply_of_pieces (qpArr (qaAt V c t0_0) (wkAt V c)) _ ?_ y (coverA_19 V c _ hc y)
    unfold runA0
    apply qpA_pieces
  · rw [View.read_writes_junk_eq_canon]
    refine View.canon_apply_of_pieces (qpArr (qaAt V c t) (wkAt V c)) _ ?_ y (coverB_19 V c _ hc _ y)
    rw [resS_eq]
    unfold runB0
    apply qpB_pieces
theorem res20_at (c : Dev nD) (t : Fin cfg0.N) (y : S1x64x1.Idx) :
    res20 V c t y = gArr (Pre.t38 (iblk0 V c 1 t) (iblk0 V c 2 t)) (Pre.t78 (iblk0 V c 6 t) (iblk0 V c 7 t)) y := by
  unfold res20
  split_ifs with hc
  · rw [View.read_writes_junk_eq_canon]
    refine View.canon_apply_of_pieces (gArr (Pre.t38 (iblk0 V c 1 t) (iblk0 V c 2 t)) (Pre.t78 (iblk0 V c 6 t) (iblk0 V c 7 t))) _ ?_ y (coverA_20 V c _ hc y)
    unfold runA0
    apply gA_pieces
  · rw [View.read_writes_junk_eq_canon]
    refine View.canon_apply_of_pieces (gArr (Pre.t38 (iblk0 V c 1 t) (iblk0 V c 2 t)) (Pre.t78 (iblk0 V c 6 t) (iblk0 V c 7 t))) _ ?_ y (coverB_20 V c _ hc _ y)
    rw [resS_eq]
    unfold runB0
    apply gB_pieces

end Cert.KernelIdeal.Whole
-- ==== Proof.Val.Host.lean ====
module
public import proofs.«01_k».proof.Proof.Val.PrepRes
public import proofs.«01_k».proof.Proof.Val.Attn
public import proofs.«01_k».proof.Proof.KernelIdealRun.Run
public import Idealize.ShloMosaic.Lib.StableHlo.ReadAt
public import Idealize.ShloMosaic.Lib.Pipeline.ValueKit.Geometry
@[expose] public section
set_option maxRecDepth 16384
noncomputable section
/-! What each window's block holds, as entries of the argument arrays. -/
namespace Cert.KernelIdeal.Whole
open Idealize.ShloMosaic Idealize.ShloMosaic.TcCoe Idealize.ShloMosaic.Tactic
open Cert.KernelIdeal.Gen

variable (m : (ℓ : Loc nD τ sig) → Buf (Elt Ideal) ℓ) (ρ : Dev nD → PrngReg)

/-- The batch a grid point of the preparation call works on. -/
def bt (t : Fin cfg0.N) : Fin 4 := ⟨t.val, Nat.lt_of_lt_of_eq t.isLt N_0⟩
/-- The batch a grid point of the attention call works on. -/
def bt1 (t : Fin cfg1.N) : Fin 4 := ⟨t.val, Nat.lt_of_lt_of_eq t.isLt N_1⟩

theorem h_v1 (c : Dev nD) (r e : Fin 1024) : W1 m ρ c (Proc.devRef .tc main_v1) (ix2 r e) = m ((c : Thread nD τ).loc main_arg17) (ix2 (⟨0 + r.val, by omega⟩ : Fin 3072) e) := by
  show StableHlo.after hostOps0 (W0 m ρ c) (Proc.devRef .tc main_v1) (ix2 r e) = _
  after_reads_at
theorem h_v3 (c : Dev nD) (r e : Fin 1024) : W1 m ρ c (Proc.devRef .tc main_v3) (ix2 r e) = m ((c : Thread nD τ).loc main_arg17) (ix2 (⟨1024 + r.val, by omega⟩ : Fin 3072) e) := by
  show StableHlo.after hostOps0 (W0 m ρ c) (Proc.devRef .tc main_v3) (ix2 r e) = _
  after_reads_at
theorem h_v5 (c : Dev nD) (r e : Fin 1024) : W1 m ρ c (Proc.devRef .tc main_v5) (ix2 r e) = m ((c : Thread nD τ).loc main_arg17) (ix2 (⟨2048 + r.val, by omega⟩ : Fin 3072) e) := by
  show StableHlo.after hostOps0 (W0 m ρ c) (Proc.devRef .tc main_v5) (ix2 r e) = _
  after_reads_at
theorem h_v7 (c : Dev nD) (r : Fin 1024) : W1 m ρ c (Proc.devRef .tc main_v7) (ix2 (0 : Fin 1) r) = m ((c : Thread nD τ).loc main_arg18) (ix1 (⟨0 + r.val, by omega⟩ : Fin 3072)) := by
  show StableHlo.after hostOps0 (W0 m ρ c) (Proc.devRef .tc main_v7) (ix2 (0 : Fin 1) r) = _
  after_reads_at
theorem h_v9 (c : Dev nD) (r : Fin 1024) : W1 m ρ c (Proc.devRef .tc main_v9) (ix2 (0 : Fin 1) r) = m ((c : Thread nD τ).loc main_arg18) (ix1 (⟨2048 + r.val, by omega⟩ : Fin 3072)) := by
  show StableHlo.after hostOps0 (W0 m ρ c) (Proc.devRef .tc main_v9) (ix2 (0 : Fin 1) r) = _
  after_reads_at
theorem h_v10 (c : Dev nD) (b : Fin 4) (t : Fin 2048) : W1 m ρ c (Proc.devRef .tc main_v10) (ix3 b (0 : Fin 1) t) = m ((c : Thread nD τ).loc main_arg3) (ix2 b t) := by
  show StableHlo.after hostOps0 (W0 m ρ c) (Proc.devRef .tc main_v10) (ix3 b (0 : Fin 1) t) = _
  after_reads_at
theorem h_v17 (c : Dev nD) (b : Fin 4) (t : Fin 2048) : W1 m ρ c (Proc.devRef .tc main_v17) (ix3 b (0 : Fin 1) t) = m ((c : Thread nD τ).loc main_arg4) (ix2 b t) := by
  show StableHlo.after hostOps0 (W0 m ρ c) (Proc.devRef .tc main_v17) (ix3 b (0 : Fin 1) t) = _
  after_reads_at
theorem h_v11 (c : Dev nD) (b : Fin 4) (t : Fin 64) : W1 m ρ c (Proc.devRef .tc main_v11) (ix3 b (0 : Fin 1) t) = m ((c : Thread nD τ).loc main_arg5) (ix2 b t) := by
  show StableHlo.after hostOps0 (W0 m ρ c) (Proc.devRef .tc main_v11) (ix3 b (0 : Fin 1) t) = _
  after_reads_at
theorem h_v18 (c : Dev nD) (b : Fin 4) (t : Fin 64) : W1 m ρ c (Proc.devRef .tc main_v18) (ix3 b (0 : Fin 1) t) = m ((c : Thread nD τ).loc main_arg6) (ix2 b t) := by
  show StableHlo.after hostOps0 (W0 m ρ c) (Proc.devRef .tc main_v18) (ix3 b (0 : Fin 1) t) = _
  after_reads_at
theorem h_v14 (c : Dev nD) (e : Fin 1024) (h : Fin 512) : W1 m ρ c (Proc.devRef .tc main_v14) (ix3 (0 : Fin 1) e h) = m ((c : Thread nD τ).loc main_arg9) (ix2 (⟨e.val, by omega⟩ : Fin 2048) h) := by
  show StableHlo.after hostOps0 (W0 m ρ c) (Proc.devRef .tc main_v14) (ix3 (0 : Fin 1) e h) = _
  after_reads_at
theorem h_v21 (c : Dev nD) (e : Fin 1024) (h : Fin 512) : W1 m ρ c (Proc.devRef .tc main_v21) (ix3 (0 : Fin 1) e h) = m ((c : Thread nD τ).loc main_arg11) (ix2 (⟨e.val, by omega⟩ : Fin 2048) h) := by
  show StableHlo.after hostOps0 (W0 m ρ c) (Proc.devRef .tc main_v21) (ix3 (0 : Fin 1) e h) = _
  after_reads_at
theorem h_v16 (c : Dev nD) (e : Fin 1024) : W1 m ρ c (Proc.devRef .tc main_v16) (ix2 (0 : Fin 1) e) = m ((c : Thread nD τ).loc main_arg10) (ix1 (⟨e.val, by omega⟩ : Fin 2048)) := by
  show StableHlo.after hostOps0 (W0 m ρ c) (Proc.devRef .tc main_v16) (ix2 (0 : Fin 1) e) = _
  after_reads_at
theorem h_v23 (c : Dev nD) (e : Fin 1024) : W1 m ρ c (Proc.devRef .tc main_v23) (ix2 (0 : Fin 1) e) = m ((c : Thread nD τ).loc main_arg12) (ix1 (⟨e.val, by omega⟩ : Fin 2048)) := by
  show StableHlo.after hostOps0 (W0 m ρ c) (Proc.devRef .tc main_v23) (ix2 (0 : Fin 1) e) = _
  after_reads_at
theorem h_v24 (c : Dev nD) (r e : Fin 1024) : W1 m ρ c (Proc.devRef .tc main_v24) (ix2 r e) = m ((c : Thread nD τ).loc main_arg13) (ix2 r e) := by
  show StableHlo.after hostOps0 (W0 m ρ c) (Proc.devRef .tc main_v24) (ix2 r e) = _
  after_reads_at
theorem h_v26 (c : Dev nD) (r e : Fin 1024) : W1 m ρ c (Proc.devRef .tc main_v26) (ix2 r e) = m ((c : Thread nD τ).loc main_arg7) (ix2 r e) := by
  show StableHlo.after hostOps0 (W0 m ρ c) (Proc.devRef .tc main_v26) (ix2 r e) = _
  after_reads_at
theorem h_v29 (c : Dev nD) (r e : Fin 1024) : W3 m ρ c (Proc.devRef .tc main_v29) (ix2 r e) = m ((c : Thread nD τ).loc main_arg19) (ix2 r e) := by
  show StableHlo.after hostOps1 (W2 m ρ c) (Proc.devRef .tc main_v29) (ix2 r e) = _
  have e := W2_args m ρ c main_arg19 (by decide)
  rw [← e]
  generalize W2 m ρ c = W
  after_reads_at
theorem h_v31 (c : Dev nD) (r e : Fin 1024) : W3 m ρ c (Proc.devRef .tc main_v31) (ix2 r e) = m ((c : Thread nD τ).loc main_arg15) (ix2 r e) := by
  show StableHlo.after hostOps1 (W2 m ρ c) (Proc.devRef .tc main_v31) (ix2 r e) = _
  have e := W2_args m ρ c main_arg15 (by decide)
  rw [← e]
  generalize W2 m ρ c = W
  after_reads_at
theorem h_v25 (c : Dev nD) (r : Fin 1024) : W1 m ρ c (Proc.devRef .tc main_v25) (ix2 (0 : Fin 1) r) = m ((c : Thread nD τ).loc main_arg14) (ix1 r) := by
  show StableHlo.after hostOps0 (W0 m ρ c) (Proc.devRef .tc main_v25) (ix2 (0 : Fin 1) r) = _
  after_reads_at
theorem h_v27 (c : Dev nD) (r : Fin 1024) : W1 m ρ c (Proc.devRef .tc main_v27) (ix2 (0 : Fin 1) r) = m ((c : Thread nD τ).loc main_arg8) (ix1 r) := by
  show StableHlo.after hostOps0 (W0 m ρ c) (Proc.devRef .tc main_v27) (ix2 (0 : Fin 1) r) = _
  after_reads_at
theorem h_v30 (c : Dev nD) (r : Fin 1024) : W3 m ρ c (Proc.devRef .tc main_v30) (ix2 (0 : Fin 1) r) = m ((c : Thread nD τ).loc main_arg20) (ix1 r) := by
  show StableHlo.after hostOps1 (W2 m ρ c) (Proc.devRef .tc main_v30) (ix2 (0 : Fin 1) r) = _
  have e := W2_args m ρ c main_arg20 (by decide)
  rw [← e]
  generalize W2 m ρ c = W
  after_reads_at
theorem h_v32 (c : Dev nD) (r : Fin 1024) : W3 m ρ c (Proc.devRef .tc main_v32) (ix2 (0 : Fin 1) r) = m ((c : Thread nD τ).loc main_arg16) (ix1 r) := by
  show StableHlo.after hostOps1 (W2 m ρ c) (Proc.devRef .tc main_v32) (ix2 (0 : Fin 1) r) = _
  have e := W2_args m ρ c main_arg16 (by decide)
  rw [← e]
  generalize W2 m ρ c = W
  after_reads_at
theorem h_v33 (c : Dev nD) (b : Fin 4) (s : Fin 64) (k : Fin 32) : W3 m ρ c (Proc.devRef .tc main_v33) (ix3 b s k) = m ((c : Thread nD τ).loc main_arg3) (ix2 b (⟨s.val * 32 + k.val, by omega⟩ : Fin 2048)) := by
  show StableHlo.after hostOps1 (W2 m ρ c) (Proc.devRef .tc main_v33) (ix3 b s k) = _
  have e := W2_args m ρ c main_arg3 (by decide)
  rw [← e]
  generalize W2 m ρ c = W
  after_reads_at
theorem h_v34 (c : Dev nD) (b : Fin 4) (s : Fin 64) (k : Fin 32) : W3 m ρ c (Proc.devRef .tc main_v34) (ix3 b s k) = m ((c : Thread nD τ).loc main_arg4) (ix2 b (⟨s.val * 32 + k.val, by omega⟩ : Fin 2048)) := by
  show StableHlo.after hostOps1 (W2 m ρ c) (Proc.devRef .tc main_v34) (ix3 b s k) = _
  have e := W2_args m ρ c main_arg4 (by decide)
  rw [← e]
  generalize W2 m ρ c = W
  after_reads_at
theorem idx0_0 : ∀ t : Fin cfg0.N, win0_0.index t = ![t.val, 0, 0] := (by decide +kernel : ∀ t : Fin grid0.N, _)
theorem blk0_0 (c : Dev nD) (t : Fin cfg0.N) (u : Fin 1) (a : Fin 2048) (b : Fin 512) : iblk0 (V1 m ρ) c 0 t (ix3 u a b) = W1 m ρ c (Proc.devRef .tc main_arg1) (ix3 (bt t) a b) := by
  have e : ((cfg0.win 0).blk t).view.emb (ix3 u a b) = ix3 (bt t) a b := by
    have hu := idx0_0 t
    have hb : (bt t).val = t.val := rfl
    blk_ext [hu]
  exact congrArg (W1 m ρ c (Proc.devRef .tc main_arg1)) e
theorem idx0_1 : ∀ t : Fin cfg0.N, win0_1.index t = ![t.val, 0, 0] := (by decide +kernel : ∀ t : Fin grid0.N, _)
theorem blk0_1 (c : Dev nD) (t : Fin cfg0.N) (u : Fin 1) (a : Fin 1) (b : Fin 2048) : iblk0 (V1 m ρ) c 1 t (ix3 u a b) = W1 m ρ c (Proc.devRef .tc main_v10) (ix3 (bt t) a b) := by
  have e : ((cfg0.win 1).blk t).view.emb (ix3 u a b) = ix3 (bt t) a b := by
    have hu := idx0_1 t
    have hb : (bt t).val = t.val := rfl
    blk_ext [hu]
  exact congrArg (W1 m ρ c (Proc.devRef .tc main_v10)) e
theorem idx0_2 : ∀ t : Fin cfg0.N, win0_2.index t = ![t.val, 0, 0] := (by decide +kernel : ∀ t : Fin grid0.N, _)
theorem blk0_2 (c : Dev nD) (t : Fin cfg0.N) (u : Fin 1) (a : Fin 1) (b : Fin 64) : iblk0 (V1 m ρ) c 2 t (ix3 u a b) = W1 m ρ c (Proc.devRef .tc main_v11) (ix3 (bt t) a b) := by
  have e : ((cfg0.win 2).blk t).view.emb (ix3 u a b) = ix3 (bt t) a b := by
    have hu := idx0_2 t
    have hb : (bt t).val = t.val := rfl
    blk_ext [hu]
  exact congrArg (W1 m ρ c (Proc.devRef .tc main_v11)) e
theorem idx0_3 : ∀ t : Fin cfg0.N, win0_3.index t = ![0, 0, 0] := (by decide +kernel : ∀ t : Fin grid0.N, _)
theorem blk0_3 (c : Dev nD) (t : Fin cfg0.N) (u : Fin 1) (a : Fin 1024) (b : Fin 512) : iblk0 (V1 m ρ) c 3 t (ix3 u a b) = W1 m ρ c (Proc.devRef .tc main_v14) (ix3 u a b) := by
  have e : ((cfg0.win 3).blk t).view.emb (ix3 u a b) = ix3 u a b := by
    have hu := idx0_3 t
    blk_ext [hu]
  exact congrArg (W1 m ρ c (Proc.devRef .tc main_v14)) e
theorem idx0_4 : ∀ t : Fin cfg0.N, win0_4.index t = ![0, 0] := (by decide +kernel : ∀ t : Fin grid0.N, _)
theorem blk0_4 (c : Dev nD) (t : Fin cfg0.N) (a : Fin 1) (b : Fin 1024) : iblk0 (V1 m ρ) c 4 t (ix2 a b) = W1 m ρ c (Proc.devRef .tc main_v16) (ix2 a b) := by
  have e : ((cfg0.win 4).blk t).view.emb (ix2 a b) = ix2 a b := by
    have hu := idx0_4 t
    blk_ext [hu]
  exact congrArg (W1 m ρ c (Proc.devRef .tc main_v16)) e
theorem idx0_5 : ∀ t : Fin cfg0.N, win0_5.index t = ![t.val, 0, 0] := (by decide +kernel : ∀ t : Fin grid0.N, _)
theorem blk0_5 (c : Dev nD) (t : Fin cfg0.N) (u : Fin 1) (a : Fin 2048) (b : Fin 512) : iblk0 (V1 m ρ) c 5 t (ix3 u a b) = W1 m ρ c (Proc.devRef .tc main_arg2) (ix3 (bt t) a b) := by
  have e : ((cfg0.win 5).blk t).view.emb (ix3 u a b) = ix3 (bt t) a b := by
    have hu := idx0_5 t
    have hb : (bt t).val = t.val := rfl
    blk_ext [hu]
  exact congrArg (W1 m ρ c (Proc.devRef .tc main_arg2)) e
theorem idx0_6 : ∀ t : Fin cfg0.N, win0_6.index t = ![t.val, 0, 0] := (by decide +kernel : ∀ t : Fin grid0.N, _)
theorem blk0_6 (c : Dev nD) (t : Fin cfg0.N) (u : Fin 1) (a : Fin 1) (b : Fin 2048) : iblk0 (V1 m ρ) c 6 t (ix3 u a b) = W1 m ρ c (Proc.devRef .tc main_v17) (ix3 (bt t) a b) := by
  have e : ((cfg0.win 6).blk t).view.emb (ix3 u a b) = ix3 (bt t) a b := by
    have hu := idx0_6 t
    have hb : (bt t).val = t.val := rfl
    blk_ext [hu]
  exact congrArg (W1 m ρ c (Proc.devRef .tc main_v17)) e
theorem idx0_7 : ∀ t : Fin cfg0.N, win0_7.index t = ![t.val, 0, 0] := (by decide +kernel : ∀ t : Fin grid0.N, _)
theorem blk0_7 (c : Dev nD) (t : Fin cfg0.N) (u : Fin 1) (a : Fin 1) (b : Fin 64) : iblk0 (V1 m ρ) c 7 t (ix3 u a b) = W1 m ρ c (Proc.devRef .tc main_v18) (ix3 (bt t) a b) := by
  have e : ((cfg0.win 7).blk t).view.emb (ix3 u a b) = ix3 (bt t) a b := by
    have hu := idx0_7 t
    have hb : (bt t).val = t.val := rfl
    blk_ext [hu]
  exact congrArg (W1 m ρ c (Proc.devRef .tc main_v18)) e
theorem idx0_8 : ∀ t : Fin cfg0.N, win0_8.index t = ![0, 0, 0] := (by decide +kernel : ∀ t : Fin grid0.N, _)
theorem blk0_8 (c : Dev nD) (t : Fin cfg0.N) (u : Fin 1) (a : Fin 1024) (b : Fin 512) : iblk0 (V1 m ρ) c 8 t (ix3 u a b) = W1 m ρ c (Proc.devRef .tc main_v21) (ix3 u a b) := by
  have e : ((cfg0.win 8).blk t).view.emb (ix3 u a b) = ix3 u a b := by
    have hu := idx0_8 t
    blk_ext [hu]
  exact congrArg (W1 m ρ c (Proc.devRef .tc main_v21)) e
theorem idx0_9 : ∀ t : Fin cfg0.N, win0_9.index t = ![0, 0] := (by decide +kernel : ∀ t : Fin grid0.N, _)
theorem blk0_9 (c : Dev nD) (t : Fin cfg0.N) (a : Fin 1) (b : Fin 1024) : iblk0 (V1 m ρ) c 9 t (ix2 a b) = W1 m ρ c (Proc.devRef .tc main_v23) (ix2 a b) := by
  have e : ((cfg0.win 9).blk t).view.emb (ix2 a b) = ix2 a b := by
    have hu := idx0_9 t
    blk_ext [hu]
  exact congrArg (W1 m ρ c (Proc.devRef .tc main_v23)) e
theorem idx0_10 : ∀ t : Fin cfg0.N, win0_10.index t = ![0, 0] := (by decide +kernel : ∀ t : Fin grid0.N, _)
theorem blk0_10 (c : Dev nD) (t : Fin cfg0.N) (a : Fin 1024) (b : Fin 1024) : iblk0 (V1 m ρ) c 10 t (ix2 a b) = W1 m ρ c (Proc.devRef .tc main_v24) (ix2 a b) := by
  have e : ((cfg0.win 10).blk t).view.emb (ix2 a b) = ix2 a b := by
    have hu := idx0_10 t
    blk_ext [hu]
  exact congrArg (W1 m ρ c (Proc.devRef .tc main_v24)) e
theorem idx0_11 : ∀ t : Fin cfg0.N, win0_11.index t = ![0, 0] := (by decide +kernel : ∀ t : Fin grid0.N, _)
theorem blk0_11 (c : Dev nD) (t : Fin cfg0.N) (a : Fin 1) (b : Fin 1024) : iblk0 (V1 m ρ) c 11 t (ix2 a b) = W1 m ρ c (Proc.devRef .tc main_v25) (ix2 a b) := by
  have e : ((cfg0.win 11).blk t).view.emb (ix2 a b) = ix2 a b := by
    have hu := idx0_11 t
    blk_ext [hu]
  exact congrArg (W1 m ρ c (Proc.devRef .tc main_v25)) e
theorem idx0_12 : ∀ t : Fin cfg0.N, win0_12.index t = ![0, 0] := (by decide +kernel : ∀ t : Fin grid0.N, _)
theorem blk0_12 (c : Dev nD) (t : Fin cfg0.N) (a : Fin 1024) (b : Fin 1024) : iblk0 (V1 m ρ) c 12 t (ix2 a b) = W1 m ρ c (Proc.devRef .tc main_v1) (ix2 a b) := by
  have e : ((cfg0.win 12).blk t).view.emb (ix2 a b) = ix2 a b := by
    have hu := idx0_12 t
    blk_ext [hu]
  exact congrArg (W1 m ρ c (Proc.devRef .tc main_v1)) e
theorem idx0_13 : ∀ t : Fin cfg0.N, win0_13.index t = ![0, 0] := (by decide +kernel : ∀ t : Fin grid0.N, _)
theorem blk0_13 (c : Dev nD) (t : Fin cfg0.N) (a : Fin 1) (b : Fin 1024) : iblk0 (V1 m ρ) c 13 t (ix2 a b) = W1 m ρ c (Proc.devRef .tc main_v7) (ix2 a b) := by
  have e : ((cfg0.win 13).blk t).view.emb (ix2 a b) = ix2 a b := by
    have hu := idx0_13 t
    blk_ext [hu]
  exact congrArg (W1 m ρ c (Proc.devRef .tc main_v7)) e
theorem idx0_14 : ∀ t : Fin cfg0.N, win0_14.index t = ![0, 0] := (by decide +kernel : ∀ t : Fin grid0.N, _)
theorem blk0_14 (c : Dev nD) (t : Fin cfg0.N) (a : Fin 1024) (b : Fin 1024) : iblk0 (V1 m ρ) c 14 t (ix2 a b) = W1 m ρ c (Proc.devRef .tc main_v3) (ix2 a b) := by
  have e : ((cfg0.win 14).blk t).view.emb (ix2 a b) = ix2 a b := by
    have hu := idx0_14 t
    blk_ext [hu]
  exact congrArg (W1 m ρ c (Proc.devRef .tc main_v3)) e
theorem idx0_15 : ∀ t : Fin cfg0.N, win0_15.index t = ![0, 0] := (by decide +kernel : ∀ t : Fin grid0.N, _)
theorem blk0_15 (c : Dev nD) (t : Fin cfg0.N) (a : Fin 1024) (b : Fin 1024) : iblk0 (V1 m ρ) c 15 t (ix2 a b) = W1 m ρ c (Proc.devRef .tc main_v5) (ix2 a b) := by
  have e : ((cfg0.win 15).blk t).view.emb (ix2 a b) = ix2 a b := by
    have hu := idx0_15 t
    blk_ext [hu]
  exact congrArg (W1 m ρ c (Proc.devRef .tc main_v5)) e
theorem idx0_16 : ∀ t : Fin cfg0.N, win0_16.index t = ![0, 0] := (by decide +kernel : ∀ t : Fin grid0.N, _)
theorem blk0_16 (c : Dev nD) (t : Fin cfg0.N) (a : Fin 1024) (b : Fin 1024) : iblk0 (V1 m ρ) c 16 t (ix2 a b) = W1 m ρ c (Proc.devRef .tc main_v26) (ix2 a b) := by
  have e : ((cfg0.win 16).blk t).view.emb (ix2 a b) = ix2 a b := by
    have hu := idx0_16 t
    blk_ext [hu]
  exact congrArg (W1 m ρ c (Proc.devRef .tc main_v26)) e
theorem idx0_17 : ∀ t : Fin cfg0.N, win0_17.index t = ![0, 0] := (by decide +kernel : ∀ t : Fin grid0.N, _)
theorem blk0_17 (c : Dev nD) (t : Fin cfg0.N) (a : Fin 1) (b : Fin 1024) : iblk0 (V1 m ρ) c 17 t (ix2 a b) = W1 m ρ c (Proc.devRef .tc main_v27) (ix2 a b) := by
  have e : ((cfg0.win 17).blk t).view.emb (ix2 a b) = ix2 a b := by
    have hu := idx0_17 t
    blk_ext [hu]
  exact congrArg (W1 m ρ c (Proc.devRef .tc main_v27)) e
theorem idx0_18 : ∀ t : Fin cfg0.N, win0_18.index t = ![0, 0] := (by decide +kernel : ∀ t : Fin grid0.N, _)
theorem blk0_18 (c : Dev nD) (t : Fin cfg0.N) (a : Fin 1) (b : Fin 1024) : iblk0 (V1 m ρ) c 18 t (ix2 a b) = W1 m ρ c (Proc.devRef .tc main_v9) (ix2 a b) := by
  have e : ((cfg0.win 18).blk t).view.emb (ix2 a b) = ix2 a b := by
    have hu := idx0_18 t
    blk_ext [hu]
  exact congrArg (W1 m ρ c (Proc.devRef .tc main_v9)) e
theorem idx1_0 : ∀ t : Fin cfg1.N, win1_0.index t = ![t.val, 0, 0] := (by decide +kernel : ∀ t : Fin grid1.N, _)
theorem blk1_0 (c : Dev nD) (t : Fin cfg1.N) (u : Fin 1) (a : Fin 2048) (b : Fin 1024) : iblk1 (V3 m ρ) c 0 t (ix3 u a b) = W3 m ρ c (Proc.devRef .tc main_arg0) (ix3 (bt1 t) a b) := by
  have e : ((cfg1.win 0).blk t).view.emb (ix3 u a b) = ix3 (bt1 t) a b := by
    have hu := idx1_0 t
    have hb : (bt1 t).val = t.val := rfl
    blk_ext [hu]
  exact congrArg (W3 m ρ c (Proc.devRef .tc main_arg0)) e
theorem idx1_1 : ∀ t : Fin cfg1.N, win1_1.index t = ![t.val, 0, 0] := (by decide +kernel : ∀ t : Fin grid1.N, _)
theorem blk1_1 (c : Dev nD) (t : Fin cfg1.N) (u : Fin 1) (a : Fin 1024) (b : Fin 1024) : iblk1 (V3 m ρ) c 1 t (ix3 u a b) = W3 m ρ c (Proc.devRef .tc main_v28_0) (ix3 (bt1 t) a b) := by
  have e : ((cfg1.win 1).blk t).view.emb (ix3 u a b) = ix3 (bt1 t) a b := by
    have hu := idx1_1 t
    have hb : (bt1 t).val = t.val := rfl
    blk_ext [hu]
  exact congrArg (W3 m ρ c (Proc.devRef .tc main_v28_0)) e
theorem idx1_2 : ∀ t : Fin cfg1.N, win1_2.index t = ![0, 0] := (by decide +kernel : ∀ t : Fin grid1.N, _)
theorem blk1_2 (c : Dev nD) (t : Fin cfg1.N) (a : Fin 1024) (b : Fin 1024) : iblk1 (V3 m ρ) c 2 t (ix2 a b) = W3 m ρ c (Proc.devRef .tc main_v28_2) (ix2 a b) := by
  have e : ((cfg1.win 2).blk t).view.emb (ix2 a b) = ix2 a b := by
    have hu := idx1_2 t
    blk_ext [hu]
  exact congrArg (W3 m ρ c (Proc.devRef .tc main_v28_2)) e
theorem idx1_3 : ∀ t : Fin cfg1.N, win1_3.index t = ![0, 0] := (by decide +kernel : ∀ t : Fin grid1.N, _)
theorem blk1_3 (c : Dev nD) (t : Fin cfg1.N) (a : Fin 1) (b : Fin 1024) : iblk1 (V3 m ρ) c 3 t (ix2 a b) = W3 m ρ c (Proc.devRef .tc main_v28_3) (ix2 a b) := by
  have e : ((cfg1.win 3).blk t).view.emb (ix2 a b) = ix2 a b := by
    have hu := idx1_3 t
    blk_ext [hu]
  exact congrArg (W3 m ρ c (Proc.devRef .tc main_v28_3)) e
theorem idx1_4 : ∀ t : Fin cfg1.N, win1_4.index t = ![0, 0] := (by decide +kernel : ∀ t : Fin grid1.N, _)
theorem blk1_4 (c : Dev nD) (t : Fin cfg1.N) (a : Fin 1024) (b : Fin 1024) : iblk1 (V3 m ρ) c 4 t (ix2 a b) = W3 m ρ c (Proc.devRef .tc main_v29) (ix2 a b) := by
  have e : ((cfg1.win 4).blk t).view.emb (ix2 a b) = ix2 a b := by
    have hu := idx1_4 t
    blk_ext [hu]
  exact congrArg (W3 m ρ c (Proc.devRef .tc main_v29)) e
theorem idx1_5 : ∀ t : Fin cfg1.N, win1_5.index t = ![0, 0] := (by decide +kernel : ∀ t : Fin grid1.N, _)
theorem blk1_5 (c : Dev nD) (t : Fin cfg1.N) (a : Fin 1) (b : Fin 1024) : iblk1 (V3 m ρ) c 5 t (ix2 a b) = W3 m ρ c (Proc.devRef .tc main_v30) (ix2 a b) := by
  have e : ((cfg1.win 5).blk t).view.emb (ix2 a b) = ix2 a b := by
    have hu := idx1_5 t
    blk_ext [hu]
  exact congrArg (W3 m ρ c (Proc.devRef .tc main_v30)) e
theorem idx1_6 : ∀ t : Fin cfg1.N, win1_6.index t = ![0, 0] := (by decide +kernel : ∀ t : Fin grid1.N, _)
theorem blk1_6 (c : Dev nD) (t : Fin cfg1.N) (a : Fin 1024) (b : Fin 1024) : iblk1 (V3 m ρ) c 6 t (ix2 a b) = W3 m ρ c (Proc.devRef .tc main_v31) (ix2 a b) := by
  have e : ((cfg1.win 6).blk t).view.emb (ix2 a b) = ix2 a b := by
    have hu := idx1_6 t
    blk_ext [hu]
  exact congrArg (W3 m ρ c (Proc.devRef .tc main_v31)) e
theorem idx1_7 : ∀ t : Fin cfg1.N, win1_7.index t = ![0, 0] := (by decide +kernel : ∀ t : Fin grid1.N, _)
theorem blk1_7 (c : Dev nD) (t : Fin cfg1.N) (a : Fin 1) (b : Fin 1024) : iblk1 (V3 m ρ) c 7 t (ix2 a b) = W3 m ρ c (Proc.devRef .tc main_v32) (ix2 a b) := by
  have e : ((cfg1.win 7).blk t).view.emb (ix2 a b) = ix2 a b := by
    have hu := idx1_7 t
    blk_ext [hu]
  exact congrArg (W3 m ρ c (Proc.devRef .tc main_v32)) e
theorem idx1_8 : ∀ t : Fin cfg1.N, win1_8.index t = ![t.val, 0, 0] := (by decide +kernel : ∀ t : Fin grid1.N, _)
theorem blk1_8 (c : Dev nD) (t : Fin cfg1.N) (u : Fin 1) (a : Fin 64) (b : Fin 1) : iblk1 (V3 m ρ) c 8 t (ix3 u a b) = W3 m ρ c (Proc.devRef .tc main_v28_1) (ix3 (bt1 t) a b) := by
  have e : ((cfg1.win 8).blk t).view.emb (ix3 u a b) = ix3 (bt1 t) a b := by
    have hu := idx1_8 t
    have hb : (bt1 t).val = t.val := rfl
    blk_ext [hu]
  exact congrArg (W3 m ρ c (Proc.devRef .tc main_v28_1)) e
theorem idx1_9 : ∀ t : Fin cfg1.N, win1_9.index t = ![t.val, 0, 0] := (by decide +kernel : ∀ t : Fin grid1.N, _)
theorem blk1_9 (c : Dev nD) (t : Fin cfg1.N) (u : Fin 1) (a : Fin 64) (b : Fin 32) : iblk1 (V3 m ρ) c 9 t (ix3 u a b) = W3 m ρ c (Proc.devRef .tc main_v33) (ix3 (bt1 t) a b) := by
  have e : ((cfg1.win 9).blk t).view.emb (ix3 u a b) = ix3 (bt1 t) a b := by
    have hu := idx1_9 t
    have hb : (bt1 t).val = t.val := rfl
    blk_ext [hu]
  exact congrArg (W3 m ρ c (Proc.devRef .tc main_v33)) e
theorem idx1_10 : ∀ t : Fin cfg1.N, win1_10.index t = ![t.val, 0, 0] := (by decide +kernel : ∀ t : Fin grid1.N, _)
theorem blk1_10 (c : Dev nD) (t : Fin cfg1.N) (u : Fin 1) (a : Fin 64) (b : Fin 32) : iblk1 (V3 m ρ) c 10 t (ix3 u a b) = W3 m ρ c (Proc.devRef .tc main_v34) (ix3 (bt1 t) a b) := by
  have e : ((cfg1.win 10).blk t).view.emb (ix3 u a b) = ix3 (bt1 t) a b := by
    have hu := idx1_10 t
    have hb : (bt1 t).val = t.val := rfl
    blk_ext [hu]
  exact congrArg (W3 m ρ c (Proc.devRef .tc main_v34)) e
theorem idx1_11 : ∀ t : Fin cfg1.N, win1_11.index t = ![0, 0] := (by decide +kernel : ∀ t : Fin grid1.N, _)
theorem blk1_11 (c : Dev nD) (t : Fin cfg1.N) (a : Fin 2) (b : Fin 1024) : iblk1 (V3 m ρ) c 11 t (ix2 a b) = W3 m ρ c (Proc.devRef .tc main_arg21) (ix2 a b) := by
  have e : ((cfg1.win 11).blk t).view.emb (ix2 a b) = ix2 a b := by
    have hu := idx1_11 t
    blk_ext [hu]
  exact congrArg (W3 m ρ c (Proc.devRef .tc main_arg21)) e

end Cert.KernelIdeal.Whole
-- ==== Proof.Val.Out.lean ====
module
public import proofs.«01_k».proof.Proof.Val.Host
@[expose] public section
set_option maxRecDepth 16384
noncomputable section
/-! The arrays the two calls leave, from what each grid point writes back. -/
namespace Cert.KernelIdeal.Whole
open Idealize.ShloMosaic Idealize.ShloMosaic.TcCoe Idealize.ShloMosaic.Tactic
open Idealize.ShloMosaic.Pipeline (Dat Cfg Window)
open Cert.KernelIdeal.Gen

variable (V : (c : Dev nD) → (b : Ref sig .tc) → Buf (Elt Ideal) ((c : Thread nD τ).loc b))

/-- The grid point of a batch. -/
def tb (b : Fin 4) : Fin cfg0.N := ⟨b.val, Nat.lt_of_lt_of_eq b.isLt N_0.symm⟩
def tb1 (b : Fin 4) : Fin cfg1.N := ⟨b.val, Nat.lt_of_lt_of_eq b.isLt N_1.symm⟩

theorem idx0_19 : ∀ t : Fin cfg0.N, win0_19.index t = ![t.val, 0, 0] := (by decide +kernel : ∀ t : Fin grid0.N, _)
theorem idx0_20 : ∀ t : Fin cfg0.N, win0_20.index t = ![t.val, 0, 0] := (by decide +kernel : ∀ t : Fin grid0.N, _)
theorem idx0_21 : ∀ t : Fin cfg0.N, win0_21.index t = ![0, 0] := (by decide +kernel : ∀ t : Fin grid0.N, _)
theorem idx0_22 : ∀ t : Fin cfg0.N, win0_22.index t = ![0, 0] := (by decide +kernel : ∀ t : Fin grid0.N, _)
theorem idx1_12 : ∀ t : Fin cfg1.N, win1_12.index t = ![t.val, 0, 0] := (by decide +kernel : ∀ t : Fin grid1.N, _)

def G19 (c : Dev nD) (i : S4x1024x1024.Idx) : EReal := qpArr (qaAt V c (tb (i 0))) (wkAt V c) (ix3 0 (i 1) (i 2))
theorem arr19 (c : Dev nD) : (dat0 V c).arrAt 19 cfg0.N = G19 V c := by
  refine (dat0 V c).arrAt_eq_of_covers 19 _ (by decide +kernel) fun t hf y => ?_
  blk_simp
  rw [after0_19]
  refine (res19_at V c t y).trans ?_
  have e : ((cfg0.win 19).blk t).view.emb y = ix3 (bt t) (y 1) (y 2) := by
    have hu := idx0_19 t
    have hb : (bt t).val = t.val := rfl
    blk_ext [hu]
  show _ = G19 V c (((cfg0.win 19).blk t).view.emb y)
  rw [e]
  show qpArr (qaAt V c t) (wkAt V c) y = qpArr (qaAt V c t) (wkAt V c) (ix3 0 (y 1) (y 2))
  rfl

def G20 (c : Dev nD) (i : S4x64x1.Idx) : EReal :=
  gArr (Pre.t38 (iblk0 V c 1 (tb (i 0))) (iblk0 V c 2 (tb (i 0)))) (Pre.t78 (iblk0 V c 6 (tb (i 0))) (iblk0 V c 7 (tb (i 0)))) (ix3 0 (i 1) (i 2))
theorem arr20 (c : Dev nD) : (dat0 V c).arrAt 20 cfg0.N = G20 V c := by
  refine (dat0 V c).arrAt_eq_of_covers 20 _ (by decide +kernel) fun t hf y => ?_
  blk_simp
  rw [after0_20]
  refine (res20_at V c t y).trans ?_
  have e : ((cfg0.win 20).blk t).view.emb y = ix3 (bt t) (y 1) (y 2) := by
    have hu := idx0_20 t
    have hb : (bt t).val = t.val := rfl
    blk_ext [hu]
  show _ = G20 V c (((cfg0.win 20).blk t).view.emb y)
  rw [e]
  rfl
theorem arr21 (c : Dev nD) : (dat0 V c).arrAt 21 cfg0.N = k0_pay6 (F := Ideal) (iblk0 V c 16 t0_0) (iblk0 V c 15 t0_0) := by
  refine (dat0 V c).arrAt_eq_of_covers 21 _ (by decide +kernel) fun t hf y => ?_
  blk_simp
  rw [after0_21, res21_eq]
  have e : ((cfg0.win 21).blk t).view.emb y = y := by
    have hu := idx0_21 t
    blk_ext [hu]
  show _ = k0_pay6 (F := Ideal) (iblk0 V c 16 t0_0) (iblk0 V c 15 t0_0) (((cfg0.win 21).blk t).view.emb y)
  rw [e]
theorem arr22 (c : Dev nD) : (dat0 V c).arrAt 22 cfg0.N = k0_pay7 (F := Ideal) (iblk0 V c 17 t0_0) (iblk0 V c 15 t0_0) (iblk0 V c 18 t0_0) := by
  refine (dat0 V c).arrAt_eq_of_covers 22 _ (by decide +kernel) fun t hf y => ?_
  blk_simp
  rw [after0_22, res22_eq]
  have e : ((cfg0.win 22).blk t).view.emb y = y := by
    have hu := idx0_22 t
    blk_ext [hu]
  show _ = k0_pay7 (F := Ideal) (iblk0 V c 17 t0_0) (iblk0 V c 15 t0_0) (iblk0 V c 18 t0_0) (((cfg0.win 22).blk t).view.emb y)
  rw [e]

def G12 (c : Dev nD) (i : S4x64x1024.Idx) : EReal :=
  attnK (iblk1 V c 0 (tb1 (i 0))) (iblk1 V c 1 (tb1 (i 0))) (iblk1 V c 2 (tb1 (i 0))) (iblk1 V c 3 (tb1 (i 0)))
    (iblk1 V c 4 (tb1 (i 0))) (iblk1 V c 5 (tb1 (i 0))) (iblk1 V c 6 (tb1 (i 0))) (iblk1 V c 7 (tb1 (i 0)))
    (iblk1 V c 8 (tb1 (i 0))) (iblk1 V c 9 (tb1 (i 0))) (iblk1 V c 10 (tb1 (i 0))) (iblk1 V c 11 (tb1 (i 0))) (i 1) (i 2)
theorem arr12 (c : Dev nD) : (dat1 V c).arrAt 12 cfg1.N = G12 V c := by
  refine (dat1 V c).arrAt_eq_of_covers 12 _ (by decide +kernel) fun t hf y => ?_
  blk_simp
  rw [after1_12]
  obtain ⟨u, s, d, rfl⟩ : ∃ (u : Fin 1) (s : Fin 64) (d : Fin 1024), y = ix3 u s d := ⟨y 0, y 1, y 2, eq_ix3 y⟩
  obtain rfl : u = 0 := Subsingleton.elim _ _
  refine (show outsAt1 V c t (ix3 0 s d) = _ from out_at ..).trans ?_
  have e : ((cfg1.win 12).blk t).view.emb (ix3 0 s d) = ix3 (bt1 t) s d := by
    have hu := idx1_12 t
    have hb : (bt1 t).val = t.val := rfl
    blk_ext [hu]
  show _ = G12 V c (((cfg1.win 12).blk t).view.emb (ix3 0 s d))
  rw [e]
  rfl
end Cert.KernelIdeal.Whole
-- ==== Proof.Val.Full.lean ====
module
public import proofs.«01_k».proof.Proof.Val.Canon
public import proofs.«01_k».proof.Proof.Val.Out
@[expose] public section
set_option maxRecDepth 16384
noncomputable section
/-! The whole result, as a formula of the argument arrays. -/
namespace Cert.Math
open Idealize.ShloMosaic Cert.KernelIdeal
variable (x0 : FVec Ideal S4x2048x1024 .f32) (x1 x2 : FVec Ideal S4x2048x512 .f32) (x3 x4 : FVec Ideal S4x2048 .f32) (x5 x6 : IVec S4x64 32)
  (x7 : FVec Ideal S1024x1024 .f32) (x8 : FVec Ideal S1024 .f32) (x9 : FVec Ideal S2048x512 .f32) (x10 : FVec Ideal S2048 .f32)
  (x11 : FVec Ideal S2048x512 .f32) (x12 : FVec Ideal S2048 .f32)
  (x13 : FVec Ideal S1024x1024 .f32) (x14 : FVec Ideal S1024 .f32) (x15 : FVec Ideal S1024x1024 .f32) (x16 : FVec Ideal S1024 .f32)
  (x17 : FVec Ideal S3072x1024 .f32) (x18 : FVec Ideal S3072 .f32) (x19 : FVec Ideal S1024x1024 .f32) (x20 : FVec Ideal S1024 .f32)
  (x21 : FVec Ideal S2x1024 .f32)

/-- The query row of the spike ranked `r`, of one track in batch `b`. -/
def qvA (b : Fin 4) (r : Fin 32) (e : Fin 1024) : EReal :=
  qv (fun t => x3 (ix2 b t)) (fun t c => x1 (ix3 b t c)) (fun i => x5 (ix2 b i)) (fun d c => x9 (ix2 (⟨d.val, by omega⟩ : Fin 2048) c))
    (fun d => x10 (ix1 (⟨d.val, by omega⟩ : Fin 2048))) (fun d c => x13 (ix2 d c)) (fun d => x14 (ix1 d)) (fun d c => x17 (ix2 d c)) (fun d => x18 (ix1 d)) r e

/-- The attended row of a query row, through both output projections. -/
def rowA (q : Fin 1024 → EReal) (b : Fin 4) (d : Fin 1024) : EReal :=
  outp (hd q (fun t j => x0 (ix3 b t j)) (fun i j => x7 (ix2 i j)) (fun i => x8 (ix1 i)) (fun d c => x17 (ix2 d c)) (fun d => x18 (ix1 d)))
    (fun i j => x19 (ix2 i j)) (fun i => x20 (ix1 i)) (fun i j => x15 (ix2 i j)) (fun i => x16 (ix1 i)) d

/-- One track's gated row. -/
def trk (b : Fin 4) (r : Fin 32) (d : Fin 1024) : EReal :=
  rowA x0 x7 x8 x15 x16 x17 x18 x19 x20 (fun e => qvA x1 x3 x5 x9 x10 x13 x14 x17 x18 b r e) b d * gt (fun t => x3 (ix2 b t)) (fun i => x5 (ix2 b i)) r

/-- What the tags add to slot `s`. -/
def slot (b : Fin 4) (s : Fin 64) (d : Fin 1024) : EReal :=
  Ideal.div (x3 (ix2 b (⟨s.val * 32, by omega⟩ : Fin 2048))) (x3 (ix2 b (⟨s.val * 32, by omega⟩ : Fin 2048)) + x4 (ix2 b (⟨s.val * 32, by omega⟩ : Fin 2048)) + Ideal.ofBits .f32 897988541#32) * x21 (ix2 0 d)
    + Ideal.div (x4 (ix2 b (⟨s.val * 32, by omega⟩ : Fin 2048))) (x3 (ix2 b (⟨s.val * 32, by omega⟩ : Fin 2048)) + x4 (ix2 b (⟨s.val * 32, by omega⟩ : Fin 2048)) + Ideal.ofBits .f32 897988541#32) * x21 (ix2 1 d)

/-- The result at batch `b`, slot `s`, column `d`. -/
def full (b : Fin 4) (s : Fin 64) (d : Fin 1024) : EReal :=
  (if h : s.val < 32 then trk x0 x1 x3 x5 x7 x8 x9 x10 x13 x14 x15 x16 x17 x18 x19 x20 b ⟨s.val, h⟩ d
    else trk x0 x2 x4 x6 x7 x8 x11 x12 x13 x14 x15 x16 x17 x18 x19 x20 b ⟨s.val - 32, by omega⟩ d) + slot x3 x4 x21 b s d
end Cert.Math
-- ==== Proof.Val.KernA.lean ====
module
public import proofs.«01_k».proof.Proof.Val.Full
@[expose] public section
set_option maxRecDepth 16384
noncomputable section
/-! The kernel's arrays between its two calls, as formulas of the argument arrays. -/
namespace Cert.KernelIdeal.Whole
open Idealize.ShloMosaic Idealize.ShloMosaic.TcCoe Idealize.ShloMosaic.Tactic
open Cert.KernelIdeal.Gen Cert.Math

section Track
variable (x0 : Vec Ideal S1x2048x512 .f32) (x1 : Vec Ideal S1x1x2048 .f32) (x2 : Vec Ideal S1x1x64 .i32)
  (A : Fin 2048 → EReal) (H : Fin 2048 → Fin 512 → EReal) (p : Fin 64 → BitVec 32)
  (h0 : ∀ t c, x0 (ix3 0 t c) = H t c) (h1 : ∀ t, x1 (ix3 0 0 t) = A t) (h2 : ∀ i, x2 (ix3 0 0 i) = p i)
  (hp : ∀ i, (p i).toNat < 2048)
include h1 h2 hp
theorem scs_eq : Pre.scs x1 x2 = fun i => score A (p i).toNat := by
  funext i
  unfold Pre.scs
  rw [show Pre.row x1 = A from funext h1, h2]
  exact scoreK_eq A _ (hp i)

theorem t38_gt (r : Fin 32) : Pre.t38 x1 x2 (ix2 r 0) = gt A p r := by
  rw [Pre.t38_at, scs_eq x1 x2 A p h1 h2 hp]
  rfl

include h0 in
theorem zK_pool (hA : ∀ t, 0 ≤ A t) (r : Fin 32) : Pre.zK x0 x1 x2 r = fun c => Cert.Math.pool A (fun t => H t c) (spk A p r) := by
  funext c
  unfold Pre.zK
  rw [scs_eq x1 x2 A p h1 h2 hp, show Pre.row x1 = A from funext h1, h2]
  simp only [h0]
  exact poolK_eq A (fun t => H t c) hA _ (hp _)
end Track

theorem qrow_congr {z z' : Fin 512 → EReal} {a a' : Fin 1024 → Fin 512 → EReal} {b b' : Fin 1024 → EReal} {f f' : Fin 1024 → Fin 1024 → EReal}
    {g g' : Fin 1024 → EReal} {u u' : Fin 1024 → Fin 1024 → EReal} {v v' : Fin 1024 → EReal} (hz : z = z') (ha : ∀ d k, a d k = a' d k)
    (hb : ∀ d, b d = b' d) (hf : ∀ d k, f d k = f' d k) (hg : ∀ d, g d = g' d) (hu : ∀ d k, u d k = u' d k) (hv : ∀ d, v d = v' d) (e : Fin 1024) :
    Pre.qrow z a b f g u v e = Pre.qrow z' a' b' f' g' u' v' e := by
  obtain rfl := hz
  obtain rfl : a = a' := funext fun d => funext (ha d)
  obtain rfl : b = b' := funext hb
  obtain rfl : f = f' := funext fun d => funext (hf d)
  obtain rfl : g = g' := funext hg
  obtain rfl : u = u' := funext fun d => funext (hu d)
  obtain rfl : v = v' := funext hv
  rfl

theorem pay5_at (w v : Vec Ideal S1024x1024 .bf16) (r k : Fin 1024) : k0_pay5 (F := Ideal) w v (ix2 r k) = ∑ i, v (ix2 r i) * w (ix2 i k) := by
  pointwise [k0_pay4, k0_pay5]
theorem pay6_at (w v : Vec Ideal S1024x1024 .bf16) (r k : Fin 1024) : k0_pay6 (F := Ideal) w v (ix2 r k) = ∑ i, v (ix2 r i) * w (ix2 i k) := by
  pointwise [k0_pay4, k0_pay6]
theorem pay7_at (b : Vec Ideal S1x1024 .f32) (v : Vec Ideal S1024x1024 .bf16) (z : Vec Ideal S1x1024 .f32) (d : Fin 1024) :
    k0_pay7 (F := Ideal) b v z (ix2 0 d) = ∑ e, b (ix2 0 e) * v (ix2 d e) + z (ix2 0 d) := by
  pointwise [k0_pay7]

theorem qpArr_at (qa : FVec Ideal S64x1024 .bf16) (wk : FVec Ideal S1024x1024 .bf16) (s : Fin 64) (d j : Fin 1024) :
    qpArr qa wk (ix3 0 ⟨64 * (d.val / 64) + s.val, by omega⟩ j)
      = ∑ e : Fin 64, qa (ix2 s ⟨d.val / 64 * 64 + e.val, by omega⟩) * wk (ix2 ⟨d.val / 64 * 64 + e.val, by omega⟩ j) := by
  unfold qpArr
  refine Finset.sum_congr rfl fun e _ => ?_
  have h1 : (⟨(64 * (d.val / 64) + s.val) % 64, Nat.mod_lt _ (by omega)⟩ : Fin 64) = s := Fin.ext (by simp only; omega)
  have h2 : (⟨64 * ((64 * (d.val / 64) + s.val) / 64) + e.val, by omega⟩ : Fin 1024) = ⟨d.val / 64 * 64 + e.val, by omega⟩ := Fin.ext (by simp only; omega)
  exact congrArg₂ (fun (a : Fin 64) (i : Fin 1024) => qa (ix2 a i) * wk (ix2 i j)) h1 h2

variable (m : (ℓ : Loc nD τ sig) → Buf (Elt Ideal) ℓ) (ρ : Dev nD → PrngReg) (c : Dev nD)

/- The argument arrays' contents. -/
abbrev ar0 : FVec Ideal S4x2048x1024 .f32 := m ((c : Thread nD τ).loc main_arg0)
abbrev ar1 : FVec Ideal S4x2048x512 .f32 := m ((c : Thread nD τ).loc main_arg1)
abbrev ar2 : FVec Ideal S4x2048x512 .f32 := m ((c : Thread nD τ).loc main_arg2)
abbrev ar3 : FVec Ideal S4x2048 .f32 := m ((c : Thread nD τ).loc main_arg3)
abbrev ar4 : FVec Ideal S4x2048 .f32 := m ((c : Thread nD τ).loc main_arg4)
abbrev ar5 : IVec S4x64 32 := m ((c : Thread nD τ).loc main_arg5)
abbrev ar6 : IVec S4x64 32 := m ((c : Thread nD τ).loc main_arg6)
abbrev ar7 : FVec Ideal S1024x1024 .f32 := m ((c : Thread nD τ).loc main_arg7)
abbrev ar8 : FVec Ideal S1024 .f32 := m ((c : Thread nD τ).loc main_arg8)
abbrev ar9 : FVec Ideal S2048x512 .f32 := m ((c : Thread nD τ).loc main_arg9)
abbrev ar10 : FVec Ideal S2048 .f32 := m ((c : Thread nD τ).loc main_arg10)
abbrev ar11 : FVec Ideal S2048x512 .f32 := m ((c : Thread nD τ).loc main_arg11)
abbrev ar12 : FVec Ideal S2048 .f32 := m ((c : Thread nD τ).loc main_arg12)
abbrev ar13 : FVec Ideal S1024x1024 .f32 := m ((c : Thread nD τ).loc main_arg13)
abbrev ar14 : FVec Ideal S1024 .f32 := m ((c : Thread nD τ).loc main_arg14)
abbrev ar15 : FVec Ideal S1024x1024 .f32 := m ((c : Thread nD τ).loc main_arg15)
abbrev ar16 : FVec Ideal S1024 .f32 := m ((c : Thread nD τ).loc main_arg16)
abbrev ar17 : FVec Ideal S3072x1024 .f32 := m ((c : Thread nD τ).loc main_arg17)
abbrev ar18 : FVec Ideal S3072 .f32 := m ((c : Thread nD τ).loc main_arg18)
abbrev ar19 : FVec Ideal S1024x1024 .f32 := m ((c : Thread nD τ).loc main_arg19)
abbrev ar20 : FVec Ideal S1024 .f32 := m ((c : Thread nD τ).loc main_arg20)
abbrev ar21 : FVec Ideal S2x1024 .f32 := m ((c : Thread nD τ).loc main_arg21)

theorem k_wk (r k : Fin 1024) : wkAt (V1 m ρ) c (ix2 r k)
    = ∑ i : Fin 1024, ar17 m c (ix2 (⟨1024 + r.val, by omega⟩ : Fin 3072) i) * ar7 m c (ix2 i k) := by
  refine (pay5_at _ _ r k).trans ?_
  simp only [blk0_16, blk0_14]
  exact Finset.sum_congr rfl fun i _ => congrArg₂ (fun x y : EReal => x * y) (h_v3 m ρ c r i) (h_v26 m ρ c i k)

theorem k_v28_2 (d k : Fin 1024) : (W3 m ρ c (Proc.devRef .tc main_v28_2) (ix2 d k) : EReal)
    = ∑ i : Fin 1024, ar17 m c (ix2 (⟨2048 + d.val, by omega⟩ : Fin 3072) i) * ar7 m c (ix2 i k) := by
  have e : W3 m ρ c (Proc.devRef .tc main_v28_2) = k0_pay6 (F := Ideal) (iblk0 (V1 m ρ) c 16 t0_0) (iblk0 (V1 m ρ) c 15 t0_0) :=
    (W3_of m ρ c main_v28_2 (by decide +kernel)).trans ((W2_arr m ρ c 21).trans (arr21 (V1 m ρ) c))
  refine (congrFun e _).trans ((pay6_at _ _ d k).trans ?_)
  simp only [blk0_16, blk0_15]
  exact Finset.sum_congr rfl fun i _ => congrArg₂ (fun x y : EReal => x * y) (h_v5 m ρ c d i) (h_v26 m ρ c i k)

theorem k_v28_3 (d : Fin 1024) : (W3 m ρ c (Proc.devRef .tc main_v28_3) (ix2 0 d) : EReal)
    = ∑ e : Fin 1024, ar8 m c (ix1 e) * ar17 m c (ix2 (⟨2048 + d.val, by omega⟩ : Fin 3072) e)
      + ar18 m c (ix1 (⟨2048 + d.val, by omega⟩ : Fin 3072)) := by
  have e : W3 m ρ c (Proc.devRef .tc main_v28_3) = k0_pay7 (F := Ideal) (iblk0 (V1 m ρ) c 17 t0_0) (iblk0 (V1 m ρ) c 15 t0_0) (iblk0 (V1 m ρ) c 18 t0_0) :=
    (W3_of m ρ c main_v28_3 (by decide +kernel)).trans ((W2_arr m ρ c 22).trans (arr22 (V1 m ρ) c))
  refine (congrFun e _).trans ((pay7_at _ _ _ d).trans ?_)
  simp only [blk0_17, blk0_15, blk0_18]
  exact congrArg₂ (fun x y : EReal => x + y) (Finset.sum_congr rfl fun i _ => congrArg₂ (fun x y : EReal => x * y) (h_v27 m ρ c i) (h_v5 m ρ c d i)) (h_v9 m ρ c d)

theorem bt_tb (b : Fin 4) : bt (tb b) = b := rfl
theorem bt1_tb1 (b : Fin 4) : bt1 (tb1 b) = b := rfl

theorem arg0_1 (b : Fin 4) (t : Fin 2048) (k : Fin 512) : W1 m ρ c (Proc.devRef .tc main_arg1) (ix3 b t k) = ar1 m c (ix3 b t k) :=
  congrFun (W1_args m ρ c main_arg1 (by decide)) _
theorem arg0_2 (b : Fin 4) (t : Fin 2048) (k : Fin 512) : W1 m ρ c (Proc.devRef .tc main_arg2) (ix3 b t k) = ar2 m c (ix3 b t k) :=
  congrFun (W1_args m ρ c main_arg2 (by decide)) _
theorem arg1_0 (b : Fin 4) (t : Fin 2048) (k : Fin 1024) : W3 m ρ c (Proc.devRef .tc main_arg0) (ix3 b t k) = ar0 m c (ix3 b t k) :=
  congrFun (W3_args m ρ c main_arg0 (by decide)) _
theorem arg1_21 (b : Fin 2) (t : Fin 1024) : W3 m ρ c (Proc.devRef .tc main_arg21) (ix2 b t) = ar21 m c (ix2 b t) :=
  congrFun (W3_args m ρ c main_arg21 (by decide)) _

section Hyp
variable (hA : ∀ j, (0 : EReal) ≤ ar3 m c j) (hB : ∀ j, (0 : EReal) ≤ ar4 m c j)
  (hp : ∀ (b : Fin 4) (i : Fin 64), (ar5 m c (ix2 b i)).toNat < 2048) (hq : ∀ (b : Fin 4) (i : Fin 64), (ar6 m c (ix2 b i)).toNat < 2048)
include hp hq

theorem k_g (b : Fin 4) (s : Fin 64) : (W3 m ρ c (Proc.devRef .tc main_v28_1) (ix3 b s 0) : EReal)
    = if h : s.val < 32 then gt (fun t => ar3 m c (ix2 b t)) (fun i => ar5 m c (ix2 b i)) ⟨s.val, h⟩
      else gt (fun t => ar4 m c (ix2 b t)) (fun i => ar6 m c (ix2 b i)) ⟨s.val - 32, by omega⟩ := by
  have e : W3 m ρ c (Proc.devRef .tc main_v28_1) = G20 (V1 m ρ) c :=
    (W3_of m ρ c main_v28_1 (by decide +kernel)).trans ((W2_arr m ρ c 20).trans (arr20 (V1 m ρ) c))
  refine (congrFun e _).trans ?_
  show gArr (Pre.t38 (iblk0 (V1 m ρ) c 1 (tb b)) (iblk0 (V1 m ρ) c 2 (tb b))) (Pre.t78 (iblk0 (V1 m ρ) c 6 (tb b)) (iblk0 (V1 m ρ) c 7 (tb b))) (ix3 0 s 0) = _
  unfold gArr
  rw [Pre.t78_eq]
  refine dite_congr rfl (fun h => ?_) (fun h => ?_)
  · refine t38_gt _ _ _ _ (fun t => ?_) (fun i => ?_) (fun i => hp b i) _
    · rw [blk0_1, bt_tb, h_v10]
    · rw [blk0_2, bt_tb, h_v11]
  · refine t38_gt _ _ _ _ (fun t => ?_) (fun i => ?_) (fun i => hq b i) _
    · rw [blk0_6, bt_tb, h_v17]
    · rw [blk0_7, bt_tb, h_v18]

include hA hB
theorem k_q (b : Fin 4) (s : Fin 64) (e : Fin 1024) : qaAt (V1 m ρ) c (tb b) (ix2 s e)
    = if h : s.val < 32 then qvA (ar1 m c) (ar3 m c) (ar5 m c) (ar9 m c) (ar10 m c) (ar13 m c) (ar14 m c) (ar17 m c) (ar18 m c) b ⟨s.val, h⟩ e
      else qvA (ar2 m c) (ar4 m c) (ar6 m c) (ar11 m c) (ar12 m c) (ar13 m c) (ar14 m c) (ar17 m c) (ar18 m c) b ⟨s.val - 32, by omega⟩ e := by
  unfold qaAt qvA qv
  rw [Pre.t80_at]
  refine dite_congr rfl (fun h => ?_) (fun h => ?_)
  · rw [zK_pool _ _ _ (fun t => ar3 m c (ix2 b t)) (fun t k => ar1 m c (ix3 b t k)) (fun i => ar5 m c (ix2 b i))
      (fun t k => by rw [blk0_0, bt_tb, arg0_1]) (fun t => by rw [blk0_1, bt_tb, h_v10]) (fun i => by rw [blk0_2, bt_tb, h_v11]) (fun i => hp b i) (fun t => hA _)]
    refine qrow_congr rfl (fun d k => ?_) (fun d => ?_) (fun d k => ?_) (fun d => ?_) (fun d k => ?_) (fun d => ?_) e
    · rw [blk0_3, h_v14]
    · rw [blk0_4, h_v16]
    · rw [blk0_10, h_v24]
    · rw [blk0_11, h_v25]
    · rw [blk0_12, h_v1]; simp only [zero_add]
    · rw [blk0_13, h_v7]; simp only [zero_add]
  · rw [zK_pool _ _ _ (fun t => ar4 m c (ix2 b t)) (fun t k => ar2 m c (ix3 b t k)) (fun i => ar6 m c (ix2 b i))
      (fun t k => by rw [blk0_5, bt_tb, arg0_2]) (fun t => by rw [blk0_6, bt_tb, h_v17]) (fun i => by rw [blk0_7, bt_tb, h_v18]) (fun i => hq b i) (fun t => hB _)]
    refine qrow_congr rfl (fun d k => ?_) (fun d => ?_) (fun d k => ?_) (fun d => ?_) (fun d k => ?_) (fun d => ?_) e
    · rw [blk0_8, h_v21]
    · rw [blk0_9, h_v23]
    · rw [blk0_10, h_v24]
    · rw [blk0_11, h_v25]
    · rw [blk0_12, h_v1]; simp only [zero_add]
    · rw [blk0_13, h_v7]; simp only [zero_add]
end Hyp
end Cert.KernelIdeal.Whole
-- ==== Proof.Val.KernB.lean ====
module
public import proofs.«01_k».proof.Proof.Val.KernA
@[expose] public section
set_option maxRecDepth 16384
noncomputable section
/-! The kernel's result, as a formula of the argument arrays. -/
namespace Cert.KernelIdeal.Whole
open Idealize.ShloMosaic Idealize.ShloMosaic.TcCoe Idealize.ShloMosaic.Tactic
open Cert.KernelIdeal.Gen Cert.Math
variable (m : (ℓ : Loc nD τ sig) → Buf (Elt Ideal) ℓ) (ρ : Dev nD → PrngReg) (c : Dev nD)

theorem G19_at (V : (c : Dev nD) → (b : Ref sig .tc) → Buf (Elt Ideal) ((c : Thread nD τ).loc b)) (b : Fin 4) (r j : Fin 1024) :
    G19 V c (ix3 b r j) = qpArr (qaAt V c (tb b)) (wkAt V c) (ix3 0 r j) := rfl
theorem G12_at (V : (c : Dev nD) → (b : Ref sig .tc) → Buf (Elt Ideal) ((c : Thread nD τ).loc b)) (b : Fin 4) (s : Fin 64) (d : Fin 1024) :
    G12 V c (ix3 b s d) = attnK (iblk1 V c 0 (tb1 b)) (iblk1 V c 1 (tb1 b)) (iblk1 V c 2 (tb1 b)) (iblk1 V c 3 (tb1 b))
      (iblk1 V c 4 (tb1 b)) (iblk1 V c 5 (tb1 b)) (iblk1 V c 6 (tb1 b)) (iblk1 V c 7 (tb1 b))
      (iblk1 V c 8 (tb1 b)) (iblk1 V c 9 (tb1 b)) (iblk1 V c 10 (tb1 b)) (iblk1 V c 11 (tb1 b)) s d := rfl

theorem k_v28_0 (b : Fin 4) (s : Fin 64) (d j : Fin 1024) : (W3 m ρ c (Proc.devRef .tc main_v28_0) (ix3 b (⟨64 * (d.val / 64) + s.val, by omega⟩ : Fin 1024) j) : EReal)
    = ∑ e : Fin 64, qaAt (V1 m ρ) c (tb b) (ix2 s ⟨d.val / 64 * 64 + e.val, by omega⟩)
      * ∑ i : Fin 1024, ar17 m c (ix2 (⟨1024 + (d.val / 64 * 64 + e.val), by omega⟩ : Fin 3072) i) * ar7 m c (ix2 i j) := by
  have e : W3 m ρ c (Proc.devRef .tc main_v28_0) = G19 (V1 m ρ) c :=
    (W3_of m ρ c main_v28_0 (by decide +kernel)).trans ((W2_arr m ρ c 19).trans (arr19 (V1 m ρ) c))
  refine (congrFun e _).trans ?_
  refine (G19_at c (V1 m ρ) b _ j).trans ((qpArr_at (qaAt (V1 m ρ) c (tb b)) (wkAt (V1 m ρ) c) s d j).trans ?_)
  exact Finset.sum_congr rfl fun i _ => congrArg (fun x : EReal => qaAt (V1 m ρ) c (tb b) _ * x) (k_wk m ρ c _ j)

section Real
variable (r0 : ∀ j, IsR (ar0 m c j)) (r7 : ∀ j, IsR (ar7 m c j)) (r8 : ∀ j, IsR (ar8 m c j)) (r17 : ∀ j, IsR (ar17 m c j)) (r18 : ∀ j, IsR (ar18 m c j))
include r17 r18 in
theorem qvA_real (x1 : FVec Ideal S4x2048x512 .f32) (x3 : FVec Ideal S4x2048 .f32) (x5 : IVec S4x64 32) (x9 : FVec Ideal S2048x512 .f32) (x10 : FVec Ideal S2048 .f32)
    (x13 : FVec Ideal S1024x1024 .f32) (x14 : FVec Ideal S1024 .f32) (b : Fin 4) (r : Fin 32) (e : Fin 1024) :
    IsR (qvA x1 x3 x5 x9 x10 x13 x14 (ar17 m c) (ar18 m c) b r e) := by
  unfold qvA qv Pre.qrow
  exact (IsR.sum _ _ fun d => (isR_tanh _).mul (r17 _)).add (r18 _)

include r0 r7 r8 r17 r18 in
theorem headsK_hd (b : Fin 4) (s : Fin 64) (q : Fin 1024 → EReal) (hq : ∀ e, qaAt (V1 m ρ) c (tb b) (ix2 s e) = q e) (rq : ∀ e, IsR (q e)) (d : Fin 1024) :
    headsK (iblk1 (V3 m ρ) c 0 (tb1 b)) (iblk1 (V3 m ρ) c 1 (tb1 b)) (iblk1 (V3 m ρ) c 2 (tb1 b)) (iblk1 (V3 m ρ) c 3 (tb1 b)) s d
      = hd q (fun t j => ar0 m c (ix3 b t j)) (fun i j => ar7 m c (ix2 i j)) (fun i => ar8 m c (ix1 i)) (fun d k => ar17 m c (ix2 d k)) (fun d => ar18 m c (ix1 d)) d := by
  unfold headsK
  have h0 : (fun t j => iblk1 (V3 m ρ) c 0 (tb1 b) (ix3 0 t j)) = fun t j => ar0 m c (ix3 b t j) :=
    funext fun t => funext fun j => (blk1_0 m ρ c (tb1 b) 0 t j).trans (arg1_0 m ρ c b t j)
  have h1 : (fun j => iblk1 (V3 m ρ) c 1 (tb1 b) (ix3 0 (⟨64 * (d.val / 64) + s.val, by omega⟩ : Fin 1024) j))
      = fun j => ∑ e : Fin 64, q ⟨d.val / 64 * 64 + e.val, by omega⟩
        * ∑ i : Fin 1024, ar17 m c (ix2 (⟨1024 + (d.val / 64 * 64 + e.val), by omega⟩ : Fin 3072) i) * ar7 m c (ix2 i j) := by
    funext j
    refine (blk1_1 m ρ c (tb1 b) 0 _ j).trans ((k_v28_0 m ρ c b s d j).trans ?_)
    simp only [hq]
  have h2 : ∀ k, iblk1 (V3 m ρ) c 2 (tb1 b) (ix2 d k) = ∑ i : Fin 1024, ar17 m c (ix2 (⟨2048 + d.val, by omega⟩ : Fin 3072) i) * ar7 m c (ix2 i k) :=
    fun k => (blk1_2 m ρ c (tb1 b) d k).trans (k_v28_2 m ρ c d k)
  have h3 : iblk1 (V3 m ρ) c 3 (tb1 b) (ix2 0 d) = ∑ e : Fin 1024, ar8 m c (ix1 e) * ar17 m c (ix2 (⟨2048 + d.val, by omega⟩ : Fin 3072) e)
      + ar18 m c (ix1 (⟨2048 + d.val, by omega⟩ : Fin 3072)) := (blk1_3 m ρ c (tb1 b) 0 d).trans (k_v28_3 m ρ c d)
  rw [h0, h1, h3]
  refine (congrArg (fun x : EReal => x + _) (Finset.sum_congr rfl fun k _ => congrArg (fun x : EReal => mixK _ _ k * x) (h2 k))).trans ?_
  exact attn_eq _ _ (fun i j => ar7 m c (ix2 i j)) (fun i => ar8 m c (ix1 i)) (fun e i => ar17 m c (ix2 (⟨1024 + (d.val / 64 * 64 + e.val), by omega⟩ : Fin 3072) i))
    (fun e => ar18 m c (ix1 (⟨1024 + (d.val / 64 * 64 + e.val), by omega⟩ : Fin 3072))) (fun i => ar17 m c (ix2 (⟨2048 + d.val, by omega⟩ : Fin 3072) i))
    (ar18 m c (ix1 (⟨2048 + d.val, by omega⟩ : Fin 3072))) (fun e => rq _) (fun t j => r0 _) (fun i j => r7 _) (fun i => r8 _) (fun e i => r17 _) (fun e => r18 _)
    (fun i => r17 _) (r18 _)

include r0 r7 r8 r17 r18 in
theorem row_eq (b : Fin 4) (s : Fin 64) (q : Fin 1024 → EReal) (hq : ∀ e, qaAt (V1 m ρ) c (tb b) (ix2 s e) = q e) (rq : ∀ e, IsR (q e)) (d : Fin 1024) :
    (∑ x, (∑ j, headsK (iblk1 (V3 m ρ) c 0 (tb1 b)) (iblk1 (V3 m ρ) c 1 (tb1 b)) (iblk1 (V3 m ρ) c 2 (tb1 b)) (iblk1 (V3 m ρ) c 3 (tb1 b)) s j
        * iblk1 (V3 m ρ) c 4 (tb1 b) (ix2 x j) + iblk1 (V3 m ρ) c 5 (tb1 b) (ix2 0 x)) * iblk1 (V3 m ρ) c 6 (tb1 b) (ix2 d x)
        + iblk1 (V3 m ρ) c 7 (tb1 b) (ix2 0 d) : EReal)
      = rowA (ar0 m c) (ar7 m c) (ar8 m c) (ar15 m c) (ar16 m c) (ar17 m c) (ar18 m c) (ar19 m c) (ar20 m c) q b d := by
  unfold rowA outp
  refine congrArg₂ (fun x y : EReal => x + y) (Finset.sum_congr rfl fun x _ => congrArg₂ (fun x y : EReal => x * y)
    (congrArg₂ (fun x y : EReal => x + y) (Finset.sum_congr rfl fun j _ => congrArg₂ (fun x y : EReal => x * y) ?_ ?_) ?_) ?_) ?_
  · exact headsK_hd m ρ c r0 r7 r8 r17 r18 b s q hq rq j
  · exact (blk1_4 m ρ c (tb1 b) x j).trans (h_v29 m ρ c x j)
  · exact (blk1_5 m ρ c (tb1 b) 0 x).trans (h_v30 m ρ c x)
  · exact (blk1_6 m ρ c (tb1 b) d x).trans (h_v31 m ρ c d x)
  · exact (blk1_7 m ρ c (tb1 b) 0 d).trans (h_v32 m ρ c d)

theorem slot_eq (b : Fin 4) (s : Fin 64) (d : Fin 1024) (a9 a10 u v : EReal) (h9 : a9 = iblk1 (V3 m ρ) c 9 (tb1 b) (ix3 0 s 0))
    (h10 : a10 = iblk1 (V3 m ρ) c 10 (tb1 b) (ix3 0 s 0)) (hu : u = iblk1 (V3 m ρ) c 11 (tb1 b) (ix2 0 d)) (hv : v = iblk1 (V3 m ρ) c 11 (tb1 b) (ix2 1 d)) :
    Ideal.div a9 (a9 + a10 + Ideal.ofBits FTy.f32 897988541#32) * u + Ideal.div a10 (a9 + a10 + Ideal.ofBits FTy.f32 897988541#32) * v
      = slot (ar3 m c) (ar4 m c) (ar21 m c) b s d := by
  have e9 : a9 = ar3 m c (ix2 b (⟨s.val * 32, by omega⟩ : Fin 2048)) := h9.trans ((blk1_9 m ρ c (tb1 b) 0 s 0).trans (h_v33 m ρ c b s 0))
  have e10 : a10 = ar4 m c (ix2 b (⟨s.val * 32, by omega⟩ : Fin 2048)) := h10.trans ((blk1_10 m ρ c (tb1 b) 0 s 0).trans (h_v34 m ρ c b s 0))
  have e0 : u = ar21 m c (ix2 0 d) := hu.trans ((blk1_11 m ρ c (tb1 b) 0 d).trans (arg1_21 m ρ c 0 d))
  have e1 : v = ar21 m c (ix2 1 d) := hv.trans ((blk1_11 m ρ c (tb1 b) 1 d).trans (arg1_21 m ρ c 1 d))
  rw [e9, e10, e0, e1]
  rfl

/-- The kernel's result, entry by entry. -/
theorem kern_at (hA : ∀ j, (0 : EReal) ≤ ar3 m c j) (hB : ∀ j, (0 : EReal) ≤ ar4 m c j)
    (hp : ∀ (b : Fin 4) (i : Fin 64), (ar5 m c (ix2 b i)).toNat < 2048) (hq : ∀ (b : Fin 4) (i : Fin 64), (ar6 m c (ix2 b i)).toNat < 2048)
    (r0 : ∀ j, IsR (ar0 m c j)) (r7 : ∀ j, IsR (ar7 m c j)) (r8 : ∀ j, IsR (ar8 m c j)) (r17 : ∀ j, IsR (ar17 m c j)) (r18 : ∀ j, IsR (ar18 m c j))
    (b : Fin 4) (s : Fin 64) (d : Fin 1024) :
    (W4 m ρ c (Proc.devRef .tc main_v35) (ix3 b s d) : EReal) = full (ar0 m c) (ar1 m c) (ar2 m c) (ar3 m c) (ar4 m c) (ar5 m c) (ar6 m c) (ar7 m c) (ar8 m c) (ar9 m c) (ar10 m c) (ar11 m c) (ar12 m c) (ar13 m c) (ar14 m c) (ar15 m c) (ar16 m c) (ar17 m c) (ar18 m c) (ar19 m c) (ar20 m c) (ar21 m c) b s d := by
  have e : W4 m ρ c (Proc.devRef .tc main_v35) = G12 (V3 m ρ) c := (W4_arr m ρ c 12).trans (arr12 (V3 m ρ) c)
  refine (congrFun e _).trans ?_
  refine (G12_at c (V3 m ρ) b s d).trans ?_
  unfold attnK full
  refine congrArg₂ (fun x y : EReal => x + y) ?_ (slot_eq m ρ c b s d _ _ _ _ rfl rfl rfl rfl)
  have g : (iblk1 (V3 m ρ) c 8 (tb1 b) (ix3 0 s 0) : EReal) = _ := (blk1_8 m ρ c (tb1 b) 0 s 0).trans (k_g m ρ c hp hq b s)
  have q := fun e => k_q m ρ c hA hB hp hq b s e
  by_cases h : s.val < 32
  · rw [dif_pos h] at g ⊢
    simp only [dif_pos h] at q
    exact congrArg₂ (fun x y : EReal => x * y) (row_eq m ρ c r0 r7 r8 r17 r18 b s _ q (fun e => qvA_real m c r17 r18 _ _ _ _ _ _ _ b _ e) d) g
  · rw [dif_neg h] at g ⊢
    simp only [dif_neg h] at q
    exact congrArg₂ (fun x y : EReal => x * y) (row_eq m ρ c r0 r7 r8 r17 r18 b s _ q (fun e => qvA_real m c r17 r18 _ _ _ _ _ _ _ b _ e) d) g
end Real
end Cert.KernelIdeal.Whole
-- ==== Proof.Val.RefOps.lean ====
module
public import proofs.«01_k».proof.Proof.Gen.ReferenceIdeal.Read
public import proofs.«01_k».proof.Proof.Val.Score
public import Idealize.ShloMosaic.Lib.Pointwise
public import Idealize.ShloMosaic.Lib.ValueIdxCoords
@[expose] public section
set_option maxRecDepth 16384
noncomputable section
/-! The reference's gathers and concatenations, read at an index. -/
namespace Cert.ReferenceIdeal.Ops
open Idealize.ShloMosaic Idealize.ShloMosaic.TcCoe
open Cert.ReferenceIdeal

variable {α : Type}

theorem gat64 (x : S4x2048.Idx → α) (idx : IVec S4x64x17x2 32) (b : Fin 4) (i : Fin 64) (k : Fin 17) :
    Host.gather gather_S4x2048_S4x64x17x2_S4x64x17_n_01_n_n_01_3_11 x idx (ix3 b i k) = x (ix2 ⟨min (idx (ix4 b i k 0)).toInt.toNat 3, by omega⟩ ⟨min (idx (ix4 b i k 1)).toInt.toNat 2047, by omega⟩) := by
  unfold Host.gather
  congr 1
  funext a
  refine Fin.ext ?_
  have hcase : a = 0 ∨ a = 1 := by
    match a with
    | ⟨0, _⟩ => exact Or.inl rfl
    | ⟨1, _⟩ => exact Or.inr rfl
  rcases hcase with rfl | rfl
  · show GatherDims.start _ _ _ _ + GatherDims.batchCoord _ _ _ + GatherDims.offCoord _ _ _ = _
    rw [GatherDims.batchCoord_eq_zero _ _ _ (by decide),
      GatherDims.offCoord_eq_zero _ _ _ (fun h => ((GatherDims.mem_sKept _ _).mp h).1 (show (0 : Fin 2) ∈ [0, 1] by decide))]
    simp only [Nat.add_zero]
    unfold GatherDims.start
    rw [dif_pos (show (0 : Fin 2) ∈ gather_S4x2048_S4x64x17x2_S4x64x17_n_01_n_n_01_3_11.startIndexMap from (by decide : (0 : Fin 2) ∈ [0, 1]))]
    congr 3
    congr 1
    funext c; refine Fin.ext ?_
    match c with
    | ⟨0, _⟩ => rfl
    | ⟨1, _⟩ => rfl
    | ⟨2, _⟩ => rfl
    | ⟨3, _⟩ => rfl
  · show GatherDims.start _ _ _ _ + GatherDims.batchCoord _ _ _ + GatherDims.offCoord _ _ _ = _
    rw [GatherDims.batchCoord_eq_zero _ _ _ (by decide),
      GatherDims.offCoord_eq_zero _ _ _ (fun h => ((GatherDims.mem_sKept _ _).mp h).1 (show (1 : Fin 2) ∈ [0, 1] by decide))]
    simp only [Nat.add_zero]
    unfold GatherDims.start
    rw [dif_pos (show (1 : Fin 2) ∈ gather_S4x2048_S4x64x17x2_S4x64x17_n_01_n_n_01_3_11.startIndexMap from (by decide : (1 : Fin 2) ∈ [0, 1]))]
    congr 3
    congr 1
    funext c; refine Fin.ext ?_
    match c with
    | ⟨0, _⟩ => rfl
    | ⟨1, _⟩ => rfl
    | ⟨2, _⟩ => rfl
    | ⟨3, _⟩ => rfl

theorem cat64_0 (x y : S4x64x17x1.Idx → α) (h) (b : Fin 4) (i : Fin 64) (k : Fin 17) :
    concatenate S4x64x17x2 3 [⟨S4x64x17x1, x⟩, ⟨S4x64x17x1, y⟩] h (ix4 b i k 0) = x (ix4 b i k 0) := by
  pointwise
theorem cat64_1 (x y : S4x64x17x1.Idx → α) (h) (b : Fin 4) (i : Fin 64) (k : Fin 17) :
    concatenate S4x64x17x2 3 [⟨S4x64x17x1, x⟩, ⟨S4x64x17x1, y⟩] h (ix4 b i k 1) = y (ix4 b i k 0) := by
  pointwise
theorem gat32 (x : S4x2048.Idx → α) (idx : IVec S4x32x17x2 32) (b : Fin 4) (i : Fin 32) (k : Fin 17) :
    Host.gather gather_S4x2048_S4x32x17x2_S4x32x17_n_01_n_n_01_3_11 x idx (ix3 b i k) = x (ix2 ⟨min (idx (ix4 b i k 0)).toInt.toNat 3, by omega⟩ ⟨min (idx (ix4 b i k 1)).toInt.toNat 2047, by omega⟩) := by
  unfold Host.gather
  congr 1
  funext a
  refine Fin.ext ?_
  have hcase : a = 0 ∨ a = 1 := by
    match a with
    | ⟨0, _⟩ => exact Or.inl rfl
    | ⟨1, _⟩ => exact Or.inr rfl
  rcases hcase with rfl | rfl
  · show GatherDims.start _ _ _ _ + GatherDims.batchCoord _ _ _ + GatherDims.offCoord _ _ _ = _
    rw [GatherDims.batchCoord_eq_zero _ _ _ (by decide),
      GatherDims.offCoord_eq_zero _ _ _ (fun h => ((GatherDims.mem_sKept _ _).mp h).1 (show (0 : Fin 2) ∈ [0, 1] by decide))]
    simp only [Nat.add_zero]
    unfold GatherDims.start
    rw [dif_pos (show (0 : Fin 2) ∈ gather_S4x2048_S4x32x17x2_S4x32x17_n_01_n_n_01_3_11.startIndexMap from (by decide : (0 : Fin 2) ∈ [0, 1]))]
    congr 3
    congr 1
    funext c; refine Fin.ext ?_
    match c with
    | ⟨0, _⟩ => rfl
    | ⟨1, _⟩ => rfl
    | ⟨2, _⟩ => rfl
    | ⟨3, _⟩ => rfl
  · show GatherDims.start _ _ _ _ + GatherDims.batchCoord _ _ _ + GatherDims.offCoord _ _ _ = _
    rw [GatherDims.batchCoord_eq_zero _ _ _ (by decide),
      GatherDims.offCoord_eq_zero _ _ _ (fun h => ((GatherDims.mem_sKept _ _).mp h).1 (show (1 : Fin 2) ∈ [0, 1] by decide))]
    simp only [Nat.add_zero]
    unfold GatherDims.start
    rw [dif_pos (show (1 : Fin 2) ∈ gather_S4x2048_S4x32x17x2_S4x32x17_n_01_n_n_01_3_11.startIndexMap from (by decide : (1 : Fin 2) ∈ [0, 1]))]
    congr 3
    congr 1
    funext c; refine Fin.ext ?_
    match c with
    | ⟨0, _⟩ => rfl
    | ⟨1, _⟩ => rfl
    | ⟨2, _⟩ => rfl
    | ⟨3, _⟩ => rfl

theorem cat32_0 (x y : S4x32x17x1.Idx → α) (h) (b : Fin 4) (i : Fin 32) (k : Fin 17) :
    concatenate S4x32x17x2 3 [⟨S4x32x17x1, x⟩, ⟨S4x32x17x1, y⟩] h (ix4 b i k 0) = x (ix4 b i k 0) := by
  pointwise
theorem cat32_1 (x y : S4x32x17x1.Idx → α) (h) (b : Fin 4) (i : Fin 32) (k : Fin 17) :
    concatenate S4x32x17x2 3 [⟨S4x32x17x1, x⟩, ⟨S4x32x17x1, y⟩] h (ix4 b i k 1) = y (ix4 b i k 0) := by
  pointwise
theorem gatH (x : S4x2048x512.Idx → α) (idx : IVec S4x32x17x2 32) (b : Fin 4) (i : Fin 32) (k : Fin 17) (d : Fin 512) :
    Host.gather gather_S4x2048x512_S4x32x17x2_S4x32x17x512_3_01_n_n_01_3_11512 x idx (ix4 b i k d) = x (ix3 ⟨min (idx (ix4 b i k 0)).toInt.toNat 3, by omega⟩ ⟨min (idx (ix4 b i k 1)).toInt.toNat 2047, by omega⟩ d) := by
  unfold Host.gather
  congr 1
  funext a
  refine Fin.ext ?_
  have hcase : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases hcase with rfl | rfl | rfl
  · show GatherDims.start _ _ _ _ + GatherDims.batchCoord _ _ _ + GatherDims.offCoord _ _ _ = _
    rw [GatherDims.batchCoord_eq_zero _ _ _ (by decide),
      GatherDims.offCoord_eq_zero _ _ _ (fun h => ((GatherDims.mem_sKept _ _).mp h).1 (show (0 : Fin 3) ∈ [0, 1] by decide))]
    simp only [Nat.add_zero]
    unfold GatherDims.start
    rw [dif_pos (show (0 : Fin 3) ∈ gather_S4x2048x512_S4x32x17x2_S4x32x17x512_3_01_n_n_01_3_11512.startIndexMap from (by decide : (0 : Fin 3) ∈ [0, 1]))]
    congr 3
    congr 1
    funext c; refine Fin.ext ?_
    match c with
    | ⟨0, _⟩ => rfl
    | ⟨1, _⟩ => rfl
    | ⟨2, _⟩ => rfl
    | ⟨3, _⟩ => rfl
  · show GatherDims.start _ _ _ _ + GatherDims.batchCoord _ _ _ + GatherDims.offCoord _ _ _ = _
    rw [GatherDims.batchCoord_eq_zero _ _ _ (by decide),
      GatherDims.offCoord_eq_zero _ _ _ (fun h => ((GatherDims.mem_sKept _ _).mp h).1 (show (1 : Fin 3) ∈ [0, 1] by decide))]
    simp only [Nat.add_zero]
    unfold GatherDims.start
    rw [dif_pos (show (1 : Fin 3) ∈ gather_S4x2048x512_S4x32x17x2_S4x32x17x512_3_01_n_n_01_3_11512.startIndexMap from (by decide : (1 : Fin 3) ∈ [0, 1]))]
    congr 3
    congr 1
    funext c; refine Fin.ext ?_
    match c with
    | ⟨0, _⟩ => rfl
    | ⟨1, _⟩ => rfl
    | ⟨2, _⟩ => rfl
    | ⟨3, _⟩ => rfl
  · show GatherDims.start _ _ _ _ + GatherDims.batchCoord _ _ _ + GatherDims.offCoord _ _ _ = _
    rw [GatherDims.batchCoord_eq_zero _ _ _ (by decide)]
    unfold GatherDims.start
    rw [dif_neg (by decide)]
    unfold GatherDims.offCoord
    rw [dif_pos (by decide), Nat.zero_add]
    rfl

theorem gatT (x : S4x64.Idx → α) (idx : IVec S4x32x1 32) (b : Fin 4) (r : Fin 32) :
    Host.gather gather_S4x64_S4x32x1_S4x32_n_1_0_0_1_2_11 x idx (ix2 b r) = x (ix2 b ⟨min (idx (ix3 b r 0)).toInt.toNat 63, by omega⟩) := by
  unfold Host.gather
  congr 1
  funext a
  refine Fin.ext ?_
  have hcase : a = 0 ∨ a = 1 := by
    match a with
    | ⟨0, _⟩ => exact Or.inl rfl
    | ⟨1, _⟩ => exact Or.inr rfl
  rcases hcase with rfl | rfl
  · show GatherDims.start _ _ _ _ + GatherDims.batchCoord _ _ _ + GatherDims.offCoord _ _ _ = _
    rw [GatherDims.start_batching _ _ _ _ (show (0 : Fin 2) ∈ gather_S4x64_S4x32x1_S4x32_n_1_0_0_1_2_11.operandBatchingDims from (by decide : (0 : Fin 2) ∈ [0])),
      GatherDims.offCoord_eq_zero _ _ _ (fun h => ((GatherDims.mem_sKept _ _).mp h).2 (show (0 : Fin 2) ∈ [0] by decide))]
    unfold GatherDims.batchCoord
    rw [dif_pos (show (0 : Fin 2) ∈ gather_S4x64_S4x32x1_S4x32_n_1_0_0_1_2_11.operandBatchingDims from (by decide : (0 : Fin 2) ∈ [0])), Nat.zero_add, Nat.add_zero]
    rfl
  · show GatherDims.start _ _ _ _ + GatherDims.batchCoord _ _ _ + GatherDims.offCoord _ _ _ = _
    rw [GatherDims.batchCoord_eq_zero _ _ _ (by decide),
      GatherDims.offCoord_eq_zero _ _ _ (fun h => ((GatherDims.mem_sKept _ _).mp h).1 (show (1 : Fin 2) ∈ [1] by decide))]
    simp only [Nat.add_zero]
    unfold GatherDims.start
    rw [dif_pos (show (1 : Fin 2) ∈ gather_S4x64_S4x32x1_S4x32_n_1_0_0_1_2_11.startIndexMap from (by decide : (1 : Fin 2) ∈ [1]))]
    congr 3
    congr 1
    funext c; refine Fin.ext ?_
    match c with
    | ⟨0, _⟩ => rfl
    | ⟨1, _⟩ => rfl
    | ⟨2, _⟩ => rfl

theorem gatS (x : S4x2048.Idx → α) (idx : IVec S64x1 32) (b : Fin 4) (s : Fin 64) :
    Host.gather gather_S4x2048_S64x1_S4x64_0_1_n_n_1_1_41 x idx (ix2 b s) = x (ix2 b ⟨min (idx (ix2 s 0)).toInt.toNat 2047, by omega⟩) := by
  unfold Host.gather
  congr 1
  funext a
  refine Fin.ext ?_
  have hcase : a = 0 ∨ a = 1 := by
    match a with
    | ⟨0, _⟩ => exact Or.inl rfl
    | ⟨1, _⟩ => exact Or.inr rfl
  rcases hcase with rfl | rfl
  · show GatherDims.start _ _ _ _ + GatherDims.batchCoord _ _ _ + GatherDims.offCoord _ _ _ = _
    rw [GatherDims.batchCoord_eq_zero _ _ _ (by decide)]
    unfold GatherDims.start
    rw [dif_neg (by decide)]
    unfold GatherDims.offCoord
    rw [dif_pos (by decide), Nat.zero_add]
    rfl
  · show GatherDims.start _ _ _ _ + GatherDims.batchCoord _ _ _ + GatherDims.offCoord _ _ _ = _
    rw [GatherDims.batchCoord_eq_zero _ _ _ (by decide),
      GatherDims.offCoord_eq_zero _ _ _ (fun h => ((GatherDims.mem_sKept _ _).mp h).1 (show (1 : Fin 2) ∈ [1] by decide))]
    simp only [Nat.add_zero]
    unfold GatherDims.start
    rw [dif_pos (show (1 : Fin 2) ∈ gather_S4x2048_S64x1_S4x64_0_1_n_n_1_1_41.startIndexMap from (by decide : (1 : Fin 2) ∈ [1]))]
    congr 3
    congr 1
    funext c; refine Fin.ext ?_
    match c with
    | ⟨0, _⟩ => rfl
    | ⟨1, _⟩ => rfl

end Cert.ReferenceIdeal.Ops
-- ==== Proof.Val.Words.lean ====
module
public import proofs.«01_k».proof.Proof.Val.Win
public import Idealize.ShloMosaic.Lib.IdealHost
@[expose] public section
noncomputable section
/-! The reference's window places: clipping, range marks and signed indices, as facts about words. -/
namespace Cert.Math
open Idealize.ShloMosaic

/-- A place clipped to the sequence, then wrapped if negative. -/
def fixI (q : BitVec 32) : BitVec 32 :=
  Scalar.select (IntOp.cmpi .slt (IntOp.minsi 2047#32 (IntOp.maxsi 0#32 q)) 0#32)
    (IntOp.addi (IntOp.minsi 2047#32 (IntOp.maxsi 0#32 q)) 2048#32) (IntOp.minsi 2047#32 (IntOp.maxsi 0#32 q))

/-- A batch number, wrapped if negative. -/
def selB (b : Fin 4) : BitVec 32 :=
  Scalar.select (IntOp.cmpi .slt (BitVec.ofNat 32 b.val) 0#32) (IntOp.addi (BitVec.ofNat 32 b.val) 4#32) (BitVec.ofNat 32 b.val)

theorem selB_eq (b : Fin 4) : min (selB b).toInt.toNat 3 = b.val := by
  revert b; decide

theorem fixI_eq (q : BitVec 32) (h0 : 0 ≤ q.toInt) (h1 : q.toInt < 2048) : fixI q = q := by
  have e0 : (0#32).toInt = 0 := by decide
  have e1 : (2047#32).toInt = 2047 := by decide
  have hm : IntOp.maxsi 0#32 q = q := by
    unfold IntOp.maxsi
    by_cases h : q.toInt = 0
    · have : q = 0#32 := BitVec.eq_of_toInt_eq (by rw [h, e0])
      subst this; decide
    · simp [BitVec.slt, BitVec.sle, e0]; omega
  have hn : IntOp.minsi 2047#32 q = q := by
    unfold IntOp.minsi
    by_cases h : q.toInt = 2047
    · have : q = 2047#32 := BitVec.eq_of_toInt_eq (by rw [h, e1])
      subst this; decide
    · simp [BitVec.slt, BitVec.sle, e1]; omega
  unfold fixI
  rw [hm, hn, cmpi_slt_iff, e0, decide_eq_false (by omega)]
  rfl

/-- Whether a place is inside the sequence. -/
def inR (q : BitVec 32) : BitVec 1 := IntOp.andi (IntOp.cmpi .sge q 0#32) (IntOp.cmpi .slt q 2048#32)

theorem inR_eq (q : BitVec 32) : inR q = BitVec.ofBool (decide (0 ≤ q.toInt ∧ q.toInt < 2048)) := by
  have e0 : (0#32).toInt = 0 := by decide
  have e1 : (2048#32).toInt = 2048 := by decide
  unfold inR
  rw [cmpi_sge_iff, cmpi_slt_iff, andi_ofBool, e0, e1, Bool.decide_and]

theorem inR_small (p : BitVec 32) (hp : p.toNat < 2048) : inR p = 1#1 := by
  rw [inR_eq, toInt_small p (by omega), decide_eq_true (by omega)]; rfl

theorem fval (b : Bool) : FloatOps.uitofp (F := Ideal) .f32 (BitVec.ofBool b) = if b then (1 : EReal) else 0 := by
  cases b
  · show ((((0#1).toNat : ℕ) : ℝ) : EReal) = _
    simp
  · show ((((1#1).toNat : ℕ) : ℝ) : EReal) = _
    simp

/-- The word that moves a window's centre to its `k`-th place. -/
def offW (k : Fin 17) : BitVec 32 := IntOp.addi 4294967288#32 (BitVec.ofNat 32 k.val)

theorem offW_toNat (k : Fin 17) : (offW k).toNat = (4294967288 + k.val) % 4294967296 := by
  revert k; decide

theorem place_toInt (p : BitVec 32) (hp : p.toNat < 2048) (k : Fin 17) :
    (IntOp.addi p (offW k)).toInt = (p.toNat : ℤ) + k.val - 8 := toInt_add_off p _ hp k (offW_toNat k)

/-- The clipped place as a position: inside the sequence it is the place itself. -/
theorem place_idx (p : BitVec 32) (hp : p.toNat < 2048) (k : Fin 17) (h : 8 ≤ p.toNat + k.val ∧ p.toNat + k.val < 2056) :
    min (fixI (IntOp.addi p (offW k))).toInt.toNat 2047 = p.toNat + k.val - 8 := by
  have e := place_toInt p hp k
  rw [fixI_eq _ (by omega) (by omega), e]
  omega

theorem place_in (p : BitVec 32) (hp : p.toNat < 2048) (k : Fin 17) :
    inR (IntOp.addi p (offW k)) = BitVec.ofBool (decide (8 ≤ p.toNat + k.val ∧ p.toNat + k.val < 2056)) := by
  rw [inR_eq, place_toInt p hp k]
  congr 2
  exact propext ⟨fun h => by omega, fun h => by omega⟩

theorem fin_arg {n : ℕ} (A : Fin n → EReal) (a b : ℕ) (ha : a < n) (hb : b < n) (h : a = b) : A ⟨a, ha⟩ = A ⟨b, hb⟩ := by
  subst h; rfl

/-- A value read at a clipped place and kept only inside the sequence. -/
theorem tapR (A : Fin 2048 → EReal) (p : BitVec 32) (hp : p.toNat < 2048) (k : Fin 17) :
    A ⟨min (fixI (IntOp.addi p (offW k))).toInt.toNat 2047, by omega⟩ * FloatOps.uitofp (F := Ideal) .f32 (inR (IntOp.addi p (offW k)))
      = tap A p.toNat k := by
  rw [place_in p hp k, fval]
  unfold tap
  by_cases h : 8 ≤ p.toNat + k.val ∧ p.toNat + k.val < 2056
  · rw [dif_pos h, decide_eq_true h, if_pos rfl, mul_one]
    exact fin_arg A _ _ _ _ (place_idx p hp k h)
  · rw [dif_neg h, decide_eq_false h, if_neg (by decide), mul_zero]

/-- The window count as the reference takes it. -/
theorem cntR (p : BitVec 32) (hp : p.toNat < 2048) :
    Finset.fold IntOp.addi 0#32 (fun k : Fin 17 => BitVec.setWidth 32 (inR (IntOp.addi p (offW k)))) Finset.univ = BitVec.ofNat 32 (cnt p.toNat) := by
  have h : (fun k : Fin 17 => BitVec.setWidth 32 (inR (IntOp.addi p (offW k))))
      = fun k => BitVec.ofNat 32 (if 8 ≤ p.toNat + k.val ∧ p.toNat + k.val < 2056 then 1 else 0) := by
    funext k
    exact okK_eq p hp k _ (offW_toNat k)
  rw [h, fold_ofNat]
  rfl

theorem divR (p : BitVec 32) (hp : p.toNat < 2048) :
    (((IntOp.maxsi (BitVec.ofNat 32 (cnt p.toNat)) 1#32).toInt : ℝ) : EReal) = (((max (cnt p.toNat) 1 : ℕ) : ℝ) : EReal) := by
  have h := cnt_le p.toNat
  generalize cnt p.toNat = c at h
  congr 1
  interval_cases c <;> simp [IntOp.maxsi] <;> norm_num

theorem wgtR (k : Fin 17) : Ideal.exp (Ideal.ofBits .f32 3204448256#32
      * (Ideal.div (((offW k).toInt : ℝ) : EReal) (Ideal.ofBits .f32 1082130432#32) * Ideal.div (((offW k).toInt : ℝ) : EReal) (Ideal.ofBits .f32 1082130432#32)))
      = wgt k := by
  have e4 : Ideal.ofBits .f32 1082130432#32 = ((4 : ℝ) : EReal) := by
    simp [Ideal.ofBits, Ideal.ieee]; rw [← EReal.coe_mul]; norm_num
  have eo : (offW k).toInt = (k.val : ℤ) - 8 := by revert k; decide
  rw [e4, half_eq, eo, Ideal.div_coe (by norm_num), ← EReal.coe_mul, ← EReal.coe_mul, ← EReal.coe_mul, Ideal.exp_coe]
  unfold wgt
  congr 2
  push_cast
  ring

/-- The reference's pooled term: outside the sequence the weight is zero, whatever value was read there. -/
theorem poolR (A H : Fin 2048 → EReal) (hA : ∀ t, 0 ≤ A t) (p : BitVec 32) (hp : p.toNat < 2048) (k : Fin 17) :
    H ⟨min (fixI (IntOp.addi p (offW k))).toInt.toNat 2047, by omega⟩ * Ideal.div (wgt k * tap A p.toNat k) (den A p.toNat)
      = Ideal.div (wgt k * tap A p.toNat k) (den A p.toNat) * tap H p.toNat k := by
  by_cases h : 8 ≤ p.toNat + k.val ∧ p.toNat + k.val < 2056
  · rw [mul_comm]
    congr 1
    unfold tap
    rw [dif_pos h]
    exact fin_arg H _ _ _ _ (place_idx p hp k h)
  · have h0 : ∀ B : Fin 2048 → EReal, tap B p.toNat k = 0 := fun B => by unfold tap; rw [dif_neg h]
    rw [h0 A, h0 H, mul_zero, mul_zero]
    unfold Ideal.div
    rw [if_neg (den_pos A hA _).ne', zero_mul, mul_zero]

theorem one_eq : Ideal.ofBits .f32 1065353216#32 = (1 : EReal) := by
  have h : Ideal.ofBits .f32 1065353216#32 = ((1 : ℝ) : EReal) := by
    simp [Ideal.ofBits, Ideal.ieee]; rw [← EReal.coe_mul]; norm_num
  rw [h]; rfl
end Cert.Math
-- ==== Proof.Val.RefTop.lean ====
module
public import proofs.«01_k».proof.Proof.Val.RefOps
public import proofs.«01_k».proof.Proof.Val.Words
@[expose] public section
set_option maxRecDepth 16384
noncomputable section
/-! The reference's choice of spikes: the positions of the 32 greatest scores, and the spikes there. -/
namespace Cert.ReferenceIdeal.Val
open Idealize.ShloMosaic Idealize.ShloMosaic.TcCoe Cert.ReferenceIdeal Cert.ReferenceIdeal.Read Cert.Math

theorem along2 {m n : ℕ} (b : Fin m) (q k : Fin n) :
    Shape.Idx.along (s := ⟨2, ![m, n]⟩) (ix2 b q) (1 : Fin 2) k = ix2 b k := by
  funext a
  match a with
  | ⟨0, _⟩ => rfl
  | ⟨1, _⟩ => rfl

/-- The second result of a two-operand sort along the second axis. -/
theorem sort2_at {m n : ℕ} {α β : Type} (cmp : α × β → α × β → BitVec 1) (x : (⟨2, ![m, n]⟩ : Shape).Idx → α)
    (y : (⟨2, ![m, n]⟩ : Shape).Idx → β) (b : Fin m) (q : Fin n) :
    (Host.sort2 ⟨2, ![m, n]⟩ 1 cmp x y).2 (ix2 b q)
      = y (ix2 b (sortedFrom (fun k k' : Fin n => cmp (x (ix2 b k), y (ix2 b k)) (x (ix2 b k'), y (ix2 b k')) == 1#1) q)) := by
  have e : (fun k : Fin n => Shape.Idx.along (s := ⟨2, ![m, n]⟩) (ix2 b q) (1 : Fin 2) k) = fun k => ix2 b k := funext fun k => along2 b q k
  exact congrArg (fun f : Fin n → (⟨2, ![m, n]⟩ : Shape).Idx => y (f (sortedFrom (fun k k' : Fin n => cmp (x (f k), y (f k)) (x (f k'), y (f k')) == 1#1) q))) e

theorem gt_eq (x y : EReal) : (FloatOps.cmpfTotal (F := Ideal) (φ := .f32) .gt x y == 1#1) = decide (y < x) := by
  show (BitVec.ofBool (decide (y < x)) == 1#1) = _
  by_cases h : y < x <;> simp [h]

/-- The positions of the greatest scores. -/
theorem topK_at (v : S4x64.Idx → EReal) (h) (b : Fin 4) (r : Fin 32) :
    (Host.topK (s := S4x64) S4x32 1 (FloatOps.cmpfTotal (F := Ideal) (φ := .f32) .gt) v h).2 (ix2 b r)
      = BitVec.ofNat 32 (top (fun i => v (ix2 b i)) r).val := by
  unfold Host.topK
  have e : ∀ z : S4x64.Idx → BitVec 32, extractStridedSlice S4x32 (fun _ => 0) z h (ix2 b r) = z (ix2 b (r.castLE (by omega))) := by
    intro z
    unfold extractStridedSlice
    congr 1
    funext a
    refine Fin.ext ?_
    match a with
    | ⟨0, _⟩ => exact Nat.zero_add _
    | ⟨1, _⟩ => exact Nat.zero_add _
  simp only
  rw [e]
  erw [sort2_at]
  simp only [gt_eq]
  rfl

variable (x3 : FVec Ideal S4x2048 .f32) (x5 : IVec S4x64 32)

theorem at_indices (b : Fin 4) (r : Fin 32) : val_main_indices (F := Ideal) x3 x5 (ix2 b r)
    = BitVec.ofNat 32 (top (fun i => val_main_v50 (F := Ideal) x3 x5 (ix2 b i)) r).val :=
  topK_at _ _ b r

theorem small64 : ∀ t : Fin 64, Scalar.select (IntOp.cmpi .slt (BitVec.ofNat 32 t.val) 0#32) (IntOp.addi (BitVec.ofNat 32 t.val) 64#32) (BitVec.ofNat 32 t.val) = BitVec.ofNat 32 t.val := by
  decide

theorem at_call2_v5 (b : Fin 4) (r : Fin 32) : val_main_call2_v5 (F := Ideal) x3 x5 (ix3 b r 0)
    = BitVec.ofNat 32 (top (fun i => val_main_v50 (F := Ideal) x3 x5 (ix2 b i)) r).val := by
  rw [← small64, ← at_indices]
  pointwise [val_main_call2_v5, val_main_call2_v4, val_main_call2_v3, val_main_call2_v2, val_main_call2_v1, val_main_call2_v0, val_main_call2_c, val_main_call2_c_0]

theorem at_call2_v11 (b : Fin 4) (r : Fin 32) : val_main_call2_v11 (F := Ideal) x3 x5 (ix3 b r 0) = 1#1 := by
  have h : ∀ t : Fin 64, IntOp.andi (IntOp.cmpi .sge (BitVec.ofNat 32 t.val) 0#32) (IntOp.cmpi .sle (BitVec.ofNat 32 t.val) 63#32) = 1#1 := by decide
  rw [← h (top (fun i => val_main_v50 (F := Ideal) x3 x5 (ix2 b i)) r), ← at_call2_v5]
  pointwise [val_main_call2_v11, val_main_call2_v10, val_main_call2_v9, val_main_call2_v8, val_main_call2_v7, val_main_call2_v6, val_main_call2_c_1, val_main_call2_c_2]

theorem at_call2_v12 (b : Fin 4) (r : Fin 32) : val_main_call2_v12 (F := Ideal) x3 x5 (ix2 b r) = 1#1 := by
  have h := at_call2_v11 x3 x5 b r
  unfold val_main_call2_v12
  generalize val_main_call2_v11 (F := Ideal) x3 x5 = w at h
  pointwise [val_main_call2_c_3]
  simp only [Finset.univ_unique, Finset.fold_singleton, Fin.default_eq_zero, Fin.isValue, h]
  rfl

/-- The chosen spikes: those at the positions of the greatest scores. -/
theorem at_v51 (b : Fin 4) (r : Fin 32) : val_main_v51 (F := Ideal) x3 x5 (ix2 b r)
    = x5 (ix2 b (top (fun i => val_main_v50 (F := Ideal) x3 x5 (ix2 b i)) r)) := by
  have h5 := at_call2_v5 x3 x5 b r
  have h12 := at_call2_v12 x3 x5 b r
  unfold val_main_v51 val_main_call2_v13
  generalize val_main_call2_v5 (F := Ideal) x3 x5 = w5 at h5 ⊢
  generalize val_main_call2_v12 (F := Ideal) x3 x5 = w12 at h12 ⊢
  generalize top (fun i => val_main_v50 (F := Ideal) x3 x5 (ix2 b i)) r = t at h5 ⊢
  have hm : min (w5 (ix3 b r 0)).toInt.toNat 63 = t.val := by
    have ht := t.isLt
    rw [h5, toInt_ofNat_small _ (by omega)]
    omega
  have hg := Ops.gatT x5 w5 b r
  generalize Host.gather gather_S4x64_S4x32x1_S4x32_n_1_0_0_1_2_11 x5 w5 = g at hg ⊢
  have hs : select w12 g (val_main_call2_v14 (F := Ideal)) (ix2 b r) = g (ix2 b r) := by
    generalize val_main_call2_v14 (F := Ideal) = z
    show Scalar.select (w12 (ix2 b r)) (g (ix2 b r)) (z (ix2 b r)) = _
    rw [h12]
    rfl
  refine hs.trans (hg.trans ?_)
  exact congrArg (fun z : Fin 64 => x5 (ix2 b z)) (Fin.ext hm)
end Cert.ReferenceIdeal.Val
-- ==== Proof.Val.RefWin.lean ====
module
public import proofs.«01_k».proof.Proof.Val.RefTop
@[expose] public section
set_option maxRecDepth 16384
noncomputable section
/-! The reference's windows: scores of all spikes, then the chosen spikes' gates and pooled features. -/
namespace Cert.ReferenceIdeal.Val
open Idealize.ShloMosaic Idealize.ShloMosaic.TcCoe Cert.ReferenceIdeal Cert.ReferenceIdeal.Read Cert.Math
variable (x1 : FVec Ideal S4x2048x512 .f32) (x3 : FVec Ideal S4x2048 .f32) (x5 : IVec S4x64 32)

theorem gat64' {α : Type} (x : S4x2048.Idx → α) (idx : IVec S4x64x17x2 32) (b : Fin 4) (i : Fin 64) (k : Fin 17) (q : BitVec 32)
    (h0 : idx (ix4 b i k 0) = selB b) (h1 : idx (ix4 b i k 1) = fixI q) :
    Host.gather gather_S4x2048_S4x64x17x2_S4x64x17_n_01_n_n_01_3_11 x idx (ix3 b i k) = x (ix2 b ⟨min (fixI q).toInt.toNat 2047, by omega⟩) := by
  have e0 : min (idx (ix4 b i k 0)).toInt.toNat 3 = b.val := by rw [h0, selB_eq]
  have e1 : min (idx (ix4 b i k 1)).toInt.toNat 2047 = min (fixI q).toInt.toNat 2047 := by rw [h1]
  exact (Ops.gat64 x idx b i k).trans (congrArg₂ (fun (u : Fin 4) (v : Fin 2048) => x (ix2 u v)) (Fin.ext e0) (Fin.ext e1))

theorem gat32' {α : Type} (x : S4x2048.Idx → α) (idx : IVec S4x32x17x2 32) (b : Fin 4) (i : Fin 32) (k : Fin 17) (q : BitVec 32)
    (h0 : idx (ix4 b i k 0) = selB b) (h1 : idx (ix4 b i k 1) = fixI q) :
    Host.gather gather_S4x2048_S4x32x17x2_S4x32x17_n_01_n_n_01_3_11 x idx (ix3 b i k) = x (ix2 b ⟨min (fixI q).toInt.toNat 2047, by omega⟩) := by
  have e0 : min (idx (ix4 b i k 0)).toInt.toNat 3 = b.val := by rw [h0, selB_eq]
  have e1 : min (idx (ix4 b i k 1)).toInt.toNat 2047 = min (fixI q).toInt.toNat 2047 := by rw [h1]
  exact (Ops.gat32 x idx b i k).trans (congrArg₂ (fun (u : Fin 4) (v : Fin 2048) => x (ix2 u v)) (Fin.ext e0) (Fin.ext e1))

theorem gatH' {α : Type} (x : S4x2048x512.Idx → α) (idx : IVec S4x32x17x2 32) (b : Fin 4) (i : Fin 32) (k : Fin 17) (d : Fin 512) (q : BitVec 32)
    (h0 : idx (ix4 b i k 0) = selB b) (h1 : idx (ix4 b i k 1) = fixI q) :
    Host.gather gather_S4x2048x512_S4x32x17x2_S4x32x17x512_3_01_n_n_01_3_11512 x idx (ix4 b i k d) = x (ix3 b ⟨min (fixI q).toInt.toNat 2047, by omega⟩ d) := by
  have e0 : min (idx (ix4 b i k 0)).toInt.toNat 3 = b.val := by rw [h0, selB_eq]
  have e1 : min (idx (ix4 b i k 1)).toInt.toNat 2047 = min (fixI q).toInt.toNat 2047 := by rw [h1]
  exact (Ops.gatH x idx b i k d).trans (congrArg₂ (fun (u : Fin 4) (v : Fin 2048) => x (ix3 u v d)) (Fin.ext e0) (Fin.ext e1))

theorem at_v34_0 (b : Fin 4) (i : Fin 64) (k : Fin 17) : val_main_v34 (F := Ideal) x5 (ix4 b i k 0) = selB b := by
  pointwise [val_main_v34, val_main_v19, val_main_v20, val_main_v21, val_main_v22, val_main_v23, val_main_v24, val_main_v25, val_main_v31, val_main_v32, val_main_c_4, val_main_c_5]
  rfl

theorem at_v34_1 (b : Fin 4) (i : Fin 64) (k : Fin 17) : val_main_v34 (F := Ideal) x5 (ix4 b i k 1) = fixI (IntOp.addi (x5 (ix2 b i)) (offW k)) := by
  pointwise [val_main_v34, val_main_v26, val_main_v27, val_main_v28, val_main_v29, val_main_v30, val_main_v33, val_main_c_6, val_main_c_7, val_main_v18, val_main_call0_v0, val_main_call0_v1, val_main_call0_v2, val_main_call0_v3, val_main_call0_v4, val_main_c_2, val_main_c_3, val_main_v5, val_main_v6, val_main_v7, val_main_v8, val_main_v9, val_main_v10, val_main_v11, val_main_v12, val_main_c]
  rfl

theorem at_v17 (b : Fin 4) (i : Fin 64) (k : Fin 17) : val_main_v17 (F := Ideal) x5 (ix3 b i k) = inR (IntOp.addi (x5 (ix2 b i)) (offW k)) := by
  pointwise [val_main_v5, val_main_v6, val_main_v7, val_main_v8, val_main_v9, val_main_v10, val_main_v11, val_main_v12, val_main_v13, val_main_v14, val_main_v15, val_main_v16, val_main_v17, val_main_c, val_main_c_0, val_main_c_1]
  rfl

/-- One place of a spike's window: the gate there, zero outside the sequence. -/
theorem at_v39 (b : Fin 4) (i : Fin 64) (k : Fin 17) (hp : (x5 (ix2 b i)).toNat < 2048) :
    val_main_v39 (F := Ideal) x3 x5 (ix3 b i k) = tap (fun t => x3 (ix2 b t)) (x5 (ix2 b i)).toNat k := by
  rw [← tapR (fun t => x3 (ix2 b t)) _ hp k, ← at_v17]
  have hg := gat64' x3 (val_main_v34 (F := Ideal) x5) b i k _ (at_v34_0 x5 b i k) (at_v34_1 x5 b i k)
  unfold val_main_v39 val_main_v38 val_main_v35
  generalize Host.gather gather_S4x2048_S4x64x17x2_S4x64x17_n_01_n_n_01_3_11 x3 (val_main_v34 (F := Ideal) x5) = g at hg ⊢
  generalize val_main_v17 (F := Ideal) x5 = w
  pointwise []
  rw [hg]

theorem at_v37 (b : Fin 4) (i : Fin 64) (hp : (x5 (ix2 b i)).toNat < 2048) :
    val_main_v37 (F := Ideal) x5 (ix2 b i) = BitVec.ofNat 32 (cnt (x5 (ix2 b i)).toNat) := by
  rw [← cntR _ hp]
  simp only [← at_v17]
  unfold val_main_v37 val_main_v36
  generalize val_main_v17 (F := Ideal) x5 = w
  pointwise [val_main_c_8]

/-- The score of a spike. -/
theorem at_v50 (b : Fin 4) (i : Fin 64) (hp : (x5 (ix2 b i)).toNat < 2048) :
    val_main_v50 (F := Ideal) x3 x5 (ix2 b i) = score (fun t => x3 (ix2 b t)) (x5 (ix2 b i)).toNat := by
  have h40 : val_main_v40 (F := Ideal) x3 x5 (ix2 b i) = ∑ k, tap (fun t => x3 (ix2 b t)) (x5 (ix2 b i)).toNat k := by
    have h : ∀ k, val_main_v39 (F := Ideal) x3 x5 (ix3 b i k) = _ := fun k => at_v39 x3 x5 b i k hp
    simp only [← h]
    unfold val_main_v40
    generalize val_main_v39 (F := Ideal) x3 x5 = w
    pointwise [val_main_cst]
  have h37 := at_v37 x5 b i hp
  have hin := inR_small _ hp
  unfold inR at hin
  unfold score
  rw [← h40, ← divR _ hp, ← h37]
  unfold val_main_v50 val_main_v44 val_main_v43 val_main_v42
  generalize val_main_v40 (F := Ideal) x3 x5 = w
  generalize val_main_v37 (F := Ideal) x5 = w'
  pointwise [val_main_v45, val_main_v46, val_main_v47, val_main_v48, val_main_v49, val_main_v41, val_main_c_9, val_main_c_10, val_main_c_11]
  refine (congrArg (fun z => Scalar.select z _ _) hin).trans ?_
  rfl

theorem at_v90_0 (b : Fin 4) (i : Fin 32) (k : Fin 17) : val_main_v90 (F := Ideal) x3 x5 (ix4 b i k 0) = selB b := by
  pointwise [val_main_v90, val_main_v67, val_main_v68, val_main_v77, val_main_v78, val_main_v79, val_main_v80, val_main_v81, val_main_v87, val_main_v88, val_main_c_20, val_main_c_21]
  rfl

theorem at_v90_1 (b : Fin 4) (i : Fin 32) (k : Fin 17) : val_main_v90 (F := Ideal) x3 x5 (ix4 b i k 1) = fixI (IntOp.addi (val_main_v51 (F := Ideal) x3 x5 (ix2 b i)) (offW k)) := by
  pointwise [val_main_v90, val_main_v82, val_main_v83, val_main_v84, val_main_v85, val_main_v86, val_main_v89, val_main_c_22, val_main_c_23, val_main_v66, val_main_call3_v0, val_main_call3_v1, val_main_call3_v2, val_main_call3_v3, val_main_call3_v4, val_main_c_16, val_main_c_17, val_main_v52, val_main_v53, val_main_v54, val_main_v55, val_main_v56, val_main_v57, val_main_v58, val_main_v59, val_main_c_13]
  rfl

theorem at_v108_0 (b : Fin 4) (i : Fin 32) (k : Fin 17) : val_main_v108 (F := Ideal) x3 x5 (ix4 b i k 0) = selB b := by
  pointwise [val_main_v108, val_main_v67, val_main_v68, val_main_v95, val_main_v96, val_main_v97, val_main_v98, val_main_v99, val_main_v105, val_main_v106, val_main_c_24, val_main_c_25]
  rfl

theorem at_v108_1 (b : Fin 4) (i : Fin 32) (k : Fin 17) : val_main_v108 (F := Ideal) x3 x5 (ix4 b i k 1) = fixI (IntOp.addi (val_main_v51 (F := Ideal) x3 x5 (ix2 b i)) (offW k)) := by
  pointwise [val_main_v108, val_main_v100, val_main_v101, val_main_v102, val_main_v103, val_main_v104, val_main_v107, val_main_c_26, val_main_c_27, val_main_v66, val_main_call3_v0, val_main_call3_v1, val_main_call3_v2, val_main_call3_v3, val_main_call3_v4, val_main_c_16, val_main_c_17, val_main_v52, val_main_v53, val_main_v54, val_main_v55, val_main_v56, val_main_v57, val_main_v58, val_main_v59, val_main_c_13]
  rfl

theorem at_v225_0 (b : Fin 4) (i : Fin 32) (k : Fin 17) : val_main_v225 (F := Ideal) x3 x5 (ix4 b i k 0) = selB b := by
  pointwise [val_main_v225, val_main_v210, val_main_v211, val_main_v212, val_main_v213, val_main_v214, val_main_v215, val_main_v216, val_main_v222, val_main_v223, val_main_c_43, val_main_c_44]
  rfl

theorem at_v225_1 (b : Fin 4) (i : Fin 32) (k : Fin 17) : val_main_v225 (F := Ideal) x3 x5 (ix4 b i k 1) = fixI (IntOp.addi (val_main_v51 (F := Ideal) x3 x5 (ix2 b i)) (offW k)) := by
  pointwise [val_main_v225, val_main_v217, val_main_v218, val_main_v219, val_main_v220, val_main_v221, val_main_v224, val_main_c_45, val_main_c_46, val_main_v209, val_main_call4_v0, val_main_call4_v1, val_main_call4_v2, val_main_call4_v3, val_main_call4_v4, val_main_c_41, val_main_c_42, val_main_v196, val_main_v197, val_main_v198, val_main_v199, val_main_v200, val_main_v201, val_main_v202, val_main_v203, val_main_c_38]
  rfl

theorem at_v64 (b : Fin 4) (i : Fin 32) (k : Fin 17) : val_main_v64 (F := Ideal) x3 x5 (ix3 b i k) = inR (IntOp.addi (val_main_v51 (F := Ideal) x3 x5 (ix2 b i)) (offW k)) := by
  pointwise [val_main_v52, val_main_v53, val_main_v54, val_main_v55, val_main_v56, val_main_v57, val_main_v58, val_main_v59, val_main_v60, val_main_v61, val_main_v62, val_main_v63, val_main_v64, val_main_c_13, val_main_c_14, val_main_c_15]
  rfl

theorem at_v208 (b : Fin 4) (i : Fin 32) (k : Fin 17) : val_main_v208 (F := Ideal) x3 x5 (ix3 b i k) = inR (IntOp.addi (val_main_v51 (F := Ideal) x3 x5 (ix2 b i)) (offW k)) := by
  pointwise [val_main_v196, val_main_v197, val_main_v198, val_main_v199, val_main_v200, val_main_v201, val_main_v202, val_main_v203, val_main_v204, val_main_v205, val_main_v206, val_main_v207, val_main_v208, val_main_c_38, val_main_c_39, val_main_c_40]
  rfl

theorem at_v76 (k : Fin 17) : val_main_v76 (F := Ideal) (ix3 0 0 k) = wgt k := by
  rw [← wgtR]
  pointwise [val_main_v52, val_main_v53, val_main_v54, val_main_v69, val_main_v70, val_main_v71, val_main_v72, val_main_v73, val_main_v74, val_main_v75, val_main_v76, val_main_c_13, val_main_cst_18, val_main_cst_19]
  rfl

/-- One place of a chosen spike's window: the weighted gate there, zero outside the sequence. -/
theorem at_v94 (b : Fin 4) (i : Fin 32) (k : Fin 17) (hp : (val_main_v51 (F := Ideal) x3 x5 (ix2 b i)).toNat < 2048) :
    val_main_v94 (F := Ideal) x3 x5 (ix3 b i k) = wgt k * tap (fun t => x3 (ix2 b t)) (val_main_v51 (F := Ideal) x3 x5 (ix2 b i)).toNat k := by
  rw [← tapR (fun t => x3 (ix2 b t)) _ hp k, ← at_v64, ← at_v76, ← mul_assoc]
  have hg := gat32' x3 (val_main_v90 (F := Ideal) x3 x5) b i k _ (at_v90_0 x3 x5 b i k) (at_v90_1 x3 x5 b i k)
  unfold val_main_v94 val_main_v93 val_main_v92 val_main_v91 val_main_v65
  generalize Host.gather gather_S4x2048_S4x32x17x2_S4x32x17_n_01_n_n_01_3_11 x3 (val_main_v90 (F := Ideal) x3 x5) = g at hg ⊢
  generalize val_main_v64 (F := Ideal) x3 x5 = w
  generalize val_main_v76 (F := Ideal) = w'
  pointwise []
  rw [hg]

theorem at_v113 (b : Fin 4) (i : Fin 32) (hp : (val_main_v51 (F := Ideal) x3 x5 (ix2 b i)).toNat < 2048) :
    val_main_v113 (F := Ideal) x3 x5 (ix3 b i 0) = den (fun t => x3 (ix2 b t)) (val_main_v51 (F := Ideal) x3 x5 (ix2 b i)).toNat := by
  have h : ∀ k, val_main_v94 (F := Ideal) x3 x5 (ix3 b i k) = _ := fun k => at_v94 x3 x5 b i k hp
  unfold den
  simp only [← h]
  unfold val_main_v113 val_main_v111 val_main_v110
  generalize val_main_v94 (F := Ideal) x3 x5 = w
  pointwise [val_main_v112, val_main_cst_28, val_main_cst_29]
  rfl

/-- The pooled features of a chosen spike. -/
theorem at_v119 (hA : ∀ j, 0 ≤ x3 j) (b : Fin 4) (i : Fin 32) (d : Fin 512) (hp : (val_main_v51 (F := Ideal) x3 x5 (ix2 b i)).toNat < 2048) :
    val_main_v119 (F := Ideal) x1 x3 x5 (ix3 b i d)
      = Cert.Math.pool (fun t => x3 (ix2 b t)) (fun t => x1 (ix3 b t d)) (val_main_v51 (F := Ideal) x3 x5 (ix2 b i)).toNat := by
  have h94 : ∀ k, val_main_v94 (F := Ideal) x3 x5 (ix3 b i k) = _ := fun k => at_v94 x3 x5 b i k hp
  have h113 := at_v113 x3 x5 b i hp
  have hR := fun k => poolR (fun t => x3 (ix2 b t)) (fun t => x1 (ix3 b t d)) (fun t => hA _) _ hp k
  unfold Cert.Math.pool
  simp only [← hR]
  simp only [← h94, ← h113]
  have hg : ∀ k, Host.gather gather_S4x2048x512_S4x32x17x2_S4x32x17x512_3_01_n_n_01_3_11512 x1 (val_main_v108 (F := Ideal) x3 x5) (ix4 b i k d) = _ :=
    fun k => gatH' x1 (val_main_v108 (F := Ideal) x3 x5) b i k d _ (at_v108_0 x3 x5 b i k) (at_v108_1 x3 x5 b i k)
  unfold val_main_v119 val_main_v118 val_main_v117 val_main_v116 val_main_v115 val_main_v114 val_main_v109
  generalize Host.gather gather_S4x2048x512_S4x32x17x2_S4x32x17x512_3_01_n_n_01_3_11512 x1 (val_main_v108 (F := Ideal) x3 x5) = g at hg ⊢
  generalize val_main_v94 (F := Ideal) x3 x5 = w
  generalize val_main_v113 (F := Ideal) x3 x5 = w'
  pointwise [val_main_cst_30]
  simp only [hg]

/-- One place of a chosen spike's window, for the gate. -/
theorem at_v230 (b : Fin 4) (i : Fin 32) (k : Fin 17) (hp : (val_main_v51 (F := Ideal) x3 x5 (ix2 b i)).toNat < 2048) :
    val_main_v230 (F := Ideal) x3 x5 (ix3 b i k) = tap (fun t => x3 (ix2 b t)) (val_main_v51 (F := Ideal) x3 x5 (ix2 b i)).toNat k := by
  rw [← tapR (fun t => x3 (ix2 b t)) _ hp k, ← at_v208]
  have hg := gat32' x3 (val_main_v225 (F := Ideal) x3 x5) b i k _ (at_v225_0 x3 x5 b i k) (at_v225_1 x3 x5 b i k)
  unfold val_main_v230 val_main_v229 val_main_v226
  generalize Host.gather gather_S4x2048_S4x32x17x2_S4x32x17_n_01_n_n_01_3_11 x3 (val_main_v225 (F := Ideal) x3 x5) = g at hg ⊢
  generalize val_main_v208 (F := Ideal) x3 x5 = w
  pointwise []
  rw [hg]

theorem at_v228 (b : Fin 4) (i : Fin 32) (hp : (val_main_v51 (F := Ideal) x3 x5 (ix2 b i)).toNat < 2048) :
    val_main_v228 (F := Ideal) x3 x5 (ix2 b i) = BitVec.ofNat 32 (cnt (val_main_v51 (F := Ideal) x3 x5 (ix2 b i)).toNat) := by
  rw [← cntR _ hp]
  simp only [← at_v208]
  unfold val_main_v228 val_main_v227
  generalize val_main_v208 (F := Ideal) x3 x5 = w
  pointwise [val_main_c_47]

/-- The score of a chosen spike. -/
theorem at_v241 (b : Fin 4) (i : Fin 32) (hp : (val_main_v51 (F := Ideal) x3 x5 (ix2 b i)).toNat < 2048) :
    val_main_v241 (F := Ideal) x3 x5 (ix2 b i) = score (fun t => x3 (ix2 b t)) (val_main_v51 (F := Ideal) x3 x5 (ix2 b i)).toNat := by
  have h40 : val_main_v231 (F := Ideal) x3 x5 (ix2 b i) = ∑ k, tap (fun t => x3 (ix2 b t)) (val_main_v51 (F := Ideal) x3 x5 (ix2 b i)).toNat k := by
    have h : ∀ k, val_main_v230 (F := Ideal) x3 x5 (ix3 b i k) = _ := fun k => at_v230 x3 x5 b i k hp
    simp only [← h]
    unfold val_main_v231
    generalize val_main_v230 (F := Ideal) x3 x5 = w
    pointwise [val_main_cst_48]
  have h37 := at_v228 x3 x5 b i hp
  have hin := inR_small _ hp
  unfold inR at hin
  unfold score
  rw [← h40, ← divR _ hp, ← h37]
  unfold val_main_v241 val_main_v235 val_main_v234 val_main_v233
  generalize val_main_v231 (F := Ideal) x3 x5 = w
  generalize val_main_v228 (F := Ideal) x3 x5 = w'
  pointwise [val_main_v236, val_main_v237, val_main_v238, val_main_v239, val_main_v240, val_main_v232, val_main_c_49, val_main_c_50, val_main_c_51]
  refine (congrArg (fun z => Scalar.select z _ _) hin).trans ?_
  rfl

theorem at_v125 (b : Fin 4) (i : Fin 32) (hp : (val_main_v51 (F := Ideal) x3 x5 (ix2 b i)).toNat < 2048) : val_main_v125 (F := Ideal) x3 x5 (ix2 b i) = (1 : EReal) := by
  have hin := inR_small _ hp
  have h : FloatOps.uitofp (F := Ideal) .f32 (1#1) = (1 : EReal) := fval true
  rw [← h, ← hin]
  pointwise [val_main_v120, val_main_v121, val_main_v122, val_main_v123, val_main_v124, val_main_v125, val_main_c_31, val_main_c_32]
  rfl

/-- The gate of a chosen spike. -/
theorem at_v251 (b : Fin 4) (i : Fin 32) (hp : (val_main_v51 (F := Ideal) x3 x5 (ix2 b i)).toNat < 2048) :
    val_main_v251 (F := Ideal) x3 x5 (ix2 b i) = Ideal.logistic (Ideal.ofBits .f32 1073741824#32 * score (fun t => x3 (ix2 b t)) (val_main_v51 (F := Ideal) x3 x5 (ix2 b i)).toNat) := by
  have h125 := at_v125 x3 x5 b i hp
  have h241 := at_v241 x3 x5 b i hp
  rw [← h241]
  unfold val_main_v251 val_main_v250 val_main_v248 val_main_v246 val_main_v245 val_main_v244 val_main_v242 val_main_v195
  generalize val_main_v125 (F := Ideal) x3 x5 = w at h125 ⊢
  generalize val_main_v241 (F := Ideal) x3 x5 = w'
  pointwise [val_main_v194, val_main_call6_v0, val_main_call6_v1, val_main_v243, val_main_v247, val_main_v249, val_main_cst_37, val_main_cst_53, val_main_cst_54, val_main_cst_55, val_main_cst_56]
  rw [h125, mul_one, if_pos zero_lt_one]
  rfl

end Cert.ReferenceIdeal.Val
-- ==== Proof.Val.RefAttn.lean ====
module
public import proofs.«01_k».proof.Proof.Val.RefOps
public import proofs.«01_k».proof.Proof.Val.AttnCore
@[expose] public section
set_option maxRecDepth 16384
noncomputable section
/-! The attention block of the reference, buffer by buffer, at an index. -/
namespace Cert.ReferenceIdeal.Val
open Idealize.ShloMosaic Idealize.ShloMosaic.TcCoe Cert.ReferenceIdeal Cert.ReferenceIdeal.Read
variable (x0 : FVec Ideal S4x2048x1024 .f32) (x1 : FVec Ideal S4x2048x512 .f32) (x3 : FVec Ideal S4x2048 .f32) (x5 : IVec S4x64 32)
  (x7 : FVec Ideal S1024x1024 .f32) (x8 : FVec Ideal S1024 .f32) (x9 : FVec Ideal S2048x512 .f32) (x10 : FVec Ideal S2048 .f32)
  (x13 : FVec Ideal S1024x1024 .f32) (x14 : FVec Ideal S1024 .f32) (x15 : FVec Ideal S1024x1024 .f32) (x16 : FVec Ideal S1024 .f32)
  (x17 : FVec Ideal S3072x1024 .f32) (x18 : FVec Ideal S3072 .f32) (x19 : FVec Ideal S1024x1024 .f32) (x20 : FVec Ideal S1024 .f32)

/-- Keys: the memory projection, then the key projection. -/
theorem at_v153 (b : Fin 4) (t : Fin 2048) (e : Fin 1024) : val_main_v153 (F := Ideal) x0 x7 x8 x17 x18 (ix3 b t e)
    = ∑ x, (∑ x_1, x0 (ix3 b t x_1) * x7 (ix2 x x_1) + x8 (ix1 x)) * x17 (ix2 ⟨1024 + e.val, by omega⟩ x) + x18 (ix1 ⟨1024 + e.val, by omega⟩) := by
  pointwise [val_main_v0, val_main_v1, val_main_v2, val_main_v3, val_main_v4, val_main_v139, val_main_v149, val_main_v150, val_main_v142, val_main_v151, val_main_v152, val_main_v153]

/-- Values: the memory projection, then the value projection. -/
theorem at_v158 (b : Fin 4) (t : Fin 2048) (e : Fin 1024) : val_main_v158 (F := Ideal) x0 x7 x8 x17 x18 (ix3 b t e)
    = ∑ x, (∑ x_1, x0 (ix3 b t x_1) * x7 (ix2 x x_1) + x8 (ix1 x)) * x17 (ix2 ⟨2048 + e.val, by omega⟩ x) + x18 (ix1 ⟨2048 + e.val, by omega⟩) := by
  pointwise [val_main_v0, val_main_v1, val_main_v2, val_main_v3, val_main_v4, val_main_v140, val_main_v154, val_main_v155, val_main_v143, val_main_v156, val_main_v157, val_main_v158]

theorem at_v164 (b : Fin 4) (h : Fin 16) (t : Fin 2048) (d : Fin 64) : val_main_v164 (F := Ideal) x0 x7 x8 x17 x18 (ix4 b h t d)
    = val_main_v158 (F := Ideal) x0 x7 x8 x17 x18 (ix3 b t ⟨h.val * 64 + d.val, by omega⟩) := by
  pointwise [val_main_v163, val_main_v164]

/-- Scores: the product of query and key over one head, divided by the root of the head size. -/
theorem at_v169 (b : Fin 4) (h : Fin 16) (r : Fin 32) (t : Fin 2048) : val_main_v169 (F := Ideal) x0 x1 x3 x5 x7 x8 x9 x10 x13 x14 x17 x18 (ix4 b h r t)
    = Ideal.div (∑ x : Fin 64, val_main_v148 (F := Ideal) x1 x3 x5 x9 x10 x13 x14 x17 x18 (ix3 b r ⟨h.val * 64 + x.val, by omega⟩) * val_main_v153 (F := Ideal) x0 x7 x8 x17 x18 (ix3 b t ⟨h.val * 64 + x.val, by omega⟩))
      (Ideal.sqrt (Ideal.ofBits FTy.f32 1115684864#32)) := by
  pointwise [val_main_v159, val_main_v160, val_main_v161, val_main_v162, val_main_v165, val_main_v166, val_main_v167, val_main_v168, val_main_v169, val_main_cst_33]

theorem at_v170 (b : Fin 4) (h : Fin 16) (r : Fin 32) : val_main_v170 (F := Ideal) x0 x1 x3 x5 x7 x8 x9 x10 x13 x14 x17 x18 (ix3 b h r)
    = Finset.fold max (Ideal.ofBits FTy.f32 4286578688#32) (fun x => val_main_v169 (F := Ideal) x0 x1 x3 x5 x7 x8 x9 x10 x13 x14 x17 x18 (ix4 b h r x)) Finset.univ := by
  unfold val_main_v170
  generalize val_main_v169 (F := Ideal) x0 x1 x3 x5 x7 x8 x9 x10 x13 x14 x17 x18 = w
  pointwise [val_main_cst_34]

theorem at_v171 (i : S4x16x32.Idx) : val_main_v171 (F := Ideal) i = FloatOps.ofBits (F := Ideal) .f32 4286578688#32 := rfl

theorem max_bot (y : EReal) : FloatOps.maximumf (F := Ideal) (φ := .f32) (FloatOps.ofBits (F := Ideal) .f32 4286578688#32) y = y := by
  rw [Ideal.maximumf_def, Ideal.ofBits_def, Cert.Math.neg_inf_eq]
  exact max_eq_right bot_le

theorem max_arr {s : Shape} (c w : FVec Ideal s .f32) (i : s.Idx) (hc : c i = FloatOps.ofBits (F := Ideal) .f32 4286578688#32) : maximumf c w i = w i := by
  unfold maximumf
  rw [hc]
  exact max_bot _

theorem at_v172 (i : S4x16x32.Idx) : val_main_v172 (F := Ideal) x0 x1 x3 x5 x7 x8 x9 x10 x13 x14 x17 x18 i = val_main_v170 (F := Ideal) x0 x1 x3 x5 x7 x8 x9 x10 x13 x14 x17 x18 i :=
  max_arr (val_main_v171 (F := Ideal)) (val_main_v170 (F := Ideal) x0 x1 x3 x5 x7 x8 x9 x10 x13 x14 x17 x18) i (at_v171 i)

theorem at_v176 (b : Fin 4) (h : Fin 16) (r : Fin 32) (t : Fin 2048) : val_main_v176 (F := Ideal) x0 x1 x3 x5 x7 x8 x9 x10 x13 x14 x17 x18 (ix4 b h r t)
    = Ideal.exp (val_main_v169 (F := Ideal) x0 x1 x3 x5 x7 x8 x9 x10 x13 x14 x17 x18 (ix4 b h r t) - val_main_v172 (F := Ideal) x0 x1 x3 x5 x7 x8 x9 x10 x13 x14 x17 x18 (ix3 b h r)) := by
  unfold val_main_v176 val_main_v175 val_main_v174 val_main_v173
  generalize val_main_v169 (F := Ideal) x0 x1 x3 x5 x7 x8 x9 x10 x13 x14 x17 x18 = w
  generalize val_main_v172 (F := Ideal) x0 x1 x3 x5 x7 x8 x9 x10 x13 x14 x17 x18 = w'
  pointwise []

theorem at_v177 (b : Fin 4) (h : Fin 16) (r : Fin 32) : val_main_v177 (F := Ideal) x0 x1 x3 x5 x7 x8 x9 x10 x13 x14 x17 x18 (ix3 b h r)
    = ∑ t, val_main_v176 (F := Ideal) x0 x1 x3 x5 x7 x8 x9 x10 x13 x14 x17 x18 (ix4 b h r t) := by
  unfold val_main_v177
  generalize val_main_v176 (F := Ideal) x0 x1 x3 x5 x7 x8 x9 x10 x13 x14 x17 x18 = w
  pointwise [val_main_cst_36]

theorem at_v180 (b : Fin 4) (h : Fin 16) (r : Fin 32) (t : Fin 2048) : val_main_v180 (F := Ideal) x0 x1 x3 x5 x7 x8 x9 x10 x13 x14 x17 x18 (ix4 b h r t)
    = Ideal.div (val_main_v176 (F := Ideal) x0 x1 x3 x5 x7 x8 x9 x10 x13 x14 x17 x18 (ix4 b h r t)) (val_main_v177 (F := Ideal) x0 x1 x3 x5 x7 x8 x9 x10 x13 x14 x17 x18 (ix3 b h r)) := by
  unfold val_main_v180 val_main_v179 val_main_v178
  generalize val_main_v176 (F := Ideal) x0 x1 x3 x5 x7 x8 x9 x10 x13 x14 x17 x18 = w
  generalize val_main_v177 (F := Ideal) x0 x1 x3 x5 x7 x8 x9 x10 x13 x14 x17 x18 = w'
  pointwise []

theorem at_v181 (b : Fin 4) (h : Fin 16) (r : Fin 32) (d : Fin 64) : val_main_v181 (F := Ideal) x0 x1 x3 x5 x7 x8 x9 x10 x13 x14 x17 x18 (ix4 b h r d)
    = ∑ t, val_main_v180 (F := Ideal) x0 x1 x3 x5 x7 x8 x9 x10 x13 x14 x17 x18 (ix4 b h r t) * val_main_v164 (F := Ideal) x0 x7 x8 x17 x18 (ix4 b h t d) := by
  unfold val_main_v181
  generalize val_main_v180 (F := Ideal) x0 x1 x3 x5 x7 x8 x9 x10 x13 x14 x17 x18 = w
  generalize val_main_v164 (F := Ideal) x0 x7 x8 x17 x18 = w'
  pointwise []

/-- The attended rows, all heads side by side, through both output projections. -/
theorem at_v193 (b : Fin 4) (r : Fin 32) (d : Fin 1024) : val_main_v193 (F := Ideal) x0 x1 x3 x5 x7 x8 x9 x10 x13 x14 x15 x16 x17 x18 x19 x20 (ix3 b r d)
    = ∑ x, (∑ x_1 : Fin 1024, val_main_v181 (F := Ideal) x0 x1 x3 x5 x7 x8 x9 x10 x13 x14 x17 x18 (ix4 b ⟨x_1.val / 64, by omega⟩ r ⟨x_1.val % 64, by omega⟩) * x19 (ix2 x x_1) + x20 (ix1 x)) * x15 (ix2 d x) + x16 (ix1 d) := by
  pointwise [val_main_v182, val_main_v183, val_main_v184, val_main_v185, val_main_v186, val_main_v187, val_main_v188, val_main_v189, val_main_v190, val_main_v191, val_main_v192, val_main_v193]

/-- The query row: the projected pooled history through the tangent layer and the query projection. -/
theorem at_v148 (b : Fin 4) (r : Fin 32) (d : Fin 1024) : val_main_v148 (F := Ideal) x1 x3 x5 x9 x10 x13 x14 x17 x18 (ix3 b r d)
    = ∑ x, Ideal.tanh (∑ x_1 : Fin 1024, (∑ x, val_main_v119 (F := Ideal) x1 x3 x5 (ix3 b r x) * x9 (ix2 ⟨x_1.val, by omega⟩ x) + x10 (ix1 ⟨x_1.val, by omega⟩)) * x13 (ix2 x x_1) + x14 (ix1 x)) * x17 (ix2 ⟨d.val, by omega⟩ x) + x18 (ix1 ⟨d.val, by omega⟩) := by
  pointwise [val_main_v126, val_main_v127, val_main_v128, val_main_v129, val_main_v130, val_main_v131, val_main_v132, val_main_v133, val_main_v134, val_main_v135, val_main_v136, val_main_v137, val_main_v138, val_main_v141, val_main_v144, val_main_v145, val_main_v146, val_main_v147, val_main_v148]

end Cert.ReferenceIdeal.Val
-- ==== Proof.Val.RefOut.lean ====
module
public import proofs.«01_k».proof.Proof.Val.RefWin
public import proofs.«01_k».proof.Proof.Val.RefAttn
@[expose] public section
set_option maxRecDepth 16384
noncomputable section
/-! The reference's result at an index. -/
namespace Cert.ReferenceIdeal.Val
open Idealize.ShloMosaic Idealize.ShloMosaic.TcCoe Cert.ReferenceIdeal Cert.ReferenceIdeal.Read Cert.Math
variable (x0 : FVec Ideal S4x2048x1024 .f32) (x1 x2 : FVec Ideal S4x2048x512 .f32) (x3 x4 : FVec Ideal S4x2048 .f32) (x5 x6 : IVec S4x64 32)
  (x7 : FVec Ideal S1024x1024 .f32) (x8 : FVec Ideal S1024 .f32) (x9 : FVec Ideal S2048x512 .f32) (x10 : FVec Ideal S2048 .f32)
  (x11 : FVec Ideal S2048x512 .f32) (x12 : FVec Ideal S2048 .f32)
  (x13 : FVec Ideal S1024x1024 .f32) (x14 : FVec Ideal S1024 .f32) (x15 : FVec Ideal S1024x1024 .f32) (x16 : FVec Ideal S1024 .f32)
  (x17 : FVec Ideal S3072x1024 .f32) (x18 : FVec Ideal S3072 .f32) (x19 : FVec Ideal S1024x1024 .f32) (x20 : FVec Ideal S1024 .f32)
  (x21 : FVec Ideal S2x1024 .f32)

/-- The second track is the first one's computation on the second track's inputs. -/
theorem track1 : val_main_v504 (F := Ideal) x0 x2 x4 x6 x7 x8 x11 x12 x13 x14 x15 x16 x17 x18 x19 x20 = val_main_v254 (F := Ideal) x0 x2 x4 x6 x7 x8 x11 x12 x13 x14 x15 x16 x17 x18 x19 x20 := rfl

theorem at_v254 (b : Fin 4) (r : Fin 32) (d : Fin 1024) : val_main_v254 (F := Ideal) x0 x1 x3 x5 x7 x8 x9 x10 x13 x14 x15 x16 x17 x18 x19 x20 (ix3 b r d)
    = val_main_v193 (F := Ideal) x0 x1 x3 x5 x7 x8 x9 x10 x13 x14 x15 x16 x17 x18 x19 x20 (ix3 b r d) * val_main_v251 (F := Ideal) x3 x5 (ix2 b r) := by
  unfold val_main_v254 val_main_v253 val_main_v252
  generalize val_main_v193 (F := Ideal) x0 x1 x3 x5 x7 x8 x9 x10 x13 x14 x15 x16 x17 x18 x19 x20 = w
  generalize val_main_v251 (F := Ideal) x3 x5 = w'
  pointwise []

/-- The slots' rows: the first track's 32, then the second track's. -/
theorem at_v505 (b : Fin 4) (s : Fin 64) (d : Fin 1024) :
    val_main_v505 (F := Ideal) x0 x1 x2 x3 x4 x5 x6 x7 x8 x9 x10 x11 x12 x13 x14 x15 x16 x17 x18 x19 x20 (ix3 b s d)
    = if h : s.val < 32 then val_main_v254 (F := Ideal) x0 x1 x3 x5 x7 x8 x9 x10 x13 x14 x15 x16 x17 x18 x19 x20 (ix3 b ⟨s.val, h⟩ d)
      else val_main_v254 (F := Ideal) x0 x2 x4 x6 x7 x8 x11 x12 x13 x14 x15 x16 x17 x18 x19 x20 (ix3 b ⟨s.val - 32, by omega⟩ d) := by
  rw [← track1 x0 x2 x4 x6 x7 x8 x11 x12 x13 x14 x15 x16 x17 x18 x19 x20]
  unfold val_main_v505
  generalize val_main_v254 (F := Ideal) x0 x1 x3 x5 x7 x8 x9 x10 x13 x14 x15 x16 x17 x18 x19 x20 = w
  generalize val_main_v504 (F := Ideal) x0 x2 x4 x6 x7 x8 x11 x12 x13 x14 x15 x16 x17 x18 x19 x20 = w'
  pointwise []

/-- Slot `s` looks at time `32 s`. -/
theorem time_word (s : Fin 64) : Ideal.fptosi 32 (Ideal.liftRound Int.floor (((((BitVec.ofNat 32 s.val).toInt : ℝ)) : EReal) * Ideal.ofBits FTy.f32 1107296256#32))
    = BitVec.ofNat 32 (s.val * 32) := by
  have e : Ideal.ofBits FTy.f32 1107296256#32 = ((32 : ℝ) : EReal) := by
    simp [Ideal.ofBits, Ideal.ieee]; rw [← EReal.coe_mul]; norm_num
  have hs := s.isLt
  rw [toInt_ofNat_small _ (by omega), e, ← EReal.coe_mul, Ideal.liftRound_coe]
  have hf : ⌊(((s.val : ℤ) : ℝ)) * 32⌋ = ((s.val * 32 : ℕ) : ℤ) := by
    rw [show (((s.val : ℤ) : ℝ)) * 32 = (((s.val * 32 : ℕ) : ℤ) : ℝ) by push_cast; ring, Int.floor_intCast]
  rw [hf, Ideal.fptosi, Ideal.toIntClamped_coe, if_pos (by positivity), Int.floor_intCast]
  rw [min_eq_right (by norm_num; omega), max_eq_right (by norm_num; omega)]
  exact BitVec.ofInt_natCast ..

theorem time_fix : ∀ s : Fin 64, Scalar.select (IntOp.cmpi .slt (BitVec.ofNat 32 (s.val * 32)) 0#32) (IntOp.addi (BitVec.ofNat 32 (s.val * 32)) 2048#32)
    (BitVec.ofNat 32 (s.val * 32)) = BitVec.ofNat 32 (s.val * 32) := by decide

theorem time_min : ∀ s : Fin 64, min (BitVec.ofNat 32 (s.val * 32)).toInt.toNat 2047 = s.val * 32 := by decide

theorem at_v517 (s : Fin 64) : val_main_v517 (F := Ideal) (ix2 s 0) = BitVec.ofNat 32 (s.val * 32) := by
  rw [← time_fix, ← time_word]
  pointwise [val_main_v506, val_main_v507, val_main_v508, val_main_v509, val_main_v510, val_main_v511, val_main_v512, val_main_v513, val_main_v514, val_main_v515, val_main_v516, val_main_v517, val_main_cst_118, val_main_c_119, val_main_c_120]
  rfl

theorem at_v524 (s : Fin 64) : val_main_v524 (F := Ideal) (ix2 s 0) = BitVec.ofNat 32 (s.val * 32) := by
  rw [← time_fix, ← time_word]
  pointwise [val_main_v506, val_main_v507, val_main_v508, val_main_v509, val_main_v510, val_main_v511, val_main_v519, val_main_v520, val_main_v521, val_main_v522, val_main_v523, val_main_v524, val_main_cst_118, val_main_c_121, val_main_c_122]
  rfl

theorem at_v518 (b : Fin 4) (s : Fin 64) : val_main_v518 (F := Ideal) x3 (ix2 b s) = x3 (ix2 b ⟨s.val * 32, by omega⟩) := by
  have h := at_v517 s
  unfold val_main_v518
  generalize val_main_v517 (F := Ideal) = w at h ⊢
  have e : min (w (ix2 s 0)).toInt.toNat 2047 = s.val * 32 := by rw [h, time_min]
  exact (Ops.gatS x3 w b s).trans (congrArg (fun u : Fin 2048 => x3 (ix2 b u)) (Fin.ext e))

theorem at_v525 (b : Fin 4) (s : Fin 64) : val_main_v525 (F := Ideal) x4 (ix2 b s) = x4 (ix2 b ⟨s.val * 32, by omega⟩) := by
  have h := at_v524 s
  unfold val_main_v525
  generalize val_main_v524 (F := Ideal) = w at h ⊢
  have e : min (w (ix2 s 0)).toInt.toNat 2047 = s.val * 32 := by rw [h, time_min]
  exact (Ops.gatS x4 w b s).trans (congrArg (fun u : Fin 2048 => x4 (ix2 b u)) (Fin.ext e))

theorem at_v528 (b : Fin 4) (s : Fin 64) : val_main_v528 (F := Ideal) x3 x4 (ix3 b 0 s) = x3 (ix2 b ⟨s.val * 32, by omega⟩)
   ∧ val_main_v528 (F := Ideal) x3 x4 (ix3 b 1 s) = x4 (ix2 b ⟨s.val * 32, by omega⟩) := by
  rw [← at_v518 x3 b s, ← at_v525 x4 b s]
  unfold val_main_v528 val_main_v527 val_main_v526
  generalize val_main_v518 (F := Ideal) x3 = w
  generalize val_main_v525 (F := Ideal) x4 = w'
  constructor <;> pointwise []
/-- The result: the slot's gated row plus the tags weighted by the gates at the slot's time. -/
theorem at_v538 (b : Fin 4) (s : Fin 64) (d : Fin 1024) :
    val_main_v538 (F := Ideal) x0 x1 x2 x3 x4 x5 x6 x7 x8 x9 x10 x11 x12 x13 x14 x15 x16 x17 x18 x19 x20 x21 (ix3 b s d)
    = val_main_v505 (F := Ideal) x0 x1 x2 x3 x4 x5 x6 x7 x8 x9 x10 x11 x12 x13 x14 x15 x16 x17 x18 x19 x20 (ix3 b s d)
      + (Ideal.div (x3 (ix2 b ⟨s.val * 32, by omega⟩)) (x3 (ix2 b ⟨s.val * 32, by omega⟩) + x4 (ix2 b ⟨s.val * 32, by omega⟩) + Ideal.ofBits FTy.f32 897988541#32) * x21 (ix2 0 d)
        + Ideal.div (x4 (ix2 b ⟨s.val * 32, by omega⟩)) (x3 (ix2 b ⟨s.val * 32, by omega⟩) + x4 (ix2 b ⟨s.val * 32, by omega⟩) + Ideal.ofBits FTy.f32 897988541#32) * x21 (ix2 1 d)) := by
  obtain ⟨h0, h1⟩ := at_v528 x3 x4 b s
  unfold val_main_v538 val_main_v537 val_main_v536 val_main_v535 val_main_v534 val_main_v533 val_main_v532 val_main_v530 val_main_v529
  generalize val_main_v505 (F := Ideal) x0 x1 x2 x3 x4 x5 x6 x7 x8 x9 x10 x11 x12 x13 x14 x15 x16 x17 x18 x19 x20 = w
  generalize val_main_v528 (F := Ideal) x3 x4 = w' at h0 h1 ⊢
  pointwise [val_main_v531, val_main_cst_123, val_main_cst_124, val_main_cst_125]
  simp only [Fin.sum_univ_two, h0, h1]

end Cert.ReferenceIdeal.Val
-- ==== Proof.Val.RefFin.lean ====
module
public import proofs.«01_k».proof.Proof.Val.RefOut
public import proofs.«01_k».proof.Proof.Val.Canon
@[expose] public section
set_option maxRecDepth 16384
noncomputable section
/-! The reference's tracks as the common formula. -/
namespace Cert.ReferenceIdeal.Val
open Idealize.ShloMosaic Idealize.ShloMosaic.TcCoe Cert.ReferenceIdeal Cert.ReferenceIdeal.Read Cert.Math
variable (x0 : FVec Ideal S4x2048x1024 .f32) (x1 x2 : FVec Ideal S4x2048x512 .f32) (x3 x4 : FVec Ideal S4x2048 .f32) (x5 x6 : IVec S4x64 32)
  (x7 : FVec Ideal S1024x1024 .f32) (x8 : FVec Ideal S1024 .f32) (x9 : FVec Ideal S2048x512 .f32) (x10 : FVec Ideal S2048 .f32)
  (x11 : FVec Ideal S2048x512 .f32) (x12 : FVec Ideal S2048 .f32)
  (x13 : FVec Ideal S1024x1024 .f32) (x14 : FVec Ideal S1024 .f32) (x15 : FVec Ideal S1024x1024 .f32) (x16 : FVec Ideal S1024 .f32)
  (x17 : FVec Ideal S3072x1024 .f32) (x18 : FVec Ideal S3072 .f32) (x19 : FVec Ideal S1024x1024 .f32) (x20 : FVec Ideal S1024 .f32)
  (x21 : FVec Ideal S2x1024 .f32)

theorem v51_eq (hp : ∀ b i, (x5 (ix2 b i)).toNat < 2048) (b : Fin 4) (r : Fin 32) :
    val_main_v51 (F := Ideal) x3 x5 (ix2 b r) = x5 (ix2 b (top (fun i => score (fun t => x3 (ix2 b t)) (x5 (ix2 b i)).toNat) r)) := by
  have h : (fun i => val_main_v50 (F := Ideal) x3 x5 (ix2 b i)) = fun i => score (fun t => x3 (ix2 b t)) (x5 (ix2 b i)).toNat :=
    funext fun i => at_v50 x3 x5 b i (hp b i)
  rw [at_v51, h]

theorem v148_eq (hA : ∀ j, 0 ≤ x3 j) (hp : ∀ b i, (x5 (ix2 b i)).toNat < 2048) (b : Fin 4) (r : Fin 32) (e : Fin 1024) :
    val_main_v148 (F := Ideal) x1 x3 x5 x9 x10 x13 x14 x17 x18 (ix3 b r e)
      = qv (fun t => x3 (ix2 b t)) (fun t c => x1 (ix3 b t c)) (fun i => x5 (ix2 b i)) (fun d c => x9 (ix2 ⟨d.val, by omega⟩ c))
        (fun d => x10 (ix1 ⟨d.val, by omega⟩)) (fun d c => x13 (ix2 d c)) (fun d => x14 (ix1 d)) (fun d c => x17 (ix2 d c)) (fun d => x18 (ix1 d)) r e := by
  have h51 := v51_eq x3 x5 hp b r
  have hr : (val_main_v51 (F := Ideal) x3 x5 (ix2 b r)).toNat < 2048 := by rw [h51]; exact hp _ _
  have h : ∀ c, val_main_v119 (F := Ideal) x1 x3 x5 (ix3 b r c) = _ := fun c => at_v119 x1 x3 x5 hA b r c hr
  rw [at_v148]
  simp only [h, h51]
  rfl

theorem v251_eq (hp : ∀ b i, (x5 (ix2 b i)).toNat < 2048) (b : Fin 4) (r : Fin 32) :
    val_main_v251 (F := Ideal) x3 x5 (ix2 b r) = gt (fun t => x3 (ix2 b t)) (fun i => x5 (ix2 b i)) r := by
  have h51 := v51_eq x3 x5 hp b r
  have hr : (val_main_v51 (F := Ideal) x3 x5 (ix2 b r)).toNat < 2048 := by rw [h51]; exact hp _ _
  rw [at_v251 x3 x5 b r hr, h51]
  rfl

theorem v181_eq (b : Fin 4) (r : Fin 32) (j : Fin 1024) :
    val_main_v181 (F := Ideal) x0 x1 x3 x5 x7 x8 x9 x10 x13 x14 x17 x18 (ix4 b ⟨j.val / 64, by omega⟩ r ⟨j.val % 64, by omega⟩)
      = hd (fun e => val_main_v148 (F := Ideal) x1 x3 x5 x9 x10 x13 x14 x17 x18 (ix3 b r e)) (fun t j => x0 (ix3 b t j))
        (fun i j => x7 (ix2 i j)) (fun i => x8 (ix1 i)) (fun d c => x17 (ix2 d c)) (fun d => x18 (ix1 d)) j := by
  have hj : (⟨j.val / 64 * 64 + j.val % 64, by omega⟩ : Fin 1024) = j := Fin.ext (by simp only; omega)
  have hL : (fun t => val_main_v169 (F := Ideal) x0 x1 x3 x5 x7 x8 x9 x10 x13 x14 x17 x18 (ix4 b ⟨j.val / 64, by omega⟩ r t))
      = logit (fun e => val_main_v148 (F := Ideal) x1 x3 x5 x9 x10 x13 x14 x17 x18 (ix3 b r ⟨j.val / 64 * 64 + e.val, by omega⟩)) (fun t j => x0 (ix3 b t j))
        (fun i j => x7 (ix2 i j)) (fun i => x8 (ix1 i)) (fun e i => x17 (ix2 ⟨1024 + (j.val / 64 * 64 + e.val), by omega⟩ i))
        (fun e => x18 (ix1 ⟨1024 + (j.val / 64 * 64 + e.val), by omega⟩)) := by
    funext t
    rw [at_v169]
    unfold logit
    simp only [at_v153]
  have hV : ∀ t, val_main_v164 (F := Ideal) x0 x7 x8 x17 x18 (ix4 b ⟨j.val / 64, by omega⟩ t ⟨j.val % 64, by omega⟩) = _ :=
    fun t => (at_v164 x0 x7 x8 x17 x18 b ⟨j.val / 64, by omega⟩ t ⟨j.val % 64, by omega⟩).trans
      ((congrArg (fun z : Fin 1024 => val_main_v158 (F := Ideal) x0 x7 x8 x17 x18 (ix3 b t z)) hj).trans (at_v158 x0 x7 x8 x17 x18 b t j))
  unfold hd headR
  rw [at_v181]
  simp only [hV, at_v180, at_v177, at_v176, at_v172, at_v170, ← hL]

theorem v254_eq (hA : ∀ j, 0 ≤ x3 j) (hp : ∀ b i, (x5 (ix2 b i)).toNat < 2048) (b : Fin 4) (r : Fin 32) (d : Fin 1024) :
    val_main_v254 (F := Ideal) x0 x1 x3 x5 x7 x8 x9 x10 x13 x14 x15 x16 x17 x18 x19 x20 (ix3 b r d)
      = outp (hd (qv (fun t => x3 (ix2 b t)) (fun t c => x1 (ix3 b t c)) (fun i => x5 (ix2 b i)) (fun d c => x9 (ix2 ⟨d.val, by omega⟩ c))
          (fun d => x10 (ix1 ⟨d.val, by omega⟩)) (fun d c => x13 (ix2 d c)) (fun d => x14 (ix1 d)) (fun d c => x17 (ix2 d c)) (fun d => x18 (ix1 d)) r)
          (fun t j => x0 (ix3 b t j)) (fun i j => x7 (ix2 i j)) (fun i => x8 (ix1 i)) (fun d c => x17 (ix2 d c)) (fun d => x18 (ix1 d)))
          (fun i j => x19 (ix2 i j)) (fun i => x20 (ix1 i)) (fun i j => x15 (ix2 i j)) (fun i => x16 (ix1 i)) d
        * gt (fun t => x3 (ix2 b t)) (fun i => x5 (ix2 b i)) r := by
  rw [at_v254, v251_eq x3 x5 hp, at_v193]
  simp only [v181_eq, v148_eq x1 x3 x5 x9 x10 x13 x14 x17 x18 hA hp]
  rfl
end Cert.ReferenceIdeal.Val
-- ==== Proof.Val.RefFull.lean ====
module
public import proofs.«01_k».proof.Proof.Val.RefFin
public import proofs.«01_k».proof.Proof.Val.Full
@[expose] public section
set_option maxRecDepth 16384
noncomputable section
/-! The reference's result, as the same formula of the argument arrays. -/
namespace Cert.ReferenceIdeal.Val
open Idealize.ShloMosaic Idealize.ShloMosaic.TcCoe Cert.ReferenceIdeal Cert.ReferenceIdeal.Read Cert.Math
variable (x0 : FVec Ideal S4x2048x1024 .f32) (x1 x2 : FVec Ideal S4x2048x512 .f32) (x3 x4 : FVec Ideal S4x2048 .f32) (x5 x6 : IVec S4x64 32)
  (x7 : FVec Ideal S1024x1024 .f32) (x8 : FVec Ideal S1024 .f32) (x9 : FVec Ideal S2048x512 .f32) (x10 : FVec Ideal S2048 .f32)
  (x11 : FVec Ideal S2048x512 .f32) (x12 : FVec Ideal S2048 .f32)
  (x13 : FVec Ideal S1024x1024 .f32) (x14 : FVec Ideal S1024 .f32) (x15 : FVec Ideal S1024x1024 .f32) (x16 : FVec Ideal S1024 .f32)
  (x17 : FVec Ideal S3072x1024 .f32) (x18 : FVec Ideal S3072 .f32) (x19 : FVec Ideal S1024x1024 .f32) (x20 : FVec Ideal S1024 .f32)
  (x21 : FVec Ideal S2x1024 .f32)

/-- The reference's result, entry by entry. -/
theorem v538_full (hA : ∀ j, 0 ≤ x3 j) (hB : ∀ j, 0 ≤ x4 j) (hp : ∀ b i, (x5 (ix2 b i)).toNat < 2048) (hq : ∀ b i, (x6 (ix2 b i)).toNat < 2048)
    (b : Fin 4) (s : Fin 64) (d : Fin 1024) :
    val_main_v538 (F := Ideal) x0 x1 x2 x3 x4 x5 x6 x7 x8 x9 x10 x11 x12 x13 x14 x15 x16 x17 x18 x19 x20 x21 (ix3 b s d) = full x0 x1 x2 x3 x4 x5 x6 x7 x8 x9 x10 x11 x12 x13 x14 x15 x16 x17 x18 x19 x20 x21 b s d := by
  rw [at_v538, at_v505]
  unfold full
  refine congrArg₂ (fun x y : EReal => x + y) ?_ rfl
  refine dite_congr rfl (fun h => ?_) (fun h => ?_)
  · exact v254_eq x0 x1 x3 x5 x7 x8 x9 x10 x13 x14 x15 x16 x17 x18 x19 x20 hA hp b _ d
  · exact v254_eq x0 x2 x4 x6 x7 x8 x11 x12 x13 x14 x15 x16 x17 x18 x19 x20 hB hq b _ d
end Cert.ReferenceIdeal.Val
-- ==== Proof.Val.PreFacts.lean ====
module
public import proofs.«01_k».proof.Proof.Val.KernB
public import proofs.«01_k».proof.Proof.Gen.Pre_real_and_in_range
@[expose] public section
noncomputable section
/-! What the precondition's flags say of the arrays. -/
namespace Cert.PreFacts
open Idealize.ShloMosaic Cert.Math
open Cert.Pre_real_and_in_range (S_)

theorem bit_true {b : Bool} (h : BitVec.ofBool b = 1#1) : b = true := by
  cases b
  · exact absurd h (by decide)
  · rfl

theorem inf_eq : Ideal.ofBits FTy.f32 2139095040#32 = (⊤ : EReal) := by
  simp [Ideal.ofBits, Ideal.ieee]

/-- An array whose magnitudes are all below infinity holds real numbers. -/
theorem real_of (s : Shape) (x : FVec Ideal s .f32) (hb : S_.BroadcastsInDim s (![] : Fin 0 → Fin s.rank))
    (h : cmpf .olt (Host.absf x) (broadcastInDim s ![] hb (constant S_ .f32 0x7F800000#32)) = fun _ => 1#1) (j : s.Idx) : IsR (x j) := by
  have h := congrFun h j
  pointwise at h
  have h := of_decide_eq_true (bit_true h)
  rw [inf_eq] at h
  change max (x j) (-(x j)) < (⊤ : EReal) at h
  obtain ⟨h1, h2⟩ := max_lt_iff.mp h
  refine ⟨(x j).toReal, (EReal.coe_toReal h1.ne ?_).symm⟩
  intro e
  rw [e] at h2
  exact absurd h2 (by simp)

/-- An array whose entries are all at least zero. -/
theorem nonneg_of (s : Shape) (x : FVec Ideal s .f32) (hb : S_.BroadcastsInDim s (![] : Fin 0 → Fin s.rank))
    (h : cmpf .oge x (broadcastInDim s ![] hb (constant S_ .f32 0x00000000#32)) = fun _ => 1#1) (j : s.Idx) : (0 : EReal) ≤ x j := by
  have h := congrFun h j
  pointwise at h
  have h := of_decide_eq_true (bit_true h)
  simpa using h

/-- An array of words that are at least 0 and below 2048. -/
theorem range_of (s : Shape) (x : IVec s 32) (hb : S_.BroadcastsInDim s (![] : Fin 0 → Fin s.rank))
    (h : cmpi .sge x (broadcastInDim s ![] hb (constantI S_ 32 0#32)) = fun _ => 1#1)
    (h' : cmpi .slt x (broadcastInDim s ![] hb (constantI S_ 32 2048#32)) = fun _ => 1#1) (j : s.Idx) : (x j).toNat < 2048 := by
  have h : IntOp.cmpi .sge (x j) 0#32 = 1#1 := congrFun h j
  have h' : IntOp.cmpi .slt (x j) 2048#32 = 1#1 := congrFun h' j
  simp only [IntOp.cmpi] at h h'
  have h := bit_true h
  have h' := bit_true h'
  rw [BitVec.sle_iff_toInt_le, show (0#32).toInt = 0 from by decide] at h
  rw [BitVec.slt_iff_toInt_lt, show (2048#32).toInt = 2048 from by decide] at h'
  rw [BitVec.toInt_eq_toNat_cond] at h h'
  have := (x j).isLt
  split at h <;> split at h' <;> omega
end Cert.PreFacts
-- ==== Proof.lean ====
/- The claims about the whole kernel: its frames, and that its result is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_real_and_in_range
public import proofs.«01_k».proof.Proof.KernelRun.Run
public import proofs.«01_k».proof.Proof.KernelIdealRun.Run
public import proofs.«01_k».proof.Proof.Val.KernB
public import proofs.«01_k».proof.Proof.Val.RefFull
public import proofs.«01_k».proof.Proof.Val.PreFacts
public import Idealize.ShloMosaic.Adequacy
public import Idealize.ShloMosaic.Init

@[expose] public section

noncomputable section

namespace Cert.Proof

open Idealize.ShloMosaic Idealize.SL.Sem Cert.Kernel

/-- The reference's run with its argument arrays unchanged and every counter at zero (it declares no semaphore). -/
theorem frame_r (m : (ℓ : Loc Cert.ReferenceIdeal.nD Cert.ReferenceIdeal.τ Cert.ReferenceIdeal.sig) → Buf (Elt Ideal) ℓ)
    (g : Dev Cert.ReferenceIdeal.nD → PrngReg) (P : Prop) : P →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0) := fun _ =>
  (θ_run Cert.ReferenceIdeal.defs _ _).mono
    (fun r h => ⟨fun c => (h c).2, sem_eq_zero_of_no_sems (by decide) r.2⟩)
    (Cert.ReferenceIdeal.Value.run (F := Ideal) m g)

/-- The reference's result at an index, from the arrays its arguments hold. -/
theorem ref_at (V : Valuation Cert.ReferenceIdeal.τ Cert.ReferenceIdeal.sig (Elt Ideal))
    (x0 : FVec Ideal Cert.ReferenceIdeal.S4x2048x1024 .f32) (e0 : V (Proc.devRef .tc Cert.ReferenceIdeal.main_arg0) = x0)
    (x1 : FVec Ideal Cert.ReferenceIdeal.S4x2048x512 .f32) (e1 : V (Proc.devRef .tc Cert.ReferenceIdeal.main_arg1) = x1)
    (x2 : FVec Ideal Cert.ReferenceIdeal.S4x2048x512 .f32) (e2 : V (Proc.devRef .tc Cert.ReferenceIdeal.main_arg2) = x2)
    (x3 : FVec Ideal Cert.ReferenceIdeal.S4x2048 .f32) (e3 : V (Proc.devRef .tc Cert.ReferenceIdeal.main_arg3) = x3)
    (x4 : FVec Ideal Cert.ReferenceIdeal.S4x2048 .f32) (e4 : V (Proc.devRef .tc Cert.ReferenceIdeal.main_arg4) = x4)
    (x5 : IVec Cert.ReferenceIdeal.S4x64 32) (e5 : V (Proc.devRef .tc Cert.ReferenceIdeal.main_arg5) = x5)
    (x6 : IVec Cert.ReferenceIdeal.S4x64 32) (e6 : V (Proc.devRef .tc Cert.ReferenceIdeal.main_arg6) = x6)
    (x7 : FVec Ideal Cert.ReferenceIdeal.S1024x1024 .f32) (e7 : V (Proc.devRef .tc Cert.ReferenceIdeal.main_arg7) = x7)
    (x8 : FVec Ideal Cert.ReferenceIdeal.S1024 .f32) (e8 : V (Proc.devRef .tc Cert.ReferenceIdeal.main_arg8) = x8)
    (x9 : FVec Ideal Cert.ReferenceIdeal.S2048x512 .f32) (e9 : V (Proc.devRef .tc Cert.ReferenceIdeal.main_arg9) = x9)
    (x10 : FVec Ideal Cert.ReferenceIdeal.S2048 .f32) (e10 : V (Proc.devRef .tc Cert.ReferenceIdeal.main_arg10) = x10)
    (x11 : FVec Ideal Cert.ReferenceIdeal.S2048x512 .f32) (e11 : V (Proc.devRef .tc Cert.ReferenceIdeal.main_arg11) = x11)
    (x12 : FVec Ideal Cert.ReferenceIdeal.S2048 .f32) (e12 : V (Proc.devRef .tc Cert.ReferenceIdeal.main_arg12) = x12)
    (x13 : FVec Ideal Cert.ReferenceIdeal.S1024x1024 .f32) (e13 : V (Proc.devRef .tc Cert.ReferenceIdeal.main_arg13) = x13)
    (x14 : FVec Ideal Cert.ReferenceIdeal.S1024 .f32) (e14 : V (Proc.devRef .tc Cert.ReferenceIdeal.main_arg14) = x14)
    (x15 : FVec Ideal Cert.ReferenceIdeal.S1024x1024 .f32) (e15 : V (Proc.devRef .tc Cert.ReferenceIdeal.main_arg15) = x15)
    (x16 : FVec Ideal Cert.ReferenceIdeal.S1024 .f32) (e16 : V (Proc.devRef .tc Cert.ReferenceIdeal.main_arg16) = x16)
    (x17 : FVec Ideal Cert.ReferenceIdeal.S3072x1024 .f32) (e17 : V (Proc.devRef .tc Cert.ReferenceIdeal.main_arg17) = x17)
    (x18 : FVec Ideal Cert.ReferenceIdeal.S3072 .f32) (e18 : V (Proc.devRef .tc Cert.ReferenceIdeal.main_arg18) = x18)
    (x19 : FVec Ideal Cert.ReferenceIdeal.S1024x1024 .f32) (e19 : V (Proc.devRef .tc Cert.ReferenceIdeal.main_arg19) = x19)
    (x20 : FVec Ideal Cert.ReferenceIdeal.S1024 .f32) (e20 : V (Proc.devRef .tc Cert.ReferenceIdeal.main_arg20) = x20)
    (x21 : FVec Ideal Cert.ReferenceIdeal.S2x1024 .f32) (e21 : V (Proc.devRef .tc Cert.ReferenceIdeal.main_arg21) = x21)
    (hA : ∀ j, (0 : EReal) ≤ x3 j) (hB : ∀ j, (0 : EReal) ≤ x4 j) (hp : ∀ b i, (x5 (ix2 b i)).toNat < 2048) (hq : ∀ b i, (x6 (ix2 b i)).toNat < 2048)
    (b : Fin 4) (s : Fin 64) (d : Fin 1024) :
    Cert.ReferenceIdeal.Read.val_main_v538 (F := Ideal) (V (Proc.devRef .tc Cert.ReferenceIdeal.main_arg0)) (V (Proc.devRef .tc Cert.ReferenceIdeal.main_arg1)) (V (Proc.devRef .tc Cert.ReferenceIdeal.main_arg2)) (V (Proc.devRef .tc Cert.ReferenceIdeal.main_arg3)) (V (Proc.devRef .tc Cert.ReferenceIdeal.main_arg4)) (V (Proc.devRef .tc Cert.ReferenceIdeal.main_arg5)) (V (Proc.devRef .tc Cert.ReferenceIdeal.main_arg6)) (V (Proc.devRef .tc Cert.ReferenceIdeal.main_arg7)) (V (Proc.devRef .tc Cert.ReferenceIdeal.main_arg8)) (V (Proc.devRef .tc Cert.ReferenceIdeal.main_arg9)) (V (Proc.devRef .tc Cert.ReferenceIdeal.main_arg10)) (V (Proc.devRef .tc Cert.ReferenceIdeal.main_arg11)) (V (Proc.devRef .tc Cert.ReferenceIdeal.main_arg12)) (V (Proc.devRef .tc Cert.ReferenceIdeal.main_arg13)) (V (Proc.devRef .tc Cert.ReferenceIdeal.main_arg14)) (V (Proc.devRef .tc Cert.ReferenceIdeal.main_arg15)) (V (Proc.devRef .tc Cert.ReferenceIdeal.main_arg16)) (V (Proc.devRef .tc Cert.ReferenceIdeal.main_arg17)) (V (Proc.devRef .tc Cert.ReferenceIdeal.main_arg18)) (V (Proc.devRef .tc Cert.ReferenceIdeal.main_arg19)) (V (Proc.devRef .tc Cert.ReferenceIdeal.main_arg20)) (V (Proc.devRef .tc Cert.ReferenceIdeal.main_arg21)) (ix3 b s d)
      = Cert.Math.full x0 x1 x2 x3 x4 x5 x6 x7 x8 x9 x10 x11 x12 x13 x14 x15 x16 x17 x18 x19 x20 x21 b s d := by
  rw [e0, e1, e2, e3, e4, e5, e6, e7, e8, e9, e10, e11, e12, e13, e14, e15, e16, e17, e18, e19, e20, e21]
  exact Cert.ReferenceIdeal.Val.v538_full x0 x1 x2 x3 x4 x5 x6 x7 x8 x9 x10 x11 x12 x13 x14 x15 x16 x17 x18 x19 x20 x21 hA hB hp hq b s d

open Cert.KernelIdeal.Whole in
/-- The idealized kernel and the reference, run on the same arguments, end with the same result. -/
theorem equal : Cert.algebraic_KernelIdeal_ReferenceIdeal_pre_real_and_in_range := by
  intro m g m' g' hpre hsame
  refine ⟨fun c => W4 m g c (Proc.devRef .tc Cert.KernelIdeal.main_v35), ?_, ?_⟩
  · refine (θ_run Cert.KernelIdeal.defs _ _).mono (fun r h c => ?_) (run_end m g)
    have ha : ∀ a ∈ argRefs, ¬ (Proc.devRef .tc a : DevRef Cert.KernelIdeal.τ Cert.KernelIdeal.sig).isScoped →
        r.2.mem ((c.tc : Thread Cert.KernelIdeal.nD Cert.KernelIdeal.τ).loc a) = m ((c.tc : Thread Cert.KernelIdeal.nD Cert.KernelIdeal.τ).loc a) :=
      fun a h1 h2 => (h.1 c _ (mem_uc a h2)).trans (W4_args m g c a h1)
    refine ⟨h.1 c _ (mem_uc Cert.KernelIdeal.main_v35 (by decide)), ?_, ?_, ?_, ?_, ?_, ?_, ?_, ?_, ?_, ?_, ?_, ?_, ?_, ?_, ?_, ?_, ?_, ?_, ?_, ?_, ?_, ?_⟩ <;> exact ha _ (by decide) (by decide)
  · refine (θ_run Cert.ReferenceIdeal.defs _ _).mono (fun r h c => ⟨(h c).1.trans ?_, (h c).2⟩) (Cert.ReferenceIdeal.Value.run (F := Ideal) m' g')
    refine (Cert.ReferenceIdeal.Read.val_main_v538_eq (F := Ideal) _).trans ?_
    obtain ⟨e0, e1, e2, e3, e4, e5, e6, e7, e8, e9, e10, e11, e12, e13, e14, e15, e16, e17, e18, e19, e20, e21⟩ := hsame c
    obtain ⟨p0, p7, p8, p17, p18, p3, p4, p5, p5', p6, p6'⟩ := hpre c
    have hA := Cert.PreFacts.nonneg_of _ (ar3 m c) _ p3
    have hB := Cert.PreFacts.nonneg_of _ (ar4 m c) _ p4
    have hp := Cert.PreFacts.range_of _ (ar5 m c) _ p5 p5'
    have hq := Cert.PreFacts.range_of _ (ar6 m c) _ p6 p6'
    have r0 := Cert.PreFacts.real_of _ (ar0 m c) _ p0
    have r7 := Cert.PreFacts.real_of _ (ar7 m c) _ p7
    have r8 := Cert.PreFacts.real_of _ (ar8 m c) _ p8
    have r17 := Cert.PreFacts.real_of _ (ar17 m c) _ p17
    have r18 := Cert.PreFacts.real_of _ (ar18 m c) _ p18
    refine funext fun (i : Cert.ReferenceIdeal.S4x64x1024.Idx) => ?_
    obtain ⟨b, s, d, rfl⟩ : ∃ (b : Fin 4) (s : Fin 64) (d : Fin 1024), i = ix3 b s d := ⟨i 0, i 1, i 2, eq_ix3 i⟩
    exact (ref_at _ (ar0 m c) e0 (ar1 m c) e1 (ar2 m c) e2 (ar3 m c) e3 (ar4 m c) e4 (ar5 m c) e5 (ar6 m c) e6 (ar7 m c) e7 (ar8 m c) e8 (ar9 m c) e9 (ar10 m c) e10 (ar11 m c) e11 (ar12 m c) e12 (ar13 m c) e13 (ar14 m c) e14 (ar15 m c) e15 (ar16 m c) e16 (ar17 m c) e17 (ar18 m c) e18 (ar19 m c) e19 (ar20 m c) e20 (ar21 m c) e21 hA hB (fun b i => hp _) (fun b i => hq _) b s d).trans
      (kern_at m g c hA hB (fun b i => hp _) (fun b i => hq _) r0 r7 r8 r17 r18 b s d).symm

/-- The certificate's claims: the frames of the kernel, its idealization and the reference, and the equal results. -/
theorem claim : Cert.Claim := ⟨Cert.Kernel.Gen.facts, Cert.KernelIdeal.Gen.facts, Cert.ReferenceIdeal.Gen.facts, Cert.Pre_real_and_in_range.Gen.facts,
  fun m ρ _ => Cert.Kernel.Whole.frame m ρ, fun m ρ _ => Cert.KernelIdeal.Whole.frame m ρ, fun m ρ _ => Cert.KernelIdeal.Whole.frame m ρ,
  fun m ρ h => frame_r m ρ _ h, fun m ρ h => frame_r m ρ _ h, trivial, equal⟩

end Cert.Proof

end
